-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v87) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)) (v4 : (c : Dev Cert.Kernel4Ideal.nD) → Buf (Elt Ideal) ((c.tc : Thread Cert.Kernel4Ideal.nD Cert.Kernel4Ideal.τ).loc Cert.Kernel4Ideal.main_v3_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_v3_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_v27) = v2 c
          ∧ r.2.mem ((c.tc : Thread Cert.Reference4Ideal.nD Cert.Reference4Ideal.τ).loc Cert.Reference4Ideal.main_v28) = v3 c
          ∧ r.2.mem ((c.tc : Thread Cert.Reference4Ideal.nD Cert.Reference4Ideal.τ).loc Cert.Reference4Ideal.main_v29) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v83) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v9_0)) (v1 : (c : Dev Cert.Kernel7Ideal.nD) → Buf (Elt Ideal) ((c.tc : Thread Cert.Kernel7Ideal.nD Cert.Kernel7Ideal.τ).loc Cert.Kernel7Ideal.main_v9_1)) (v2 : (c : Dev Cert.Kernel7Ideal.nD) → Buf (Elt Ideal) ((c.tc : Thread Cert.Kernel7Ideal.nD Cert.Kernel7Ideal.τ).loc Cert.Kernel7Ideal.main_v9_2)) (v3 : (c : Dev Cert.Kernel7Ideal.nD) → Buf (Elt Ideal) ((c.tc : Thread Cert.Kernel7Ideal.nD Cert.Kernel7Ideal.τ).loc Cert.Kernel7Ideal.main_v9_3)) (v4 : (c : Dev Cert.Kernel7Ideal.nD) → Buf (Elt Ideal) ((c.tc : Thread Cert.Kernel7Ideal.nD Cert.Kernel7Ideal.τ).loc Cert.Kernel7Ideal.main_v9_4)) (v5 : (c : Dev Cert.Kernel7Ideal.nD) → Buf (Elt Ideal) ((c.tc : Thread Cert.Kernel7Ideal.nD Cert.Kernel7Ideal.τ).loc Cert.Kernel7Ideal.main_v9_5)) (v6 : (c : Dev Cert.Kernel7Ideal.nD) → Buf (Elt Ideal) ((c.tc : Thread Cert.Kernel7Ideal.nD Cert.Kernel7Ideal.τ).loc Cert.Kernel7Ideal.main_v9_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_0) = v0 c
          ∧ r.2.mem ((c.tc : Thread Cert.Kernel7Ideal.nD Cert.Kernel7Ideal.τ).loc Cert.Kernel7Ideal.main_v9_1) = v1 c
          ∧ r.2.mem ((c.tc : Thread Cert.Kernel7Ideal.nD Cert.Kernel7Ideal.τ).loc Cert.Kernel7Ideal.main_v9_2) = v2 c
          ∧ r.2.mem ((c.tc : Thread Cert.Kernel7Ideal.nD Cert.Kernel7Ideal.τ).loc Cert.Kernel7Ideal.main_v9_3) = v3 c
          ∧ r.2.mem ((c.tc : Thread Cert.Kernel7Ideal.nD Cert.Kernel7Ideal.τ).loc Cert.Kernel7Ideal.main_v9_4) = v4 c
          ∧ r.2.mem ((c.tc : Thread Cert.Kernel7Ideal.nD Cert.Kernel7Ideal.τ).loc Cert.Kernel7Ideal.main_v9_5) = v5 c
          ∧ r.2.mem ((c.tc : Thread Cert.Kernel7Ideal.nD Cert.Kernel7Ideal.τ).loc Cert.Kernel7Ideal.main_v9_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v67) = v0 c
          ∧ r.2.mem ((c.tc : Thread Cert.Reference7Ideal.nD Cert.Reference7Ideal.τ).loc Cert.Reference7Ideal.main_v69) = v1 c
          ∧ r.2.mem ((c.tc : Thread Cert.Reference7Ideal.nD Cert.Reference7Ideal.τ).loc Cert.Reference7Ideal.main_v70) = v2 c
          ∧ r.2.mem ((c.tc : Thread Cert.Reference7Ideal.nD Cert.Reference7Ideal.τ).loc Cert.Reference7Ideal.main_v71) = v3 c
          ∧ r.2.mem ((c.tc : Thread Cert.Reference7Ideal.nD Cert.Reference7Ideal.τ).loc Cert.Reference7Ideal.main_v72) = v4 c
          ∧ r.2.mem ((c.tc : Thread Cert.Reference7Ideal.nD Cert.Reference7Ideal.τ).loc Cert.Reference7Ideal.main_v73) = v5 c
          ∧ r.2.mem ((c.tc : Thread Cert.Reference7Ideal.nD Cert.Reference7Ideal.τ).loc Cert.Reference7Ideal.main_v74) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)) (v3 : (c : Dev Cert.Kernel8Ideal.nD) → Buf (Elt Ideal) ((c.tc : Thread Cert.Kernel8Ideal.nD Cert.Kernel8Ideal.τ).loc Cert.Kernel8Ideal.main_v9_3)) (v4 : (c : Dev Cert.Kernel8Ideal.nD) → Buf (Elt Ideal) ((c.tc : Thread Cert.Kernel8Ideal.nD Cert.Kernel8Ideal.τ).loc Cert.Kernel8Ideal.main_v9_4)) (v5 : (c : Dev Cert.Kernel8Ideal.nD) → Buf (Elt Ideal) ((c.tc : Thread Cert.Kernel8Ideal.nD Cert.Kernel8Ideal.τ).loc Cert.Kernel8Ideal.main_v9_5)) (v6 : (c : Dev Cert.Kernel8Ideal.nD) → Buf (Elt Ideal) ((c.tc : Thread Cert.Kernel8Ideal.nD Cert.Kernel8Ideal.τ).loc Cert.Kernel8Ideal.main_v9_6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_v9_3) = v3 c
          ∧ r.2.mem ((c.tc : Thread Cert.Kernel8Ideal.nD Cert.Kernel8Ideal.τ).loc Cert.Kernel8Ideal.main_v9_4) = v4 c
          ∧ r.2.mem ((c.tc : Thread Cert.Kernel8Ideal.nD Cert.Kernel8Ideal.τ).loc Cert.Kernel8Ideal.main_v9_5) = v5 c
          ∧ r.2.mem ((c.tc : Thread Cert.Kernel8Ideal.nD Cert.Kernel8Ideal.τ).loc Cert.Kernel8Ideal.main_v9_6) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v63) = v0 c
          ∧ r.2.mem ((c.tc : Thread Cert.Reference8Ideal.nD Cert.Reference8Ideal.τ).loc Cert.Reference8Ideal.main_v65) = v1 c
          ∧ r.2.mem ((c.tc : Thread Cert.Reference8Ideal.nD Cert.Reference8Ideal.τ).loc Cert.Reference8Ideal.main_v66) = v2 c
          ∧ r.2.mem ((c.tc : Thread Cert.Reference8Ideal.nD Cert.Reference8Ideal.τ).loc Cert.Reference8Ideal.main_v67) = v3 c
          ∧ r.2.mem ((c.tc : Thread Cert.Reference8Ideal.nD Cert.Reference8Ideal.τ).loc Cert.Reference8Ideal.main_v68) = v4 c
          ∧ r.2.mem ((c.tc : Thread Cert.Reference8Ideal.nD Cert.Reference8Ideal.τ).loc Cert.Reference8Ideal.main_v69) = v5 c
          ∧ r.2.mem ((c.tc : Thread Cert.Reference8Ideal.nD Cert.Reference8Ideal.τ).loc Cert.Reference8Ideal.main_v9) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S2x8192x8x2x64 : Shape := ⟨5, ![2, 8192, 8, 2, 64]⟩
abbrev S2x8192x8x128 : Shape := ⟨4, ![2, 8192, 8, 128]⟩
abbrev S2x64 : Shape := ⟨2, ![2, 64]⟩
abbrev S128 : Shape := ⟨1, ![128]⟩
abbrev S_ : Shape := ⟨0, ![]⟩

class Facts : Prop where
  bcast_S_S2x8192x8x2x64 : S_.BroadcastsInDim S2x8192x8x2x64 (![] : Fin 0 → Fin S2x8192x8x2x64.rank)
  bcast_S_S2x8192x8x128 : S_.BroadcastsInDim S2x8192x8x128 (![] : Fin 0 → Fin S2x8192x8x128.rank)
  bcast_S_S2x64 : S_.BroadcastsInDim S2x64 (![] : Fin 0 → Fin S2x64.rank)

variable [Facts]

def fn {F : FTy → Type} [FloatOps F] (main_arg0 : FVec F S2x8192x8x2x64 .f32) (main_arg1 : FVec F S2x8192x8x2x64 .f32) (main_arg2 : FVec F S2x8192x8x128 .f32) (main_arg3 : FVec F S2x64 .f32) (main_arg4 : FVec F S2x64 .f32) (main_arg5 : FVec F S128 .f32) : IVec S2x8192x8x2x64 1 × IVec S2x8192x8x2x64 1 × IVec S2x8192x8x128 1 × IVec S2x64 1 × IVec S2x64 1 :=
  let main_v0 : FVec F S2x8192x8x2x64 .f32 := Host.absf main_arg0
  let main_cst : FVec F S_ .f32 := constant S_ .f32 0x7F800000#32
  let main_v1 : FVec F S2x8192x8x2x64 .f32 := broadcastInDim S2x8192x8x2x64 ![] bcast_S_S2x8192x8x2x64 main_cst
  let main_v2 : IVec S2x8192x8x2x64 1 := cmpf .olt main_v0 main_v1
  let main_v3 : FVec F S2x8192x8x2x64 .f32 := Host.absf main_arg1
  let main_cst_0 : FVec F S_ .f32 := constant S_ .f32 0x7F800000#32
  let main_v4 : FVec F S2x8192x8x2x64 .f32 := broadcastInDim S2x8192x8x2x64 ![] bcast_S_S2x8192x8x2x64 main_cst_0
  let main_v5 : IVec S2x8192x8x2x64 1 := cmpf .olt main_v3 main_v4
  let main_v6 : FVec F S2x8192x8x128 .f32 := Host.absf main_arg2
  let main_cst_1 : FVec F S_ .f32 := constant S_ .f32 0x7F800000#32
  let main_v7 : FVec F S2x8192x8x128 .f32 := broadcastInDim S2x8192x8x128 ![] bcast_S_S2x8192x8x128 main_cst_1
  let main_v8 : IVec S2x8192x8x128 1 := cmpf .olt main_v6 main_v7
  let main_v9 : FVec F S2x64 .f32 := Host.absf main_arg3
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_v12 : FVec F S2x64 .f32 := Host.absf main_arg4
  let main_cst_3 : FVec F S_ .f32 := constant S_ .f32 0x7F800000#32
  let main_v13 : FVec F S2x64 .f32 := broadcastInDim S2x64 ![] bcast_S_S2x64 main_cst_3
  let main_v14 : IVec S2x64 1 := cmpf .olt main_v12 main_v13
  (main_v2, main_v5, main_v8, main_v11, main_v14)
-- ==== Kernel.lean ====
abbrev S2x8192x8x2x64 : Shape := ⟨5, ![2, 8192, 8, 2, 64]⟩
abbrev S2x8192x8x128 : Shape := ⟨4, ![2, 8192, 8, 128]⟩
abbrev S2x64 : Shape := ⟨2, ![2, 64]⟩
abbrev S128 : Shape := ⟨1, ![128]⟩
abbrev S2x8192x1024 : Shape := ⟨3, ![2, 8192, 1024]⟩
abbrev S2x16x512x1024 : Shape := ⟨4, ![2, 16, 512, 1024]⟩
abbrev S2x16x1024x512 : Shape := ⟨4, ![2, 16, 1024, 512]⟩
abbrev S128x1 : Shape := ⟨2, ![128, 1]⟩
abbrev S1x512x128 : Shape := ⟨3, ![1, 512, 128]⟩
abbrev S1x8192x128 : Shape := ⟨3, ![1, 8192, 128]⟩
abbrev S1x16x128x512 : Shape := ⟨4, ![1, 16, 128, 512]⟩
abbrev S1x1024 : Shape := ⟨2, ![1, 1024]⟩
abbrev S144x1024 : Shape := ⟨2, ![144, 1024]⟩
abbrev S512x128 : Shape := ⟨2, ![512, 128]⟩
abbrev S128x512 : Shape := ⟨2, ![128, 512]⟩
abbrev S128x1024 : Shape := ⟨2, ![128, 1024]⟩
abbrev S512x1024 : Shape := ⟨2, ![512, 1024]⟩
abbrev S1024 : Shape := ⟨1, ![1024]⟩
abbrev S16x512 : Shape := ⟨2, ![16, 512]⟩
abbrev S1x1x128x512 : Shape := ⟨4, ![1, 1, 128, 512]⟩
abbrev S144x512 : Shape := ⟨2, ![144, 512]⟩
abbrev S1x1x1024 : Shape := ⟨3, ![1, 1, 1024]⟩
abbrev S1 : Shape := ⟨1, ![1]⟩
abbrev S1x1x1 : Shape := ⟨3, ![1, 1, 1]⟩
abbrev S2 : Shape := ⟨1, ![2]⟩
abbrev S2x1 : Shape := ⟨2, ![2, 1]⟩
abbrev S1x1 : Shape := ⟨2, ![1, 1]⟩
abbrev S512 : Shape := ⟨1, ![512]⟩
abbrev S1x512 : Shape := ⟨2, ![1, 512]⟩

abbrev nBuf : Space → Nat
  | .hbm => 14
  | .vmem => 15
  | .smem => 0
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S2x64, .f32⟩
  | .hbm, ⟨4, _⟩ => ⟨S2x64, .f32⟩
  | .hbm, ⟨5, _⟩ => ⟨S128, .f32⟩
  | .hbm, ⟨6, _⟩ => ⟨S2x8192x1024, .f32⟩
  | .hbm, ⟨7, _⟩ => ⟨S2x8192x1024, .bf16⟩
  | .hbm, ⟨8, _⟩ => ⟨S2x16x512x1024, .f32⟩
  | .hbm, ⟨9, _⟩ => ⟨S2x16x1024x512, .f32⟩
  | .hbm, ⟨10, _⟩ => ⟨S2x16x1024x512, .bf16⟩
  | .hbm, ⟨11, _⟩ => ⟨S2x8192x1024, .f32⟩
  | .hbm, ⟨12, _⟩ => ⟨S128x1, .f32⟩
  | .hbm, ⟨13, _⟩ => ⟨S2x8192x1024, .bf16⟩
  | .local _ .vmem, ⟨0, _⟩ => ⟨S1x512x128, .f32⟩
  | .local _ .vmem, ⟨1, _⟩ => ⟨S1x512x128, .f32⟩
  | .local _ .vmem, ⟨2, _⟩ => ⟨S1x8192x128, .bf16⟩
  | .local _ .vmem, ⟨3, _⟩ => ⟨S1x8192x128, .bf16⟩
  | .local _ .vmem, ⟨4, _⟩ => ⟨S1x16x128x512, .bf16⟩
  | .local _ .vmem, ⟨5, _⟩ => ⟨S1x16x128x512, .bf16⟩
  | .local _ .vmem, ⟨6, _⟩ => ⟨S2x64, .f32⟩
  | .local _ .vmem, ⟨7, _⟩ => ⟨S2x64, .f32⟩
  | .local _ .vmem, ⟨8, _⟩ => ⟨S128x1, .f32⟩
  | .local _ .vmem, ⟨9, _⟩ => ⟨S1x512x128, .bf16⟩
  | .local _ .vmem, ⟨10, _⟩ => ⟨S1x512x128, .bf16⟩
  | .local _ .vmem, ⟨11, _⟩ => ⟨S1x1024, .f32⟩
  | .local _ .vmem, ⟨12, _⟩ => ⟨S144x1024, .f32⟩
  | .local _ .vmem, ⟨13, _⟩ => ⟨S1x1024, .f32⟩
  | .local _ .vmem, ⟨14, _⟩ => ⟨S1x1024, .f32⟩
  | _, _ => ⟨S2x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c512_i32 : BitVec 32 := 512#32
  let v34 : BitVec 32 := Scalar.muli arg2 c512_i32
  v34
def k0_off1 (i : grid0.Coords) : Fin 3 → Nat :=
  let c0_17 : Index := 0#32
  let arg2 : BitVec 32 := BitVec.ofNat 32 (i 2).val
  let c512_i32 : BitVec 32 := 512#32
  let v34 : BitVec 32 := Scalar.muli arg2 c512_i32
  let v35 : BitVec 32 := v34
  let v36 : Index := Scalar.indexCast v35
  let c0_18 : Index := 0#32
  ![0, v36.toNat, 0]
def k0_off2 (i : grid0.Coords) : Fin 4 → Nat :=
  let c0_32 : Index := 0#32
  let arg2 : BitVec 32 := BitVec.ofNat 32 (i 2).val
  let v73 : Index := Scalar.indexCast arg2
  let c0_33 : Index := 0#32
  let c0_34 : Index := 0#32
  ![0, v73.toNat, 0, 0]
@[reducible] def k0_t1_loop (i : grid0.Coords) : Scf.Loop 32 :=
  let c0_i32_55 : BitVec 32 := 0#32
  let arg2 : BitVec 32 := BitVec.ofNat 32 (i 2).val
  let c0_i32_48 : BitVec 32 := 0#32
  let v101 : BitVec 1 := Scalar.cmpi .sgt arg2 c0_i32_48
  let v102 : BitVec 32 := Scalar.extui v101
  let c0_i32_49 : BitVec 32 := 0#32
  let v103 : BitVec 1 := Scalar.cmpi .slt arg2 c0_i32_49
  let v104 : BitVec 32 := Scalar.extui v103
  let v105 : BitVec 32 := Scalar.subi v102 v104
  let c4_i32 : BitVec 32 := 4#32
  let c0_i32_50 : BitVec 32 := 0#32
  let v106 : BitVec 1 := Scalar.cmpi .sgt c4_i32 c0_i32_50
  let v107 : BitVec 32 := Scalar.extui v106
  let c0_i32_51 : BitVec 32 := 0#32
  let v108 : BitVec 1 := Scalar.cmpi .slt c4_i32 c0_i32_51
  let v109 : BitVec 32 := Scalar.extui v108
  let v110 : BitVec 32 := Scalar.subi v107 v109
  let v111 : BitVec 1 := Scalar.cmpi .ne v105 v110
  let v112 : BitVec 32 := Scalar.remsi arg2 c4_i32
  let c0_i32_52 : BitVec 32 := 0#32
  let v113 : BitVec 1 := Scalar.cmpi .ne v112 c0_i32_52
  let v114 : BitVec 1 := Scalar.andi v111 v113
  let v100 : BitVec 32 := Scalar.divsi arg2 c4_i32
  let c1_i32_53 : BitVec 32 := 1#32
  let v115 : BitVec 32 := Scalar.subi v100 c1_i32_53
  let v116 : BitVec 32 := Scalar.select v114 v115 v100
  let v117 : BitVec 32 := Scalar.subi v116 c0_i32_55
  let c1_i32_56 : BitVec 32 := 1#32
  let v119 : BitVec 32 := Scalar.divsi v117 c1_i32_56
  let v120 : BitVec 32 := Scalar.muli v119 c1_i32_56
  let v121 : BitVec 32 := Scalar.addi c0_i32_55 v120
  let c1_i32_57 : BitVec 32 := 1#32
  ⟨c0_i32_55, v121, c1_i32_57⟩
def k0_mult2 (i : grid0.Coords) (k0_t1 : Fin (k0_t1_loop i).trips) : BitVec 32 :=
  let c4_i32_96 : BitVec 32 := 4#32
  let c0_i32_55 : BitVec 32 := 0#32
  let c1_i32_57 : BitVec 32 := 1#32
  let arg14 : BitVec 32 := Scf.iv c0_i32_55 c1_i32_57 k0_t1
  let v194 : BitVec 32 := Scalar.muli c4_i32_96 arg14
  let c0_i32_97 : BitVec 32 := 0#32
  let v195 : BitVec 32 := Scalar.addi v194 c0_i32_97
  let c512_i32_98 : BitVec 32 := 512#32
  let v196 : BitVec 32 := Scalar.muli v195 c512_i32_98
  v196
def k0_off3 (i : grid0.Coords) (k0_t1 : Fin (k0_t1_loop i).trips) (c0_i32_97 : BitVec 32) : Fin 3 → Nat :=
  let c0_99 : Index := 0#32
  let c4_i32_96 : BitVec 32 := 4#32
  let c0_i32_55 : BitVec 32 := 0#32
  let c1_i32_57 : BitVec 32 := 1#32
  let arg14 : BitVec 32 := Scf.iv c0_i32_55 c1_i32_57 k0_t1
  let v194 : BitVec 32 := Scalar.muli c4_i32_96 arg14
  let v195 : BitVec 32 := Scalar.addi v194 c0_i32_97
  let c512_i32_98 : BitVec 32 := 512#32
  let v196 : BitVec 32 := Scalar.muli v195 c512_i32_98
  let v197 : BitVec 32 := v196
  let v198 : Index := Scalar.indexCast v197
  let c0_100 : Index := 0#32
  ![0, v198.toNat, 0]
def k0_off4 (i : grid0.Coords) (k0_t1 : Fin (k0_t1_loop i).trips) (c0_i32_97 : BitVec 32) : Fin 4 → Nat :=
  let c0_109 : Index := 0#32
  let c4_i32_96 : BitVec 32 := 4#32
  let c0_i32_55 : BitVec 32 := 0#32
  let c1_i32_57 : BitVec 32 := 1#32
  let arg14 : BitVec 32 := Scf.iv c0_i32_55 c1_i32_57 k0_t1
  let v194 : BitVec 32 := Scalar.muli c4_i32_96 arg14
  let v195 : BitVec 32 := Scalar.addi v194 c0_i32_97
  let v214 : Index := Scalar.indexCast v195
  let c0_110 : Index := 0#32
  let c0_111 : Index := 0#32
  ![0, v214.toNat, 0, 0]
def k0_mult3 (i : grid0.Coords) (k0_t1 : Fin (k0_t1_loop i).trips) : BitVec 32 :=
  let c4_i32_125 : BitVec 32 := 4#32
  let c0_i32_55 : BitVec 32 := 0#32
  let c1_i32_57 : BitVec 32 := 1#32
  let arg14 : BitVec 32 := Scf.iv c0_i32_55 c1_i32_57 k0_t1
  let v241 : BitVec 32 := Scalar.muli c4_i32_125 arg14
  let c1_i32_126 : BitVec 32 := 1#32
  let v242 : BitVec 32 := Scalar.addi v241 c1_i32_126
  let c512_i32_127 : BitVec 32 := 512#32
  let v243 : BitVec 32 := Scalar.muli v242 c512_i32_127
  v243
def k0_mult4 (i : grid0.Coords) (k0_t1 : Fin (k0_t1_loop i).trips) : BitVec 32 :=
  let c4_i32_154 : BitVec 32 := 4#32
  let c0_i32_55 : BitVec 32 := 0#32
  let c1_i32_57 : BitVec 32 := 1#32
  let arg14 : BitVec 32 := Scf.iv c0_i32_55 c1_i32_57 k0_t1
  let v288 : BitVec 32 := Scalar.muli c4_i32_154 arg14
  let c2_i32 : BitVec 32 := 2#32
  let v289 : BitVec 32 := Scalar.addi v288 c2_i32
  let c512_i32_155 : BitVec 32 := 512#32
  let v290 : BitVec 32 := Scalar.muli v289 c512_i32_155
  v290
def k0_mult5 (i : grid0.Coords) (k0_t1 : Fin (k0_t1_loop i).trips) : BitVec 32 :=
  let c4_i32_182 : BitVec 32 := 4#32
  let c0_i32_55 : BitVec 32 := 0#32
  let c1_i32_57 : BitVec 32 := 1#32
  let arg14 : BitVec 32 := Scf.iv c0_i32_55 c1_i32_57 k0_t1
  let v335 : BitVec 32 := Scalar.muli c4_i32_182 arg14
  let c3_i32 : BitVec 32 := 3#32
  let v336 : BitVec 32 := Scalar.addi v335 c3_i32
  let c512_i32_183 : BitVec 32 := 512#32
  let v337 : BitVec 32 := Scalar.muli v336 c512_i32_183
  v337
@[reducible] def k0_t2_loop (i : grid0.Coords) : Scf.Loop 32 :=
  let c0_i32_55 : BitVec 32 := 0#32
  let arg2 : BitVec 32 := BitVec.ofNat 32 (i 2).val
  let c0_i32_48 : BitVec 32 := 0#32
  let v101 : BitVec 1 := Scalar.cmpi .sgt arg2 c0_i32_48
  let v102 : BitVec 32 := Scalar.extui v101
  let c0_i32_49 : BitVec 32 := 0#32
  let v103 : BitVec 1 := Scalar.cmpi .slt arg2 c0_i32_49
  let v104 : BitVec 32 := Scalar.extui v103
  let v105 : BitVec 32 := Scalar.subi v102 v104
  let c4_i32 : BitVec 32 := 4#32
  let c0_i32_50 : BitVec 32 := 0#32
  let v106 : BitVec 1 := Scalar.cmpi .sgt c4_i32 c0_i32_50
  let v107 : BitVec 32 := Scalar.extui v106
  let c0_i32_51 : BitVec 32 := 0#32
  let v108 : BitVec 1 := Scalar.cmpi .slt c4_i32 c0_i32_51
  let v109 : BitVec 32 := Scalar.extui v108
  let v110 : BitVec 32 := Scalar.subi v107 v109
  let v111 : BitVec 1 := Scalar.cmpi .ne v105 v110
  let v112 : BitVec 32 := Scalar.remsi arg2 c4_i32
  let c0_i32_52 : BitVec 32 := 0#32
  let v113 : BitVec 1 := Scalar.cmpi .ne v112 c0_i32_52
  let v114 : BitVec 1 := Scalar.andi v111 v113
  let v100 : BitVec 32 := Scalar.divsi arg2 c4_i32
  let c1_i32_53 : BitVec 32 := 1#32
  let v115 : BitVec 32 := Scalar.subi v100 c1_i32_53
  let v116 : BitVec 32 := Scalar.select v114 v115 v100
  let v117 : BitVec 32 := Scalar.subi v116 c0_i32_55
  let c1_i32_56 : BitVec 32 := 1#32
  let v119 : BitVec 32 := Scalar.divsi v117 c1_i32_56
  let v120 : BitVec 32 := Scalar.muli v119 c1_i32_56
  let v121 : BitVec 32 := Scalar.addi c0_i32_55 v120
  let v118 : BitVec 32 := Scalar.addi c0_i32_55 v117
  let c1_i32_58 : BitVec 32 := 1#32
  ⟨v121, v118, c1_i32_58⟩
def k0_mult6 (i : grid0.Coords) (k0_t2 : Fin (k0_t2_loop i).trips) : BitVec 32 :=
  let c4_i32_96 : BitVec 32 := 4#32
  let c0_i32_55 : BitVec 32 := 0#32
  let arg2 : BitVec 32 := BitVec.ofNat 32 (i 2).val
  let c0_i32_48 : BitVec 32 := 0#32
  let v101 : BitVec 1 := Scalar.cmpi .sgt arg2 c0_i32_48
  let v102 : BitVec 32 := Scalar.extui v101
  let c0_i32_49 : BitVec 32 := 0#32
  let v103 : BitVec 1 := Scalar.cmpi .slt arg2 c0_i32_49
  let v104 : BitVec 32 := Scalar.extui v103
  let v105 : BitVec 32 := Scalar.subi v102 v104
  let c4_i32 : BitVec 32 := 4#32
  let c0_i32_50 : BitVec 32 := 0#32
  let v106 : BitVec 1 := Scalar.cmpi .sgt c4_i32 c0_i32_50
  let v107 : BitVec 32 := Scalar.extui v106
  let c0_i32_51 : BitVec 32 := 0#32
  let v108 : BitVec 1 := Scalar.cmpi .slt c4_i32 c0_i32_51
  let v109 : BitVec 32 := Scalar.extui v108
  let v110 : BitVec 32 := Scalar.subi v107 v109
  let v111 : BitVec 1 := Scalar.cmpi .ne v105 v110
  let v112 : BitVec 32 := Scalar.remsi arg2 c4_i32
  let c0_i32_52 : BitVec 32 := 0#32
  let v113 : BitVec 1 := Scalar.cmpi .ne v112 c0_i32_52
  let v114 : BitVec 1 := Scalar.andi v111 v113
  let v100 : BitVec 32 := Scalar.divsi arg2 c4_i32
  let c1_i32_53 : BitVec 32 := 1#32
  let v115 : BitVec 32 := Scalar.subi v100 c1_i32_53
  let v116 : BitVec 32 := Scalar.select v114 v115 v100
  let v117 : BitVec 32 := Scalar.subi v116 c0_i32_55
  let c1_i32_56 : BitVec 32 := 1#32
  let v119 : BitVec 32 := Scalar.divsi v117 c1_i32_56
  let v120 : BitVec 32 := Scalar.muli v119 c1_i32_56
  let v121 : BitVec 32 := Scalar.addi c0_i32_55 v120
  let c1_i32_58 : BitVec 32 := 1#32
  let arg14 : BitVec 32 := Scf.iv v121 c1_i32_58 k0_t2
  let v194 : BitVec 32 := Scalar.muli c4_i32_96 arg14
  let c0_i32_97 : BitVec 32 := 0#32
  let v195 : BitVec 32 := Scalar.addi v194 c0_i32_97
  let c512_i32_98 : BitVec 32 := 512#32
  let v196 : BitVec 32 := Scalar.muli v195 c512_i32_98
  v196
def k0_off5 (i : grid0.Coords) (k0_t2 : Fin (k0_t2_loop i).trips) (c0_i32_97 : BitVec 32) : Fin 3 → Nat :=
  let c0_99 : Index := 0#32
  let c4_i32_96 : BitVec 32 := 4#32
  let c0_i32_55 : BitVec 32 := 0#32
  let arg2 : BitVec 32 := BitVec.ofNat 32 (i 2).val
  let c0_i32_48 : BitVec 32 := 0#32
  let v101 : BitVec 1 := Scalar.cmpi .sgt arg2 c0_i32_48
  let v102 : BitVec 32 := Scalar.extui v101
  let c0_i32_49 : BitVec 32 := 0#32
  let v103 : BitVec 1 := Scalar.cmpi .slt arg2 c0_i32_49
  let v104 : BitVec 32 := Scalar.extui v103
  let v105 : BitVec 32 := Scalar.subi v102 v104
  let c4_i32 : BitVec 32 := 4#32
  let c0_i32_50 : BitVec 32 := 0#32
  let v106 : BitVec 1 := Scalar.cmpi .sgt c4_i32 c0_i32_50
  let v107 : BitVec 32 := Scalar.extui v106
  let c0_i32_51 : BitVec 32 := 0#32
  let v108 : BitVec 1 := Scalar.cmpi .slt c4_i32 c0_i32_51
  let v109 : BitVec 32 := Scalar.extui v108
  let v110 : BitVec 32 := Scalar.subi v107 v109
  let v111 : BitVec 1 := Scalar.cmpi .ne v105 v110
  let v112 : BitVec 32 := Scalar.remsi arg2 c4_i32
  let c0_i32_52 : BitVec 32 := 0#32
  let v113 : BitVec 1 := Scalar.cmpi .ne v112 c0_i32_52
  let v114 : BitVec 1 := Scalar.andi v111 v113
  let v100 : BitVec 32 := Scalar.divsi arg2 c4_i32
  let c1_i32_53 : BitVec 32 := 1#32
  let v115 : BitVec 32 := Scalar.subi v100 c1_i32_53
  let v116 : BitVec 32 := Scalar.select v114 v115 v100
  let v117 : BitVec 32 := Scalar.subi v116 c0_i32_55
  let c1_i32_56 : BitVec 32 := 1#32
  let v119 : BitVec 32 := Scalar.divsi v117 c1_i32_56
  let v120 : BitVec 32 := Scalar.muli v119 c1_i32_56
  let v121 : BitVec 32 := Scalar.addi c0_i32_55 v120
  let c1_i32_58 : BitVec 32 := 1#32
  let arg14 : BitVec 32 := Scf.iv v121 c1_i32_58 k0_t2
  let v194 : BitVec 32 := Scalar.muli c4_i32_96 arg14
  let v195 : BitVec 32 := Scalar.addi v194 c0_i32_97
  let c512_i32_98 : BitVec 32 := 512#32
  let v196 : BitVec 32 := Scalar.muli v195 c512_i32_98
  let v197 : BitVec 32 := v196
  let v198 : Index := Scalar.indexCast v197
  let c0_100 : Index := 0#32
  ![0, v198.toNat, 0]
def k0_off6 (i : grid0.Coords) (k0_t2 : Fin (k0_t2_loop i).trips) (c0_i32_97 : BitVec 32) : Fin 4 → Nat :=
  let c0_109 : Index := 0#32
  let c4_i32_96 : BitVec 32 := 4#32
  let c0_i32_55 : BitVec 32 := 0#32
  let arg2 : BitVec 32 := BitVec.ofNat 32 (i 2).val
  let c0_i32_48 : BitVec 32 := 0#32
  let v101 : BitVec 1 := Scalar.cmpi .sgt arg2 c0_i32_48
  let v102 : BitVec 32 := Scalar.extui v101
  let c0_i32_49 : BitVec 32 := 0#32
  let v103 : BitVec 1 := Scalar.cmpi .slt arg2 c0_i32_49
  let v104 : BitVec 32 := Scalar.extui v103
  let v105 : BitVec 32 := Scalar.subi v102 v104
  let c4_i32 : BitVec 32 := 4#32
  let c0_i32_50 : BitVec 32 := 0#32
  let v106 : BitVec 1 := Scalar.cmpi .sgt c4_i32 c0_i32_50
  let v107 : BitVec 32 := Scalar.extui v106
  let c0_i32_51 : BitVec 32 := 0#32
  let v108 : BitVec 1 := Scalar.cmpi .slt c4_i32 c0_i32_51
  let v109 : BitVec 32 := Scalar.extui v108
  let v110 : BitVec 32 := Scalar.subi v107 v109
  let v111 : BitVec 1 := Scalar.cmpi .ne v105 v110
  let v112 : BitVec 32 := Scalar.remsi arg2 c4_i32
  let c0_i32_52 : BitVec 32 := 0#32
  let v113 : BitVec 1 := Scalar.cmpi .ne v112 c0_i32_52
  let v114 : BitVec 1 := Scalar.andi v111 v113
  let v100 : BitVec 32 := Scalar.divsi arg2 c4_i32
  let c1_i32_53 : BitVec 32 := 1#32
  let v115 : BitVec 32 := Scalar.subi v100 c1_i32_53
  let v116 : BitVec 32 := Scalar.select v114 v115 v100
  let v117 : BitVec 32 := Scalar.subi v116 c0_i32_55
  let c1_i32_56 : BitVec 32 := 1#32
  let v119 : BitVec 32 := Scalar.divsi v117 c1_i32_56
  let v120 : BitVec 32 := Scalar.muli v119 c1_i32_56
  let v121 : BitVec 32 := Scalar.addi c0_i32_55 v120
  let c1_i32_58 : BitVec 32 := 1#32
  let arg14 : BitVec 32 := Scf.iv v121 c1_i32_58 k0_t2
  let v194 : BitVec 32 := Scalar.muli c4_i32_96 arg14
  let v195 : BitVec 32 := Scalar.addi v194 c0_i32_97
  let v214 : Index := Scalar.indexCast v195
  let c0_110 : Index := 0#32
  let c0_111 : Index := 0#32
  ![0, v214.toNat, 0, 0]
def k0_mult7 (i : grid0.Coords) (k0_t2 : Fin (k0_t2_loop i).trips) : BitVec 32 :=
  let c4_i32_125 : BitVec 32 := 4#32
  let c0_i32_55 : BitVec 32 := 0#32
  let arg2 : BitVec 32 := BitVec.ofNat 32 (i 2).val
  let c0_i32_48 : BitVec 32 := 0#32
  let v101 : BitVec 1 := Scalar.cmpi .sgt arg2 c0_i32_48
  let v102 : BitVec 32 := Scalar.extui v101
  let c0_i32_49 : BitVec 32 := 0#32
  let v103 : BitVec 1 := Scalar.cmpi .slt arg2 c0_i32_49
  let v104 : BitVec 32 := Scalar.extui v103
  let v105 : BitVec 32 := Scalar.subi v102 v104
  let c4_i32 : BitVec 32 := 4#32
  let c0_i32_50 : BitVec 32 := 0#32
  let v106 : BitVec 1 := Scalar.cmpi .sgt c4_i32 c0_i32_50
  let v107 : BitVec 32 := Scalar.extui v106
  let c0_i32_51 : BitVec 32 := 0#32
  let v108 : BitVec 1 := Scalar.cmpi .slt c4_i32 c0_i32_51
  let v109 : BitVec 32 := Scalar.extui v108
  let v110 : BitVec 32 := Scalar.subi v107 v109
  let v111 : BitVec 1 := Scalar.cmpi .ne v105 v110
  let v112 : BitVec 32 := Scalar.remsi arg2 c4_i32
  let c0_i32_52 : BitVec 32 := 0#32
  let v113 : BitVec 1 := Scalar.cmpi .ne v112 c0_i32_52
  let v114 : BitVec 1 := Scalar.andi v111 v113
  let v100 : BitVec 32 := Scalar.divsi arg2 c4_i32
  let c1_i32_53 : BitVec 32 := 1#32
  let v115 : BitVec 32 := Scalar.subi v100 c1_i32_53
  let v116 : BitVec 32 := Scalar.select v114 v115 v100
  let v117 : BitVec 32 := Scalar.subi v116 c0_i32_55
  let c1_i32_56 : BitVec 32 := 1#32
  let v119 : BitVec 32 := Scalar.divsi v117 c1_i32_56
  let v120 : BitVec 32 := Scalar.muli v119 c1_i32_56
  let v121 : BitVec 32 := Scalar.addi c0_i32_55 v120
  let c1_i32_58 : BitVec 32 := 1#32
  let arg14 : BitVec 32 := Scf.iv v121 c1_i32_58 k0_t2
  let v241 : BitVec 32 := Scalar.muli c4_i32_125 arg14
  let c1_i32_126 : BitVec 32 := 1#32
  let v242 : BitVec 32 := Scalar.addi v241 c1_i32_126
  let c512_i32_127 : BitVec 32 := 512#32
  let v243 : BitVec 32 := Scalar.muli v242 c512_i32_127
  v243
def k0_mult8 (i : grid0.Coords) (k0_t2 : Fin (k0_t2_loop i).trips) : BitVec 32 :=
  let c4_i32_154 : BitVec 32 := 4#32
  let c0_i32_55 : BitVec 32 := 0#32
  let arg2 : BitVec 32 := BitVec.ofNat 32 (i 2).val
  let c0_i32_48 : BitVec 32 := 0#32
  let v101 : BitVec 1 := Scalar.cmpi .sgt arg2 c0_i32_48
  let v102 : BitVec 32 := Scalar.extui v101
  let c0_i32_49 : BitVec 32 := 0#32
  let v103 : BitVec 1 := Scalar.cmpi .slt arg2 c0_i32_49
  let v104 : BitVec 32 := Scalar.extui v103
  let v105 : BitVec 32 := Scalar.subi v102 v104
  let c4_i32 : BitVec 32 := 4#32
  let c0_i32_50 : BitVec 32 := 0#32
  let v106 : BitVec 1 := Scalar.cmpi .sgt c4_i32 c0_i32_50
  let v107 : BitVec 32 := Scalar.extui v106
  let c0_i32_51 : BitVec 32 := 0#32
  let v108 : BitVec 1 := Scalar.cmpi .slt c4_i32 c0_i32_51
  let v109 : BitVec 32 := Scalar.extui v108
  let v110 : BitVec 32 := Scalar.subi v107 v109
  let v111 : BitVec 1 := Scalar.cmpi .ne v105 v110
  let v112 : BitVec 32 := Scalar.remsi arg2 c4_i32
  let c0_i32_52 : BitVec 32 := 0#32
  let v113 : BitVec 1 := Scalar.cmpi .ne v112 c0_i32_52
  let v114 : BitVec 1 := Scalar.andi v111 v113
  let v100 : BitVec 32 := Scalar.divsi arg2 c4_i32
  let c1_i32_53 : BitVec 32 := 1#32
  let v115 : BitVec 32 := Scalar.subi v100 c1_i32_53
  let v116 : BitVec 32 := Scalar.select v114 v115 v100
  let v117 : BitVec 32 := Scalar.subi v116 c0_i32_55
  let c1_i32_56 : BitVec 32 := 1#32
  let v119 : BitVec 32 := Scalar.divsi v117 c1_i32_56
  let v120 : BitVec 32 := Scalar.muli v119 c1_i32_56
  let v121 : BitVec 32 := Scalar.addi c0_i32_55 v120
  let c1_i32_58 : BitVec 32 := 1#32
  let arg14 : BitVec 32 := Scf.iv v121 c1_i32_58 k0_t2
  let v288 : BitVec 32 := Scalar.muli c4_i32_154 arg14
  let c2_i32 : BitVec 32 := 2#32
  let v289 : BitVec 32 := Scalar.addi v288 c2_i32
  let c512_i32_155 : BitVec 32 := 512#32
  let v290 : BitVec 32 := Scalar.muli v289 c512_i32_155
  v290
def k0_mult9 (i : grid0.Coords) (k0_t2 : Fin (k0_t2_loop i).trips) : BitVec 32 :=
  let c4_i32_182 : BitVec 32 := 4#32
  let c0_i32_55 : BitVec 32 := 0#32
  let arg2 : BitVec 32 := BitVec.ofNat 32 (i 2).val
  let c0_i32_48 : BitVec 32 := 0#32
  let v101 : BitVec 1 := Scalar.cmpi .sgt arg2 c0_i32_48
  let v102 : BitVec 32 := Scalar.extui v101
  let c0_i32_49 : BitVec 32 := 0#32
  let v103 : BitVec 1 := Scalar.cmpi .slt arg2 c0_i32_49
  let v104 : BitVec 32 := Scalar.extui v103
  let v105 : BitVec 32 := Scalar.subi v102 v104
  let c4_i32 : BitVec 32 := 4#32
  let c0_i32_50 : BitVec 32 := 0#32
  let v106 : BitVec 1 := Scalar.cmpi .sgt c4_i32 c0_i32_50
  let v107 : BitVec 32 := Scalar.extui v106
  let c0_i32_51 : BitVec 32 := 0#32
  let v108 : BitVec 1 := Scalar.cmpi .slt c4_i32 c0_i32_51
  let v109 : BitVec 32 := Scalar.extui v108
  let v110 : BitVec 32 := Scalar.subi v107 v109
  let v111 : BitVec 1 := Scalar.cmpi .ne v105 v110
  let v112 : BitVec 32 := Scalar.remsi arg2 c4_i32
  let c0_i32_52 : BitVec 32 := 0#32
  let v113 : BitVec 1 := Scalar.cmpi .ne v112 c0_i32_52
  let v114 : BitVec 1 := Scalar.andi v111 v113
  let v100 : BitVec 32 := Scalar.divsi arg2 c4_i32
  let c1_i32_53 : BitVec 32 := 1#32
  let v115 : BitVec 32 := Scalar.subi v100 c1_i32_53
  let v116 : BitVec 32 := Scalar.select v114 v115 v100
  let v117 : BitVec 32 := Scalar.subi v116 c0_i32_55
  let c1_i32_56 : BitVec 32 := 1#32
  let v119 : BitVec 32 := Scalar.divsi v117 c1_i32_56
  let v120 : BitVec 32 := Scalar.muli v119 c1_i32_56
  let v121 : BitVec 32 := Scalar.addi c0_i32_55 v120
  let c1_i32_58 : BitVec 32 := 1#32
  let arg14 : BitVec 32 := Scf.iv v121 c1_i32_58 k0_t2
  let v335 : BitVec 32 := Scalar.muli c4_i32_182 arg14
  let c3_i32 : BitVec 32 := 3#32
  let v336 : BitVec 32 := Scalar.addi v335 c3_i32
  let c512_i32_183 : BitVec 32 := 512#32
  let v337 : BitVec 32 := Scalar.muli v336 c512_i32_183
  v337
@[reducible] def k0_t3_loop (i : grid0.Coords) : Scf.Loop 32 :=
  let arg2 : BitVec 32 := BitVec.ofNat 32 (i 2).val
  let c4_i32_59 : BitVec 32 := 4#32
  let c0_i32_60 : BitVec 32 := 0#32
  let v122 : BitVec 1 := Scalar.cmpi .eq c4_i32_59 c0_i32_60
  let c1_i32_61 : BitVec 32 := 1#32
  let v123 : BitVec 32 := Scalar.select v122 c1_i32_61 c4_i32_59
  let v124 : BitVec 32 := Scalar.remsi arg2 v123
  let c0_i32_63 : BitVec 32 := 0#32
  let v126 : BitVec 1 := Scalar.cmpi .slt v124 c0_i32_63
  let c0_i32_64 : BitVec 32 := 0#32
  let v127 : BitVec 1 := Scalar.cmpi .slt v123 c0_i32_64
  let v128 : BitVec 1 := Scalar.xori v126 v127
  let c0_i32_62 : BitVec 32 := 0#32
  let v125 : BitVec 1 := Scalar.cmpi .ne v124 c0_i32_62
  let v129 : BitVec 1 := Scalar.andi v128 v125
  let v130 : BitVec 32 := Scalar.addi v124 v123
  let v131 : BitVec 32 := Scalar.select v129 v130 v124
  let v132 : BitVec 32 := Scalar.subi arg2 v131
  let v133 : BitVec 32 := Scalar.subi arg2 v132
  let c1_i32_66 : BitVec 32 := 1#32
  let v135 : BitVec 32 := Scalar.divsi v133 c1_i32_66
  let v136 : BitVec 32 := Scalar.muli v135 c1_i32_66
  let v137 : BitVec 32 := Scalar.addi v132 v136
  let c1_i32_67 : BitVec 32 := 1#32
  ⟨v132, v137, c1_i32_67⟩
def k0_mult10 (i : grid0.Coords) (k0_t3 : Fin (k0_t3_loop i).trips) : BitVec 32 :=
  let arg2 : BitVec 32 := BitVec.ofNat 32 (i 2).val
  let c4_i32_59 : BitVec 32 := 4#32
  let c0_i32_60 : BitVec 32 := 0#32
  let v122 : BitVec 1 := Scalar.cmpi .eq c4_i32_59 c0_i32_60
  let c1_i32_61 : BitVec 32 := 1#32
  let v123 : BitVec 32 := Scalar.select v122 c1_i32_61 c4_i32_59
  let v124 : BitVec 32 := Scalar.remsi arg2 v123
  let c0_i32_63 : BitVec 32 := 0#32
  let v126 : BitVec 1 := Scalar.cmpi .slt v124 c0_i32_63
  let c0_i32_64 : BitVec 32 := 0#32
  let v127 : BitVec 1 := Scalar.cmpi .slt v123 c0_i32_64
  let v128 : BitVec 1 := Scalar.xori v126 v127
  let c0_i32_62 : BitVec 32 := 0#32
  let v125 : BitVec 1 := Scalar.cmpi .ne v124 c0_i32_62
  let v129 : BitVec 1 := Scalar.andi v128 v125
  let v130 : BitVec 32 := Scalar.addi v124 v123
  let v131 : BitVec 32 := Scalar.select v129 v130 v124
  let v132 : BitVec 32 := Scalar.subi arg2 v131
  let c1_i32_67 : BitVec 32 := 1#32
  let arg14 : BitVec 32 := Scf.iv v132 c1_i32_67 k0_t3
  let c512_i32_96 : BitVec 32 := 512#32
  let v194 : BitVec 32 := Scalar.muli arg14 c512_i32_96
  v194
def k0_off7 (i : grid0.Coords) (k0_t3 : Fin (k0_t3_loop i).trips) : Fin 3 → Nat :=
  let c0_97 : Index := 0#32
  let arg2 : BitVec 32 := BitVec.ofNat 32 (i 2).val
  let c4_i32_59 : BitVec 32 := 4#32
  let c0_i32_60 : BitVec 32 := 0#32
  let v122 : BitVec 1 := Scalar.cmpi .eq c4_i32_59 c0_i32_60
  let c1_i32_61 : BitVec 32 := 1#32
  let v123 : BitVec 32 := Scalar.select v122 c1_i32_61 c4_i32_59
  let v124 : BitVec 32 := Scalar.remsi arg2 v123
  let c0_i32_63 : BitVec 32 := 0#32
  let v126 : BitVec 1 := Scalar.cmpi .slt v124 c0_i32_63
  let c0_i32_64 : BitVec 32 := 0#32
  let v127 : BitVec 1 := Scalar.cmpi .slt v123 c0_i32_64
  let v128 : BitVec 1 := Scalar.xori v126 v127
  let c0_i32_62 : BitVec 32 := 0#32
  let v125 : BitVec 1 := Scalar.cmpi .ne v124 c0_i32_62
  let v129 : BitVec 1 := Scalar.andi v128 v125
  let v130 : BitVec 32 := Scalar.addi v124 v123
  let v131 : BitVec 32 := Scalar.select v129 v130 v124
  let v132 : BitVec 32 := Scalar.subi arg2 v131
  let c1_i32_67 : BitVec 32 := 1#32
  let arg14 : BitVec 32 := Scf.iv v132 c1_i32_67 k0_t3
  let c512_i32_96 : BitVec 32 := 512#32
  let v194 : BitVec 32 := Scalar.muli arg14 c512_i32_96
  let v195 : BitVec 32 := v194
  let v196 : Index := Scalar.indexCast v195
  let c0_98 : Index := 0#32
  ![0, v196.toNat, 0]
def k0_off8 (i : grid0.Coords) (k0_t3 : Fin (k0_t3_loop i).trips) : Fin 4 → Nat :=
  let c0_107 : Index := 0#32
  let arg2 : BitVec 32 := BitVec.ofNat 32 (i 2).val
  let c4_i32_59 : BitVec 32 := 4#32
  let c0_i32_60 : BitVec 32 := 0#32
  let v122 : BitVec 1 := Scalar.cmpi .eq c4_i32_59 c0_i32_60
  let c1_i32_61 : BitVec 32 := 1#32
  let v123 : BitVec 32 := Scalar.select v122 c1_i32_61 c4_i32_59
  let v124 : BitVec 32 := Scalar.remsi arg2 v123
  let c0_i32_63 : BitVec 32 := 0#32
  let v126 : BitVec 1 := Scalar.cmpi .slt v124 c0_i32_63
  let c0_i32_64 : BitVec 32 := 0#32
  let v127 : BitVec 1 := Scalar.cmpi .slt v123 c0_i32_64
  let v128 : BitVec 1 := Scalar.xori v126 v127
  let c0_i32_62 : BitVec 32 := 0#32
  let v125 : BitVec 1 := Scalar.cmpi .ne v124 c0_i32_62
  let v129 : BitVec 1 := Scalar.andi v128 v125
  let v130 : BitVec 32 := Scalar.addi v124 v123
  let v131 : BitVec 32 := Scalar.select v129 v130 v124
  let v132 : BitVec 32 := Scalar.subi arg2 v131
  let c1_i32_67 : BitVec 32 := 1#32
  let arg14 : BitVec 32 := Scf.iv v132 c1_i32_67 k0_t3
  let v212 : Index := Scalar.indexCast arg14
  let c0_108 : Index := 0#32
  let c0_109 : Index := 0#32
  ![0, v212.toNat, 0, 0]
@[reducible] def k0_t4_loop (i : grid0.Coords) : Scf.Loop 32 :=
  let arg2 : BitVec 32 := BitVec.ofNat 32 (i 2).val
  let c4_i32_59 : BitVec 32 := 4#32
  let c0_i32_60 : BitVec 32 := 0#32
  let v122 : BitVec 1 := Scalar.cmpi .eq c4_i32_59 c0_i32_60
  let c1_i32_61 : BitVec 32 := 1#32
  let v123 : BitVec 32 := Scalar.select v122 c1_i32_61 c4_i32_59
  let v124 : BitVec 32 := Scalar.remsi arg2 v123
  let c0_i32_63 : BitVec 32 := 0#32
  let v126 : BitVec 1 := Scalar.cmpi .slt v124 c0_i32_63
  let c0_i32_64 : BitVec 32 := 0#32
  let v127 : BitVec 1 := Scalar.cmpi .slt v123 c0_i32_64
  let v128 : BitVec 1 := Scalar.xori v126 v127
  let c0_i32_62 : BitVec 32 := 0#32
  let v125 : BitVec 1 := Scalar.cmpi .ne v124 c0_i32_62
  let v129 : BitVec 1 := Scalar.andi v128 v125
  let v130 : BitVec 32 := Scalar.addi v124 v123
  let v131 : BitVec 32 := Scalar.select v129 v130 v124
  let v132 : BitVec 32 := Scalar.subi arg2 v131
  let v133 : BitVec 32 := Scalar.subi arg2 v132
  let c1_i32_66 : BitVec 32 := 1#32
  let v135 : BitVec 32 := Scalar.divsi v133 c1_i32_66
  let v136 : BitVec 32 := Scalar.muli v135 c1_i32_66
  let v137 : BitVec 32 := Scalar.addi v132 v136
  let v134 : BitVec 32 := Scalar.addi v132 v133
  let c1_i32_68 : BitVec 32 := 1#32
  ⟨v137, v134, c1_i32_68⟩
def k0_mult11 (i : grid0.Coords) (k0_t4 : Fin (k0_t4_loop i).trips) : BitVec 32 :=
  let arg2 : BitVec 32 := BitVec.ofNat 32 (i 2).val
  let c4_i32_59 : BitVec 32 := 4#32
  let c0_i32_60 : BitVec 32 := 0#32
  let v122 : BitVec 1 := Scalar.cmpi .eq c4_i32_59 c0_i32_60
  let c1_i32_61 : BitVec 32 := 1#32
  let v123 : BitVec 32 := Scalar.select v122 c1_i32_61 c4_i32_59
  let v124 : BitVec 32 := Scalar.remsi arg2 v123
  let c0_i32_63 : BitVec 32 := 0#32
  let v126 : BitVec 1 := Scalar.cmpi .slt v124 c0_i32_63
  let c0_i32_64 : BitVec 32 := 0#32
  let v127 : BitVec 1 := Scalar.cmpi .slt v123 c0_i32_64
  let v128 : BitVec 1 := Scalar.xori v126 v127
  let c0_i32_62 : BitVec 32 := 0#32
  let v125 : BitVec 1 := Scalar.cmpi .ne v124 c0_i32_62
  let v129 : BitVec 1 := Scalar.andi v128 v125
  let v130 : BitVec 32 := Scalar.addi v124 v123
  let v131 : BitVec 32 := Scalar.select v129 v130 v124
  let v132 : BitVec 32 := Scalar.subi arg2 v131
  let v133 : BitVec 32 := Scalar.subi arg2 v132
  let c1_i32_66 : BitVec 32 := 1#32
  let v135 : BitVec 32 := Scalar.divsi v133 c1_i32_66
  let v136 : BitVec 32 := Scalar.muli v135 c1_i32_66
  let v137 : BitVec 32 := Scalar.addi v132 v136
  let c1_i32_68 : BitVec 32 := 1#32
  let arg14 : BitVec 32 := Scf.iv v137 c1_i32_68 k0_t4
  let c512_i32_96 : BitVec 32 := 512#32
  let v194 : BitVec 32 := Scalar.muli arg14 c512_i32_96
  v194
def k0_off9 (i : grid0.Coords) (k0_t4 : Fin (k0_t4_loop i).trips) : Fin 3 → Nat :=
  let c0_97 : Index := 0#32
  let arg2 : BitVec 32 := BitVec.ofNat 32 (i 2).val
  let c4_i32_59 : BitVec 32 := 4#32
  let c0_i32_60 : BitVec 32 := 0#32
  let v122 : BitVec 1 := Scalar.cmpi .eq c4_i32_59 c0_i32_60
  let c1_i32_61 : BitVec 32 := 1#32
  let v123 : BitVec 32 := Scalar.select v122 c1_i32_61 c4_i32_59
  let v124 : BitVec 32 := Scalar.remsi arg2 v123
  let c0_i32_63 : BitVec 32 := 0#32
  let v126 : BitVec 1 := Scalar.cmpi .slt v124 c0_i32_63
  let c0_i32_64 : BitVec 32 := 0#32
  let v127 : BitVec 1 := Scalar.cmpi .slt v123 c0_i32_64
  let v128 : BitVec 1 := Scalar.xori v126 v127
  let c0_i32_62 : BitVec 32 := 0#32
  let v125 : BitVec 1 := Scalar.cmpi .ne v124 c0_i32_62
  let v129 : BitVec 1 := Scalar.andi v128 v125
  let v130 : BitVec 32 := Scalar.addi v124 v123
  let v131 : BitVec 32 := Scalar.select v129 v130 v124
  let v132 : BitVec 32 := Scalar.subi arg2 v131
  let v133 : BitVec 32 := Scalar.subi arg2 v132
  let c1_i32_66 : BitVec 32 := 1#32
  let v135 : BitVec 32 := Scalar.divsi v133 c1_i32_66
  let v136 : BitVec 32 := Scalar.muli v135 c1_i32_66
  let v137 : BitVec 32 := Scalar.addi v132 v136
  let c1_i32_68 : BitVec 32 := 1#32
  let arg14 : BitVec 32 := Scf.iv v137 c1_i32_68 k0_t4
  let c512_i32_96 : BitVec 32 := 512#32
  let v194 : BitVec 32 := Scalar.muli arg14 c512_i32_96
  let v195 : BitVec 32 := v194
  let v196 : Index := Scalar.indexCast v195
  let c0_98 : Index := 0#32
  ![0, v196.toNat, 0]
def k0_off10 (i : grid0.Coords) (k0_t4 : Fin (k0_t4_loop i).trips) : Fin 4 → Nat :=
  let c0_107 : Index := 0#32
  let arg2 : BitVec 32 := BitVec.ofNat 32 (i 2).val
  let c4_i32_59 : BitVec 32 := 4#32
  let c0_i32_60 : BitVec 32 := 0#32
  let v122 : BitVec 1 := Scalar.cmpi .eq c4_i32_59 c0_i32_60
  let c1_i32_61 : BitVec 32 := 1#32
  let v123 : BitVec 32 := Scalar.select v122 c1_i32_61 c4_i32_59
  let v124 : BitVec 32 := Scalar.remsi arg2 v123
  let c0_i32_63 : BitVec 32 := 0#32
  let v126 : BitVec 1 := Scalar.cmpi .slt v124 c0_i32_63
  let c0_i32_64 : BitVec 32 := 0#32
  let v127 : BitVec 1 := Scalar.cmpi .slt v123 c0_i32_64
  let v128 : BitVec 1 := Scalar.xori v126 v127
  let c0_i32_62 : BitVec 32 := 0#32
  let v125 : BitVec 1 := Scalar.cmpi .ne v124 c0_i32_62
  let v129 : BitVec 1 := Scalar.andi v128 v125
  let v130 : BitVec 32 := Scalar.addi v124 v123
  let v131 : BitVec 32 := Scalar.select v129 v130 v124
  let v132 : BitVec 32 := Scalar.subi arg2 v131
  let v133 : BitVec 32 := Scalar.subi arg2 v132
  let c1_i32_66 : BitVec 32 := 1#32
  let v135 : BitVec 32 := Scalar.divsi v133 c1_i32_66
  let v136 : BitVec 32 := Scalar.muli v135 c1_i32_66
  let v137 : BitVec 32 := Scalar.addi v132 v136
  let c1_i32_68 : BitVec 32 := 1#32
  let arg14 : BitVec 32 := Scf.iv v137 c1_i32_68 k0_t4
  let v212 : Index := Scalar.indexCast arg14
  let c0_108 : Index := 0#32
  let c0_109 : Index := 0#32
  ![0, v212.toNat, 0, 0]
def k0_mult12 (i : grid0.Coords) : BitVec 32 :=
  let arg2 : BitVec 32 := BitVec.ofNat 32 (i 2).val
  let c512_i32_102 : BitVec 32 := 512#32
  let v202 : BitVec 32 := Scalar.muli arg2 c512_i32_102
  v202
def k0_off11 (i : grid0.Coords) : Fin 3 → Nat :=
  let c0_103 : Index := 0#32
  let arg2 : BitVec 32 := BitVec.ofNat 32 (i 2).val
  let c512_i32_102 : BitVec 32 := 512#32
  let v202 : BitVec 32 := Scalar.muli arg2 c512_i32_102
  let v203 : BitVec 32 := v202
  let v204 : Index := Scalar.indexCast v203
  let c0_104 : Index := 0#32
  ![0, v204.toNat, 0]
def k0_off12 (i : grid0.Coords) : Fin 4 → Nat :=
  let c0_119 : Index := 0#32
  let arg2 : BitVec 32 := BitVec.ofNat 32 (i 2).val
  let v243 : Index := Scalar.indexCast arg2
  let c0_120 : Index := 0#32
  let c0_121 : Index := 0#32
  ![0, v243.toNat, 0, 0]
@[reducible] def k0_t5_loop (i : grid0.Coords) : Scf.Loop 32 :=
  let c0_i32_128 : BitVec 32 := 0#32
  let arg2 : BitVec 32 := BitVec.ofNat 32 (i 2).val
  let v255 : BitVec 32 := Scalar.subi arg2 c0_i32_128
  let c1_i32_129 : BitVec 32 := 1#32
  let v257 : BitVec 32 := Scalar.divsi v255 c1_i32_129
  let v258 : BitVec 32 := Scalar.muli v257 c1_i32_129
  let v259 : BitVec 32 := Scalar.addi c0_i32_128 v258
  let c1_i32_130 : BitVec 32 := 1#32
  ⟨c0_i32_128, v259, c1_i32_130⟩
def k0_mult13 (i : grid0.Coords) (k0_t5 : Fin (k0_t5_loop i).trips) : BitVec 32 :=
  let c0_i32_128 : BitVec 32 := 0#32
  let c1_i32_130 : BitVec 32 := 1#32
  let arg14 : BitVec 32 := Scf.iv c0_i32_128 c1_i32_130 k0_t5
  let c512_i32_132 : BitVec 32 := 512#32
  let v260 : BitVec 32 := Scalar.muli arg14 c512_i32_132
  v260
def k0_off13 (i : grid0.Coords) (k0_t5 : Fin (k0_t5_loop i).trips) : Fin 3 → Nat :=
  let c0_133 : Index := 0#32
  let c0_i32_128 : BitVec 32 := 0#32
  let c1_i32_130 : BitVec 32 := 1#32
  let arg14 : BitVec 32 := Scf.iv c0_i32_128 c1_i32_130 k0_t5
  let c512_i32_132 : BitVec 32 := 512#32
  let v260 : BitVec 32 := Scalar.muli arg14 c512_i32_132
  let v261 : BitVec 32 := v260
  let v262 : Index := Scalar.indexCast v261
  let c0_134 : Index := 0#32
  ![0, v262.toNat, 0]
def k0_off14 (i : grid0.Coords) (k0_t5 : Fin (k0_t5_loop i).trips) : Fin 4 → Nat :=
  let c0_142 : Index := 0#32
  let c0_i32_128 : BitVec 32 := 0#32
  let c1_i32_130 : BitVec 32 := 1#32
  let arg14 : BitVec 32 := Scf.iv c0_i32_128 c1_i32_130 k0_t5
  let v280 : Index := Scalar.indexCast arg14
  let c0_143 : Index := 0#32
  let c0_144 : Index := 0#32
  ![0, v280.toNat, 0, 0]
@[reducible] def k0_t6_loop (i : grid0.Coords) : Scf.Loop 32 :=
  let c0_i32_128 : BitVec 32 := 0#32
  let arg2 : BitVec 32 := BitVec.ofNat 32 (i 2).val
  let v255 : BitVec 32 := Scalar.subi arg2 c0_i32_128
  let c1_i32_129 : BitVec 32 := 1#32
  let v257 : BitVec 32 := Scalar.divsi v255 c1_i32_129
  let v258 : BitVec 32 := Scalar.muli v257 c1_i32_129
  let v259 : BitVec 32 := Scalar.addi c0_i32_128 v258
  let v256 : BitVec 32 := Scalar.addi c0_i32_128 v255
  let c1_i32_131 : BitVec 32 := 1#32
  ⟨v259, v256, c1_i32_131⟩
def k0_mult14 (i : grid0.Coords) (k0_t6 : Fin (k0_t6_loop i).trips) : BitVec 32 :=
  let c0_i32_128 : BitVec 32 := 0#32
  let arg2 : BitVec 32 := BitVec.ofNat 32 (i 2).val
  let v255 : BitVec 32 := Scalar.subi arg2 c0_i32_128
  let c1_i32_129 : BitVec 32 := 1#32
  let v257 : BitVec 32 := Scalar.divsi v255 c1_i32_129
  let v258 : BitVec 32 := Scalar.muli v257 c1_i32_129
  let v259 : BitVec 32 := Scalar.addi c0_i32_128 v258
  let c1_i32_131 : BitVec 32 := 1#32
  let arg14 : BitVec 32 := Scf.iv v259 c1_i32_131 k0_t6
  let c512_i32_132 : BitVec 32 := 512#32
  let v260 : BitVec 32 := Scalar.muli arg14 c512_i32_132
  v260
def k0_off15 (i : grid0.Coords) (k0_t6 : Fin (k0_t6_loop i).trips) : Fin 3 → Nat :=
  let c0_133 : Index := 0#32
  let c0_i32_128 : BitVec 32 := 0#32
  let arg2 : BitVec 32 := BitVec.ofNat 32 (i 2).val
  let v255 : BitVec 32 := Scalar.subi arg2 c0_i32_128
  let c1_i32_129 : BitVec 32 := 1#32
  let v257 : BitVec 32 := Scalar.divsi v255 c1_i32_129
  let v258 : BitVec 32 := Scalar.muli v257 c1_i32_129
  let v259 : BitVec 32 := Scalar.addi c0_i32_128 v258
  let c1_i32_131 : BitVec 32 := 1#32
  let arg14 : BitVec 32 := Scf.iv v259 c1_i32_131 k0_t6
  let c512_i32_132 : BitVec 32 := 512#32
  let v260 : BitVec 32 := Scalar.muli arg14 c512_i32_132
  let v261 : BitVec 32 := v260
  let v262 : Index := Scalar.indexCast v261
  let c0_134 : Index := 0#32
  ![0, v262.toNat, 0]
def k0_off16 (i : grid0.Coords) (k0_t6 : Fin (k0_t6_loop i).trips) : Fin 4 → Nat :=
  let c0_142 : Index := 0#32
  let c0_i32_128 : BitVec 32 := 0#32
  let arg2 : BitVec 32 := BitVec.ofNat 32 (i 2).val
  let v255 : BitVec 32 := Scalar.subi arg2 c0_i32_128
  let c1_i32_129 : BitVec 32 := 1#32
  let v257 : BitVec 32 := Scalar.divsi v255 c1_i32_129
  let v258 : BitVec 32 := Scalar.muli v257 c1_i32_129
  let v259 : BitVec 32 := Scalar.addi c0_i32_128 v258
  let c1_i32_131 : BitVec 32 := 1#32
  let arg14 : BitVec 32 := Scf.iv v259 c1_i32_131 k0_t6
  let v280 : Index := Scalar.indexCast arg14
  let c0_143 : Index := 0#32
  let c0_144 : Index := 0#32
  ![0, v280.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | "scale" => some (((1 / 8) * (Real.log 2)⁻¹ : ℝ) : EReal)
  | _ => none
-- ==== ReferenceIdeal.lean ====
abbrev S2x8192x8x2x64 : Shape := ⟨5, ![2, 8192, 8, 2, 64]⟩
abbrev S2x8192x8x128 : Shape := ⟨4, ![2, 8192, 8, 128]⟩
abbrev S2x64 : Shape := ⟨2, ![2, 64]⟩
abbrev S128 : Shape := ⟨1, ![128]⟩
abbrev S1x64 : Shape := ⟨2, ![1, 64]⟩
abbrev S64 : Shape := ⟨1, ![64]⟩
abbrev S_ : Shape := ⟨0, ![]⟩
abbrev S2x8x2x8192x8192 : Shape := ⟨5, ![2, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S2x8192x1024 : Shape := ⟨3, ![2, 8192, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S2x64, .f32⟩
  | .hbm, ⟨4, _⟩ => ⟨S2x64, .f32⟩
  | .hbm, ⟨5, _⟩ => ⟨S128, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x8x2x8192x8192, .f32⟩
  | .hbm, ⟨26, _⟩ => ⟨S_, .f32⟩
  | .hbm, ⟨27, _⟩ => ⟨S2x8x2x8192x8192, .f32⟩
  | .hbm, ⟨28, _⟩ => ⟨S2x8x2x8192x8192, .f32⟩
  | .hbm, ⟨29, _⟩ => ⟨S8192, .i32⟩
  | .hbm, ⟨30, _⟩ => ⟨S1x8192, .i32⟩
  | .hbm, ⟨31, _⟩ => ⟨S8192x1, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S_, .f32⟩
  | .hbm, ⟨36, _⟩ => ⟨S_, .f32⟩
  | .hbm, ⟨37, _⟩ => ⟨S2x8x2x8192x8192, .i1⟩
  | .hbm, ⟨38, _⟩ => ⟨S2x8x2x8192x8192, .f32⟩
  | .hbm, ⟨39, _⟩ => ⟨S2x8x2x8192x8192, .f32⟩
  | .hbm, ⟨40, _⟩ => ⟨S_, .f32⟩
  | .hbm, ⟨41, _⟩ => ⟨S2x8x2x8192, .f32⟩
  | .hbm, ⟨42, _⟩ => ⟨S_, .f32⟩
  | .hbm, ⟨43, _⟩ => ⟨S2x8x2x8192, .f32⟩
  | .hbm, ⟨44, _⟩ => ⟨S2x8x2x8192, .f32⟩
  | .hbm, ⟨45, _⟩ => ⟨S2x8x2x8192x1, .f32⟩
  | .hbm, ⟨46, _⟩ => ⟨S2x8x2x8192x8192, .f32⟩
  | .hbm, ⟨47, _⟩ => ⟨S2x8x2x8192x8192, .f32⟩
  | .hbm, ⟨48, _⟩ => ⟨S2x8x2x8192x8192, .f32⟩
  | .hbm, ⟨49, _⟩ => ⟨S_, .f32⟩
  | .hbm, ⟨50, _⟩ => ⟨S2x8x2x8192, .f32⟩
  | .hbm, ⟨51, _⟩ => ⟨S2x8x2x8192x1, .f32⟩
  | .hbm, ⟨52, _⟩ => ⟨S2x8x2x8192x8192, .f32⟩
  | .hbm, ⟨53, _⟩ => ⟨S2x8x2x8192x8192, .f32⟩
  | .hbm, ⟨54, _⟩ => ⟨S2x8x1x8192x8192, .f32⟩
  | .hbm, ⟨55, _⟩ => ⟨S2x8x8192x8192, .f32⟩
  | .hbm, ⟨56, _⟩ => ⟨S2x8x1x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x128x8192, .f32⟩
  | .hbm, ⟨62, _⟩ => ⟨S2x8192x8x128, .f32⟩
  | .hbm, ⟨63, _⟩ => ⟨S2x8192x8x128, .f32⟩
  | .hbm, ⟨64, _⟩ => ⟨S_, .f32⟩
  | .hbm, ⟨65, _⟩ => ⟨S2x8192x8, .f32⟩
  | .hbm, ⟨66, _⟩ => ⟨S2x8192x8x1, .f32⟩
  | .hbm, ⟨67, _⟩ => ⟨S_, .f32⟩
  | .hbm, ⟨68, _⟩ => ⟨S2x8192x8x1, .f32⟩
  | .hbm, ⟨69, _⟩ => ⟨S2x8192x8x1, .f32⟩
  | .hbm, ⟨70, _⟩ => ⟨S_, .f32⟩
  | .hbm, ⟨71, _⟩ => ⟨S2x8192x8x1, .f32⟩
  | .hbm, ⟨72, _⟩ => ⟨S2x8192x8x1, .f32⟩
  | .hbm, ⟨73, _⟩ => ⟨S2x8192x8x1, .f32⟩
  | .hbm, ⟨74, _⟩ => ⟨S2x8192x8x128, .f32⟩
  | .hbm, ⟨75, _⟩ => ⟨S2x8192x8x128, .f32⟩
  | .hbm, ⟨76, _⟩ => ⟨S1x1x1x128, .f32⟩
  | .hbm, ⟨77, _⟩ => ⟨S2x8192x8x128, .f32⟩
  | .hbm, ⟨78, _⟩ => ⟨S2x8192x8x128, .f32⟩
  | .hbm, ⟨79, _⟩ => ⟨S_, .f32⟩
  | .hbm, ⟨80, _⟩ => ⟨S2x8192x8x128, .f32⟩
  | .hbm, ⟨81, _⟩ => ⟨S2x8192x8x128, .f32⟩
  | .hbm, ⟨82, _⟩ => ⟨S2x8192x1024, .f32⟩
  | .hbm, ⟨83, _⟩ => ⟨S2x8192x1024, .bf16⟩
  | _, _ => ⟨S2x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Kernel2.lean ====
abbrev S32x16x64x64 : Shape := ⟨4, ![32, 16, 64, 64]⟩
abbrev S32x16x64 : Shape := ⟨3, ![32, 16, 64]⟩
abbrev S1024 : Shape := ⟨1, ![1024]⟩
abbrev S32x16x1x64 : Shape := ⟨4, ![32, 16, 1, 64]⟩
abbrev S16x1x64 : Shape := ⟨3, ![16, 1, 64]⟩
abbrev S1x16x64x64 : Shape := ⟨4, ![1, 16, 64, 64]⟩
abbrev S1x16x1x64 : Shape := ⟨4, ![1, 16, 1, 64]⟩
abbrev S16x64x64 : Shape := ⟨3, ![16, 64, 64]⟩
abbrev S16x1 : Shape := ⟨2, ![16, 1]⟩
abbrev S16x1x1 : Shape := ⟨3, ![16, 1, 1]⟩
abbrev S1x64x64 : Shape := ⟨3, ![1, 64, 64]⟩
abbrev S16x64 : Shape := ⟨2, ![16, 64]⟩
abbrev S16x64x1 : Shape := ⟨3, ![16, 64, 1]⟩

abbrev nBuf : Space → Nat
  | .hbm => 25
  | .vmem => 23
  | .smem => 0
  | _ => 0

abbrev bufTy : (tb : Table) → Fin (tcTables nBuf tb) → BufTy
  | .hbm, ⟨0, _⟩ => ⟨S32x16x64x64, .f32⟩
  | .hbm, ⟨1, _⟩ => ⟨S32x16x64, .bf16⟩
  | .hbm, ⟨2, _⟩ => ⟨S32x16x64, .f32⟩
  | .hbm, ⟨3, _⟩ => ⟨S32x16x64, .bf16⟩
  | .hbm, ⟨4, _⟩ => ⟨S32x16x64, .bf16⟩
  | .hbm, ⟨5, _⟩ => ⟨S32x16x64, .bf16⟩
  | .hbm, ⟨6, _⟩ => ⟨S32x16x64, .bf16⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S32x16x1x64, .bf16⟩
  | .hbm, ⟨13, _⟩ => ⟨S32x16x1x64, .f32⟩
  | .hbm, ⟨14, _⟩ => ⟨S32x16x1x64, .bf16⟩
  | .hbm, ⟨15, _⟩ => ⟨S32x16x1x64, .bf16⟩
  | .hbm, ⟨16, _⟩ => ⟨S32x16x1x64, .bf16⟩
  | .hbm, ⟨17, _⟩ => ⟨S32x16x1x64, .bf16⟩
  | .hbm, ⟨18, _⟩ => ⟨S16x1x64, .f32⟩
  | .hbm, ⟨19, _⟩ => ⟨S16x1x64, .f32⟩
  | .hbm, ⟨20, _⟩ => ⟨S16x1x64, .f32⟩
  | .hbm, ⟨21, _⟩ => ⟨S16x1x64, .f32⟩
  | .hbm, ⟨22, _⟩ => ⟨S16x1x64, .f32⟩
  | .hbm, ⟨23, _⟩ => ⟨S32x16x1x64, .bf16⟩
  | .hbm, ⟨24, _⟩ => ⟨S32x16x64x64, .f32⟩
  | .local _ .vmem, ⟨0, _⟩ => ⟨S1x16x64x64, .f32⟩
  | .local _ .vmem, ⟨1, _⟩ => ⟨S1x16x64x64, .f32⟩
  | .local _ .vmem, ⟨2, _⟩ => ⟨S1x16x1x64, .bf16⟩
  | .local _ .vmem, ⟨3, _⟩ => ⟨S1x16x1x64, .bf16⟩
  | .local _ .vmem, ⟨4, _⟩ => ⟨S1x16x1x64, .f32⟩
  | .local _ .vmem, ⟨5, _⟩ => ⟨S1x16x1x64, .f32⟩
  | .local _ .vmem, ⟨6, _⟩ => ⟨S1x16x1x64, .bf16⟩
  | .local _ .vmem, ⟨7, _⟩ => ⟨S1x16x1x64, .bf16⟩
  | .local _ .vmem, ⟨8, _⟩ => ⟨S1x16x1x64, .bf16⟩
  | .local _ .vmem, ⟨9, _⟩ => ⟨S1x16x1x64, .bf16⟩
  | .local _ .vmem, ⟨10, _⟩ => ⟨S1x16x1x64, .bf16⟩
  | .local _ .vmem, ⟨11, _⟩ => ⟨S1x16x1x64, .bf16⟩
  | .local _ .vmem, ⟨12, _⟩ => ⟨S1x16x1x64, .bf16⟩
  | .local _ .vmem, ⟨13, _⟩ => ⟨S1x16x1x64, .bf16⟩
  | .local _ .vmem, ⟨14, _⟩ => ⟨S16x1x64, .f32⟩
  | .local _ .vmem, ⟨15, _⟩ => ⟨S16x1x64, .f32⟩
  | .local _ .vmem, ⟨16, _⟩ => ⟨S16x1x64, .f32⟩
  | .local _ .vmem, ⟨17, _⟩ => ⟨S16x1x64, .f32⟩
  | .local _ .vmem, ⟨18, _⟩ => ⟨S16x1x64, .f32⟩
  | .local _ .vmem, ⟨19, _⟩ => ⟨S1x16x1x64, .bf16⟩
  | .local _ .vmem, ⟨20, _⟩ => ⟨S1x16x1x64, .bf16⟩
  | .local _ .vmem, ⟨21, _⟩ => ⟨S1x16x64x64, .f32⟩
  | .local _ .vmem, ⟨22, _⟩ => ⟨S1x16x64x64, .f32⟩
  | _, _ => ⟨S32x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x16x1x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32x16x64x64 : Shape := ⟨4, ![32, 16, 64, 64]⟩
abbrev S32x16x64 : Shape := ⟨3, ![32, 16, 64]⟩
abbrev S1024 : Shape := ⟨1, ![1024]⟩
abbrev S32x1024 : Shape := ⟨2, ![32, 1024]⟩
abbrev S1x1024 : Shape := ⟨2, ![1, 1024]⟩
abbrev S_ : Shape := ⟨0, ![]⟩
abbrev S32x16 : Shape := ⟨2, ![32, 16]⟩
abbrev S32x16x1 : Shape := ⟨3, ![32, 16, 1]⟩
abbrev S32x16x1x64 : Shape := ⟨4, ![32, 16, 1, 64]⟩
abbrev S32x16x64x1 : Shape := ⟨4, ![32, 16, 64, 1]⟩

abbrev nBuf : Space → Nat
  | .hbm => 114
  | .vmem => 0
  | .smem => 0
  | _ => 0

abbrev bufTy : (tb : Table) → Fin (tcTables nBuf tb) → BufTy
  | .hbm, ⟨0, _⟩ => ⟨S32x16x64x64, .f32⟩
  | .hbm, ⟨1, _⟩ => ⟨S32x16x64, .bf16⟩
  | .hbm, ⟨2, _⟩ => ⟨S32x16x64, .f32⟩
  | .hbm, ⟨3, _⟩ => ⟨S32x16x64, .bf16⟩
  | .hbm, ⟨4, _⟩ => ⟨S32x16x64, .bf16⟩
  | .hbm, ⟨5, _⟩ => ⟨S32x16x64, .bf16⟩
  | .hbm, ⟨6, _⟩ => ⟨S32x16x64, .bf16⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S32x16x64, .f32⟩
  | .hbm, ⟨13, _⟩ => ⟨S32x1024, .f32⟩
  | .hbm, ⟨14, _⟩ => ⟨S32x16x64, .f32⟩
  | .hbm, ⟨15, _⟩ => ⟨S32x1024, .f32⟩
  | .hbm, ⟨16, _⟩ => ⟨S32x16x64, .f32⟩
  | .hbm, ⟨17, _⟩ => ⟨S32x1024, .f32⟩
  | .hbm, ⟨18, _⟩ => ⟨S32x16x64, .f32⟩
  | .hbm, ⟨19, _⟩ => ⟨S32x1024, .f32⟩
  | .hbm, ⟨20, _⟩ => ⟨S32x16x64, .f32⟩
  | .hbm, ⟨21, _⟩ => ⟨S32x1024, .f32⟩
  | .hbm, ⟨22, _⟩ => ⟨S32x16x64, .f32⟩
  | .hbm, ⟨23, _⟩ => ⟨S1x1024, .f32⟩
  | .hbm, ⟨24, _⟩ => ⟨S32x1024, .f32⟩
  | .hbm, ⟨25, _⟩ => ⟨S32x1024, .f32⟩
  | .hbm, ⟨26, _⟩ => ⟨S32x16x64, .f32⟩
  | .hbm, ⟨27, _⟩ => ⟨S32x16x64, .f32⟩
  | .hbm, ⟨28, _⟩ => ⟨S_, .f32⟩
  | .hbm, ⟨29, _⟩ => ⟨S32x16, .f32⟩
  | .hbm, ⟨30, _⟩ => ⟨S32x16x1, .f32⟩
  | .hbm, ⟨31, _⟩ => ⟨S32x16x1, .f32⟩
  | .hbm, ⟨32, _⟩ => ⟨S_, .f32⟩
  | .hbm, ⟨33, _⟩ => ⟨S32x16x1, .f32⟩
  | .hbm, ⟨34, _⟩ => ⟨S32x16x1, .f32⟩
  | .hbm, ⟨35, _⟩ => ⟨S32x16x64, .f32⟩
  | .hbm, ⟨36, _⟩ => ⟨S32x16x64, .f32⟩
  | .hbm, ⟨37, _⟩ => ⟨S_, .f32⟩
  | .hbm, ⟨38, _⟩ => ⟨S32x1024, .f32⟩
  | .hbm, ⟨39, _⟩ => ⟨S32x1024, .f32⟩
  | .hbm, ⟨40, _⟩ => ⟨S1x1024, .f32⟩
  | .hbm, ⟨41, _⟩ => ⟨S32x1024, .f32⟩
  | .hbm, ⟨42, _⟩ => ⟨S32x1024, .f32⟩
  | .hbm, ⟨43, _⟩ => ⟨S_, .f32⟩
  | .hbm, ⟨44, _⟩ => ⟨S32x1024, .f32⟩
  | .hbm, ⟨45, _⟩ => ⟨S32x1024, .f32⟩
  | .hbm, ⟨46, _⟩ => ⟨S32x1024, .f32⟩
  | .hbm, ⟨47, _⟩ => ⟨S32x16x64, .f32⟩
  | .hbm, ⟨48, _⟩ => ⟨S32x16x64, .f32⟩
  | .hbm, ⟨49, _⟩ => ⟨S32x16x64, .f32⟩
  | .hbm, ⟨50, _⟩ => ⟨S32x16x64, .f32⟩
  | .hbm, ⟨51, _⟩ => ⟨S32x16x64, .f32⟩
  | .hbm, ⟨52, _⟩ => ⟨S32x16x64, .f32⟩
  | .hbm, ⟨53, _⟩ => ⟨S32x16x64, .f32⟩
  | .hbm, ⟨54, _⟩ => ⟨S32x16x1x64, .f32⟩
  | .hbm, ⟨55, _⟩ => ⟨S32x16x64x64, .f32⟩
  | .hbm, ⟨56, _⟩ => ⟨S32x16x64x64, .f32⟩
  | .hbm, ⟨57, _⟩ => ⟨S32x16x64x1, .f32⟩
  | .hbm, ⟨58, _⟩ => ⟨S32x16x1x64, .f32⟩
  | .hbm, ⟨59, _⟩ => ⟨S32x16x64x64, .f32⟩
  | .hbm, ⟨60, _⟩ => ⟨S32x16x64x64, .f32⟩
  | .hbm, ⟨61, _⟩ => ⟨S32x16x64x64, .f32⟩
  | .hbm, ⟨62, _⟩ => ⟨S32x16x64x64, .f32⟩
  | .hbm, ⟨63, _⟩ => ⟨S32x16x64x1, .f32⟩
  | .hbm, ⟨64, _⟩ => ⟨S32x16x1x64, .f32⟩
  | .hbm, ⟨65, _⟩ => ⟨S32x16x64x64, .f32⟩
  | .hbm, ⟨66, _⟩ => ⟨S32x16x64x64, .f32⟩
  | .hbm, ⟨67, _⟩ => ⟨S32x16x64x64, .f32⟩
  | .hbm, ⟨68, _⟩ => ⟨S32x16x64x64, .f32⟩
  | .hbm, ⟨69, _⟩ => ⟨S32x16x64, .f32⟩
  | .hbm, ⟨70, _⟩ => ⟨S_, .f32⟩
  | .hbm, ⟨71, _⟩ => ⟨S32x16, .f32⟩
  | .hbm, ⟨72, _⟩ => ⟨S32x16x1, .f32⟩
  | .hbm, ⟨73, _⟩ => ⟨S_, .f32⟩
  | .hbm, ⟨74, _⟩ => ⟨S32x16x1, .f32⟩
  | .hbm, ⟨75, _⟩ => ⟨S32x16x1, .f32⟩
  | .hbm, ⟨76, _⟩ => ⟨S32x16x64, .f32⟩
  | .hbm, ⟨77, _⟩ => ⟨S32x16x64, .f32⟩
  | .hbm, ⟨78, _⟩ => ⟨S32x16x64, .f32⟩
  | .hbm, ⟨79, _⟩ => ⟨S_, .f32⟩
  | .hbm, ⟨80, _⟩ => ⟨S32x16, .f32⟩
  | .hbm, ⟨81, _⟩ => ⟨S32x16x1, .f32⟩
  | .hbm, ⟨82, _⟩ => ⟨S_, .f32⟩
  | .hbm, ⟨83, _⟩ => ⟨S32x16x1, .f32⟩
  | .hbm, ⟨84, _⟩ => ⟨S32x16x1, .f32⟩
  | .hbm, ⟨85, _⟩ => ⟨S32x16x64, .f32⟩
  | .hbm, ⟨86, _⟩ => ⟨S32x16x64, .f32⟩
  | .hbm, ⟨87, _⟩ => ⟨S_, .f32⟩
  | .hbm, ⟨88, _⟩ => ⟨S32x16x1, .f32⟩
  | .hbm, ⟨89, _⟩ => ⟨S32x16x1, .f32⟩
  | .hbm, ⟨90, _⟩ => ⟨S32x16x1, .f32⟩
  | .hbm, ⟨91, _⟩ => ⟨S32x16x64, .f32⟩
  | .hbm, ⟨92, _⟩ => ⟨S32x16x64, .f32⟩
  | .hbm, ⟨93, _⟩ => ⟨S32x1024, .f32⟩
  | .hbm, ⟨94, _⟩ => ⟨S1x1024, .f32⟩
  | .hbm, ⟨95, _⟩ => ⟨S32x1024, .f32⟩
  | .hbm, ⟨96, _⟩ => ⟨S32x1024, .f32⟩
  | .hbm, ⟨97, _⟩ => ⟨S1x1024, .f32⟩
  | .hbm, ⟨98, _⟩ => ⟨S32x1024, .f32⟩
  | .hbm, ⟨99, _⟩ => ⟨S32x1024, .f32⟩
  | .hbm, ⟨100, _⟩ => ⟨S32x16x64, .f32⟩
  | .hbm, ⟨101, _⟩ => ⟨S32x1024, .f32⟩
  | .hbm, ⟨102, _⟩ => ⟨S32x16x64, .f32⟩
  | .hbm, ⟨103, _⟩ => ⟨S32x16x64, .f32⟩
  | .hbm, ⟨104, _⟩ => ⟨S_, .f32⟩
  | .hbm, ⟨105, _⟩ => ⟨S32x16, .f32⟩
  | .hbm, ⟨106, _⟩ => ⟨S32x16x1, .f32⟩
  | .hbm, ⟨107, _⟩ => ⟨S32x16x64, .f32⟩
  | .hbm, ⟨108, _⟩ => ⟨S32x16x64, .f32⟩
  | .hbm, ⟨109, _⟩ => ⟨S32x1024, .f32⟩
  | .hbm, ⟨110, _⟩ => ⟨S32x1024, .f32⟩
  | .hbm, ⟨111, _⟩ => ⟨S32x1024, .f32⟩
  | .hbm, ⟨112, _⟩ => ⟨S32x1024, .bf16⟩
  | .hbm, ⟨113, _⟩ => ⟨S32x16x1x64, .bf16⟩
  | _, _ => ⟨S32x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_call0_v2 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_2 : Ref sig .tc := ⟨.hbm, 70, rfl⟩
abbrev main_v51 : Ref sig .tc := ⟨.hbm, 71, rfl⟩
abbrev main_v52 : Ref sig .tc := ⟨.hbm, 72, rfl⟩
abbrev main_cst_3 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_4 : Ref sig .tc := ⟨.hbm, 79, rfl⟩
abbrev main_v58 : Ref sig .tc := ⟨.hbm, 80, rfl⟩
abbrev main_v59 : Ref sig .tc := ⟨.hbm, 81, rfl⟩
abbrev main_cst_5 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_6 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_7 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x1x6144 : Shape := ⟨3, ![2, 1, 6144]⟩
abbrev S1024x1024 : Shape := ⟨2, ![1024, 1024]⟩
abbrev S1024x4096 : Shape := ⟨2, ![1024, 4096]⟩
abbrev S4096x1024 : Shape := ⟨2, ![4096, 1024]⟩
abbrev S2x1024 : Shape := ⟨2, ![2, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x4096 : Shape := ⟨2, ![512, 4096]⟩

abbrev nBuf : Space → Nat
  | .hbm => 12
  | .vmem => 19
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x1x6144, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S2x1024, .f32⟩
  | .hbm, ⟨7, _⟩ => ⟨S2x1024, .f32⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S2x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1024x4096, .bf16⟩
  | .local _ .vmem, ⟨14, _⟩ => ⟨S4096x1024, .bf16⟩
  | .local _ .vmem, ⟨15, _⟩ => ⟨S2x1024, .f32⟩
  | .local _ .vmem, ⟨16, _⟩ => ⟨S2x1024, .f32⟩
  | .local _ .vmem, ⟨17, _⟩ => ⟨S1x512x1024, .f32⟩
  | .local _ .vmem, ⟨18, _⟩ => ⟨S1x512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S2x8192x1024 : Shape := ⟨3, ![2, 8192, 1024]⟩
abbrev S2x1x6144 : Shape := ⟨3, ![2, 1, 6144]⟩
abbrev S1024x1024 : Shape := ⟨2, ![1024, 1024]⟩
abbrev S1024x4096 : Shape := ⟨2, ![1024, 4096]⟩
abbrev S4096x1024 : Shape := ⟨2, ![4096, 1024]⟩
abbrev S2x1024 : Shape := ⟨2, ![2, 1024]⟩
abbrev S2x1x1024 : Shape := ⟨3, ![2, 1, 1024]⟩
abbrev S_ : Shape := ⟨0, ![]⟩
abbrev S1x1024 : Shape := ⟨2, ![1, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩

abbrev nBuf : Space → Nat
  | .hbm => 113
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x1x6144, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S2x1024, .f32⟩
  | .hbm, ⟨7, _⟩ => ⟨S2x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S2x8192x1024, .f32⟩
  | .hbm, ⟨18, _⟩ => ⟨S2x8192x1024, .f32⟩
  | .hbm, ⟨19, _⟩ => ⟨S_, .f32⟩
  | .hbm, ⟨20, _⟩ => ⟨S2x1x1024, .f32⟩
  | .hbm, ⟨21, _⟩ => ⟨S2x1x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x8192, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x1024, .f32⟩
  | .hbm, ⟨51, _⟩ => ⟨S2x8192x1024, .f32⟩
  | .hbm, ⟨52, _⟩ => ⟨S1x1x1024, .f32⟩
  | .hbm, ⟨53, _⟩ => ⟨S2x8192x1024, .f32⟩
  | .hbm, ⟨54, _⟩ => ⟨S2x8192x1024, .f32⟩
  | .hbm, ⟨55, _⟩ => ⟨S1x1x1024, .f32⟩
  | .hbm, ⟨56, _⟩ => ⟨S2x8192x1024, .f32⟩
  | .hbm, ⟨57, _⟩ => ⟨S2x8192x1024, .f32⟩
  | .hbm, ⟨58, _⟩ => ⟨S_, .f32⟩
  | .hbm, ⟨59, _⟩ => ⟨S2x1x1024, .f32⟩
  | .hbm, ⟨60, _⟩ => ⟨S2x1x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S_, .f32⟩
  | .hbm, ⟨66, _⟩ => ⟨S2x8192x1024, .f32⟩
  | .hbm, ⟨67, _⟩ => ⟨S2x8192x1024, .f32⟩
  | .hbm, ⟨68, _⟩ => ⟨S_, .f32⟩
  | .hbm, ⟨69, _⟩ => ⟨S2x1x1024, .f32⟩
  | .hbm, ⟨70, _⟩ => ⟨S2x1x1024, .f32⟩
  | .hbm, ⟨71, _⟩ => ⟨S2x8192x4096, .f32⟩
  | .hbm, ⟨72, _⟩ => ⟨S_, .f32⟩
  | .hbm, ⟨73, _⟩ => ⟨S2x8192x4096, .f32⟩
  | .hbm, ⟨74, _⟩ => ⟨S2x8192x4096, .f32⟩
  | .hbm, ⟨75, _⟩ => ⟨S2x8192x4096, .f32⟩
  | .hbm, ⟨76, _⟩ => ⟨S2x8192x1024, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S1x1024, .f32⟩
  | .hbm, ⟨81, _⟩ => ⟨S1024, .f32⟩
  | .hbm, ⟨82, _⟩ => ⟨S1x1024, .f32⟩
  | .hbm, ⟨83, _⟩ => ⟨S1024, .f32⟩
  | .hbm, ⟨84, _⟩ => ⟨S_, .f32⟩
  | .hbm, ⟨85, _⟩ => ⟨S2x8192, .f32⟩
  | .hbm, ⟨86, _⟩ => ⟨S2x8192x1, .f32⟩
  | .hbm, ⟨87, _⟩ => ⟨S_, .f32⟩
  | .hbm, ⟨88, _⟩ => ⟨S2x8192x1, .f32⟩
  | .hbm, ⟨89, _⟩ => ⟨S2x8192x1, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S_, .f32⟩
  | .hbm, ⟨94, _⟩ => ⟨S2x8192, .f32⟩
  | .hbm, ⟨95, _⟩ => ⟨S2x8192x1, .f32⟩
  | .hbm, ⟨96, _⟩ => ⟨S_, .f32⟩
  | .hbm, ⟨97, _⟩ => ⟨S2x8192x1, .f32⟩
  | .hbm, ⟨98, _⟩ => ⟨S2x8192x1, .f32⟩
  | .hbm, ⟨99, _⟩ => ⟨S2x8192x1024, .f32⟩
  | .hbm, ⟨100, _⟩ => ⟨S2x8192x1024, .f32⟩
  | .hbm, ⟨101, _⟩ => ⟨S_, .f32⟩
  | .hbm, ⟨102, _⟩ => ⟨S2x8192x1, .f32⟩
  | .hbm, ⟨103, _⟩ => ⟨S2x8192x1, .f32⟩
  | .hbm, ⟨104, _⟩ => ⟨S2x8192x1, .f32⟩
  | .hbm, ⟨105, _⟩ => ⟨S2x8192x1024, .f32⟩
  | .hbm, ⟨106, _⟩ => ⟨S2x8192x1024, .f32⟩
  | .hbm, ⟨107, _⟩ => ⟨S1x1x1024, .f32⟩
  | .hbm, ⟨108, _⟩ => ⟨S2x8192x1024, .f32⟩
  | .hbm, ⟨109, _⟩ => ⟨S2x8192x1024, .f32⟩
  | .hbm, ⟨110, _⟩ => ⟨S1x1x1024, .f32⟩
  | .hbm, ⟨111, _⟩ => ⟨S2x8192x1024, .f32⟩
  | .hbm, ⟨112, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call0_cst : Ref sig .tc := ⟨.hbm, 72, rfl⟩
abbrev main_call0_v0 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x1x2048 : Shape := ⟨3, ![2, 1, 2048]⟩
abbrev S2x1x6144 : Shape := ⟨3, ![2, 1, 6144]⟩
abbrev S1024x1024 : Shape := ⟨2, ![1024, 1024]⟩
abbrev S2x16x1024x512 : Shape := ⟨4, ![2, 16, 1024, 512]⟩
abbrev S1x512x1024 : Shape := ⟨3, ![1, 512, 1024]⟩
abbrev S1x1x1024 : Shape := ⟨3, ![1, 1, 1024]⟩
abbrev S1x1x1024x512 : Shape := ⟨4, ![1, 1, 1024, 512]⟩
abbrev S512x1024 : Shape := ⟨2, ![512, 1024]⟩
abbrev S1x1024 : Shape := ⟨2, ![1, 1024]⟩
abbrev S1024x512 : Shape := ⟨2, ![1024, 512]⟩

abbrev nBuf : Space → Nat
  | .hbm => 14
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x1x2048, .f32⟩
  | .hbm, ⟨2, _⟩ => ⟨S2x1x6144, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S2x8192x1024, .f32⟩
  | .hbm, ⟨10, _⟩ => ⟨S2x8192x1024, .f32⟩
  | .hbm, ⟨11, _⟩ => ⟨S2x8192x1024, .bf16⟩
  | .hbm, ⟨12, _⟩ => ⟨S2x8192x1024, .bf16⟩
  | .hbm, ⟨13, _⟩ => ⟨S2x16x1024x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x1x1024x512, .bf16⟩
  | .local _ .vmem, ⟨22, _⟩ => ⟨S1x1x1024x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S2x8192x1024 : Shape := ⟨3, ![2, 8192, 1024]⟩
abbrev S2x1x2048 : Shape := ⟨3, ![2, 1, 2048]⟩
abbrev S2x1x6144 : Shape := ⟨3, ![2, 1, 6144]⟩
abbrev S1024x1024 : Shape := ⟨2, ![1024, 1024]⟩
abbrev S2x1x1024 : Shape := ⟨3, ![2, 1, 1024]⟩
abbrev S_ : Shape := ⟨0, ![]⟩
abbrev S2x16x512x1024 : Shape := ⟨4, ![2, 16, 512, 1024]⟩
abbrev S2x16x1024x512 : Shape := ⟨4, ![2, 16, 1024, 512]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x2048, .f32⟩
  | .hbm, ⟨2, _⟩ => ⟨S2x1x6144, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2x1x1024, .f32⟩
  | .hbm, ⟨7, _⟩ => ⟨S2x1x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x16x512x1024, .f32⟩
  | .hbm, ⟨32, _⟩ => ⟨S2x16x1024x512, .f32⟩
  | .hbm, ⟨33, _⟩ => ⟨S_, .f32⟩
  | .hbm, ⟨34, _⟩ => ⟨S2x8192x1024, .f32⟩
  | .hbm, ⟨35, _⟩ => ⟨S2x8192x1024, .f32⟩
  | .hbm, ⟨36, _⟩ => ⟨S2x8192x1024, .bf16⟩
  | .hbm, ⟨37, _⟩ => ⟨S2x8192x1024, .bf16⟩
  | .hbm, ⟨38, _⟩ => ⟨S2x16x1024x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel5.lean ====
abbrev S1x32x1024 : Shape := ⟨3, ![1, 32, 1024]⟩
abbrev S1x32x2048 : Shape := ⟨3, ![1, 32, 2048]⟩
abbrev S1x32x6144 : Shape := ⟨3, ![1, 32, 6144]⟩
abbrev S1024x1024 : Shape := ⟨2, ![1024, 1024]⟩
abbrev S32x1024 : Shape := ⟨2, ![32, 1024]⟩

abbrev nBuf : Space → Nat
  | .hbm => 12
  | .vmem => 11
  | .smem => 0
  | _ => 0

abbrev bufTy : (tb : Table) → Fin (tcTables nBuf tb) → BufTy
  | .hbm, ⟨0, _⟩ => ⟨S1x32x1024, .f32⟩
  | .hbm, ⟨1, _⟩ => ⟨S1x32x2048, .f32⟩
  | .hbm, ⟨2, _⟩ => ⟨S1x32x6144, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1x32x1024, .f32⟩
  | .hbm, ⟨10, _⟩ => ⟨S1x32x1024, .f32⟩
  | .hbm, ⟨11, _⟩ => ⟨S1x32x1024, .bf16⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x32x1024, .f32⟩
  | .local _ .vmem, ⟨9, _⟩ => ⟨S1x32x1024, .f32⟩
  | .local _ .vmem, ⟨10, _⟩ => ⟨S1x32x1024, .bf16⟩
  | _, _ => ⟨S1x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== Reference5Ideal.lean ====
abbrev S1x32x1024 : Shape := ⟨3, ![1, 32, 1024]⟩
abbrev S1x32x2048 : Shape := ⟨3, ![1, 32, 2048]⟩
abbrev S1x32x6144 : Shape := ⟨3, ![1, 32, 6144]⟩
abbrev S1024x1024 : Shape := ⟨2, ![1024, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S1x32x1024, .f32⟩
  | .hbm, ⟨1, _⟩ => ⟨S1x32x2048, .f32⟩
  | .hbm, ⟨2, _⟩ => ⟨S1x32x6144, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1x32x1024, .f32⟩
  | .hbm, ⟨7, _⟩ => ⟨S1x32x1024, .f32⟩
  | .hbm, ⟨8, _⟩ => ⟨S_, .f32⟩
  | .hbm, ⟨9, _⟩ => ⟨S1x32x1024, .f32⟩
  | .hbm, ⟨10, _⟩ => ⟨S1x32x1024, .f32⟩
  | .hbm, ⟨11, _⟩ => ⟨S1x32x1024, .f32⟩
  | .hbm, ⟨12, _⟩ => ⟨S1x32x1024, .f32⟩
  | .hbm, ⟨13, _⟩ => ⟨S1x32x1024, .f32⟩
  | .hbm, ⟨14, _⟩ => ⟨S1x32x1024, .f32⟩
  | .hbm, ⟨15, _⟩ => ⟨S1x32x1024, .f32⟩
  | .hbm, ⟨16, _⟩ => ⟨S1x32x1024, .f32⟩
  | .hbm, ⟨17, _⟩ => ⟨S1x32x1024, .f32⟩
  | .hbm, ⟨18, _⟩ => ⟨S1x32x1024, .f32⟩
  | .hbm, ⟨19, _⟩ => ⟨S1x32x1024, .f32⟩
  | .hbm, ⟨20, _⟩ => ⟨S1x32x1024, .f32⟩
  | .hbm, ⟨21, _⟩ => ⟨S_, .f32⟩
  | .hbm, ⟨22, _⟩ => ⟨S1x32x1024, .f32⟩
  | .hbm, ⟨23, _⟩ => ⟨S1x32x1024, .f32⟩
  | .hbm, ⟨24, _⟩ => ⟨S1x32x1024, .f32⟩
  | .hbm, ⟨25, _⟩ => ⟨S1x32x1024, .f32⟩
  | .hbm, ⟨26, _⟩ => ⟨S1x32x1024, .f32⟩
  | .hbm, ⟨27, _⟩ => ⟨S_, .f32⟩
  | .hbm, ⟨28, _⟩ => ⟨S1x32x1024, .f32⟩
  | .hbm, ⟨29, _⟩ => ⟨S1x32x1024, .f32⟩
  | .hbm, ⟨30, _⟩ => ⟨S1x32x1024, .bf16⟩
  | _, _ => ⟨S1x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel6.lean ====
abbrev S1x32x1024 : Shape := ⟨3, ![1, 32, 1024]⟩
abbrev S1x32x6144 : Shape := ⟨3, ![1, 32, 6144]⟩
abbrev S1024x1024 : Shape := ⟨2, ![1024, 1024]⟩
abbrev S1024x4096 : Shape := ⟨2, ![1024, 4096]⟩
abbrev S4096x1024 : Shape := ⟨2, ![4096, 1024]⟩
abbrev S2x1024 : Shape := ⟨2, ![2, 1024]⟩
abbrev S32x1024 : Shape := ⟨2, ![32, 1024]⟩
abbrev S1x1024 : Shape := ⟨2, ![1, 1024]⟩
abbrev S32 : Shape := ⟨1, ![32]⟩
abbrev S32x1 : Shape := ⟨2, ![32, 1]⟩
abbrev S32x4096 : Shape := ⟨2, ![32, 4096]⟩

abbrev nBuf : Space → Nat
  | .hbm => 12
  | .vmem => 12
  | .smem => 0
  | _ => 0

abbrev bufTy : (tb : Table) → Fin (tcTables nBuf tb) → BufTy
  | .hbm, ⟨0, _⟩ => ⟨S1x32x1024, .bf16⟩
  | .hbm, ⟨1, _⟩ => ⟨S1x32x1024, .f32⟩
  | .hbm, ⟨2, _⟩ => ⟨S1x32x6144, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S2x1024, .f32⟩
  | .hbm, ⟨7, _⟩ => ⟨S2x1024, .f32⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S1x32x1024, .f32⟩
  | .local _ .vmem, ⟨0, _⟩ => ⟨S1x32x1024, .bf16⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1024x1024, .bf16⟩
  | .local _ .vmem, ⟨7, _⟩ => ⟨S1024x4096, .bf16⟩
  | .local _ .vmem, ⟨8, _⟩ => ⟨S4096x1024, .bf16⟩
  | .local _ .vmem, ⟨9, _⟩ => ⟨S2x1024, .f32⟩
  | .local _ .vmem, ⟨10, _⟩ => ⟨S2x1024, .f32⟩
  | .local _ .vmem, ⟨11, _⟩ => ⟨S1x32x1024, .f32⟩
  | _, _ => ⟨S1x32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]
-- ==== Reference6Ideal.lean ====
abbrev S1x32x1024 : Shape := ⟨3, ![1, 32, 1024]⟩
abbrev S1x32x6144 : Shape := ⟨3, ![1, 32, 6144]⟩
abbrev S1024x1024 : Shape := ⟨2, ![1024, 1024]⟩
abbrev S1024x4096 : Shape := ⟨2, ![1024, 4096]⟩
abbrev S4096x1024 : Shape := ⟨2, ![4096, 1024]⟩
abbrev S2x1024 : Shape := ⟨2, ![2, 1024]⟩
abbrev S_ : Shape := ⟨0, ![]⟩
abbrev S1x1024 : Shape := ⟨2, ![1, 1024]⟩
abbrev S1024 : Shape := ⟨1, ![1024]⟩
abbrev S1x32 : Shape := ⟨2, ![1, 32]⟩
abbrev S1x32x1 : Shape := ⟨3, ![1, 32, 1]⟩
abbrev S1x1x1024 : Shape := ⟨3, ![1, 1, 1024]⟩
abbrev S1x32x4096 : Shape := ⟨3, ![1, 32, 4096]⟩

abbrev nBuf : Space → Nat
  | .hbm => 109
  | .vmem => 0
  | .smem => 0
  | _ => 0

abbrev bufTy : (tb : Table) → Fin (tcTables nBuf tb) → BufTy
  | .hbm, ⟨0, _⟩ => ⟨S1x32x1024, .bf16⟩
  | .hbm, ⟨1, _⟩ => ⟨S1x32x1024, .f32⟩
  | .hbm, ⟨2, _⟩ => ⟨S1x32x6144, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S2x1024, .f32⟩
  | .hbm, ⟨7, _⟩ => ⟨S2x1024, .f32⟩
  | .hbm, ⟨8, _⟩ => ⟨S1x32x1024, .f32⟩
  | .hbm, ⟨9, _⟩ => ⟨S1x32x1024, .f32⟩
  | .hbm, ⟨10, _⟩ => ⟨S1x32x1024, .f32⟩
  | .hbm, ⟨11, _⟩ => ⟨S1x32x1024, .f32⟩
  | .hbm, ⟨12, _⟩ => ⟨S1x32x1024, .f32⟩
  | .hbm, ⟨13, _⟩ => ⟨S1x32x1024, .f32⟩
  | .hbm, ⟨14, _⟩ => ⟨S1x32x1024, .f32⟩
  | .hbm, ⟨15, _⟩ => ⟨S1x32x1024, .f32⟩
  | .hbm, ⟨16, _⟩ => ⟨S_, .f32⟩
  | .hbm, ⟨17, _⟩ => ⟨S1x32x1024, .f32⟩
  | .hbm, ⟨18, _⟩ => ⟨S1x32x1024, .f32⟩
  | .hbm, ⟨19, _⟩ => ⟨S_, .f32⟩
  | .hbm, ⟨20, _⟩ => ⟨S1x32x1024, .f32⟩
  | .hbm, ⟨21, _⟩ => ⟨S1x32x1024, .f32⟩
  | .hbm, ⟨22, _⟩ => ⟨S1x32x1024, .f32⟩
  | .hbm, ⟨23, _⟩ => ⟨S1x32x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S_, .f32⟩
  | .hbm, ⟨29, _⟩ => ⟨S1x32, .f32⟩
  | .hbm, ⟨30, _⟩ => ⟨S1x32x1, .f32⟩
  | .hbm, ⟨31, _⟩ => ⟨S_, .f32⟩
  | .hbm, ⟨32, _⟩ => ⟨S1x32x1, .f32⟩
  | .hbm, ⟨33, _⟩ => ⟨S1x32x1, .f32⟩
  | .hbm, ⟨34, _⟩ => ⟨S1x32x1024, .f32⟩
  | .hbm, ⟨35, _⟩ => ⟨S1x32x1024, .f32⟩
  | .hbm, ⟨36, _⟩ => ⟨S1x32x1024, .f32⟩
  | .hbm, ⟨37, _⟩ => ⟨S_, .f32⟩
  | .hbm, ⟨38, _⟩ => ⟨S1x32, .f32⟩
  | .hbm, ⟨39, _⟩ => ⟨S1x32x1, .f32⟩
  | .hbm, ⟨40, _⟩ => ⟨S_, .f32⟩
  | .hbm, ⟨41, _⟩ => ⟨S1x32x1, .f32⟩
  | .hbm, ⟨42, _⟩ => ⟨S1x32x1, .f32⟩
  | .hbm, ⟨43, _⟩ => ⟨S1x32x1024, .f32⟩
  | .hbm, ⟨44, _⟩ => ⟨S1x32x1024, .f32⟩
  | .hbm, ⟨45, _⟩ => ⟨S_, .f32⟩
  | .hbm, ⟨46, _⟩ => ⟨S1x32x1, .f32⟩
  | .hbm, ⟨47, _⟩ => ⟨S1x32x1, .f32⟩
  | .hbm, ⟨48, _⟩ => ⟨S1x32x1, .f32⟩
  | .hbm, ⟨49, _⟩ => ⟨S1x32x1024, .f32⟩
  | .hbm, ⟨50, _⟩ => ⟨S1x32x1024, .f32⟩
  | .hbm, ⟨51, _⟩ => ⟨S1x1x1024, .f32⟩
  | .hbm, ⟨52, _⟩ => ⟨S1x32x1024, .f32⟩
  | .hbm, ⟨53, _⟩ => ⟨S1x32x1024, .f32⟩
  | .hbm, ⟨54, _⟩ => ⟨S1x1x1024, .f32⟩
  | .hbm, ⟨55, _⟩ => ⟨S1x32x1024, .f32⟩
  | .hbm, ⟨56, _⟩ => ⟨S1x32x1024, .f32⟩
  | .hbm, ⟨57, _⟩ => ⟨S_, .f32⟩
  | .hbm, ⟨58, _⟩ => ⟨S1x32x1024, .f32⟩
  | .hbm, ⟨59, _⟩ => ⟨S1x32x1024, .f32⟩
  | .hbm, ⟨60, _⟩ => ⟨S1x32x1024, .f32⟩
  | .hbm, ⟨61, _⟩ => ⟨S1x32x1024, .f32⟩
  | .hbm, ⟨62, _⟩ => ⟨S_, .f32⟩
  | .hbm, ⟨63, _⟩ => ⟨S1x32x1024, .f32⟩
  | .hbm, ⟨64, _⟩ => ⟨S1x32x1024, .f32⟩
  | .hbm, ⟨65, _⟩ => ⟨S_, .f32⟩
  | .hbm, ⟨66, _⟩ => ⟨S1x32x1024, .f32⟩
  | .hbm, ⟨67, _⟩ => ⟨S1x32x1024, .f32⟩
  | .hbm, ⟨68, _⟩ => ⟨S1x32x4096, .f32⟩
  | .hbm, ⟨69, _⟩ => ⟨S_, .f32⟩
  | .hbm, ⟨70, _⟩ => ⟨S1x32x4096, .f32⟩
  | .hbm, ⟨71, _⟩ => ⟨S1x32x4096, .f32⟩
  | .hbm, ⟨72, _⟩ => ⟨S1x32x4096, .f32⟩
  | .hbm, ⟨73, _⟩ => ⟨S1x32x1024, .f32⟩
  | .hbm, ⟨74, _⟩ => ⟨S1x32x1024, .f32⟩
  | .hbm, ⟨75, _⟩ => ⟨S1x32x1024, .f32⟩
  | .hbm, ⟨76, _⟩ => ⟨S1x1024, .f32⟩
  | .hbm, ⟨77, _⟩ => ⟨S1024, .f32⟩
  | .hbm, ⟨78, _⟩ => ⟨S1x1024, .f32⟩
  | .hbm, ⟨79, _⟩ => ⟨S1024, .f32⟩
  | .hbm, ⟨80, _⟩ => ⟨S_, .f32⟩
  | .hbm, ⟨81, _⟩ => ⟨S1x32, .f32⟩
  | .hbm, ⟨82, _⟩ => ⟨S1x32x1, .f32⟩
  | .hbm, ⟨83, _⟩ => ⟨S_, .f32⟩
  | .hbm, ⟨84, _⟩ => ⟨S1x32x1, .f32⟩
  | .hbm, ⟨85, _⟩ => ⟨S1x32x1, .f32⟩
  | .hbm, ⟨86, _⟩ => ⟨S1x32x1024, .f32⟩
  | .hbm, ⟨87, _⟩ => ⟨S1x32x1024, .f32⟩
  | .hbm, ⟨88, _⟩ => ⟨S1x32x1024, .f32⟩
  | .hbm, ⟨89, _⟩ => ⟨S_, .f32⟩
  | .hbm, ⟨90, _⟩ => ⟨S1x32, .f32⟩
  | .hbm, ⟨91, _⟩ => ⟨S1x32x1, .f32⟩
  | .hbm, ⟨92, _⟩ => ⟨S_, .f32⟩
  | .hbm, ⟨93, _⟩ => ⟨S1x32x1, .f32⟩
  | .hbm, ⟨94, _⟩ => ⟨S1x32x1, .f32⟩
  | .hbm, ⟨95, _⟩ => ⟨S1x32x1024, .f32⟩
  | .hbm, ⟨96, _⟩ => ⟨S1x32x1024, .f32⟩
  | .hbm, ⟨97, _⟩ => ⟨S_, .f32⟩
  | .hbm, ⟨98, _⟩ => ⟨S1x32x1, .f32⟩
  | .hbm, ⟨99, _⟩ => ⟨S1x32x1, .f32⟩
  | .hbm, ⟨100, _⟩ => ⟨S1x32x1, .f32⟩
  | .hbm, ⟨101, _⟩ => ⟨S1x32x1024, .f32⟩
  | .hbm, ⟨102, _⟩ => ⟨S1x32x1024, .f32⟩
  | .hbm, ⟨103, _⟩ => ⟨S1x1x1024, .f32⟩
  | .hbm, ⟨104, _⟩ => ⟨S1x32x1024, .f32⟩
  | .hbm, ⟨105, _⟩ => ⟨S1x32x1024, .f32⟩
  | .hbm, ⟨106, _⟩ => ⟨S1x1x1024, .f32⟩
  | .hbm, ⟨107, _⟩ => ⟨S1x32x1024, .f32⟩
  | .hbm, ⟨108, _⟩ => ⟨S1x32x1024, .f32⟩
  | _, _ => ⟨S1x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Kernel7.lean ====
abbrev S2x8192x1024 : Shape := ⟨3, ![2, 8192, 1024]⟩
abbrev S2x1x6144 : Shape := ⟨3, ![2, 1, 6144]⟩
abbrev S2x1x1024 : Shape := ⟨3, ![2, 1, 1024]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S1x1024 : Shape := ⟨2, ![1, 1024]⟩
abbrev S1x512x1024 : Shape := ⟨3, ![1, 512, 1024]⟩
abbrev S1x8x1024 : Shape := ⟨3, ![1, 8, 1024]⟩
abbrev S1x1x1024 : Shape := ⟨3, ![1, 1, 1024]⟩
abbrev S512x1024 : Shape := ⟨2, ![512, 1024]⟩
abbrev S8x1024 : Shape := ⟨2, ![8, 1024]⟩
abbrev S1x1024x1024 : Shape := ⟨3, ![1, 1024, 1024]⟩
abbrev S1024x1024 : Shape := ⟨2, ![1024, 1024]⟩
abbrev S512x64 : Shape := ⟨2, ![512, 64]⟩
abbrev S512x160 : Shape := ⟨2, ![512, 160]⟩

abbrev nBuf : Space → Nat
  | .hbm => 29
  | .vmem => 34
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S2x1x1024, .f32⟩
  | .hbm, ⟨3, _⟩ => ⟨S6x1024, .f32⟩
  | .hbm, ⟨4, _⟩ => ⟨S3x1024x1024, .f32⟩
  | .hbm, ⟨5, _⟩ => ⟨S1024, .f32⟩
  | .hbm, ⟨6, _⟩ => ⟨S1024x64, .f32⟩
  | .hbm, ⟨7, _⟩ => ⟨S64x1024, .f32⟩
  | .hbm, ⟨8, _⟩ => ⟨S1024, .f32⟩
  | .hbm, ⟨9, _⟩ => ⟨S1024x64, .f32⟩
  | .hbm, ⟨10, _⟩ => ⟨S64x1024, .f32⟩
  | .hbm, ⟨11, _⟩ => ⟨S1024x160, .f32⟩
  | .hbm, ⟨12, _⟩ => ⟨S160x1024, .f32⟩
  | .hbm, ⟨13, _⟩ => ⟨S3x1024x1024, .bf16⟩
  | .hbm, ⟨14, _⟩ => ⟨S1x1024, .f32⟩
  | .hbm, ⟨15, _⟩ => ⟨S1024x64, .bf16⟩
  | .hbm, ⟨16, _⟩ => ⟨S64x1024, .bf16⟩
  | .hbm, ⟨17, _⟩ => ⟨S1x1024, .f32⟩
  | .hbm, ⟨18, _⟩ => ⟨S1024x64, .bf16⟩
  | .hbm, ⟨19, _⟩ => ⟨S64x1024, .bf16⟩
  | .hbm, ⟨20, _⟩ => ⟨S1024x160, .bf16⟩
  | .hbm, ⟨21, _⟩ => ⟨S160x1024, .bf16⟩
  | .hbm, ⟨22, _⟩ => ⟨S2x8192x1024, .bf16⟩
  | .hbm, ⟨23, _⟩ => ⟨S2x8192x1024, .f32⟩
  | .hbm, ⟨24, _⟩ => ⟨S2x8192x1024, .bf16⟩
  | .hbm, ⟨25, _⟩ => ⟨S2x8192x1024, .bf16⟩
  | .hbm, ⟨26, _⟩ => ⟨S2x8192x1024, .bf16⟩
  | .hbm, ⟨27, _⟩ => ⟨S2x8192x1024, .bf16⟩
  | .hbm, ⟨28, _⟩ => ⟨S2x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S6x1024, .f32⟩
  | .local _ .vmem, ⟨11, _⟩ => ⟨S3x1024x1024, .bf16⟩
  | .local _ .vmem, ⟨12, _⟩ => ⟨S1x1024, .f32⟩
  | .local _ .vmem, ⟨13, _⟩ => ⟨S1024x64, .bf16⟩
  | .local _ .vmem, ⟨14, _⟩ => ⟨S64x1024, .bf16⟩
  | .local _ .vmem, ⟨15, _⟩ => ⟨S1x1024, .f32⟩
  | .local _ .vmem, ⟨16, _⟩ => ⟨S1024x64, .bf16⟩
  | .local _ .vmem, ⟨17, _⟩ => ⟨S64x1024, .bf16⟩
  | .local _ .vmem, ⟨18, _⟩ => ⟨S1024x160, .bf16⟩
  | .local _ .vmem, ⟨19, _⟩ => ⟨S160x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .f32⟩
  | .local _ .vmem, ⟨23, _⟩ => ⟨S1x512x1024, .f32⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x1x1024, .f32⟩
  | .local _ .vmem, ⟨33, _⟩ => ⟨S1x1x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v9_4 : Ref sig .tc := ⟨.hbm, 26, rfl⟩
abbrev main_v9_5 : Ref sig .tc := ⟨.hbm, 27, rfl⟩
abbrev main_v9_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x160 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S160x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== Reference7Ideal.lean ====
abbrev S2x8192x1024 : Shape := ⟨3, ![2, 8192, 1024]⟩
abbrev S2x1x6144 : Shape := ⟨3, ![2, 1, 6144]⟩
abbrev S2x1x1024 : Shape := ⟨3, ![2, 1, 1024]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S_ : Shape := ⟨0, ![]⟩
abbrev S2x8191x1024 : Shape := ⟨3, ![2, 8191, 1024]⟩
abbrev S1x2x8192x1024 : Shape := ⟨4, ![1, 2, 8192, 1024]⟩
abbrev S6x1x1x1024 : Shape := ⟨4, ![6, 1, 1, 1024]⟩
abbrev S6x2x8192x1024 : Shape := ⟨4, ![6, 2, 8192, 1024]⟩
abbrev S3x2x8192x1024 : Shape := ⟨4, ![3, 2, 8192, 1024]⟩
abbrev S2x8192x64 : Shape := ⟨3, ![2, 8192, 64]⟩
abbrev S1x1x1024 : Shape := ⟨3, ![1, 1, 1024]⟩
abbrev S2x8192x160 : Shape := ⟨3, ![2, 8192, 160]⟩

abbrev nBuf : Space → Nat
  | .hbm => 107
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S2x1x1024, .f32⟩
  | .hbm, ⟨3, _⟩ => ⟨S6x1024, .f32⟩
  | .hbm, ⟨4, _⟩ => ⟨S3x1024x1024, .f32⟩
  | .hbm, ⟨5, _⟩ => ⟨S1024, .f32⟩
  | .hbm, ⟨6, _⟩ => ⟨S1024x64, .f32⟩
  | .hbm, ⟨7, _⟩ => ⟨S64x1024, .f32⟩
  | .hbm, ⟨8, _⟩ => ⟨S1024, .f32⟩
  | .hbm, ⟨9, _⟩ => ⟨S1024x64, .f32⟩
  | .hbm, ⟨10, _⟩ => ⟨S64x1024, .f32⟩
  | .hbm, ⟨11, _⟩ => ⟨S1024x160, .f32⟩
  | .hbm, ⟨12, _⟩ => ⟨S160x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S_, .f32⟩
  | .hbm, ⟨20, _⟩ => ⟨S2x1x1024, .f32⟩
  | .hbm, ⟨21, _⟩ => ⟨S2x1x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8191x1024, .f32⟩
  | .hbm, ⟨27, _⟩ => ⟨S2x8192x1024, .f32⟩
  | .hbm, ⟨28, _⟩ => ⟨S2x8192x1024, .f32⟩
  | .hbm, ⟨29, _⟩ => ⟨S1x2x8192x1024, .f32⟩
  | .hbm, ⟨30, _⟩ => ⟨S1x2x8192x1024, .f32⟩
  | .hbm, ⟨31, _⟩ => ⟨S6x1x1x1024, .f32⟩
  | .hbm, ⟨32, _⟩ => ⟨S6x2x8192x1024, .f32⟩
  | .hbm, ⟨33, _⟩ => ⟨S6x2x8192x1024, .f32⟩
  | .hbm, ⟨34, _⟩ => ⟨S6x2x8192x1024, .f32⟩
  | .hbm, ⟨35, _⟩ => ⟨S6x2x8192x1024, .f32⟩
  | .hbm, ⟨36, _⟩ => ⟨S6x2x8192x1024, .f32⟩
  | .hbm, ⟨37, _⟩ => ⟨S3x2x8192x1024, .f32⟩
  | .hbm, ⟨38, _⟩ => ⟨S3x2x8192x1024, .f32⟩
  | .hbm, ⟨39, _⟩ => ⟨S1x2x8192x1024, .f32⟩
  | .hbm, ⟨40, _⟩ => ⟨S2x8192x1024, .f32⟩
  | .hbm, ⟨41, _⟩ => ⟨S1x2x8192x1024, .f32⟩
  | .hbm, ⟨42, _⟩ => ⟨S2x8192x1024, .f32⟩
  | .hbm, ⟨43, _⟩ => ⟨S1x2x8192x1024, .f32⟩
  | .hbm, ⟨44, _⟩ => ⟨S2x8192x1024, .f32⟩
  | .hbm, ⟨45, _⟩ => ⟨S1x2x8192x1024, .f32⟩
  | .hbm, ⟨46, _⟩ => ⟨S2x8192x1024, .f32⟩
  | .hbm, ⟨47, _⟩ => ⟨S1x2x8192x1024, .f32⟩
  | .hbm, ⟨48, _⟩ => ⟨S2x8192x1024, .f32⟩
  | .hbm, ⟨49, _⟩ => ⟨S1x2x8192x1024, .f32⟩
  | .hbm, ⟨50, _⟩ => ⟨S2x8192x1024, .f32⟩
  | .hbm, ⟨51, _⟩ => ⟨S2x8192x64, .f32⟩
  | .hbm, ⟨52, _⟩ => ⟨S2x8192x64, .f32⟩
  | .hbm, ⟨53, _⟩ => ⟨S2x8192x1024, .f32⟩
  | .hbm, ⟨54, _⟩ => ⟨S1x1x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S_, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S2x8192x1024, .i1⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192x1024, .f32⟩
  | .hbm, ⟨75, _⟩ => ⟨S2x8192x1024, .f32⟩
  | .hbm, ⟨76, _⟩ => ⟨S2x8192x64, .f32⟩
  | .hbm, ⟨77, _⟩ => ⟨S2x8192x1024, .f32⟩
  | .hbm, ⟨78, _⟩ => ⟨S1x1x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S2x8192x1024, .f32⟩
  | .hbm, ⟨83, _⟩ => ⟨S_, .f32⟩
  | .hbm, ⟨84, _⟩ => ⟨S2x8192x1024, .f32⟩
  | .hbm, ⟨85, _⟩ => ⟨S2x8192x1024, .f32⟩
  | .hbm, ⟨86, _⟩ => ⟨S_, .f32⟩
  | .hbm, ⟨87, _⟩ => ⟨S2x8192x1024, .f32⟩
  | .hbm, ⟨88, _⟩ => ⟨S2x8192x1024, .f32⟩
  | .hbm, ⟨89, _⟩ => ⟨S2x8192x160, .f32⟩
  | .hbm, ⟨90, _⟩ => ⟨S2x8192x160, .f32⟩
  | .hbm, ⟨91, _⟩ => ⟨S2x8192x160, .f32⟩
  | .hbm, ⟨92, _⟩ => ⟨S_, .f32⟩
  | .hbm, ⟨93, _⟩ => ⟨S2x8192x160, .f32⟩
  | .hbm, ⟨94, _⟩ => ⟨S2x8192x160, .f32⟩
  | .hbm, ⟨95, _⟩ => ⟨S_, .f32⟩
  | .hbm, ⟨96, _⟩ => ⟨S2x8192x160, .f32⟩
  | .hbm, ⟨97, _⟩ => ⟨S2x8192x160, .f32⟩
  | .hbm, ⟨98, _⟩ => ⟨S2x8192x1024, .f32⟩
  | .hbm, ⟨99, _⟩ => ⟨S2x8192x1024, .bf16⟩
  | .hbm, ⟨100, _⟩ => ⟨S2x8192x1024, .f32⟩
  | .hbm, ⟨101, _⟩ => ⟨S2x8192x1024, .f32⟩
  | .hbm, ⟨102, _⟩ => ⟨S2x8192x1024, .bf16⟩
  | .hbm, ⟨103, _⟩ => ⟨S2x8192x1024, .bf16⟩
  | .hbm, ⟨104, _⟩ => ⟨S2x8192x1024, .bf16⟩
  | .hbm, ⟨105, _⟩ => ⟨S2x8192x1024, .bf16⟩
  | .hbm, ⟨106, _⟩ => ⟨S2x1x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_v44 : Ref sig .tc := ⟨.hbm, 71, rfl⟩
abbrev main_v45 : Ref sig .tc := ⟨.hbm, 72, rfl⟩
abbrev main_cst_0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_1 : Ref sig .tc := ⟨.hbm, 83, rfl⟩
abbrev main_v55 : Ref sig .tc := ⟨.hbm, 84, rfl⟩
abbrev main_v56 : Ref sig .tc := ⟨.hbm, 85, rfl⟩
abbrev main_cst_2 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_3 : Ref sig .tc := ⟨.hbm, 92, rfl⟩
abbrev main_v62 : Ref sig .tc := ⟨.hbm, 93, rfl⟩
abbrev main_v63 : Ref sig .tc := ⟨.hbm, 94, rfl⟩
abbrev main_cst_4 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Kernel8.lean ====
abbrev S1x32x1024 : Shape := ⟨3, ![1, 32, 1024]⟩
abbrev S1x32x6144 : Shape := ⟨3, ![1, 32, 6144]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S1x1024 : Shape := ⟨2, ![1, 1024]⟩
abbrev S1x8x1024 : Shape := ⟨3, ![1, 8, 1024]⟩
abbrev S32x1024 : Shape := ⟨2, ![32, 1024]⟩
abbrev S1x1024x1024 : Shape := ⟨3, ![1, 1024, 1024]⟩
abbrev S1024x1024 : Shape := ⟨2, ![1024, 1024]⟩
abbrev S32x64 : Shape := ⟨2, ![32, 64]⟩
abbrev S32x160 : Shape := ⟨2, ![32, 160]⟩

abbrev nBuf : Space → Nat
  | .hbm => 29
  | .vmem => 22
  | .smem => 0
  | _ => 0

abbrev bufTy : (tb : Table) → Fin (tcTables nBuf tb) → BufTy
  | .hbm, ⟨0, _⟩ => ⟨S1x32x1024, .f32⟩
  | .hbm, ⟨1, _⟩ => ⟨S1x32x6144, .f32⟩
  | .hbm, ⟨2, _⟩ => ⟨S1x32x1024, .f32⟩
  | .hbm, ⟨3, _⟩ => ⟨S6x1024, .f32⟩
  | .hbm, ⟨4, _⟩ => ⟨S3x1024x1024, .f32⟩
  | .hbm, ⟨5, _⟩ => ⟨S1024, .f32⟩
  | .hbm, ⟨6, _⟩ => ⟨S1024x64, .f32⟩
  | .hbm, ⟨7, _⟩ => ⟨S64x1024, .f32⟩
  | .hbm, ⟨8, _⟩ => ⟨S1024, .f32⟩
  | .hbm, ⟨9, _⟩ => ⟨S1024x64, .f32⟩
  | .hbm, ⟨10, _⟩ => ⟨S64x1024, .f32⟩
  | .hbm, ⟨11, _⟩ => ⟨S1024x160, .f32⟩
  | .hbm, ⟨12, _⟩ => ⟨S160x1024, .f32⟩
  | .hbm, ⟨13, _⟩ => ⟨S3x1024x1024, .bf16⟩
  | .hbm, ⟨14, _⟩ => ⟨S1x1024, .f32⟩
  | .hbm, ⟨15, _⟩ => ⟨S1024x64, .bf16⟩
  | .hbm, ⟨16, _⟩ => ⟨S64x1024, .bf16⟩
  | .hbm, ⟨17, _⟩ => ⟨S1x1024, .f32⟩
  | .hbm, ⟨18, _⟩ => ⟨S1024x64, .bf16⟩
  | .hbm, ⟨19, _⟩ => ⟨S64x1024, .bf16⟩
  | .hbm, ⟨20, _⟩ => ⟨S1024x160, .bf16⟩
  | .hbm, ⟨21, _⟩ => ⟨S160x1024, .bf16⟩
  | .hbm, ⟨22, _⟩ => ⟨S1x32x1024, .bf16⟩
  | .hbm, ⟨23, _⟩ => ⟨S1x32x1024, .f32⟩
  | .hbm, ⟨24, _⟩ => ⟨S1x32x1024, .bf16⟩
  | .hbm, ⟨25, _⟩ => ⟨S1x32x1024, .bf16⟩
  | .hbm, ⟨26, _⟩ => ⟨S1x32x1024, .bf16⟩
  | .hbm, ⟨27, _⟩ => ⟨S1x32x1024, .bf16⟩
  | .hbm, ⟨28, _⟩ => ⟨S1x32x1024, .f32⟩
  | .local _ .vmem, ⟨0, _⟩ => ⟨S1x32x1024, .f32⟩
  | .local _ .vmem, ⟨1, _⟩ => ⟨S1x8x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S6x1024, .f32⟩
  | .local _ .vmem, ⟨6, _⟩ => ⟨S3x1024x1024, .bf16⟩
  | .local _ .vmem, ⟨7, _⟩ => ⟨S1x1024, .f32⟩
  | .local _ .vmem, ⟨8, _⟩ => ⟨S1024x64, .bf16⟩
  | .local _ .vmem, ⟨9, _⟩ => ⟨S64x1024, .bf16⟩
  | .local _ .vmem, ⟨10, _⟩ => ⟨S1x1024, .f32⟩
  | .local _ .vmem, ⟨11, _⟩ => ⟨S1024x64, .bf16⟩
  | .local _ .vmem, ⟨12, _⟩ => ⟨S64x1024, .bf16⟩
  | .local _ .vmem, ⟨13, _⟩ => ⟨S1024x160, .bf16⟩
  | .local _ .vmem, ⟨14, _⟩ => ⟨S160x1024, .bf16⟩
  | .local _ .vmem, ⟨15, _⟩ => ⟨S1x32x1024, .bf16⟩
  | .local _ .vmem, ⟨16, _⟩ => ⟨S1x32x1024, .f32⟩
  | .local _ .vmem, ⟨17, _⟩ => ⟨S1x32x1024, .bf16⟩
  | .local _ .vmem, ⟨18, _⟩ => ⟨S1x32x1024, .bf16⟩
  | .local _ .vmem, ⟨19, _⟩ => ⟨S1x32x1024, .bf16⟩
  | .local _ .vmem, ⟨20, _⟩ => ⟨S1x32x1024, .bf16⟩
  | .local _ .vmem, ⟨21, _⟩ => ⟨S1x32x1024, .f32⟩
  | _, _ => ⟨S1x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v9_4 : Ref sig .tc := ⟨.hbm, 26, rfl⟩
abbrev main_v9_5 : Ref sig .tc := ⟨.hbm, 27, rfl⟩
abbrev main_v9_6 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x160 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S160x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x32x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x32x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S1x32x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S1x32x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]

abbrev stage0_20 : Fin 1 → Memref sig .tc .vmem S1x32x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, true]

abbrev stage0_21 : Fin 1 → Memref sig .tc .vmem S1x32x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true, true]
-- ==== Reference8Ideal.lean ====
abbrev S1x32x1024 : Shape := ⟨3, ![1, 32, 1024]⟩
abbrev S1x32x6144 : Shape := ⟨3, ![1, 32, 6144]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S_ : Shape := ⟨0, ![]⟩
abbrev S1x1x32x1024 : Shape := ⟨4, ![1, 1, 32, 1024]⟩
abbrev S6x1x1x1024 : Shape := ⟨4, ![6, 1, 1, 1024]⟩
abbrev S6x1x32x1024 : Shape := ⟨4, ![6, 1, 32, 1024]⟩
abbrev S3x1x32x1024 : Shape := ⟨4, ![3, 1, 32, 1024]⟩
abbrev S1x32x64 : Shape := ⟨3, ![1, 32, 64]⟩
abbrev S1x1x1024 : Shape := ⟨3, ![1, 1, 1024]⟩
abbrev S1x32x160 : Shape := ⟨3, ![1, 32, 160]⟩

abbrev nBuf : Space → Nat
  | .hbm => 102
  | .vmem => 0
  | .smem => 0
  | _ => 0

abbrev bufTy : (tb : Table) → Fin (tcTables nBuf tb) → BufTy
  | .hbm, ⟨0, _⟩ => ⟨S1x32x1024, .f32⟩
  | .hbm, ⟨1, _⟩ => ⟨S1x32x6144, .f32⟩
  | .hbm, ⟨2, _⟩ => ⟨S1x32x1024, .f32⟩
  | .hbm, ⟨3, _⟩ => ⟨S6x1024, .f32⟩
  | .hbm, ⟨4, _⟩ => ⟨S3x1024x1024, .f32⟩
  | .hbm, ⟨5, _⟩ => ⟨S1024, .f32⟩
  | .hbm, ⟨6, _⟩ => ⟨S1024x64, .f32⟩
  | .hbm, ⟨7, _⟩ => ⟨S64x1024, .f32⟩
  | .hbm, ⟨8, _⟩ => ⟨S1024, .f32⟩
  | .hbm, ⟨9, _⟩ => ⟨S1024x64, .f32⟩
  | .hbm, ⟨10, _⟩ => ⟨S64x1024, .f32⟩
  | .hbm, ⟨11, _⟩ => ⟨S1024x160, .f32⟩
  | .hbm, ⟨12, _⟩ => ⟨S160x1024, .f32⟩
  | .hbm, ⟨13, _⟩ => ⟨S1x32x1024, .f32⟩
  | .hbm, ⟨14, _⟩ => ⟨S1x32x1024, .f32⟩
  | .hbm, ⟨15, _⟩ => ⟨S1x32x1024, .f32⟩
  | .hbm, ⟨16, _⟩ => ⟨S1x32x1024, .f32⟩
  | .hbm, ⟨17, _⟩ => ⟨S1x32x1024, .f32⟩
  | .hbm, ⟨18, _⟩ => ⟨S1x32x1024, .f32⟩
  | .hbm, ⟨19, _⟩ => ⟨S_, .f32⟩
  | .hbm, ⟨20, _⟩ => ⟨S1x32x1024, .f32⟩
  | .hbm, ⟨21, _⟩ => ⟨S1x32x1024, .f32⟩
  | .hbm, ⟨22, _⟩ => ⟨S1x32x1024, .f32⟩
  | .hbm, ⟨23, _⟩ => ⟨S1x32x1024, .f32⟩
  | .hbm, ⟨24, _⟩ => ⟨S1x32x1024, .f32⟩
  | .hbm, ⟨25, _⟩ => ⟨S1x1x32x1024, .f32⟩
  | .hbm, ⟨26, _⟩ => ⟨S1x1x32x1024, .f32⟩
  | .hbm, ⟨27, _⟩ => ⟨S6x1x1x1024, .f32⟩
  | .hbm, ⟨28, _⟩ => ⟨S6x1x32x1024, .f32⟩
  | .hbm, ⟨29, _⟩ => ⟨S6x1x32x1024, .f32⟩
  | .hbm, ⟨30, _⟩ => ⟨S6x1x32x1024, .f32⟩
  | .hbm, ⟨31, _⟩ => ⟨S6x1x32x1024, .f32⟩
  | .hbm, ⟨32, _⟩ => ⟨S6x1x32x1024, .f32⟩
  | .hbm, ⟨33, _⟩ => ⟨S3x1x32x1024, .f32⟩
  | .hbm, ⟨34, _⟩ => ⟨S3x1x32x1024, .f32⟩
  | .hbm, ⟨35, _⟩ => ⟨S1x1x32x1024, .f32⟩
  | .hbm, ⟨36, _⟩ => ⟨S1x32x1024, .f32⟩
  | .hbm, ⟨37, _⟩ => ⟨S1x1x32x1024, .f32⟩
  | .hbm, ⟨38, _⟩ => ⟨S1x32x1024, .f32⟩
  | .hbm, ⟨39, _⟩ => ⟨S1x1x32x1024, .f32⟩
  | .hbm, ⟨40, _⟩ => ⟨S1x32x1024, .f32⟩
  | .hbm, ⟨41, _⟩ => ⟨S1x1x32x1024, .f32⟩
  | .hbm, ⟨42, _⟩ => ⟨S1x32x1024, .f32⟩
  | .hbm, ⟨43, _⟩ => ⟨S1x1x32x1024, .f32⟩
  | .hbm, ⟨44, _⟩ => ⟨S1x32x1024, .f32⟩
  | .hbm, ⟨45, _⟩ => ⟨S1x1x32x1024, .f32⟩
  | .hbm, ⟨46, _⟩ => ⟨S1x32x1024, .f32⟩
  | .hbm, ⟨47, _⟩ => ⟨S1x32x64, .f32⟩
  | .hbm, ⟨48, _⟩ => ⟨S1x32x64, .f32⟩
  | .hbm, ⟨49, _⟩ => ⟨S1x32x1024, .f32⟩
  | .hbm, ⟨50, _⟩ => ⟨S1x1x1024, .f32⟩
  | .hbm, ⟨51, _⟩ => ⟨S1x32x1024, .f32⟩
  | .hbm, ⟨52, _⟩ => ⟨S1x32x1024, .f32⟩
  | .hbm, ⟨53, _⟩ => ⟨S1x32x1024, .f32⟩
  | .hbm, ⟨54, _⟩ => ⟨S_, .f32⟩
  | .hbm, ⟨55, _⟩ => ⟨S1x32x1024, .f32⟩
  | .hbm, ⟨56, _⟩ => ⟨S1x32x1024, .f32⟩
  | .hbm, ⟨57, _⟩ => ⟨S1x32x1024, .f32⟩
  | .hbm, ⟨58, _⟩ => ⟨S1x32x1024, .f32⟩
  | .hbm, ⟨59, _⟩ => ⟨S1x32x1024, .i1⟩
  | .hbm, ⟨60, _⟩ => ⟨S1x32x1024, .f32⟩
  | .hbm, ⟨61, _⟩ => ⟨S1x32x1024, .f32⟩
  | .hbm, ⟨62, _⟩ => ⟨S1x32x1024, .f32⟩
  | .hbm, ⟨63, _⟩ => ⟨S1x32x1024, .f32⟩
  | .hbm, ⟨64, _⟩ => ⟨S1x32x1024, .f32⟩
  | .hbm, ⟨65, _⟩ => ⟨S1x32x1024, .f32⟩
  | .hbm, ⟨66, _⟩ => ⟨S1x32x1024, .f32⟩
  | .hbm, ⟨67, _⟩ => ⟨S1x32x1024, .f32⟩
  | .hbm, ⟨68, _⟩ => ⟨S1x32x1024, .f32⟩
  | .hbm, ⟨69, _⟩ => ⟨S_, .f32⟩
  | .hbm, ⟨70, _⟩ => ⟨S1x32x1024, .f32⟩
  | .hbm, ⟨71, _⟩ => ⟨S1x32x1024, .f32⟩
  | .hbm, ⟨72, _⟩ => ⟨S1x32x64, .f32⟩
  | .hbm, ⟨73, _⟩ => ⟨S1x32x1024, .f32⟩
  | .hbm, ⟨74, _⟩ => ⟨S1x1x1024, .f32⟩
  | .hbm, ⟨75, _⟩ => ⟨S1x32x1024, .f32⟩
  | .hbm, ⟨76, _⟩ => ⟨S1x32x1024, .f32⟩
  | .hbm, ⟨77, _⟩ => ⟨S1x32x1024, .f32⟩
  | .hbm, ⟨78, _⟩ => ⟨S1x32x1024, .f32⟩
  | .hbm, ⟨79, _⟩ => ⟨S_, .f32⟩
  | .hbm, ⟨80, _⟩ => ⟨S1x32x1024, .f32⟩
  | .hbm, ⟨81, _⟩ => ⟨S1x32x1024, .f32⟩
  | .hbm, ⟨82, _⟩ => ⟨S_, .f32⟩
  | .hbm, ⟨83, _⟩ => ⟨S1x32x1024, .f32⟩
  | .hbm, ⟨84, _⟩ => ⟨S1x32x1024, .f32⟩
  | .hbm, ⟨85, _⟩ => ⟨S1x32x160, .f32⟩
  | .hbm, ⟨86, _⟩ => ⟨S1x32x160, .f32⟩
  | .hbm, ⟨87, _⟩ => ⟨S1x32x160, .f32⟩
  | .hbm, ⟨88, _⟩ => ⟨S_, .f32⟩
  | .hbm, ⟨89, _⟩ => ⟨S1x32x160, .f32⟩
  | .hbm, ⟨90, _⟩ => ⟨S1x32x160, .f32⟩
  | .hbm, ⟨91, _⟩ => ⟨S_, .f32⟩
  | .hbm, ⟨92, _⟩ => ⟨S1x32x160, .f32⟩
  | .hbm, ⟨93, _⟩ => ⟨S1x32x160, .f32⟩
  | .hbm, ⟨94, _⟩ => ⟨S1x32x1024, .f32⟩
  | .hbm, ⟨95, _⟩ => ⟨S1x32x1024, .bf16⟩
  | .hbm, ⟨96, _⟩ => ⟨S1x32x1024, .f32⟩
  | .hbm, ⟨97, _⟩ => ⟨S1x32x1024, .f32⟩
  | .hbm, ⟨98, _⟩ => ⟨S1x32x1024, .bf16⟩
  | .hbm, ⟨99, _⟩ => ⟨S1x32x1024, .bf16⟩
  | .hbm, ⟨100, _⟩ => ⟨S1x32x1024, .bf16⟩
  | .hbm, ⟨101, _⟩ => ⟨S1x32x1024, .bf16⟩
  | _, _ => ⟨S1x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_v40 : Ref sig .tc := ⟨.hbm, 67, rfl⟩
abbrev main_v41 : Ref sig .tc := ⟨.hbm, 68, rfl⟩
abbrev main_cst_0 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_1 : Ref sig .tc := ⟨.hbm, 79, rfl⟩
abbrev main_v51 : Ref sig .tc := ⟨.hbm, 80, rfl⟩
abbrev main_v52 : Ref sig .tc := ⟨.hbm, 81, rfl⟩
abbrev main_cst_2 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_3 : Ref sig .tc := ⟨.hbm, 88, rfl⟩
abbrev main_v58 : Ref sig .tc := ⟨.hbm, 89, rfl⟩
abbrev main_v59 : Ref sig .tc := ⟨.hbm, 90, rfl⟩
abbrev main_cst_4 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]
-- ==== Proof.AttnIdeal.State.lean ====
/-
  What one grid point of the attention call computes, as a function of what it reads: the four scratch
  values (`St`), one key tile of the lagged walk (`lag`, its masked first tile `lagDiag`), one of the exact
  walk (`ex`, `exDiag`), the two walks over the tiles of a grid point, and the block of the result.
-/
module

public import proofs.«01_k».proof.Proof.Gen.KernelIdeal.Skeleton
public import Idealize.ShloMosaic.Lib.Pipeline.FrameBody

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The scratch values of a grid point: the running maximum, the accumulator (row 128 the normaliser),
    the largest jump of the lagged maximum, the largest score met. -/
structure St (F : FTy → Type) where
  M : FVec F S1x1024 .f32
  A : FVec F S144x1024 .f32
  J : FVec F S1x1024 .f32
  S : FVec F S1x1024 .f32

theorem St.ext' {s t : St F} (hM : s.M = t.M) (hA : s.A = t.A) (hJ : s.J = t.J) (hS : s.S = t.S) : s = t := by
  cases s; cases t; cases hM; cases hA; cases hJ; cases hS; rfl

/-- One key tile of the lagged walk. -/
def lag (q : FVec F S128x1024 .bf16) (K : Vec F S1x512x128 .bf16) (V : Vec F S1x1x128x512 .bf16) (s : St F) : St F where
  M := k0_pay9 (k0_pay4 q K s.M)
  A := k0_pay5 q K s.M s.A V
  J := k0_pay7 (k0_pay6 q K s.M s.J)
  S := k0_pay8 (k0_pay3 q K) s.S

/-- The lagged walk's first tile, the masked one. -/
def lagDiag (q : FVec F S128x1024 .bf16) (K : Vec F S1x512x128 .bf16) (V : Vec F S1x1x128x512 .bf16) (s : St F) : St F where
  M := k0_pay91 (k0_pay86 q K s.M)
  A := k0_pay88 s.M (k0_pay85 q K s.M) (k0_pay86 q K s.M) s.A k0_pay87 V
  J := k0_pay89 s.M (k0_pay84 q K) s.J
  S := k0_pay90 (k0_pay84 q K) s.S

/-- One key tile of the exact walk. -/
def ex (q : FVec F S128x1024 .bf16) (K : Vec F S1x512x128 .bf16) (V : Vec F S1x1x128x512 .bf16) (s : St F) : St F :=
  { s with M := k0_pay110 q K s.M, A := k0_pay109 q K s.M s.A V }

/-- The exact walk's first tile, the masked one. -/
def exDiag (q : FVec F S128x1024 .bf16) (K : Vec F S1x512x128 .bf16) (V : Vec F S1x1x128x512 .bf16) (s : St F) : St F :=
  { s with M := k0_pay106 s.M (k0_pay77 q K), A := k0_pay105 (k0_pay76 q K) s.M (k0_pay77 q K) s.A V }

/-- The key tile at an offset. -/
abbrev kt (X : Vec F S1x8192x128 .bf16) (off : Fin 3 → Nat) (h : ∀ a, off a + S1x512x128.size a ≤ S1x8192x128.size a) :
    Vec F S1x512x128 .bf16 := View.ld (Val := Elt F) X (Rect.unit (s := S1x8192x128) off S1x512x128.size h)

/-- The value tile at an offset. -/
abbrev vt (X : Vec F S1x16x128x512 .bf16) (off : Fin 4 → Nat) (h : ∀ a, off a + S1x1x128x512.size a ≤ S1x16x128x512.size a) :
    Vec F S1x1x128x512 .bf16 := View.ld (Val := Elt F) X (Rect.unit (s := S1x16x128x512) off S1x1x128x512.size h)

section Walk
variable (i : grid0.Coords) (q : FVec F S128x1024 .bf16) (X4 : Vec F S1x8192x128 .bf16) (X5 : Vec F S1x16x128x512 .bf16)

/-- A trip of the loop over groups of four tiles. -/
def trip1 (k : Fin (k0_t1_loop i).trips) (s : St F) : St F :=
  lag q (kt X4 (k0_off3 i k 3#32) (k0_off3_inb i k 3)) (vt X5 (k0_off4 i k 3#32) (k0_off4_inb i k 3))
  (lag q (kt X4 (k0_off3 i k 2#32) (k0_off3_inb i k 2)) (vt X5 (k0_off4 i k 2#32) (k0_off4_inb i k 2))
  (lag q (kt X4 (k0_off3 i k 1#32) (k0_off3_inb i k 1)) (vt X5 (k0_off4 i k 1#32) (k0_off4_inb i k 1))
  (lag q (kt X4 (k0_off3 i k 0#32) (k0_off3_inb i k 0)) (vt X5 (k0_off4 i k 0#32) (k0_off4_inb i k 0)) s)))

/-- A trip of the loop over the leftover tiles. -/
def trip3 (k : Fin (k0_t3_loop i).trips) (s : St F) : St F :=
  lag q (kt X4 (k0_off7 i k) (k0_off7_inb i k)) (vt X5 (k0_off8 i k) (k0_off8_inb i k)) s

/-- A trip of the exact walk's loop. -/
def trip5 (k : Fin (k0_t5_loop i).trips) (s : St F) : St F :=
  ex q (kt X4 (k0_off13 i k) (k0_off13_inb i k)) (vt X5 (k0_off14 i k) (k0_off14_inb i k)) s

/-- The first `k` trips of a loop. -/
def iter {n : Nat} (step : Fin n → St F → St F) : Nat → St F → St F
  | 0, s => s
  | k + 1, s => if h : k < n then step ⟨k, h⟩ (iter step k s) else iter step k s

theorem iter_succ {n : Nat} (step : Fin n → St F → St F) (k : Fin n) (s : St F) :
    iter step (k.val + 1) s = step k (iter step k.val s) := dif_pos k.isLt

/-- The scratch as the lagged walk begins. -/
def lagInit : St F := ⟨k0_pay79, k0_pay80, k0_pay81, k0_pay82⟩

/-- The scratch after the lagged walk. -/
def lagged : St F :=
  iter (trip3 i q X4 X5) (k0_t3_loop i).trips (iter (trip1 i q X4 X5) (k0_t1_loop i).trips
    (lagDiag q (kt X4 (k0_off1 i) (k0_off1_inb i)) (vt X5 (k0_off2 i) (k0_off2_inb i)) lagInit))

/-- The scratch after the exact walk, which begins on `s`. -/
def exact (s : St F) : St F :=
  iter (trip5 i q X4 X5) (k0_t5_loop i).trips
    (exDiag q (kt X4 (k0_off11 i) (k0_off11_inb i)) (vt X5 (k0_off12 i) (k0_off12_inb i))
      { s with M := k0_pay74, A := k0_pay75 })

/-- Whether the lagged walk is to be done again exactly. -/
def redo (s : St F) : BitVec 1 :=
  Scalar.cmpi .ne (Scalar.extui (Scalar.ori (Scalar.cmpf .ogt (k0_pay102 s.J) (Scalar.ofBits .f32 0x42800000#32))
    (Scalar.cmpf .olt (k0_pay103 s.S) (Scalar.ofBits .f32 0xC2800000#32))) : BitVec 32) 0#32

/-- The scratch a grid point ends its walk with. -/
def walked : St F :=
  if redo (lagged i q X4 X5) = 1#1 then exact i q X4 X5 (lagged i q X4 X5) else lagged i q X4 X5
end Walk

/-- The accumulator's value rows. -/
abbrev accRows (A : FVec F S144x1024 .f32) : Vec F S128x1024 .f32 :=
  View.ld (Val := Elt F) (e' := .f32) A (Rect.unit (s := S144x1024) ![0, 0] S128x1024.size inb_S144x1024_S128x1024_0_0)
/-- The accumulator's normaliser row. -/
abbrev accNorm (A : FVec F S144x1024 .f32) : Vec F S1x1024 .f32 :=
  View.ld (Val := Elt F) (e' := .f32) A (Rect.unit (s := S144x1024) ![128, 0] S1x1024.size inb_S144x1024_S1x1024_128_0)

/-- The block of the result a grid point writes, from its blocks of the arguments. -/
def bodyOut (i : grid0.Coords) (x3 : Vec F S1x512x128 .f32) (x4 : Vec F S1x8192x128 .bf16) (x5 : Vec F S1x16x128x512 .bf16)
    (x6 x7 : Vec F S2x64 .f32) (x8 : Vec F S128x1 .f32) : FVec F S1x512x128 .bf16 :=
  k0_pay1 (k0_pay115 x6 x7 (accRows (walked i (k0_pay78 x3) x4 x5).A) (accNorm (walked i (k0_pay78 x3) x4 x5).A)) x8

end Cert.KernelIdeal.Hand

end
-- ==== Proof.AttnIdeal.Trips.lean ====
/-
  One trip of each loop of the attention call's body, run: the scratch ends at `trip1`, `trip3`, `trip5` of
  what it began with. With them the loops' invariants, which the run of the whole body cites.
-/
module

public import proofs.«01_k».proof.Proof.AttnIdeal.State
public import Idealize.ShloMosaic.Lib.Exec
public import Idealize.ShloMosaic.Lib.Tactic
public import Idealize.ShloMosaic.Lib.LoopRemainder
public import Idealize.ShloMosaic.Lib.VecWindow
public import Idealize.ShloMosaic.Lib.Pipeline.Kit

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (𝒱 : Variants) (c : Dev nD) (bd : Option 𝒱.V) (E : Set ℕ) (i : grid0.Coords)
  (arg3 : Memref sig .tc .vmem S1x512x128 .f32) (harg3 : arg3.IsWhole) (arg4 : Memref sig .tc .vmem S1x8192x128 .bf16) (harg4 : arg4.IsWhole) (arg5 : Memref sig .tc .vmem S1x16x128x512 .bf16) (harg5 : arg5.IsWhole) (arg6 : Memref sig .tc .vmem S2x64 .f32) (harg6 : arg6.IsWhole) (arg7 : Memref sig .tc .vmem S2x64 .f32) (harg7 : arg7.IsWhole) (arg8 : Memref sig .tc .vmem S128x1 .f32) (harg8 : arg8.IsWhole) (arg9 : Memref sig .tc .vmem S1x512x128 .bf16) (harg9 : arg9.IsWhole) (arg10 : Memref sig .tc .vmem S1x1024 .f32) (harg10 : arg10.IsWhole) (arg11 : Memref sig .tc .vmem S144x1024 .f32) (harg11 : arg11.IsWhole) (arg12 : Memref sig .tc .vmem S1x1024 .f32) (harg12 : arg12.IsWhole) (arg13 : Memref sig .tc .vmem S1x1024 .f32) (harg13 : arg13.IsWhole)
  (arg2 : BitVec 32) (v17 : FVec F S128x1024 .bf16) (c4_i32 v100 v105 v107 v109 v132 : BitVec 32) (v143 : BitVec 1)

/-- A whole buffer held with its contents. -/
abbrev pt {sp : Space} {S : Shape} {e : EltTy} (M : Memref sig .tc sp S e) (f : BufTy.Contents (Elt F) M.view.ty) : sProp 𝕄G :=
  M.view.loc (c : Thread nD τ) ↦[M.view.set]{fullShare} f

/-- What a load of a whole scratch row reads. -/
abbrev rd1 (A : Memref sig .tc .vmem S1x1024 .f32) (f : BufTy.Contents (Elt F) A.view.ty) : FVec F S1x1024 .f32 :=
  A.view.readAt (Elt F) (Rect.unit (s := S1x1024) ![0, 0] S1x1024.size inb_S1x1024_S1x1024_0_0).toLoadRect f
/-- What a load of the whole accumulator reads. -/
abbrev rd144 (A : Memref sig .tc .vmem S144x1024 .f32) (f : BufTy.Contents (Elt F) A.view.ty) : FVec F S144x1024 .f32 :=
  A.view.readAt (Elt F) (Rect.unit (s := S144x1024) ![0, 0] S144x1024.size inb_S144x1024_S144x1024_0_0).toLoadRect f

theorem wr1 {A : Memref sig .tc .vmem S1x1024 .f32} (f : BufTy.Contents (Elt F) A.view.ty) (w : S1x1024.Idx → Elt F .f32) (L) :
    rd1 A (A.view.writes (Elt F) f (⟨Rect.unit (s := S1x1024) ![0, 0] S1x1024.size inb_S1x1024_S1x1024_0_0, w⟩ :: L)) = w :=
  View.readAt_writes_full A.view f _ _ w L
theorem wr144 {A : Memref sig .tc .vmem S144x1024 .f32} (f : BufTy.Contents (Elt F) A.view.ty) (w : S144x1024.Idx → Elt F .f32) (L) :
    rd144 A (A.view.writes (Elt F) f (⟨Rect.unit (s := S144x1024) ![0, 0] S144x1024.size inb_S144x1024_S144x1024_0_0, w⟩ :: L)) = w :=
  View.readAt_writes_full A.view f _ _ w L

/-- A scratch row's contents under a name of their own. -/
theorem named1 (A : Memref sig .tc .vmem S1x1024 .f32) (f : BufTy.Contents (Elt F) A.view.ty) :
    pt c A f ⊢ iprop(∃ g, pt c A g ∗ ⌜rd1 A g = rd1 A f⌝) := by
  iintro H; iexists f; isplitl [H]
  · iexact H
  · ipureintro; rfl
/-- The accumulator's contents under a name of their own. -/
theorem named144 (A : Memref sig .tc .vmem S144x1024 .f32) (f : BufTy.Contents (Elt F) A.view.ty) :
    pt c A f ⊢ iprop(∃ g, pt c A g ∗ ⌜rd144 A g = rd144 A f⌝) := by
  iintro H; iexists f; isplitl [H]
  · iexact H
  · ipureintro; rfl

/-- The scratch values the four scratch buffers hold. -/
abbrev stOf (f10 : BufTy.Contents (Elt F) arg10.view.ty) (f11 : BufTy.Contents (Elt F) arg11.view.ty)
    (f12 : BufTy.Contents (Elt F) arg12.view.ty) (f13 : BufTy.Contents (Elt F) arg13.view.ty) : St F :=
  ⟨rd1 arg10 f10, rd144 arg11 f11, rd1 arg12 f12, rd1 arg13 f13⟩

/-- The buffers a walk touches: keys and values as they are, the scratch at `s`. -/
abbrev walkAt (X4 : BufTy.Contents (Elt F) arg4.view.ty) (X5 : BufTy.Contents (Elt F) arg5.view.ty) (s : St F) : sProp 𝕄G :=
  iprop(pt c arg4 X4 ∗ pt c arg5 X5 ∗ ∃ f10 f11 f12 f13, pt c arg10 f10 ∗ pt c arg11 f11 ∗ pt c arg12 f12 ∗ pt c arg13 f13
    ∗ ⌜stOf arg10 arg11 arg12 arg13 f10 f11 f12 f13 = s⌝)

/-- A trip of the loop over groups of four tiles. -/
theorem run1 (k : Fin (k0_t1_loop i).trips) (X4 : BufTy.Contents (Elt F) arg4.view.ty) (X5 : BufTy.Contents (Elt F) arg5.view.ty) (s : St F) :
    walkAt c arg4 arg5 arg10 arg11 arg12 arg13 X4 X5 s
    ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg2 v17 c4_i32 v100 v105 v107 v109 k PUnit.unit)
      (fun _ => walkAt c arg4 arg5 arg10 arg11 arg12 arg13 X4 X5 (trip1 i v17 (arg4.view.read (Elt F) X4) (arg5.view.read (Elt F) X5) k s)) := by
  unfold k0_t1_body
  iintro ⟨H4, H5, ⟨%f10, %f11, %f12, %f13, H10, H11, H12, H13, %hs⟩⟩
  subst hs
  sl_exec
  sl_step
  isplitl [H4]
  · iexact H4
  isplitl [H5]
  · iexact H5
  iexists _, _, _, _
  isplitl [H10]
  · iexact H10
  isplitl [H11]
  · iexact H11
  isplitl [H12]
  · iexact H12
  isplitl [H13]
  · iexact H13
  ipureintro
  have e1 : (⟨run1.sl.v249 i arg4 arg10 v17 k X4 f10, run1.sl.v259 i arg4 arg5 arg10 arg11 v17 k X4 X5 f10 f11, run1.sl.v274 i arg4 arg10 arg12 v17 k X4 f10 f12, run1.sl.v280 i arg4 arg13 v17 k X4 f13⟩ : St F)
      = lag v17 (kt (arg4.view.read (Elt F) X4) (k0_off3 i k 0#32) (k0_off3_inb i k 0)) (vt (arg5.view.read (Elt F) X5) (k0_off4 i k 0#32) (k0_off4_inb i k 0)) (stOf arg10 arg11 arg12 arg13 f10 f11 f12 f13) :=
    St.ext' (View.readCov_full arg10.view _ _ _ _) (View.readCov_full arg11.view _ _ _ _) (View.readCov_full arg12.view _ _ _ _) (View.readCov_full arg13.view _ _ _ _)
  have e2 : (⟨run1.sl.v296 i arg4 arg10 v17 k X4 f10, run1.sl.v306 i arg4 arg5 arg10 arg11 v17 k X4 X5 f10 f11, run1.sl.v321 i arg4 arg10 arg12 v17 k X4 f10 f12, run1.sl.v327 i arg4 arg13 v17 k X4 f13⟩ : St F)
      = lag v17 (kt (arg4.view.read (Elt F) X4) (k0_off3 i k 1#32) (k0_off3_inb i k 1)) (vt (arg5.view.read (Elt F) X5) (k0_off4 i k 1#32) (k0_off4_inb i k 1)) (⟨run1.sl.v249 i arg4 arg10 v17 k X4 f10, run1.sl.v259 i arg4 arg5 arg10 arg11 v17 k X4 X5 f10 f11, run1.sl.v274 i arg4 arg10 arg12 v17 k X4 f10 f12, run1.sl.v280 i arg4 arg13 v17 k X4 f13⟩ : St F) :=
    St.ext' (View.readCov_full arg10.view _ _ _ _) (View.readCov_full arg11.view _ _ _ _) (View.readCov_full arg12.view _ _ _ _) (View.readCov_full arg13.view _ _ _ _)
  have e3 : (⟨run1.sl.v343 i arg4 arg10 v17 k X4 f10, run1.sl.v353 i arg4 arg5 arg10 arg11 v17 k X4 X5 f10 f11, run1.sl.v368 i arg4 arg10 arg12 v17 k X4 f10 f12, run1.sl.v374 i arg4 arg13 v17 k X4 f13⟩ : St F)
      = lag v17 (kt (arg4.view.read (Elt F) X4) (k0_off3 i k 2#32) (k0_off3_inb i k 2)) (vt (arg5.view.read (Elt F) X5) (k0_off4 i k 2#32) (k0_off4_inb i k 2)) (⟨run1.sl.v296 i arg4 arg10 v17 k X4 f10, run1.sl.v306 i arg4 arg5 arg10 arg11 v17 k X4 X5 f10 f11, run1.sl.v321 i arg4 arg10 arg12 v17 k X4 f10 f12, run1.sl.v327 i arg4 arg13 v17 k X4 f13⟩ : St F) :=
    St.ext' (View.readCov_full arg10.view _ _ _ _) (View.readCov_full arg11.view _ _ _ _) (View.readCov_full arg12.view _ _ _ _) (View.readCov_full arg13.view _ _ _ _)
  rw [stOf, wr1, wr144, wr1, wr1, trip1, ← e1, ← e2, ← e3]
  rfl

/-- A trip of the loop over the leftover tiles. -/
theorem run3 (k : Fin (k0_t3_loop i).trips) (X4 : BufTy.Contents (Elt F) arg4.view.ty) (X5 : BufTy.Contents (Elt F) arg5.view.ty) (s : St F) :
    walkAt c arg4 arg5 arg10 arg11 arg12 arg13 X4 X5 s
    ⊢ wp frame (wpE (defs₀ (F := F)) 𝒱 (c : Thread nD τ) bd) E (k0_t3_body (F := F) i arg3 harg3 arg4 harg4 arg5 harg5 arg6 harg6 arg7 harg7 arg8 harg8 arg9 harg9 arg10 harg10 arg11 harg11 arg12 harg12 arg13 harg13 arg2 v17 c4_i32 v100 v105 v107 v109 v132 k PUnit.unit)
      (fun _ => walkAt c arg4 arg5 arg10 arg11 arg12 arg13 X4 X5 (trip3 i v17 (arg4.view.read (Elt F) X4) (arg5.view.read (Elt F) X5) k s)) := by
  unfold k0_t3_body
  iintro ⟨H4, H5, ⟨%f10, %f11, %f12, %f13, H10, H11, H12, H13, %hs⟩⟩
  subst hs
  sl_exec
  sl_step
  isplitl [H4]
  · iexact H4
  isplitl [H5]
  · iexact H5
  iexists _, _, _, _
  isplitl [H10]
  · iexact H10
  isplitl [H11]
  · iexact H11
  isplitl [H12]
  · iexact H12
  isplitl [H13]
  · iexact H13
  ipureintro
  rw [stOf, wr1, wr144, wr1, wr1]
  rfl

/-- A trip of the exact walk's loop. -/
theorem run5 (k : Fin (k0_t5_loop i).trips) (X4 : BufTy.Contents (Elt F) arg4.view.ty) (X5 : BufTy.Contents (Elt F) arg5.view.ty) (s : St F) :
    walkAt c arg4 arg5 arg10 arg11 arg12 arg13 X4 X5 s
    ⊢ wp frame (wpE (defs₀ (F := F)) 𝒱 (c : Thread nD τ) bd) E (k0_t5_body (F := F) i arg3 harg3 arg4 harg4 arg5 harg5 arg6 harg6 arg7 harg7 arg8 harg8 arg9 harg9 arg10 harg10 arg11 harg11 arg12 harg12 arg13 harg13 arg2 v17 v143 k PUnit.unit)
      (fun _ => walkAt c arg4 arg5 arg10 arg11 arg12 arg13 X4 X5 (trip5 i v17 (arg4.view.read (Elt F) X4) (arg5.view.read (Elt F) X5) k s)) := by
  unfold k0_t5_body
  iintro ⟨H4, H5, ⟨%f10, %f11, %f12, %f13, H10, H11, H12, H13, %hs⟩⟩
  subst hs
  sl_exec
  sl_step
  isplitl [H4]
  · iexact H4
  isplitl [H5]
  · iexact H5
  iexists _, _, _, _
  isplitl [H10]
  · iexact H10
  isplitl [H11]
  · iexact H11
  isplitl [H12]
  · iexact H12
  isplitl [H13]
  · iexact H13
  ipureintro
  rw [stOf, wr1, wr144]
  rfl

set_option warn.classDefReducibility false in
/-- The loop of `run1`: before trip `k` the scratch is at the first `k` trips of what it was entered with. -/
def loop1 (X4 : BufTy.Contents (Elt F) arg4.view.ty) (X5 : BufTy.Contents (Elt F) arg5.view.ty) (s : St F) :
    Idealize.ShloMosaic.LoopInv (M := 𝕄G) Idealize.ShloMosaic.frame (wpE (defs₀ (F := F)) 𝒱 (c : Thread nD τ) bd) E
    (k0_t1_loop i).lb (k0_t1_loop i).ub (k0_t1_loop i).st (k0_t1_ok i) () (k0_t1_body (F := F) i arg3 harg3 arg4 harg4 arg5 harg5 arg6 harg6 arg7 harg7 arg8 harg8 arg9 harg9 arg10 harg10 arg11 harg11 arg12 harg12 arg13 harg13 arg2 v17 c4_i32 v100 v105 v107 v109) where
  inv k _ := walkAt c arg4 arg5 arg10 arg11 arg12 arg13 X4 X5 (iter (trip1 i v17 (arg4.view.read (Elt F) X4) (arg5.view.read (Elt F) X5)) k s)
  step k _ := by
    rw [iter_succ]
    exact run1 𝒱 c bd E i arg3 harg3 arg4 harg4 arg5 harg5 arg6 harg6 arg7 harg7 arg8 harg8 arg9 harg9 arg10 harg10 arg11 harg11 arg12 harg12 arg13 harg13 arg2 v17 c4_i32 v100 v105 v107 v109 k X4 X5 _

set_option warn.classDefReducibility false in
/-- The loop of `run3`: before trip `k` the scratch is at the first `k` trips of what it was entered with. -/
def loop3 (X4 : BufTy.Contents (Elt F) arg4.view.ty) (X5 : BufTy.Contents (Elt F) arg5.view.ty) (s : St F) :
    Idealize.ShloMosaic.LoopInv (M := 𝕄G) Idealize.ShloMosaic.frame (wpE (defs₀ (F := F)) 𝒱 (c : Thread nD τ) bd) E
    (k0_t3_loop i).lb (k0_t3_loop i).ub (k0_t3_loop i).st (k0_t3_ok i) () (k0_t3_body (F := F) i arg3 harg3 arg4 harg4 arg5 harg5 arg6 harg6 arg7 harg7 arg8 harg8 arg9 harg9 arg10 harg10 arg11 harg11 arg12 harg12 arg13 harg13 arg2 v17 c4_i32 v100 v105 v107 v109 v132) where
  inv k _ := walkAt c arg4 arg5 arg10 arg11 arg12 arg13 X4 X5 (iter (trip3 i v17 (arg4.view.read (Elt F) X4) (arg5.view.read (Elt F) X5)) k s)
  step k _ := by
    rw [iter_succ]
    exact run3 𝒱 c bd E i arg3 harg3 arg4 harg4 arg5 harg5 arg6 harg6 arg7 harg7 arg8 harg8 arg9 harg9 arg10 harg10 arg11 harg11 arg12 harg12 arg13 harg13 arg2 v17 c4_i32 v100 v105 v107 v109 v132 k X4 X5 _

set_option warn.classDefReducibility false in
/-- The loop of `run5`: before trip `k` the scratch is at the first `k` trips of what it was entered with. -/
def loop5 (X4 : BufTy.Contents (Elt F) arg4.view.ty) (X5 : BufTy.Contents (Elt F) arg5.view.ty) (s : St F) :
    Idealize.ShloMosaic.LoopInv (M := 𝕄G) Idealize.ShloMosaic.frame (wpE (defs₀ (F := F)) 𝒱 (c : Thread nD τ) bd) E
    (k0_t5_loop i).lb (k0_t5_loop i).ub (k0_t5_loop i).st (k0_t5_ok i) () (k0_t5_body (F := F) i arg3 harg3 arg4 harg4 arg5 harg5 arg6 harg6 arg7 harg7 arg8 harg8 arg9 harg9 arg10 harg10 arg11 harg11 arg12 harg12 arg13 harg13 arg2 v17 v143) where
  inv k _ := walkAt c arg4 arg5 arg10 arg11 arg12 arg13 X4 X5 (iter (trip5 i v17 (arg4.view.read (Elt F) X4) (arg5.view.read (Elt F) X5)) k s)
  step k _ := by
    rw [iter_succ]
    exact run5 𝒱 c bd E i arg3 harg3 arg4 harg4 arg5 harg5 arg6 harg6 arg7 harg7 arg8 harg8 arg9 harg9 arg10 harg10 arg11 harg11 arg12 harg12 arg13 harg13 arg2 v17 v143 k X4 X5 _

end Cert.KernelIdeal.Hand

end
-- ==== Proof.AttnIdeal.Body.lean ====
/-
  The attention call's body, run at a grid point: it leaves its six blocks of the arguments as they are and writes
  `bodyOut` of them into its block of the result.
-/
module

public import proofs.«01_k».proof.Proof.AttnIdeal.Trips

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (𝒱 : Variants) (c : Dev nD) (bd : Option 𝒱.V) (E : Set ℕ) (i : grid0.Coords)
  (arg3 : Memref sig .tc .vmem S1x512x128 .f32) (harg3 : arg3.IsWhole) (arg4 : Memref sig .tc .vmem S1x8192x128 .bf16) (harg4 : arg4.IsWhole) (arg5 : Memref sig .tc .vmem S1x16x128x512 .bf16) (harg5 : arg5.IsWhole) (arg6 : Memref sig .tc .vmem S2x64 .f32) (harg6 : arg6.IsWhole) (arg7 : Memref sig .tc .vmem S2x64 .f32) (harg7 : arg7.IsWhole) (arg8 : Memref sig .tc .vmem S128x1 .f32) (harg8 : arg8.IsWhole) (arg9 : Memref sig .tc .vmem S1x512x128 .bf16) (harg9 : arg9.IsWhole) (arg10 : Memref sig .tc .vmem S1x1024 .f32) (harg10 : arg10.IsWhole) (arg11 : Memref sig .tc .vmem S144x1024 .f32) (harg11 : arg11.IsWhole) (arg12 : Memref sig .tc .vmem S1x1024 .f32) (harg12 : arg12.IsWhole) (arg13 : Memref sig .tc .vmem S1x1024 .f32) (harg13 : arg13.IsWhole)

/-- The block a grid point stores, from the loads before the store. -/
theorem out_eq (X6 : BufTy.Contents (Elt F) arg6.view.ty) (X7 : BufTy.Contents (Elt F) arg7.view.ty) (X8 : BufTy.Contents (Elt F) arg8.view.ty)
    (f11 : BufTy.Contents (Elt F) arg11.view.ty) :
    k0_pay1 (k0_pay115
        (arg6.view.readAt (Elt F) (Rect.unit (s := S2x64) ![0, 0] S2x64.size inb_S2x64_S2x64_0_0).toLoadRect X6)
        (arg7.view.readAt (Elt F) (Rect.unit (s := S2x64) ![0, 0] S2x64.size inb_S2x64_S2x64_0_0).toLoadRect X7)
        (arg11.view.readAt (Elt F) (Rect.unit (s := S144x1024) ![0, 0] S128x1024.size inb_S144x1024_S128x1024_0_0).toLoadRect f11)
        (arg11.view.readAt (Elt F) (Rect.unit (s := S144x1024) ![128, 0] S1x1024.size inb_S144x1024_S1x1024_128_0).toLoadRect f11))
        (arg8.view.readAt (Elt F) (Rect.unit (s := S128x1) ![0, 0] S128x1.size inb_S128x1_S128x1_0_0).toLoadRect X8)
      = k0_pay1 (k0_pay115 (arg6.view.read (Elt F) X6) (arg7.view.read (Elt F) X7) (accRows (rd144 arg11 f11)) (accNorm (rd144 arg11 f11)))
          (arg8.view.read (Elt F) X8) := by
  have h6 : arg6.view.readAt (Elt F) (Rect.unit (s := S2x64) ![0, 0] S2x64.size inb_S2x64_S2x64_0_0).toLoadRect X6 = arg6.view.read (Elt F) X6 :=
    View.readAt_full arg6.view X6 _
  have h7 : arg7.view.readAt (Elt F) (Rect.unit (s := S2x64) ![0, 0] S2x64.size inb_S2x64_S2x64_0_0).toLoadRect X7 = arg7.view.read (Elt F) X7 :=
    View.readAt_full arg7.view X7 _
  have h8 : arg8.view.readAt (Elt F) (Rect.unit (s := S128x1) ![0, 0] S128x1.size inb_S128x1_S128x1_0_0).toLoadRect X8 = arg8.view.read (Elt F) X8 :=
    View.readAt_full arg8.view X8 _
  have h11 : rd144 arg11 f11 = arg11.view.read (Elt F) f11 := View.readAt_full arg11.view f11 _
  rw [h6, h7, h8, h11]
  rfl

theorem run_body (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (X8 : BufTy.Contents (Elt F) arg8.view.ty)
    (f9 : BufTy.Contents (Elt F) arg9.view.ty)
    (f10 : BufTy.Contents (Elt F) arg10.view.ty) (f11 : BufTy.Contents (Elt F) arg11.view.ty)
    (f12 : BufTy.Contents (Elt F) arg12.view.ty) (f13 : BufTy.Contents (Elt F) arg13.view.ty) :
    iprop(pt c arg3 X3 ∗ pt c arg4 X4 ∗ pt c arg5 X5 ∗ pt c arg6 X6 ∗ pt c arg7 X7 ∗ pt c arg8 X8 ∗ pt c arg9 f9
      ∗ pt c arg10 f10 ∗ pt c arg11 f11 ∗ pt c arg12 f12 ∗ pt c arg13 f13)
    ⊢ wp frame (wpE (defs₀ (F := F)) 𝒱 (c : Thread nD τ) bd) E (cc0_diff_attn_prompt (F := F) i arg3 harg3 arg4 harg4 arg5 harg5 arg6 harg6 arg7 harg7 arg8 harg8 arg9 harg9 arg10 harg10 arg11 harg11 arg12 harg12 arg13 harg13)
      (fun _ => iprop(pt c arg3 X3 ∗ pt c arg4 X4 ∗ pt c arg5 X5 ∗ pt c arg6 X6 ∗ pt c arg7 X7 ∗ pt c arg8 X8 ∗ ∃ g9, pt c arg9 g9 ∗
        ∃ g10 g11 g12 g13, pt c arg10 g10 ∗ pt c arg11 g11 ∗ pt c arg12 g12 ∗ pt c arg13 g13
        ∗ ⌜arg9.view.read (Elt F) g9 = bodyOut i (arg3.view.read (Elt F) X3) (arg4.view.read (Elt F) X4) (arg5.view.read (Elt F) X5)
            (arg6.view.read (Elt F) X6) (arg7.view.read (Elt F) X7) (arg8.view.read (Elt F) X8)⌝)) := by
  unfold cc0_diff_attn_prompt
  iintro ⟨H3, H4, H5, H6, H7, H8, H9, H10, H11, H12, H13⟩
  sl_exec
  ihave H10 := (named1 c arg10 _) $$ H10
  icases H10 with ⟨%g10, H10, %eg10⟩
  ihave H11 := (named144 c arg11 _) $$ H11
  icases H11 with ⟨%g11, H11, %eg11⟩
  ihave H12 := (named1 c arg12 _) $$ H12
  icases H12 with ⟨%g12, H12, %eg12⟩
  ihave H13 := (named1 c arg13 _) $$ H13
  icases H13 with ⟨%g13, H13, %eg13⟩
  let L1 := fun q => loop1 𝒱 c bd E i arg3 harg3 arg4 harg4 arg5 harg5 arg6 harg6 arg7 harg7 arg8 harg8 arg9 harg9 arg10 harg10 arg11 harg11 arg12 harg12 arg13 harg13 0#32 q 0#32 0#32 0#32 0#32 0#32 X4 X5 (stOf arg10 arg11 arg12 arg13 g10 g11 g12 g13)
  sl_exec
  rename' f10L0 => l10, f11L1 => l11, f12L2 => l12, f13L3 => l13, hL6 => hl
  ihave H10 := (named1 c arg10 _) $$ H10
  icases H10 with ⟨%h10, H10, %eh10⟩
  ihave H11 := (named144 c arg11 _) $$ H11
  icases H11 with ⟨%h11, H11, %eh11⟩
  ihave H12 := (named1 c arg12 _) $$ H12
  icases H12 with ⟨%h12, H12, %eh12⟩
  ihave H13 := (named1 c arg13 _) $$ H13
  icases H13 with ⟨%h13, H13, %eh13⟩
  let L3 := fun q => loop3 𝒱 c bd E i arg3 harg3 arg4 harg4 arg5 harg5 arg6 harg6 arg7 harg7 arg8 harg8 arg9 harg9 arg10 harg10 arg11 harg11 arg12 harg12 arg13 harg13 0#32 q 0#32 0#32 0#32 0#32 0#32 0#32 X4 X5 (stOf arg10 arg11 arg12 arg13 h10 h11 h12 h13)
  sl_exec
  rename' f10L0 => p10, f11L1 => p11, f12L2 => p12, f13L3 => p13, hL6 => hp
  have hq : run_body.sl.r arg3 X3 = k0_pay78 (arg3.view.read (Elt F) X3) :=
    congrArg k0_pay78 (View.readAt_full arg3.view X3 inb_S1x512x128_S1x512x128_0_0_0)
  have e0 : (⟨run_body.sl.v61 arg10, run_body.sl.v71 arg11, run_body.sl.v86 arg12, run_body.sl.v92 arg13⟩ : St F) = lagInit :=
    St.ext' (View.readCov_full arg10.view _ _ _ _) (View.readCov_full arg11.view _ _ _ _) (View.readCov_full arg12.view _ _ _ _) (View.readCov_full arg13.view _ _ _ _)
  have eG : (stOf arg10 arg11 arg12 arg13 g10 g11 g12 g13) = lagDiag (run_body.sl.r arg3 X3) (kt (arg4.view.read (Elt F) X4) (k0_off1 i) (k0_off1_inb i)) (vt (arg5.view.read (Elt F) X5) (k0_off2 i) (k0_off2_inb i)) lagInit := by
    rw [← e0]
    exact St.ext' (eg10.trans (View.readAt_writes_full arg10.view _ _ _ _ _)) (eg11.trans (View.readAt_writes_full arg11.view _ _ _ _ _))
      (eg12.trans (View.readAt_writes_full arg12.view _ _ _ _ _)) (eg13.trans (View.readAt_writes_full arg13.view _ _ _ _ _))
  have eH : (stOf arg10 arg11 arg12 arg13 h10 h11 h12 h13) = (stOf arg10 arg11 arg12 arg13 l10 l11 l12 l13) := St.ext' eh10 eh11 eh12 eh13
  have eL : (stOf arg10 arg11 arg12 arg13 p10 p11 p12 p13) = lagged i (run_body.sl.r arg3 X3) (arg4.view.read (Elt F) X4) (arg5.view.read (Elt F) X5) := by
    rw [hp, eH, hl, eG]; rfl
  by_cases hb : run_body.sl.v152 arg12 arg13 p12 p13 = 1#1
  · sl_exec
    ihave H10 := (named1 c arg10 _) $$ H10
    icases H10 with ⟨%n10, H10, %en10⟩
    ihave H11 := (named144 c arg11 _) $$ H11
    icases H11 with ⟨%n11, H11, %en11⟩
    ihave H12 := (named1 c arg12 _) $$ H12
    icases H12 with ⟨%n12, H12, %en12⟩
    ihave H13 := (named1 c arg13 _) $$ H13
    icases H13 with ⟨%n13, H13, %en13⟩
    let L5 := fun q => loop5 𝒱 c bd E i arg3 harg3 arg4 harg4 arg5 harg5 arg6 harg6 arg7 harg7 arg8 harg8 arg9 harg9 arg10 harg10 arg11 harg11 arg12 harg12 arg13 harg13 0#32 q 0#1 X4 X5 (stOf arg10 arg11 arg12 arg13 n10 n11 n12 n13)
    sl_exec
    rename' f10L0 => r10, f11L1 => r11, f12L2 => r12, f13L3 => r13, hL6 => hr
    have e1 : ((⟨run_body.sl.v229 arg10, run_body.sl.v239 arg11, rd1 arg12 p12, rd1 arg13 p13⟩ : St F))
        = { (stOf arg10 arg11 arg12 arg13 p10 p11 p12 p13) with M := k0_pay74, A := k0_pay75 } :=
      St.ext' (View.readCov_full arg10.view _ _ _ _) (View.readCov_full arg11.view _ _ _ _) rfl rfl
    have eN : (stOf arg10 arg11 arg12 arg13 n10 n11 n12 n13) = exDiag (run_body.sl.r arg3 X3) (kt (arg4.view.read (Elt F) X4) (k0_off11 i) (k0_off11_inb i)) (vt (arg5.view.read (Elt F) X5) (k0_off12 i) (k0_off12_inb i)) { (stOf arg10 arg11 arg12 arg13 p10 p11 p12 p13) with M := k0_pay74, A := k0_pay75 } := by
      rw [← e1]
      exact St.ext' (en10.trans (View.readAt_writes_full arg10.view _ _ _ _ _)) (en11.trans (View.readAt_writes_full arg11.view _ _ _ _ _)) en12 en13
    have eW : (stOf arg10 arg11 arg12 arg13 r10 r11 r12 r13) = walked i (k0_pay78 (arg3.view.read (Elt F) X3)) (arg4.view.read (Elt F) X4) (arg5.view.read (Elt F) X5) := by
      rw [walked, ← hq, ← eL, hr, eN]; exact (if_pos hb).symm
    have eA := congrArg St.A eW
    sl_step
    isplitl [H3]
    · iexact H3
    isplitl [H4]
    · iexact H4
    isplitl [H5]
    · iexact H5
    isplitl [H6]
    · iexact H6
    isplitl [H7]
    · iexact H7
    isplitl [H8]
    · iexact H8
    iexists _
    isplitl [H9]
    · iexact H9
    iexists _, _, _, _
    isplitl [H10]
    · iexact H10
    isplitl [H11]
    · iexact H11
    isplitl [H12]
    · iexact H12
    isplitl [H13]
    · iexact H13
    ipureintro
    refine (View.read_writes_full arg9.view _ _ _ _).trans ?_
    rw [bodyOut, ← eA]
    exact out_eq arg6 arg7 arg8 arg11 X6 X7 X8 r11
  · sl_exec
    have eW : (stOf arg10 arg11 arg12 arg13 p10 p11 p12 p13) = walked i (k0_pay78 (arg3.view.read (Elt F) X3)) (arg4.view.read (Elt F) X4) (arg5.view.read (Elt F) X5) := by
      rw [walked, ← hq, ← eL]; exact (if_neg hb).symm
    have eA := congrArg St.A eW
    sl_step
    isplitl [H3]
    · iexact H3
    isplitl [H4]
    · iexact H4
    isplitl [H5]
    · iexact H5
    isplitl [H6]
    · iexact H6
    isplitl [H7]
    · iexact H7
    isplitl [H8]
    · iexact H8
    iexists _
    isplitl [H9]
    · iexact H9
    iexists _, _, _, _
    isplitl [H10]
    · iexact H10
    isplitl [H11]
    · iexact H11
    isplitl [H12]
    · iexact H12
    isplitl [H13]
    · iexact H13
    ipureintro
    refine (View.read_writes_full arg9.view _ _ _ _).trans ?_
    rw [bodyOut, ← eA]
    exact out_eq arg6 arg7 arg8 arg11 X6 X7 X8 p11

end Cert.KernelIdeal.Hand

end
-- ==== Proof.AttnIdeal.Frame.lean ====
/-
  The attention call's run: its body obligation at every grid point, the launch, and the frame it leaves.
-/
module

public import proofs.«01_k».proof.Proof.AttnIdeal.Body
public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.FrameBody
public import Idealize.ShloMosaic.Lib.Claim
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The block of the result written at point `t`. -/
def oblk (c : Dev nD) (t : Fin cfg0.N) : Vec F S1x512x128 .bf16 :=
  bodyOut (grid0.coords t) (iblk m c 0 t) (iblk m c 1 t) (iblk m c 2 t) (iblk m c 3 t) (iblk m c 4 t) (iblk m c 5 t)

/-- The proof data: inputs keep their blocks, the result's buffer holds `oblk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oblk m c t
  Φ _ := Pipeline.ΦA spec0 c
  q _ := fullShare
  owed _ := 0
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = oblk m c t := by dsimp only [dats]
theorem before_0 (c : Dev nD) (t : Fin cfg0.N) (d) : (dats m 0 c).before 0 t d = iblk m c 0 t :=
  before0_0_of m (dats m 0 c) rfl (after_0 m c) t d
theorem before_1 (c : Dev nD) (t : Fin cfg0.N) (d) : (dats m 0 c).before 1 t d = iblk m c 1 t :=
  before0_1_of m (dats m 0 c) rfl (after_1 m c) t d
theorem before_2 (c : Dev nD) (t : Fin cfg0.N) (d) : (dats m 0 c).before 2 t d = iblk m c 2 t :=
  before0_2_of m (dats m 0 c) rfl (after_2 m c) t d
theorem before_3 (c : Dev nD) (t : Fin cfg0.N) (d) : (dats m 0 c).before 3 t d = iblk m c 3 t :=
  before0_3_of m (dats m 0 c) rfl (after_3 m c) t d
theorem before_4 (c : Dev nD) (t : Fin cfg0.N) (d) : (dats m 0 c).before 4 t d = iblk m c 4 t :=
  before0_4_of m (dats m 0 c) rfl (after_4 m c) t d
theorem before_5 (c : Dev nD) (t : Fin cfg0.N) (d) : (dats m 0 c).before 5 t d = iblk m c 5 t :=
  before0_5_of m (dats m 0 c) rfl (after_5 m c) t d

theorem scr0 (c : Dev nD) (f : Buf (Elt F) ((c : Thread nD τ).loc cc0_scratch0)) :
    ((((c : Thread nD τ).loc cc0_scratch0) ↦{fullShare} f) : sProp 𝕄G) = pt c (Memref.whole cc0_scratch0) f := by
  unfold pt; rw [show (Memref.whole cc0_scratch0).view.set = Finset.univ from View.set_whole _]
theorem scr1 (c : Dev nD) (f : Buf (Elt F) ((c : Thread nD τ).loc cc0_scratch1)) :
    ((((c : Thread nD τ).loc cc0_scratch1) ↦{fullShare} f) : sProp 𝕄G) = pt c (Memref.whole cc0_scratch1) f := by
  unfold pt; rw [show (Memref.whole cc0_scratch1).view.set = Finset.univ from View.set_whole _]
theorem scr2 (c : Dev nD) (f : Buf (Elt F) ((c : Thread nD τ).loc cc0_scratch2)) :
    ((((c : Thread nD τ).loc cc0_scratch2) ↦{fullShare} f) : sProp 𝕄G) = pt c (Memref.whole cc0_scratch2) f := by
  unfold pt; rw [show (Memref.whole cc0_scratch2).view.set = Finset.univ from View.set_whole _]
theorem scr3 (c : Dev nD) (f : Buf (Elt F) ((c : Thread nD τ).loc cc0_scratch3)) :
    ((((c : Thread nD τ).loc cc0_scratch3) ↦{fullShare} f) : sProp 𝕄G) = pt c (Memref.whole cc0_scratch3) f := by
  unfold pt; rw [show (Memref.whole cc0_scratch3).view.set = Finset.univ from View.set_whole _]

/-- What the body is given at point `t`. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body leaves at point `t`. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6]
  unfold Pipeline.ΦA owns
  rw [scopedRest0_eq]
  iintro ⟨⟨⟨⟨%f10, H10⟩, ⟨%f11, H11⟩, ⟨%f12, H12⟩, ⟨%f13, H13⟩⟩, Hp⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩⟩
  iapply wp_wand_r
  isplitr [Hp Ho]
  · iapply (run_body Variants.none c none Set.univ (grid0.coords t) _ _ _ _ _ _ _ _ _ _ _ _ _ _ _ _ _ _ _ _ _ _ f0 f1 f2 f3 f4 f5 f6 f10 f11 f12 f13)
    isplitl [H0]; · iexact H0
    isplitl [H1]; · iexact H1
    isplitl [H2]; · iexact H2
    isplitl [H3]; · iexact H3
    isplitl [H4]; · iexact H4
    isplitl [H5]; · iexact H5
    isplitl [H6]; · iexact H6
    rw [← scr0, ← scr1, ← scr2, ← scr3]
    isplitl [H10]; · iexact H10
    isplitl [H11]; · iexact H11
    isplitl [H12]; · iexact H12
    iexact H13
  · iintro %u ⟨H0, H1, H2, H3, H4, H5, %g6, H6, %g10, %g11, %g12, %g13, H10, H11, H12, H13, %e⟩
    isplitl [Hp H10 H11 H12 H13]
    · isplitl [H10 H11 H12 H13]
      · isplitl [H10]; · iexists g10; rw [scr0]; iexact H10
        isplitl [H11]; · iexists g11; rw [scr1]; iexact H11
        isplitl [H12]; · iexists g12; rw [scr2]; iexact H12
        iexists g13; rw [scr3]; iexact H13
      iexact Hp
    isplitl [Ho]; · iexact Ho
    isplitl [H0]
    · iexists f0; isplitr; · ipureintro; exact h0
      iexact H0
    isplitl [H1]
    · iexists f1; isplitr; · ipureintro; exact h1
      iexact H1
    isplitl [H2]
    · iexists f2; isplitr; · ipureintro; exact h2
      iexact H2
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    iexists g6; isplitr
    swap; · iexact H6
    ipureintro
    rw [e, h0, h1, h2, h3, h4, h5]; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array ends at what the blocks make of it, and every counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (fun _ _ => rfl) (run_main m ρ)) ((θ_run defs _ _).mono (fun _ h => h.2) (run_main_quiescent m ρ))

end Cert.KernelIdeal.Hand

end
-- ==== Proof.Attn.Claims.lean ====
/-
  The claims about the attention call other than its value: its frames, its reference's, and that its idealization
  names two constants at their values.
-/
module

public import proofs.«01_k».proof.Defs
public import proofs.«01_k».proof.Proof.Attn.Frame
public import proofs.«01_k».proof.Proof.AttnIdeal.Frame
public import proofs.«01_k».proof.Proof.Gen.ReferenceIdeal.Run

@[expose] public section

noncomputable section

namespace Cert.Attention

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

theorem frame_kernel : Cert.quiescent_Kernel := fun m ρ _ => Cert.Kernel.Hand.frame_run (F := Bits) m ρ

theorem frame_ideal : Cert.quiescent_KernelIdeal := fun m ρ _ => Cert.KernelIdeal.Hand.frame_run (F := Ideal) m ρ

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "scale" .f32 0x3E38AA3B#32 (((1 / 8) * (Real.log 2)⁻¹ : ℝ) : EReal) rfl,
    IdealRules.named_const.statement Cert.KernelIdeal.κ "mask" .f32 0xF149F2CA#32 ⊥ rfl⟩

end Cert.Attention

end
-- ==== Proof.AttnValue.Math.lean ====
/-
  Sums of powers of two under a running shift: the arithmetic by which an accumulator kept relative to a
  running maximum takes in one tile of scores.
-/
module

public import Idealize.ShloMosaic.PureOps.Ideal
public import Mathlib.Tactic.LinearCombination

@[expose] public section

noncomputable section

namespace Cert.Attention

open Idealize.ShloMosaic

/-- The largest of a list of scores. -/
def colMax {n : Nat} (s : Fin n → EReal) : EReal := Finset.fold max ⊥ s Finset.univ

/-- A score and its weight: a real score weighs its power of two, a masked one nothing. -/
def Weighs (s : EReal) (w : ℝ) : Prop := (∃ r : ℝ, s = r ∧ w = (2 : ℝ) ^ r) ∨ (s = ⊥ ∧ w = 0)

theorem Weighs.exp2_sub {s : EReal} {w : ℝ} (h : Weighs s w) (m : ℝ) :
    Ideal.exp2 (s - (m : EReal)) = ((w * (2 : ℝ) ^ (-m) : ℝ) : EReal) := by
  rcases h with ⟨r, rfl, rfl⟩ | ⟨rfl, rfl⟩
  · rw [← EReal.coe_sub, Ideal.exp2_coe, sub_eq_add_neg]
    exact congrArg Real.toEReal (Real.rpow_add two_pos r (-m))
  · rw [EReal.bot_sub, zero_mul]; rfl

theorem Weighs.ne_top {s : EReal} {w : ℝ} (h : Weighs s w) : s ≠ ⊤ := by
  rcases h with ⟨r, rfl, rfl⟩ | ⟨rfl, rfl⟩
  · exact EReal.coe_ne_top r
  · exact bot_ne_top

theorem exp2_real_sub (m m' : ℝ) : Ideal.exp2 ((m : EReal) - (m' : EReal)) = (((2 : ℝ) ^ m * (2 : ℝ) ^ (-m') : ℝ) : EReal) := by
  rw [← EReal.coe_sub, Ideal.exp2_coe, sub_eq_add_neg]
  exact congrArg Real.toEReal (Real.rpow_add two_pos m (-m'))

variable {n : Nat} (s : Fin n → EReal) (ve w : Fin n → ℝ) (N m m' : ℝ)

theorem coe_sum (f : Fin n → ℝ) : ∑ k, (f k : EReal) = ((∑ k, f k : ℝ) : EReal) :=
  (map_sum (⟨⟨Real.toEReal, EReal.coe_zero⟩, EReal.coe_add⟩ : ℝ →+ EReal) f Finset.univ).symm

theorem sum_exp2 (hs : ∀ k, Weighs (s k) (w k)) :
    ∑ k, (ve k : EReal) * Ideal.exp2 (s k - (m : EReal)) = (((∑ k, ve k * w k) * (2 : ℝ) ^ (-m) : ℝ) : EReal) := by
  rw [Finset.sum_mul, ← coe_sum]
  refine Finset.sum_congr rfl fun k _ => ?_
  rw [(hs k).exp2_sub, ← EReal.coe_mul, mul_assoc]

/-- One tile taken in relative to the maximum before it, then rescaled to the maximum after it. -/
theorem lagged_entry (hs : ∀ k, Weighs (s k) (w k)) (hb : ∀ k, s k - (m : EReal) ≤ ((64 : ℝ) : EReal)) :
    (((N * (2 : ℝ) ^ (-m) : ℝ) : EReal) + ∑ k, (ve k : EReal) * Ideal.exp2 (min (s k - (m : EReal)) ((64 : ℝ) : EReal)))
      * Ideal.exp2 ((m : EReal) - (m' : EReal)) = (((N + ∑ k, ve k * w k) * (2 : ℝ) ^ (-m') : ℝ) : EReal) := by
  simp only [min_eq_left (hb _)]
  rw [sum_exp2 s ve w m hs, exp2_real_sub, ← EReal.coe_add, ← EReal.coe_mul]
  congr 1
  have : (2 : ℝ) ^ (-m) * (2 : ℝ) ^ m = 1 := by rw [← Real.rpow_add two_pos]; simp
  linear_combination ((N + ∑ k, ve k * w k) * (2 : ℝ) ^ (-m')) * this

/-- One tile taken in relative to the maximum after it. -/
theorem exact_entry (hs : ∀ k, Weighs (s k) (w k)) :
    Ideal.exp2 ((m : EReal) - (m' : EReal)) * ((N * (2 : ℝ) ^ (-m) : ℝ) : EReal)
      + ∑ k, (ve k : EReal) * Ideal.exp2 (s k - (m' : EReal)) = (((N + ∑ k, ve k * w k) * (2 : ℝ) ^ (-m') : ℝ) : EReal) := by
  rw [sum_exp2 s ve w m' hs, exp2_real_sub, ← EReal.coe_mul, ← EReal.coe_add]
  congr 1
  have : (2 : ℝ) ^ (-m) * (2 : ℝ) ^ m = 1 := by rw [← Real.rpow_add two_pos]; simp
  linear_combination (N * (2 : ℝ) ^ (-m')) * this

/-- The first tile, taken in relative to its own maximum. -/
theorem exact_entry_first (hs : ∀ k, Weighs (s k) (w k)) :
    Ideal.exp2 (⊥ - (m' : EReal)) * 0
      + ∑ k, (ve k : EReal) * Ideal.exp2 (s k - (m' : EReal)) = (((∑ k, ve k * w k) * (2 : ℝ) ^ (-m') : ℝ) : EReal) := by
  rw [sum_exp2 s ve w m' hs, mul_zero, zero_add]

theorem le_colMax (k : Fin n) : s k ≤ colMax s := (Finset.le_fold_max _).2 (.inr ⟨k, Finset.mem_univ _, le_rfl⟩)

/-- The largest score is real when one of them is. -/
theorem colMax_real (hs : ∀ k, Weighs (s k) (w k)) (k₀ : Fin n) (r₀ : ℝ) (h₀ : s k₀ = r₀) : ∃ r : ℝ, colMax s = r := by
  have hb : colMax s ≠ ⊥ := fun h => by
    have := le_colMax s k₀
    rw [h, h₀] at this
    exact EReal.coe_ne_bot r₀ (le_bot_iff.1 this)
  have ht : colMax s ≠ ⊤ := ne_of_lt ((Finset.fold_max_lt _).2
    ⟨bot_lt_top, fun k _ => lt_top_iff_ne_top.2 (hs k).ne_top⟩)
  exact ⟨(colMax s).toReal, (EReal.coe_toReal ht hb).symm⟩

theorem max_real (a b : ℝ) : ∃ r : ℝ, max (a : EReal) (b : EReal) = r := by
  rcases le_total (a : EReal) (b : EReal) with h | h
  · exact ⟨b, max_eq_right h⟩
  · exact ⟨a, max_eq_left h⟩

/-- Scores are within 64 of a level when the largest of them is. -/
theorem bound_of_colMax (J : EReal) (hJ : max J (colMax s - (m : EReal)) ≤ ((64 : ℝ) : EReal)) (k : Fin n) :
    s k - (m : EReal) ≤ ((64 : ℝ) : EReal) :=
  (EReal.sub_le_sub (le_colMax s k) le_rfl).trans ((le_max_right _ _).trans hJ)

end Cert.Attention

end
-- ==== Proof.AttnValue.Read.lean ====
/-
  The attention call's block operations read at an index, over the extended reals.
-/
module

public import proofs.«01_k».proof.Proof.AttnIdeal.State
public import proofs.«01_k».proof.Proof.AttnValue.Math
public import Idealize.ShloMosaic.Lib.Pointwise
public import Idealize.ShloMosaic.Lib.WordCmp
public import Idealize.ShloMosaic.Lib.ValueLayout

@[expose] public section

set_option maxRecDepth 16384

noncomputable section

namespace Cert.KernelIdeal.Hand

open Cert.KernelIdeal Cert.KernelIdeal.Gen
open Idealize.ShloMosaic Cert.Attention

/-- The stacked left operand of the weighted sum: the values' rows, then rows of ones. -/
def stack (V : Vec Ideal S1x1x128x512 .bf16) (e : Fin 144) (k : Fin 512) : EReal :=
  if h : e.val < 128 then V (ix4 0 0 ⟨e.val, h⟩ k) else 1

theorem ofBits_neg_inf : Ideal.ofBits .f32 0xFF800000#32 = ⊥ := by simp [Ideal.ofBits, Ideal.ieee]
theorem ofBits_64 : Ideal.ofBits .f32 0x42800000#32 = ((64 : ℝ) : EReal) := by
  simp [Ideal.ofBits, Ideal.ieee]
  rw [← EReal.coe_mul]
  norm_num
theorem mask_eq : Named.named (F := Ideal) κ "mask" (φ := .f32) 0xF149F2CA#32 = (⊥ : EReal) :=
  IdealRules.named_const.ideal_named_scalar _ _ _ _ rfl
theorem scale_eq : Named.named (F := Ideal) κ "scale" (φ := .f32) 0x3E38AA3B#32 = (((1 / 8) * (Real.log 2)⁻¹ : ℝ) : EReal) :=
  IdealRules.named_const.ideal_named_scalar _ _ _ _ rfl

/-- The query of column `c`, as the word the mask compares with: `c` modulo 512. -/
theorem queryWord : ∀ c : Fin 1024,
    (Scalar.select
          (IntOp.andi
            (IntOp.xori
              (IntOp.cmpi CmpIPredicate.slt
                (IntOp.remsi ArithUnit.vector (BitVec.ofNat 32 c.val)
                  (Scalar.select (Scalar.cmpi CmpIPredicate.eq 512#32 0#32) 1#32 512#32))
                0#32)
              (Scalar.cmpi CmpIPredicate.slt (Scalar.select (Scalar.cmpi CmpIPredicate.eq 512#32 0#32) 1#32 512#32)
                0#32))
            (IntOp.cmpi CmpIPredicate.ne
              (IntOp.remsi ArithUnit.vector (BitVec.ofNat 32 c.val)
                (Scalar.select (Scalar.cmpi CmpIPredicate.eq 512#32 0#32) 1#32 512#32))
              0#32))
          (IntOp.addi
            (IntOp.remsi ArithUnit.vector (BitVec.ofNat 32 c.val)
              (Scalar.select (Scalar.cmpi CmpIPredicate.eq 512#32 0#32) 1#32 512#32))
            (Scalar.select (Scalar.cmpi CmpIPredicate.eq 512#32 0#32) 1#32 512#32))
          (IntOp.remsi ArithUnit.vector (BitVec.ofNat 32 c.val)
            (Scalar.select (Scalar.cmpi CmpIPredicate.eq 512#32 0#32) 1#32 512#32))) = BitVec.ofNat 32 (c.val % 512) := by
  decide +kernel

theorem select_sle {α : Type} (a b : Nat) (ha : a < 2 ^ 31) (hb : b < 2 ^ 31) (x y : α) :
    Scalar.select (IntOp.cmpi .sle (BitVec.ofNat 32 a) (BitVec.ofNat 32 b)) x y = if a ≤ b then x else y := by
  by_cases h : a ≤ b
  · rw [WordCmp.cmpi_sle_ofNat ha hb, if_pos h, decide_eq_true h]; rfl
  · rw [WordCmp.cmpi_sle_ofNat ha hb, if_neg h, decide_eq_false h]; rfl

variable (q : FVec Ideal S128x1024 .bf16) (K : Vec Ideal S1x512x128 .bf16) (V : Vec Ideal S1x1x128x512 .bf16)

/-- The score of key `k` of a tile and column `c`. -/
def sc (c : Fin 1024) (k : Fin 512) : EReal := ∑ d : Fin 128, K (ix3 0 k d) * q (ix2 d c)

/-- The same under the mask of the diagonal tile. -/
def scm (c : Fin 1024) (k : Fin 512) : EReal := if k.val ≤ c.val % 512 then sc q K c k else ⊥

theorem pay2_apply (k : Fin 512) (c : Fin 1024) : (k0_pay2 (F := Ideal) q K) (ix2 k c) = sc q K c k := by
  unfold k0_pay2
  pointwise [dot_S512x128_S128x1024_S512x1024_1_0_0_1_n_n]
  rfl

theorem pay107_apply (k : Fin 512) (c : Fin 1024) : (k0_pay107 (F := Ideal) q K) (ix2 k c) = sc q K c k := by
  unfold k0_pay107
  pointwise [dot_S512x128_S128x1024_S512x1024_1_0_0_1_n_n]
  rfl

theorem pay83_apply (k : Fin 512) (c : Fin 1024) : (k0_pay83 (F := Ideal) q K) (ix2 k c) = scm q K c k := by
  have h := pay2_apply q K k c
  unfold k0_pay2 at h
  unfold k0_pay83
  generalize matmul (F := Ideal) _ _ _ _ _ = s at *
  pointwise
  rw [queryWord, select_sle _ _ (by omega) (by omega), mask_eq, h]
  rfl

theorem pay76_apply (k : Fin 512) (c : Fin 1024) : (k0_pay76 (F := Ideal) q K) (ix2 k c) = scm q K c k := by
  have h := pay2_apply q K k c
  unfold k0_pay2 at h
  unfold k0_pay76
  generalize matmul (F := Ideal) _ _ _ _ _ = s at *
  pointwise
  rw [queryWord, select_sle _ _ (by omega) (by omega), mask_eq, h]
  rfl

theorem pay3_apply (c : Fin 1024) : (k0_pay3 (F := Ideal) q K) (ix2 0 c) = colMax (sc q K c) := by
  have h := fun k => pay2_apply q K k c
  unfold k0_pay3
  generalize k0_pay2 (F := Ideal) q K = s at *
  pointwise
  simp only [h, ofBits_neg_inf]
  rfl

theorem pay84_apply (c : Fin 1024) : (k0_pay84 (F := Ideal) q K) (ix2 0 c) = colMax (scm q K c) := by
  have h := fun k => pay83_apply q K k c
  unfold k0_pay84
  generalize k0_pay83 (F := Ideal) q K = s at *
  pointwise
  simp only [h, ofBits_neg_inf]
  rfl

theorem pay77_apply (c : Fin 1024) : (k0_pay77 (F := Ideal) q K) (ix2 0 c) = colMax (scm q K c) := by
  have h := fun k => pay76_apply q K k c
  unfold k0_pay77
  generalize k0_pay76 (F := Ideal) q K = s at *
  pointwise
  simp only [h, ofBits_neg_inf]
  rfl

variable (m J : Vec Ideal S1x1024 .f32) (A : Vec Ideal S144x1024 .f32)

theorem pay4_apply (c : Fin 1024) : (k0_pay4 (F := Ideal) q K m) (ix2 0 c) = max (m (ix2 0 c)) (colMax (sc q K c)) := by
  rw [← pay3_apply]
  unfold k0_pay4
  generalize k0_pay3 (F := Ideal) q K = s
  pointwise

theorem pay9_apply (c : Fin 1024) : (k0_pay9 (F := Ideal) m) (ix2 0 c) = m (ix2 0 c) := by
  unfold k0_pay9
  pointwise

theorem pay91_apply (c : Fin 1024) : (k0_pay91 (F := Ideal) m) (ix2 0 c) = m (ix2 0 c) := by
  unfold k0_pay91
  pointwise

theorem pay86_apply (c : Fin 1024) : (k0_pay86 (F := Ideal) q K m) (ix2 0 c) = max (m (ix2 0 c)) (colMax (scm q K c)) := by
  rw [← pay84_apply]
  unfold k0_pay86
  generalize k0_pay84 (F := Ideal) q K = s
  pointwise

theorem pay108_apply (c : Fin 1024) : (k0_pay108 (F := Ideal) q K m) (ix2 0 c) = max (m (ix2 0 c)) (colMax (sc q K c)) := by
  have h := fun k => pay107_apply q K k c
  unfold k0_pay108
  generalize k0_pay107 (F := Ideal) q K = s at *
  pointwise
  simp only [h, ofBits_neg_inf]
  rfl

theorem pay110_apply (c : Fin 1024) : (k0_pay110 (F := Ideal) q K m) (ix2 0 c) = max (m (ix2 0 c)) (colMax (sc q K c)) := by
  rw [← pay108_apply]
  unfold k0_pay110
  generalize k0_pay108 (F := Ideal) q K m = s
  pointwise

theorem pay106_apply (c : Fin 1024) : (k0_pay106 (F := Ideal) m (k0_pay77 q K)) (ix2 0 c) = max (m (ix2 0 c)) (colMax (scm q K c)) := by
  rw [← pay77_apply]
  unfold k0_pay106 k0_pay104
  generalize k0_pay77 (F := Ideal) q K = s
  pointwise

theorem pay5_apply (e : Fin 144) (c : Fin 1024) :
    (k0_pay5 (F := Ideal) q K m A V) (ix2 e c)
      = (A (ix2 e c) + ∑ k : Fin 512, stack V e k * Ideal.exp2 (min (sc q K c k - m (ix2 0 c)) ((64 : ℝ) : EReal)))
        * Ideal.exp2 (m (ix2 0 c) - max (m (ix2 0 c)) (colMax (sc q K c))) := by
  have h := fun k => pay2_apply q K k c
  have h4 := pay4_apply q K m c
  unfold k0_pay5
  generalize k0_pay4 (F := Ideal) q K m = m' at *
  generalize k0_pay2 (F := Ideal) q K = s at *
  pointwise [dot_S144x512_S512x1024_S144x1024_1_0_0_1_n_n]
  simp only [h, h4, ofBits_64]
  rfl

theorem pay88_apply (e : Fin 144) (c : Fin 1024) :
    (k0_pay88 (F := Ideal) m (k0_pay85 q K m) (k0_pay86 q K m) A k0_pay87 V) (ix2 e c)
      = (A (ix2 e c) + ∑ k : Fin 512, stack V e k * Ideal.exp2 (min (scm q K c k - m (ix2 0 c)) ((64 : ℝ) : EReal)))
        * Ideal.exp2 (m (ix2 0 c) - max (m (ix2 0 c)) (colMax (scm q K c))) := by
  have h := fun k => pay83_apply q K k c
  have h4 := pay86_apply q K m c
  unfold k0_pay88 k0_pay85 k0_pay87
  generalize k0_pay86 (F := Ideal) q K m = m' at *
  generalize k0_pay83 (F := Ideal) q K = s at *
  pointwise [dot_S144x512_S512x1024_S144x1024_1_0_0_1_n_n]
  simp only [h, h4, ofBits_64]
  rfl

theorem pay105_apply (e : Fin 144) (c : Fin 1024) :
    (k0_pay105 (F := Ideal) (k0_pay76 q K) m (k0_pay77 q K) A V) (ix2 e c)
      = Ideal.exp2 (m (ix2 0 c) - max (m (ix2 0 c)) (colMax (scm q K c))) * A (ix2 e c)
        + ∑ k : Fin 512, stack V e k * Ideal.exp2 (scm q K c k - max (m (ix2 0 c)) (colMax (scm q K c))) := by
  have h := fun k => pay76_apply q K k c
  have h4 := pay77_apply q K c
  unfold k0_pay105 k0_pay104
  generalize k0_pay77 (F := Ideal) q K = m' at *
  generalize k0_pay76 (F := Ideal) q K = s at *
  pointwise [dot_S144x512_S512x1024_S144x1024_1_0_0_1_n_n]
  simp only [h, h4]
  rfl

theorem pay109_apply (e : Fin 144) (c : Fin 1024) :
    (k0_pay109 (F := Ideal) q K m A V) (ix2 e c)
      = Ideal.exp2 (m (ix2 0 c) - max (m (ix2 0 c)) (colMax (sc q K c))) * A (ix2 e c)
        + ∑ k : Fin 512, stack V e k * Ideal.exp2 (sc q K c k - max (m (ix2 0 c)) (colMax (sc q K c))) := by
  have h := fun k => pay107_apply q K k c
  have h4 := pay108_apply q K m c
  unfold k0_pay109
  generalize k0_pay108 (F := Ideal) q K m = m' at *
  generalize k0_pay107 (F := Ideal) q K = s at *
  pointwise [dot_S144x512_S512x1024_S144x1024_1_0_0_1_n_n]
  simp only [h, h4]
  rfl

theorem pay76j_apply (c : Fin 1024) : (k0_pay7 (F := Ideal) (k0_pay6 q K m J)) (ix2 0 c) = max (J (ix2 0 c)) (colMax (sc q K c) - m (ix2 0 c)) := by
  rw [← pay3_apply]
  unfold k0_pay7 k0_pay6
  generalize k0_pay3 (F := Ideal) q K = s
  pointwise

theorem pay89_apply (c : Fin 1024) : (k0_pay89 (F := Ideal) m (k0_pay84 q K) J) (ix2 0 c) = max (J (ix2 0 c)) (colMax (scm q K c) - m (ix2 0 c)) := by
  rw [← pay84_apply]
  unfold k0_pay89
  generalize k0_pay84 (F := Ideal) q K = s
  pointwise

theorem pay79_apply (c : Fin 1024) : (k0_pay79 (F := Ideal)) (ix2 0 c) = 0 := by
  unfold k0_pay79
  pointwise
theorem pay80_apply (e : Fin 144) (c : Fin 1024) : (k0_pay80 (F := Ideal)) (ix2 e c) = 0 := by
  unfold k0_pay80
  pointwise
theorem pay74_apply (c : Fin 1024) : (k0_pay74 (F := Ideal)) (ix2 0 c) = ⊥ := by
  unfold k0_pay74
  pointwise
  exact mask_eq
theorem pay75_apply (e : Fin 144) (c : Fin 1024) : (k0_pay75 (F := Ideal)) (ix2 e c) = 0 := by
  unfold k0_pay75
  pointwise

end Cert.KernelIdeal.Hand
end
-- ==== Proof.AttnValue.Post.lean ====
/-
  The attention call's query block and its last steps read at an index, over the extended reals: the query
  block set twice side by side, and the difference of the two quotients, normalised and scaled.
-/
module

public import proofs.«01_k».proof.Proof.AttnValue.Read

@[expose] public section

set_option maxRecDepth 16384

noncomputable section

namespace Cert.KernelIdeal.Hand

open Cert.KernelIdeal Cert.KernelIdeal.Gen
open Idealize.ShloMosaic

/-- The largest entry of the row of jumps bounds each of them. -/
theorem le_pay102 (J : Vec Ideal S1x1024 .f32) (c : Fin 1024) : J (ix2 0 c) ≤ k0_pay102 (F := Ideal) J := by
  unfold k0_pay102
  pointwise
  exact (Finset.le_fold_max _).2 (.inr ⟨(0, c), Finset.mem_univ _, le_rfl⟩)

theorem query_select (f : Fin 512 → EReal) (z : EReal) (d : Fin 128) (c : Fin 1024) (h1 : c.val < 512 → c.val < 512)
    (h2 : ¬ c.val < 512 → c.val - 512 < 512) :
    (if h : c.val < 512 then Scalar.select (IntOp.cmpi CmpIPredicate.slt (BitVec.ofNat 32 d.val) 64#32) (f ⟨c.val, h1 h⟩ * z) 0
      else Scalar.select (IntOp.cmpi CmpIPredicate.sge (BitVec.ofNat 32 d.val) 64#32) (f ⟨c.val - 512, h2 h⟩ * z) 0)
      = if (d.val < 64 ↔ c.val < 512) then f ⟨c.val % 512, by omega⟩ * z else 0 := by
  have e1 : IntOp.cmpi CmpIPredicate.slt (BitVec.ofNat 32 d.val) 64#32 = BitVec.ofBool (decide (d.val < 64)) :=
    WordCmp.cmpi_slt_ofNat (by omega) (by omega)
  have e2 : IntOp.cmpi CmpIPredicate.sge (BitVec.ofNat 32 d.val) 64#32 = BitVec.ofBool (decide (64 ≤ d.val)) :=
    WordCmp.cmpi_sge_ofNat (by omega) (by omega)
  rw [e1, e2]
  by_cases hc : c.val < 512
  · have e : (⟨c.val, h1 hc⟩ : Fin 512) = ⟨c.val % 512, by omega⟩ := Fin.ext (Nat.mod_eq_of_lt hc).symm
    rw [dif_pos hc, e]
    by_cases hd : d.val < 64
    · rw [decide_eq_true hd, if_pos ⟨fun _ => hc, fun _ => hd⟩]; rfl
    · rw [decide_eq_false hd, if_neg fun h => hd (h.2 hc)]; rfl
  · have e : (⟨c.val - 512, h2 hc⟩ : Fin 512) = ⟨c.val % 512, by omega⟩ :=
      Fin.ext (by show c.val - 512 = c.val % 512; omega)
    rw [dif_neg hc, e]
    by_cases hd : d.val < 64
    · rw [decide_eq_false (show ¬ 64 ≤ d.val by omega), if_neg fun h => hc (h.1 hd)]; rfl
    · rw [decide_eq_true (show 64 ≤ d.val by omega), if_pos ⟨fun h => absurd h hd, fun h => absurd h hc⟩]; rfl

/-- The query block, columns below 512 holding the first 64 coordinates and those from 512 on the others. -/
theorem pay78_apply (x : Vec Ideal S1x512x128 .f32) (d : Fin 128) (c : Fin 1024) :
    (k0_pay78 (F := Ideal) x) (ix2 d c)
      = if (d.val < 64 ↔ c.val < 512) then x (ix3 0 ⟨c.val % 512, by omega⟩ d) * (((1 / 8) * (Real.log 2)⁻¹ : ℝ) : EReal) else 0 := by
  rw [← query_select (fun p => x (ix3 0 p d)) _ d c (fun h => h) (fun _ => by omega), ← scale_eq]
  unfold k0_pay78
  pointwise

/-- The coefficient of the second attention map. -/
def lam (lq lk : Vec Ideal S2x64 .f32) : EReal :=
  Ideal.exp (∑ d : Fin 64, lq (ix2 0 d) * lk (ix2 0 d)) - Ideal.exp (∑ d : Fin 64, lq (ix2 1 d) * lk (ix2 1 d))
    + Ideal.ofBits .f32 0x3EB60549#32

/-- A row divided by its root mean square over 128 entries. -/
def normed (o : Fin 128 → EReal) (e : Fin 128) : EReal :=
  o e * Ideal.rsqrt (Ideal.div (∑ x : Fin 128, o x * o x) (Ideal.ofBits .f32 0x43000000#32) + Ideal.ofBits .f32 0x3727C5AC#32)

/-- The difference of the two attention maps' values, from the accumulated rows and normalisers. -/
def diff (lq lk : Vec Ideal S2x64 .f32) (A : Vec Ideal S128x1024 .f32) (n : Vec Ideal S1x1024 .f32) (p : Fin 512) (e : Fin 128) : EReal :=
  Ideal.div (A (ix2 e ⟨p.val, by omega⟩)) (n (ix2 0 ⟨p.val, by omega⟩))
    - lam lq lk * Ideal.div (A (ix2 e ⟨512 + p.val, by omega⟩)) (n (ix2 0 ⟨512 + p.val, by omega⟩))

theorem pay115_apply (lq lk : Vec Ideal S2x64 .f32) (A : Vec Ideal S128x1024 .f32) (n : Vec Ideal S1x1024 .f32) (e : Fin 128) (p : Fin 512) :
    (k0_pay115 (F := Ideal) lq lk A n) (ix2 e p) = normed (diff lq lk A n p) e := by
  unfold k0_pay115
  pointwise
  rfl

theorem pay1_apply (y : FVec Ideal S128x512 .f32) (g : Vec Ideal S128x1 .f32) (e : Fin 128) (p : Fin 512) :
    (k0_pay1 (F := Ideal) y g) (ix3 0 p e) = y (ix2 e p) * g (ix2 e 0) * Ideal.ofBits .f32 0x3F24FD5C#32 := by
  unfold k0_pay1
  pointwise

theorem accRows_apply (A : FVec Ideal S144x1024 .f32) (e : Fin 128) (c : Fin 1024) :
    accRows (F := Ideal) A (ix2 e c) = A (ix2 ⟨e.val, by omega⟩ c) := by
  show A _ = A _
  refine congrArg A (funext fun a => Fin.ext ?_)
  revert a
  rw [Fin.forall_fin_two]
  constructor
  · show 0 + _ = _ ; simp
  · show 0 + _ = _ ; simp

theorem accNorm_apply (A : FVec Ideal S144x1024 .f32) (c : Fin 1024) :
    accNorm (F := Ideal) A (ix2 0 c) = A (ix2 128 c) := by
  show A _ = A _
  refine congrArg A (funext fun a => Fin.ext ?_)
  revert a
  rw [Fin.forall_fin_two]
  constructor
  · show 128 + _ = _ ; simp
  · show 0 + _ = _ ; simp

/-- A walk not to be redone has every jump at most 64. -/
theorem jump_le_of_not_redo (s : St Ideal) (h : ¬ redo s = 1#1) (c : Fin 1024) : s.J (ix2 0 c) ≤ ((64 : ℝ) : EReal) := by
  refine (le_pay102 s.J c).trans ?_
  by_contra hc
  apply h
  have : Scalar.cmpf (F := Ideal) .ogt (k0_pay102 s.J) (Scalar.ofBits .f32 0x42800000#32) = 1#1 := by
    show BitVec.ofBool (decide (Ideal.ofBits .f32 0x42800000#32 < k0_pay102 (F := Ideal) s.J)) = 1#1
    rw [ofBits_64, decide_eq_true (not_le.1 hc)]
    rfl
  unfold redo
  rw [this]
  generalize Scalar.cmpf (F := Ideal) _ _ _ = b
  revert b
  decide
end Cert.KernelIdeal.Hand
end
-- ==== Proof.AttnValue.Tile.lean ====
/-
  One key tile of each walk, on real data: what the accumulator stands for grows by the tile's weighted sum.
-/
module

public import proofs.«01_k».proof.Proof.AttnValue.Post

@[expose] public section

set_option maxRecDepth 16384

noncomputable section

namespace Cert.KernelIdeal.Hand

open Cert.KernelIdeal Cert.KernelIdeal.Gen
open Idealize.ShloMosaic Cert.Attention

/-- The scratch stands for the sums `N`: relative to a real maximum `m`, the accumulator holds `N · 2^(-m)`. -/
def Holds (s : St Ideal) (N : Fin 144 → Fin 1024 → ℝ) : Prop :=
  ∀ c, ∃ m : ℝ, s.M (ix2 0 c) = m ∧ ∀ e, s.A (ix2 e c) = ((N e c * (2 : ℝ) ^ (-m) : ℝ) : EReal)

section
variable (qr : Fin 128 → Fin 1024 → ℝ) (Kr : Fin 512 → Fin 128 → ℝ) (Vr : Fin 128 → Fin 512 → ℝ)

/-- The score of a key and a column, in base two. -/
def scr (c : Fin 1024) (k : Fin 512) : ℝ := ∑ d : Fin 128, Kr k d * qr d c
/-- The stacked left operand: the values' rows, then rows of ones. -/
def stackr (e : Fin 144) (k : Fin 512) : ℝ := if h : e.val < 128 then Vr ⟨e.val, h⟩ k else 1
/-- The weight of a key under the mask of the diagonal tile. -/
def wdiag (c : Fin 1024) (k : Fin 512) : ℝ := if k.val ≤ c.val % 512 then (2 : ℝ) ^ scr qr Kr c k else 0
/-- What a whole tile adds. -/
def contr (e : Fin 144) (c : Fin 1024) : ℝ := ∑ k, stackr Vr e k * (2 : ℝ) ^ scr qr Kr c k
/-- What the diagonal tile adds. -/
def contrDiag (e : Fin 144) (c : Fin 1024) : ℝ := ∑ k, stackr Vr e k * wdiag qr Kr c k

variable (q : FVec Ideal S128x1024 .bf16) (K : Vec Ideal S1x512x128 .bf16) (V : Vec Ideal S1x1x128x512 .bf16)
variable (hq : ∀ d c, q (ix2 d c) = (qr d c : EReal)) (hK : ∀ k d, K (ix3 0 k d) = (Kr k d : EReal))
  (hV : ∀ e k, V (ix4 0 0 e k) = (Vr e k : EReal))

include hq hK in
theorem sc_real (c : Fin 1024) (k : Fin 512) : sc q K c k = (scr qr Kr c k : EReal) := by
  unfold sc scr
  rw [← coe_sum]
  refine Finset.sum_congr rfl fun d _ => ?_
  rw [hq, hK, ← EReal.coe_mul]

include hV in
theorem stack_real (e : Fin 144) (k : Fin 512) : stack V e k = (stackr Vr e k : EReal) := by
  unfold stack stackr
  split
  · exact hV _ _
  · rfl

include hq hK in
theorem sc_weighs (c : Fin 1024) (k : Fin 512) : Weighs (sc q K c k) ((2 : ℝ) ^ scr qr Kr c k) :=
  .inl ⟨_, sc_real qr Kr q K hq hK c k, rfl⟩

include hq hK in
theorem scm_weighs (c : Fin 1024) (k : Fin 512) : Weighs (scm q K c k) (wdiag qr Kr c k) := by
  unfold scm wdiag
  split
  · exact sc_weighs qr Kr q K hq hK c k
  · exact .inr ⟨rfl, rfl⟩

include hq hK in
theorem sc_max_real (c : Fin 1024) : ∃ r : ℝ, colMax (sc q K c) = r :=
  colMax_real _ _ (sc_weighs qr Kr q K hq hK c) 0 _ (sc_real qr Kr q K hq hK c 0)

include hq hK in
theorem scm_max_real (c : Fin 1024) : ∃ r : ℝ, colMax (scm q K c) = r :=
  colMax_real _ _ (scm_weighs qr Kr q K hq hK c) 0 (scr qr Kr c 0) (by
    unfold scm
    rw [if_pos (show (0 : Fin 512).val ≤ _ from Nat.zero_le _)]
    exact sc_real qr Kr q K hq hK c 0)

/-- The jumps only grow. -/
theorem lag_jump (s : St Ideal) (c : Fin 1024) : s.J (ix2 0 c) ≤ (lag q K V s).J (ix2 0 c) :=
  (le_max_left _ _).trans_eq (pay76j_apply q K s.M s.J c).symm

variable (s : St Ideal) (N : Fin 144 → Fin 1024 → ℝ)

include hq hK hV in
theorem lag_holds (hs : Holds s N) (hJ : ∀ c, (lag q K V s).J (ix2 0 c) ≤ ((64 : ℝ) : EReal)) :
    Holds (lag q K V s) (fun e c => N e c + contr qr Kr Vr e c) := by
  intro c
  obtain ⟨m, hm, hA⟩ := hs c
  obtain ⟨t, ht⟩ := sc_max_real qr Kr q K hq hK c
  obtain ⟨m', hm'⟩ := max_real m t
  have hb := bound_of_colMax (sc q K c) m (s.J (ix2 0 c)) (by
    rw [← hm]
    exact (pay76j_apply q K s.M s.J c).symm.trans_le (hJ c))
  refine ⟨m', ?_, fun e => ?_⟩
  · refine (pay9_apply _ c).trans ((pay4_apply q K s.M c).trans ?_)
    rw [hm, ht, hm']
  · refine (pay5_apply q K V s.M s.A e c).trans ?_
    rw [hm, ht, hm', hA]
    simp only [stack_real Vr V hV]
    exact lagged_entry _ _ _ _ _ _ (sc_weighs qr Kr q K hq hK c) hb

include hq hK hV in
theorem lagDiag_holds (hs : Holds s N) (hJ : ∀ c, (lagDiag q K V s).J (ix2 0 c) ≤ ((64 : ℝ) : EReal)) :
    Holds (lagDiag q K V s) (fun e c => N e c + contrDiag qr Kr Vr e c) := by
  intro c
  obtain ⟨m, hm, hA⟩ := hs c
  obtain ⟨t, ht⟩ := scm_max_real qr Kr q K hq hK c
  obtain ⟨m', hm'⟩ := max_real m t
  have hb := bound_of_colMax (scm q K c) m (s.J (ix2 0 c)) (by
    rw [← hm]
    exact (pay89_apply q K s.M s.J c).symm.trans_le (hJ c))
  refine ⟨m', ?_, fun e => ?_⟩
  · refine (pay91_apply _ c).trans ((pay86_apply q K s.M c).trans ?_)
    rw [hm, ht, hm']
  · refine (pay88_apply q K V s.M s.A e c).trans ?_
    rw [hm, ht, hm', hA]
    simp only [stack_real Vr V hV]
    exact lagged_entry _ _ _ _ _ _ (scm_weighs qr Kr q K hq hK c) hb

include hq hK hV in
theorem ex_holds (hs : Holds s N) : Holds (ex q K V s) (fun e c => N e c + contr qr Kr Vr e c) := by
  intro c
  obtain ⟨m, hm, hA⟩ := hs c
  obtain ⟨t, ht⟩ := sc_max_real qr Kr q K hq hK c
  obtain ⟨m', hm'⟩ := max_real m t
  refine ⟨m', ?_, fun e => ?_⟩
  · refine (pay110_apply q K s.M c).trans ?_
    rw [hm, ht, hm']
  · refine (pay109_apply q K V s.M s.A e c).trans ?_
    rw [hm, ht, hm', hA]
    simp only [stack_real Vr V hV]
    exact exact_entry _ _ _ _ _ _ (sc_weighs qr Kr q K hq hK c)

include hq hK hV in
/-- The exact walk's first tile, on the scratch it begins with. -/
theorem exDiag_holds : Holds (exDiag q K V { s with M := k0_pay74, A := k0_pay75 }) (contrDiag qr Kr Vr) := by
  intro c
  obtain ⟨t, ht⟩ := scm_max_real qr Kr q K hq hK c
  refine ⟨t, ?_, fun e => ?_⟩
  · refine (pay106_apply q K (k0_pay74 (F := Ideal)) c).trans ?_
    rw [pay74_apply, ht]
    exact max_eq_right (bot_le (a := (t : EReal)))
  · refine (pay105_apply q K V (k0_pay74 (F := Ideal)) (k0_pay75 (F := Ideal)) e c).trans ?_
    rw [pay74_apply, pay75_apply, ht, max_eq_right (bot_le (a := (t : EReal)))]
    simp only [stack_real Vr V hV]
    exact exact_entry_first _ _ _ _ (scm_weighs qr Kr q K hq hK c)

/-- The lagged walk begins on nothing. -/
theorem lagInit_holds : Holds lagInit (fun _ _ => 0) := fun c =>
  ⟨0, pay79_apply c, fun e => (pay80_apply e c).trans (by rw [zero_mul]; rfl)⟩

end
end Cert.KernelIdeal.Hand
end
-- ==== Proof.AttnValue.Offsets.lean ====
/-
  Which key tile each step of the two walks reads.
-/
module

public import proofs.«01_k».proof.Proof.AttnIdeal.State
public import Mathlib.Tactic.IntervalCases

@[expose] public section

set_option maxRecDepth 16384

noncomputable section

namespace Cert.KernelIdeal.Hand

open Cert.KernelIdeal Cert.KernelIdeal.Gen
open Idealize.ShloMosaic

variable (i : grid0.Coords)

theorem block_lt : (i 2).val < 16 := (i 2).isLt

theorem t1_trips : (k0_t1_loop i).trips = (i 2).val / 4 := by
  have h := block_lt i
  unfold k0_t1_loop
  generalize (i 2).val = j at h ⊢
  interval_cases j <;> rfl

theorem t3_trips : (k0_t3_loop i).trips = (i 2).val % 4 := by
  have h := block_lt i
  unfold k0_t3_loop
  generalize (i 2).val = j at h ⊢
  interval_cases j <;> rfl

theorem t5_trips : (k0_t5_loop i).trips = (i 2).val := by
  have h := block_lt i
  unfold k0_t5_loop
  generalize (i 2).val = j at h ⊢
  interval_cases j <;> rfl

theorem off1_eq : k0_off1 i = ![0, 512 * (i 2).val, 0] := by
  have h := block_lt i
  unfold k0_off1
  generalize (i 2).val = j at h ⊢
  interval_cases j <;> rfl

theorem off2_eq : k0_off2 i = ![0, (i 2).val, 0, 0] := by
  have h := block_lt i
  unfold k0_off2
  generalize (i 2).val = j at h ⊢
  interval_cases j <;> rfl

theorem off11_eq : k0_off11 i = ![0, 512 * (i 2).val, 0] := by
  have h := block_lt i
  unfold k0_off11
  generalize (i 2).val = j at h ⊢
  interval_cases j <;> rfl

theorem off12_eq : k0_off12 i = ![0, (i 2).val, 0, 0] := by
  have h := block_lt i
  unfold k0_off12
  generalize (i 2).val = j at h ⊢
  interval_cases j <;> rfl

theorem off3_eq (k : Fin (k0_t1_loop i).trips) (r : Fin 4) :
    k0_off3 i k (BitVec.ofNat 32 r.val) = ![0, 512 * (4 * k.val + r.val), 0] := by
  have h := block_lt i
  have hk : k.val < 4 := by have := t1_trips i; omega
  unfold k0_off3
  generalize k.val = n at hk ⊢
  fin_cases r <;> interval_cases n <;> rfl

theorem off4_eq (k : Fin (k0_t1_loop i).trips) (r : Fin 4) :
    k0_off4 i k (BitVec.ofNat 32 r.val) = ![0, 4 * k.val + r.val, 0, 0] := by
  have h := block_lt i
  have hk : k.val < 4 := by have := t1_trips i; omega
  unfold k0_off4
  generalize k.val = n at hk ⊢
  fin_cases r <;> interval_cases n <;> rfl

theorem off7_eq (k : Fin (k0_t3_loop i).trips) : k0_off7 i k = ![0, 512 * (4 * ((i 2).val / 4) + k.val), 0] := by
  have h := block_lt i
  have hk : k.val < 4 := by have := t3_trips i; omega
  unfold k0_off7
  generalize k.val = n at hk ⊢
  generalize (i 2).val = j at h ⊢
  interval_cases n <;> interval_cases j <;> rfl

theorem off8_eq (k : Fin (k0_t3_loop i).trips) : k0_off8 i k = ![0, 4 * ((i 2).val / 4) + k.val, 0, 0] := by
  have h := block_lt i
  have hk : k.val < 4 := by have := t3_trips i; omega
  unfold k0_off8
  generalize k.val = n at hk ⊢
  generalize (i 2).val = j at h ⊢
  interval_cases n <;> interval_cases j <;> rfl

theorem off13_eq (k : Fin (k0_t5_loop i).trips) : k0_off13 i k = ![0, 512 * k.val, 0] := by
  have h := block_lt i
  have hk : k.val < 16 := by have := t5_trips i; omega
  unfold k0_off13
  generalize k.val = n at hk ⊢
  interval_cases n <;> rfl

theorem off14_eq (k : Fin (k0_t5_loop i).trips) : k0_off14 i k = ![0, k.val, 0, 0] := by
  have h := block_lt i
  have hk : k.val < 16 := by have := t5_trips i; omega
  unfold k0_off14
  generalize k.val = n at hk ⊢
  interval_cases n <;> rfl

end Cert.KernelIdeal.Hand
end
-- ==== Proof.AttnValue.Walk.lean ====
/-
  The two walks over the key tiles of a grid point, on real data: either leaves an accumulator that stands
  for the weighted sums over all keys up to each query.
-/
module

public import proofs.«01_k».proof.Proof.AttnValue.Tile
public import proofs.«01_k».proof.Proof.AttnValue.Offsets

@[expose] public section

set_option maxRecDepth 16384

noncomputable section

namespace Cert.KernelIdeal.Hand

open Cert.KernelIdeal Cert.KernelIdeal.Gen
open Idealize.ShloMosaic Cert.Attention

theorem Holds.congr {s : St Ideal} {N N' : Fin 144 → Fin 1024 → ℝ} (h : Holds s N) (e : ∀ a c, N a c = N' a c) :
    Holds s N' := (funext fun a => funext fun c => e a c : N = N') ▸ h

section Iter
variable {n : Nat} (step : Fin n → St Ideal → St Ideal) (D : ℕ → Fin 144 → Fin 1024 → ℝ) (P : St Ideal → Prop)

/-- What holds after some trips held before them, when each trip passes it back. -/
theorem iter_back (hback : ∀ k s, P (step k s) → P s) (s : St Ideal) : ∀ k, P (iter step k s) → P s := by
  intro k
  induction k with
  | zero => exact id
  | succ k ih =>
    intro h
    unfold iter at h
    split at h
    · exact ih (hback _ _ h)
    · exact ih h

/-- The trips of a loop add what each of them adds. -/
theorem iter_holds (hback : ∀ k s, P (step k s) → P s)
    (hstep : ∀ k s N, Holds s N → P (step k s) → Holds (step k s) (fun e c => N e c + D k.val e c))
    (s : St Ideal) (N : Fin 144 → Fin 1024 → ℝ) (hs : Holds s N) :
    ∀ k, k ≤ n → P (iter step k s) → Holds (iter step k s) (fun e c => N e c + ∑ t ∈ Finset.range k, D t e c) := by
  intro k
  induction k with
  | zero => exact fun _ _ => hs.congr fun e c => by simp
  | succ k ih =>
    intro hk h
    have e := iter_succ step ⟨k, hk⟩ s
    change iter step (k + 1) s = step ⟨k, hk⟩ (iter step k s) at e
    rw [e] at h ⊢
    refine (hstep _ _ _ (ih (by omega) (hback _ _ h)) h).congr fun e c => ?_
    rw [Finset.sum_range_succ]
    ring
end Iter

/-- Every jump of the scratch is at most 64. -/
def Low (s : St Ideal) : Prop := ∀ c, s.J (ix2 0 c) ≤ ((64 : ℝ) : EReal)

section
variable (i : grid0.Coords) (qr : Fin 128 → Fin 1024 → ℝ) (XK : ℕ → Fin 128 → ℝ) (XV : Fin 128 → ℕ → ℝ)

/-- What tile `t` adds. -/
def tileSum (t : ℕ) : Fin 144 → Fin 1024 → ℝ := contr qr (fun k d => XK (512 * t + k.val) d) (fun e k => XV e (512 * t + k.val))
/-- What the masked tile `t` adds. -/
def tileSumDiag (t : ℕ) : Fin 144 → Fin 1024 → ℝ :=
  contrDiag qr (fun k d => XK (512 * t + k.val) d) (fun e k => XV e (512 * t + k.val))

variable (q : FVec Ideal S128x1024 .bf16) (X4 : Vec Ideal S1x8192x128 .bf16) (X5 : Vec Ideal S1x16x128x512 .bf16)
variable (hq : ∀ d c, q (ix2 d c) = (qr d c : EReal)) (hK : ∀ (n : Fin 8192) d, X4 (ix3 0 n d) = (XK n.val d : EReal))
  (hV : ∀ (t : Fin 16) e (k : Fin 512), X5 (ix4 0 t e k) = (XV e (512 * t.val + k.val) : EReal))

include hK in
theorem kt_real (t : ℕ) (off : Fin 3 → ℕ) (h) (e : off = ![0, 512 * t, 0]) (k : Fin 512) (d : Fin 128) :
    kt X4 off h (ix3 0 k d) = (XK (512 * t + k.val) d : EReal) := by
  subst e
  have ht : 512 * t + 512 ≤ 8192 := h 1
  refine Eq.trans (congrArg X4 (a₂ := ix3 0 ⟨512 * t + k.val, by omega⟩ d) (funext fun a => Fin.ext ?_)) (hK _ _)
  fin_cases a
  · show 0 + _ = _; simp
  · show 512 * t + _ = _; simp
  · show 0 + _ = _; simp

include hV in
theorem vt_real (t : ℕ) (off : Fin 4 → ℕ) (h) (e : off = ![0, t, 0, 0]) (v : Fin 128) (k : Fin 512) :
    vt X5 off h (ix4 0 0 v k) = (XV v (512 * t + k.val) : EReal) := by
  subst e
  have ht : t + 1 ≤ 16 := h 1
  refine Eq.trans (congrArg X5 (a₂ := ix4 0 ⟨t, by omega⟩ v k) (funext fun a => Fin.ext ?_)) (hV _ _ _)
  fin_cases a
  · show 0 + _ = _; simp
  · show t + _ = t; simp
  · show 0 + _ = _; simp
  · show 0 + _ = _; simp

include hq hK hV

theorem lag_tile (t : ℕ) (off : Fin 3 → ℕ) (h) (e : off = ![0, 512 * t, 0]) (off' : Fin 4 → ℕ) (h') (e' : off' = ![0, t, 0, 0])
    (s : St Ideal) (N) (hs : Holds s N) (hJ : Low (lag q (kt X4 off h) (vt X5 off' h') s)) :
    Holds (lag q (kt X4 off h) (vt X5 off' h') s) (fun e c => N e c + tileSum qr XK XV t e c) :=
  lag_holds qr _ _ q _ _ hq (kt_real XK X4 hK t off h e) (vt_real XV X5 hV t off' h' e') s N hs hJ

omit hq hK hV in
theorem lag_low (K V) (s : St Ideal) (h : Low (lag q K V s)) : Low s := fun c => (lag_jump q K V s c).trans (h c)

theorem trip1_holds (k : Fin (k0_t1_loop i).trips) (s : St Ideal) (N) (hs : Holds s N) (hJ : Low (trip1 i q X4 X5 k s)) :
    Holds (trip1 i q X4 X5 k s) (fun e c => N e c + (tileSum qr XK XV (4 * k.val + 0) e c + tileSum qr XK XV (4 * k.val + 1) e c
      + tileSum qr XK XV (4 * k.val + 2) e c + tileSum qr XK XV (4 * k.val + 3) e c)) := by
  unfold trip1 at hJ ⊢
  have h2 := lag_low q _ _ _ hJ
  have h1 := lag_low q _ _ _ h2
  have h0 := lag_low q _ _ _ h1
  have g0 := lag_tile qr XK XV q X4 X5 hq hK hV _ _ _ (off3_eq i k 0) _ _ (off4_eq i k 0) s N hs h0
  have g1 := lag_tile qr XK XV q X4 X5 hq hK hV _ _ _ (off3_eq i k 1) _ _ (off4_eq i k 1) _ _ g0 h1
  have g2 := lag_tile qr XK XV q X4 X5 hq hK hV _ _ _ (off3_eq i k 2) _ _ (off4_eq i k 2) _ _ g1 h2
  have g3 := lag_tile qr XK XV q X4 X5 hq hK hV _ _ _ (off3_eq i k 3) _ _ (off4_eq i k 3) _ _ g2 hJ
  refine g3.congr fun e c => ?_
  show N e c + tileSum qr XK XV (4 * k.val + 0) e c + tileSum qr XK XV (4 * k.val + 1) e c
    + tileSum qr XK XV (4 * k.val + 2) e c + tileSum qr XK XV (4 * k.val + 3) e c = _
  ring

theorem trip3_holds (k : Fin (k0_t3_loop i).trips) (s : St Ideal) (N) (hs : Holds s N) (hJ : Low (trip3 i q X4 X5 k s)) :
    Holds (trip3 i q X4 X5 k s) (fun e c => N e c + tileSum qr XK XV (4 * ((i 2).val / 4) + k.val) e c) :=
  lag_tile qr XK XV q X4 X5 hq hK hV _ _ _ (off7_eq i k) _ _ (off8_eq i k) s N hs hJ

theorem trip5_holds (k : Fin (k0_t5_loop i).trips) (s : St Ideal) (N) (hs : Holds s N) :
    Holds (trip5 i q X4 X5 k s) (fun e c => N e c + tileSum qr XK XV k.val e c) :=
  ex_holds qr _ _ q _ _ hq (kt_real XK X4 hK _ _ _ (off13_eq i k)) (vt_real XV X5 hV _ _ _ (off14_eq i k)) s N hs

omit hq hK hV in
theorem sum_groups (f : ℕ → ℝ) (m : ℕ) :
    ∑ k ∈ Finset.range m, (f (4 * k + 0) + f (4 * k + 1) + f (4 * k + 2) + f (4 * k + 3)) = ∑ t ∈ Finset.range (4 * m), f t := by
  induction m with
  | zero => simp
  | succ m ih =>
    rw [Finset.sum_range_succ, ih, show 4 * (m + 1) = 4 * m + 1 + 1 + 1 + 1 by ring, Finset.sum_range_succ, Finset.sum_range_succ,
      Finset.sum_range_succ, Finset.sum_range_succ]
    ring_nf

/-- The sums after all tiles of a grid point. -/
def total (e : Fin 144) (c : Fin 1024) : ℝ :=
  tileSumDiag qr XK XV (i 2).val e c + ∑ t ∈ Finset.range (i 2).val, tileSum qr XK XV t e c

omit hq hK hV in
theorem lagged_low_back (h : Low (lagged i q X4 X5)) :
    Low (iter (trip1 i q X4 X5) (k0_t1_loop i).trips
      (lagDiag q (kt X4 (k0_off1 i) (k0_off1_inb i)) (vt X5 (k0_off2 i) (k0_off2_inb i)) lagInit)) :=
  iter_back (trip3 i q X4 X5) Low (fun k s h => lag_low q _ _ _ h) _ _ h

omit hq hK hV in
theorem trip1_low (k : Fin (k0_t1_loop i).trips) (s : St Ideal) (h : Low (trip1 i q X4 X5 k s)) : Low s :=
  lag_low q _ _ _ (lag_low q _ _ _ (lag_low q _ _ _ (lag_low q _ _ _ h)))

theorem lagged_holds (h : Low (lagged i q X4 X5)) : Holds (lagged i q X4 X5) (total i qr XK XV) := by
  have h1 := lagged_low_back i q X4 X5 h
  have h0 := iter_back (trip1 i q X4 X5) Low (trip1_low i q X4 X5) _ _ h1
  have g0 := lagDiag_holds qr _ _ q _ _ hq (kt_real XK X4 hK _ _ (k0_off1_inb i) (off1_eq i))
    (vt_real XV X5 hV _ _ (k0_off2_inb i) (off2_eq i)) lagInit _ lagInit_holds h0
  have g1 := iter_holds (trip1 i q X4 X5) (fun k e c => tileSum qr XK XV (4 * k + 0) e c + tileSum qr XK XV (4 * k + 1) e c
      + tileSum qr XK XV (4 * k + 2) e c + tileSum qr XK XV (4 * k + 3) e c) Low (trip1_low i q X4 X5)
    (trip1_holds i qr XK XV q X4 X5 hq hK hV) _ _ g0 _ le_rfl h1
  have g2 := iter_holds (trip3 i q X4 X5) (fun k e c => tileSum qr XK XV (4 * ((i 2).val / 4) + k) e c) Low
    (fun k s h => lag_low q _ _ _ h) (trip3_holds i qr XK XV q X4 X5 hq hK hV) _ _ g1 _ le_rfl h
  refine Holds.congr g2 fun e c => ?_
  show 0 + tileSumDiag qr XK XV (i 2).val e c + _ + _ = tileSumDiag qr XK XV (i 2).val e c + _
  rw [sum_groups (fun t => tileSum qr XK XV t e c), t1_trips, t3_trips, zero_add, add_assoc, ← Finset.sum_range_add, Nat.div_add_mod]

theorem exact_holds (s : St Ideal) : Holds (exact i q X4 X5 s) (total i qr XK XV) := by
  have g0 := exDiag_holds qr _ _ q _ _ hq (kt_real XK X4 hK _ _ (k0_off11_inb i) (off11_eq i))
    (vt_real XV X5 hV _ _ (k0_off12_inb i) (off12_eq i)) s
  have g := iter_holds (trip5 i q X4 X5) (fun k e c => tileSum qr XK XV k e c) (fun _ => True) (fun _ _ _ => trivial)
    (fun k s N hs _ => trip5_holds i qr XK XV q X4 X5 hq hK hV k s N hs) _ _ g0 _ le_rfl trivial
  refine Holds.congr g fun e c => ?_
  rw [t5_trips]
  rfl

/-- Whichever walk a grid point ends with, it leaves the same sums. -/
theorem walked_holds : Holds (walked i q X4 X5) (total i qr XK XV) := by
  unfold walked
  split
  · exact exact_holds i qr XK XV q X4 X5 hq hK hV _
  · next h => exact lagged_holds i qr XK XV q X4 X5 hq hK hV (jump_le_of_not_redo _ h)

omit hq hK hV

/-- The score of key `n` and column `c`, in base two. -/
def score (n : ℕ) (c : Fin 1024) : ℝ := ∑ d : Fin 128, XK n d * qr d c
/-- Row `e` of the stacked left operand at key `n`. -/
def row (e : Fin 144) (n : ℕ) : ℝ := if h : e.val < 128 then XV ⟨e.val, h⟩ n else 1

theorem sum_tiles (f : ℕ → ℝ) (j : ℕ) : ∑ t ∈ Finset.range j, ∑ k : Fin 512, f (512 * t + k.val) = ∑ n ∈ Finset.range (512 * j), f n := by
  induction j with
  | zero => simp
  | succ j ih =>
    rw [Finset.sum_range_succ, ih, show 512 * (j + 1) = 512 * j + 512 by ring, Finset.sum_range_add, Finset.sum_range (n := 512)]

theorem sum_mask (f : ℕ → ℝ) (p : ℕ) (hp : p < 512) : ∑ k : Fin 512, (if k.val ≤ p then f k.val else 0) = ∑ n ∈ Finset.range (p + 1), f n := by
  rw [← Finset.sum_range (n := 512) (fun k => if k ≤ p then f k else 0), ← Finset.sum_filter]
  refine Finset.sum_congr (Finset.ext fun n => ?_) fun _ _ => rfl
  simp only [Finset.mem_filter, Finset.mem_range]
  omega

/-- The sums of a grid point are those over all keys up to each query. -/
theorem total_eq (e : Fin 144) (c : Fin 1024) :
    total i qr XK XV e c = ∑ n ∈ Finset.range (512 * (i 2).val + c.val % 512 + 1), row XV e n * (2 : ℝ) ^ score qr XK n c := by
  have hd : tileSumDiag qr XK XV (i 2).val e c
      = ∑ k ∈ Finset.range (c.val % 512 + 1), row XV e (512 * (i 2).val + k) * (2 : ℝ) ^ score qr XK (512 * (i 2).val + k) c := by
    rw [← sum_mask (fun k => row XV e (512 * (i 2).val + k) * (2 : ℝ) ^ score qr XK (512 * (i 2).val + k) c) _ (Nat.mod_lt _ (by decide))]
    unfold tileSumDiag contrDiag
    refine Finset.sum_congr rfl fun k _ => ?_
    show stackr _ e k * wdiag _ _ c k = _
    unfold wdiag
    rw [mul_ite, mul_zero]
    rfl
  have ht : ∑ t ∈ Finset.range (i 2).val, tileSum qr XK XV t e c
      = ∑ n ∈ Finset.range (512 * (i 2).val), row XV e n * (2 : ℝ) ^ score qr XK n c := by
    rw [← sum_tiles (fun n => row XV e n * (2 : ℝ) ^ score qr XK n c)]
    rfl
  unfold total
  rw [hd, ht, add_comm, add_assoc]
  exact (Finset.sum_range_add (fun n => row XV e n * (2 : ℝ) ^ score qr XK n c) _ _).symm
end
end Cert.KernelIdeal.Hand
end
-- ==== Proof.AttnValue.Soft.lean ====
/-
  The softmax of a masked row of real scores, whatever shift it is computed with, and the value weighted by
  the difference of two of them.
-/
module

public import proofs.«01_k».proof.Proof.AttnValue.Math
public import Mathlib.Tactic.Positivity
public import Mathlib.Tactic.FieldSimp

@[expose] public section

noncomputable section

namespace Cert.Attention

open Idealize.ShloMosaic

section
variable {n : Nat} (s : Fin n → ℝ) (t : ℕ)

/-- The weight of key `k`: its score's exponential up to query `t`, nothing beyond. -/
def weight (k : Fin n) : ℝ := if k.val ≤ t then Real.exp (s k) else 0

/-- A masked row of scores. -/
def maskedRow (k : Fin n) : EReal := if k.val ≤ t then (s k : EReal) else ⊥

theorem maskedRow_weighs (k : Fin n) : ∃ w, Weighs (maskedRow s t k) w := by
  unfold maskedRow
  split
  · exact ⟨_, .inl ⟨_, rfl, rfl⟩⟩
  · exact ⟨0, .inr ⟨rfl, rfl⟩⟩

theorem weight_nonneg (k : Fin n) : 0 ≤ weight s t k := by
  unfold weight
  split
  · exact (Real.exp_pos _).le
  · exact le_rfl

theorem weight_sum_pos (hn : 0 < n) : 0 < ∑ k, weight s t k := by
  refine Finset.sum_pos' (fun k _ => weight_nonneg s t k) ⟨⟨0, hn⟩, Finset.mem_univ _, ?_⟩
  unfold weight
  rw [if_pos (Nat.zero_le _)]
  exact Real.exp_pos _

theorem exp_maskedRow_sub (M : ℝ) (k : Fin n) :
    Ideal.exp (maskedRow s t k - (M : EReal)) = ((weight s t k * Real.exp (-M) : ℝ) : EReal) := by
  unfold maskedRow weight
  split
  · rw [← EReal.coe_sub, Ideal.exp_coe, sub_eq_add_neg, Real.exp_add]
  · rw [EReal.bot_sub, zero_mul]; rfl

/-- The largest masked score is real. -/
theorem top_real (hn : 0 < n) : ∃ M : ℝ, max ⊥ (colMax (maskedRow s t)) = (M : EReal) := by
  choose w hw using maskedRow_weighs s t
  obtain ⟨r, hr⟩ := colMax_real (maskedRow s t) w hw ⟨0, hn⟩ (s ⟨0, hn⟩) (by
    unfold maskedRow
    rw [if_pos (Nat.zero_le _)])
  exact ⟨r, by rw [hr]; exact max_eq_right bot_le⟩

theorem div_real (a b : ℝ) (hb : b ≠ 0) : Ideal.div (a : EReal) (b : EReal) = ((a / b : ℝ) : EReal) := by
  rw [Ideal.div_coe hb, ← EReal.coe_mul, mul_one_div]

/-- The softmax of the masked row. -/
theorem softmax_real (hn : 0 < n) (k : Fin n) :
    Ideal.div (Ideal.exp (maskedRow s t k - max ⊥ (colMax (maskedRow s t))))
      (∑ k, Ideal.exp (maskedRow s t k - max ⊥ (colMax (maskedRow s t))))
      = ((weight s t k / ∑ k, weight s t k : ℝ) : EReal) := by
  obtain ⟨M, hM⟩ := top_real s t hn
  rw [hM]
  simp only [exp_maskedRow_sub]
  have hp := weight_sum_pos s t hn
  rw [coe_sum, ← Finset.sum_mul, div_real _ _ (mul_pos hp (Real.exp_pos _)).ne']
  congr 1
  exact mul_div_mul_right _ _ (Real.exp_pos _).ne'
end

section
variable {n : Nat} (s0 s1 : Fin n → ℝ) (v : Fin n → ℝ) (L : ℝ) (t : ℕ)

/-- The mean of the values under one attention map. -/
def mean (s : Fin n → ℝ) (v : Fin n → ℝ) (t : ℕ) : ℝ := (∑ k, v k * weight s t k) / ∑ k, weight s t k

theorem mean_diff :
    ∑ k, (v k : EReal) * (((weight s0 t k / ∑ k, weight s0 t k : ℝ) : EReal) - (L : EReal) * ((weight s1 t k / ∑ k, weight s1 t k : ℝ) : EReal))
      = ((mean s0 v t - L * mean s1 v t : ℝ) : EReal) := by
  simp only [← EReal.coe_mul, ← EReal.coe_sub]
  rw [coe_sum]
  congr 1
  unfold mean
  rw [Finset.sum_div, Finset.sum_div, Finset.mul_sum, ← Finset.sum_sub_distrib]
  refine Finset.sum_congr rfl fun k _ => ?_
  ring
end

/-- A power of two of a score scaled by `1 / (8 log 2)` is the exponential of an eighth of it. -/
theorem two_rpow_scaled (x : ℝ) : (2 : ℝ) ^ (x * ((1 / 8) * (Real.log 2)⁻¹)) = Real.exp (x * (1 / 8)) := by
  rw [Real.rpow_def_of_pos two_pos]
  congr 1
  have : Real.log 2 ≠ 0 := (Real.log_pos one_lt_two).ne'
  field_simp

/-- Quotients of two sums kept at one scale. -/
theorem scaled_div (a b m : ℝ) (hb : b ≠ 0) :
    Ideal.div ((a * (2 : ℝ) ^ (-m) : ℝ) : EReal) ((b * (2 : ℝ) ^ (-m) : ℝ) : EReal) = ((a / b : ℝ) : EReal) := by
  have h : (2 : ℝ) ^ (-m) ≠ 0 := (Real.rpow_pos_of_pos two_pos _).ne'
  rw [div_real _ _ (mul_ne_zero hb h)]
  congr 1
  exact mul_div_mul_right _ _ h

end Cert.Attention

end
-- ==== Proof.AttnValue.Head.lean ====
/-
  One grid point of the attention call on real data: the two normalised sums of its head are the means of the values
  under the two attention maps, over the keys up to each query.
-/
module

public import proofs.«01_k».proof.Proof.AttnValue.Walk
public import proofs.«01_k».proof.Proof.AttnValue.Post
public import proofs.«01_k».proof.Proof.AttnValue.Soft

@[expose] public section

set_option maxRecDepth 16384

noncomputable section

namespace Cert.KernelIdeal.Hand

open Cert.KernelIdeal Cert.KernelIdeal.Gen Cert.Attention
open Idealize.ShloMosaic Idealize.ShloMosaic.TcCoe Idealize.SL.Sem

/-- Queries by columns: the first map's half of a head against columns below 512, the second's against the others. -/
def stackedQ (Q : Fin 512 → Fin 128 → ℝ) (d : Fin 128) (c : Fin 1024) : ℝ :=
  if (d.val < 64 ↔ c.val < 512) then Q ⟨c.val % 512, by omega⟩ d * ((1 / 8) * (Real.log 2)⁻¹) else 0
/-- Key `k` of tile `t`. -/
def keyOf (t : Fin 16) (k : Fin 512) : Fin 8192 := ⟨t.val * 512 + k.val, by omega⟩
/-- Keys by number. -/
def keyAt (kb : Fin 8192 → Fin 128 → ℝ) (n : ℕ) (d : Fin 128) : ℝ := kb ⟨n % 8192, by omega⟩ d
/-- Values by number. -/
def valueAt (vb : Fin 8192 → Fin 128 → ℝ) (e : Fin 128) (n : ℕ) : ℝ := vb ⟨n % 8192, by omega⟩ e

/-- The first map's scores of query `p`. -/
def firstRow (Q : Fin 512 → Fin 128 → ℝ) (kb : Fin 8192 → Fin 128 → ℝ) (p : Fin 512) (k : Fin 8192) : ℝ :=
  (∑ d : Fin 64, Q p ⟨d.val, by omega⟩ * kb k ⟨d.val, by omega⟩) * (1 / 8)
/-- The second map's scores of query `p`. -/
def secondRow (Q : Fin 512 → Fin 128 → ℝ) (kb : Fin 8192 → Fin 128 → ℝ) (p : Fin 512) (k : Fin 8192) : ℝ :=
  (∑ d : Fin 64, Q p ⟨64 + d.val, by omega⟩ * kb k ⟨64 + d.val, by omega⟩) * (1 / 8)

section
variable (Q : Fin 512 → Fin 128 → ℝ) (kb vb : Fin 8192 → Fin 128 → ℝ)

theorem sum_halves (f : Fin 128 → ℝ) : ∑ d, f d = (∑ d : Fin 64, f ⟨d.val, by omega⟩) + ∑ d : Fin 64, f ⟨64 + d.val, by omega⟩ :=
  Fin.sum_univ_add (a := 64) (b := 64) f

theorem first_score (n : ℕ) (p : Fin 512) :
    (2 : ℝ) ^ score (stackedQ Q) (keyAt kb) n ⟨p.val, by omega⟩ = Real.exp (firstRow Q kb p ⟨n % 8192, by omega⟩) := by
  have hp : p.val < 512 := p.isLt
  rw [firstRow, ← two_rpow_scaled]
  refine congrArg (fun x : ℝ => (2 : ℝ) ^ x) ?_
  unfold score
  rw [sum_halves, Finset.sum_eq_zero (s := Finset.univ) (f := fun d : Fin 64 => keyAt kb n ⟨64 + d.val, by omega⟩ * stackedQ Q ⟨64 + d.val, by omega⟩ _), add_zero, Finset.sum_mul]
  · refine Finset.sum_congr rfl fun d _ => ?_
    have hd : d.val < 64 := d.isLt
    have e : (⟨p.val % 512, by omega⟩ : Fin 512) = p := Fin.ext (Nat.mod_eq_of_lt hp)
    unfold stackedQ keyAt
    rw [if_pos ⟨fun _ => hp, fun _ => hd⟩, e]
    ring
  · intro d _
    unfold stackedQ
    rw [if_neg (fun h => absurd (h.2 hp) (by show ¬ 64 + d.val < 64; omega)), mul_zero]

theorem second_score (n : ℕ) (p : Fin 512) :
    (2 : ℝ) ^ score (stackedQ Q) (keyAt kb) n ⟨512 + p.val, by omega⟩ = Real.exp (secondRow Q kb p ⟨n % 8192, by omega⟩) := by
  have hp : p.val < 512 := p.isLt
  rw [secondRow, ← two_rpow_scaled]
  refine congrArg (fun x : ℝ => (2 : ℝ) ^ x) ?_
  unfold score
  rw [sum_halves, Finset.sum_eq_zero (s := Finset.univ) (f := fun d : Fin 64 => keyAt kb n ⟨d.val, by omega⟩ * stackedQ Q ⟨d.val, by omega⟩ _), zero_add, Finset.sum_mul]
  · refine Finset.sum_congr rfl fun d _ => ?_
    have e : (⟨(512 + p.val) % 512, by omega⟩ : Fin 512) = p := Fin.ext (by show (512 + p.val) % 512 = p.val; omega)
    unfold stackedQ keyAt
    rw [if_pos ⟨fun h => absurd h (by show ¬ 64 + d.val < 64; omega), fun h => absurd h (by show ¬ 512 + p.val < 512; omega)⟩, e]
    ring
  · intro d _
    have hd : d.val < 64 := d.isLt
    unfold stackedQ
    rw [if_neg (fun h => absurd (h.1 hd) (by show ¬ 512 + p.val < 512; omega)), mul_zero]

/-- A sum over the keys up to a query is a weighted sum over all keys. -/
theorem sum_upto (f s : Fin 8192 → ℝ) (T : ℕ) (hT : T < 8192) :
    ∑ n ∈ Finset.range (T + 1), f ⟨n % 8192, by omega⟩ * Real.exp (s ⟨n % 8192, by omega⟩) = ∑ k, f k * weight s T k := by
  have e : ∀ k : Fin 8192, f k * weight s T k
      = (fun n : ℕ => if n ≤ T then f ⟨n % 8192, by omega⟩ * Real.exp (s ⟨n % 8192, by omega⟩) else 0) k.val := by
    intro k
    have ek : (⟨k.val % 8192, by omega⟩ : Fin 8192) = k := Fin.ext (Nat.mod_eq_of_lt k.isLt)
    unfold weight
    beta_reduce
    rw [ek]
    split
    · rfl
    · exact mul_zero _
  rw [Finset.sum_congr rfl fun k _ => e k,
    ← Finset.sum_range (fun n : ℕ => if n ≤ T then f ⟨n % 8192, by omega⟩ * Real.exp (s ⟨n % 8192, by omega⟩) else 0),
    ← Finset.sum_filter]
  refine Finset.sum_congr (Finset.ext fun n => ?_) fun _ _ => rfl
  rw [Finset.mem_filter, Finset.mem_range, Finset.mem_range]
  omega

end

section
variable (i : grid0.Coords) (Q : Fin 512 → Fin 128 → ℝ) (kb vb : Fin 8192 → Fin 128 → ℝ) (L : ℝ)
variable (x3 : Vec Ideal S1x512x128 .f32) (x4 : Vec Ideal S1x8192x128 .bf16) (x5 : Vec Ideal S1x16x128x512 .bf16)
  (x6 x7 : Vec Ideal S2x64 .f32) (x8 : Vec Ideal S128x1 .f32)
variable (hq : ∀ p d, x3 (ix3 0 p d) = (Q p d : EReal)) (hk : ∀ n d, x4 (ix3 0 n d) = (kb n d : EReal))
  (hv : ∀ (t : Fin 16) e (k : Fin 512), x5 (ix4 0 t e k) = (vb (keyOf t k) e : EReal))
  (hL : lam x6 x7 = (L : EReal))

include hq in
theorem queries (d : Fin 128) (c : Fin 1024) : (k0_pay78 (F := Ideal) x3) (ix2 d c) = (stackedQ Q d c : EReal) := by
  rw [pay78_apply, hq]
  unfold stackedQ
  split
  · rw [← EReal.coe_mul]
  · rfl

include hq hk hv in
theorem block_holds : Holds (walked i (k0_pay78 (F := Ideal) x3) x4 x5) (total i (stackedQ Q) (keyAt kb) (valueAt vb)) := by
  refine walked_holds i (stackedQ Q) (keyAt kb) (valueAt vb) _ x4 x5 (queries Q x3 hq) (fun n d => ?_) (fun t e k => ?_)
  · rw [hk]
    unfold keyAt
    exact congrArg (fun n => ((kb n d : ℝ) : EReal)) (Fin.ext (Nat.mod_eq_of_lt n.isLt).symm)
  · rw [hv]
    unfold valueAt
    exact congrArg (fun n => ((vb n e : ℝ) : EReal)) (Fin.ext (by show t.val * 512 + k.val = (512 * t.val + k.val) % 8192; omega))

include hq hk hv in
/-- The quotient of a column's value sum by its normaliser is a mean. -/
theorem column_mean (c : Fin 1024) (s : Fin 8192 → ℝ)
    (hs : ∀ n, (2 : ℝ) ^ score (stackedQ Q) (keyAt kb) n c = Real.exp (s ⟨n % 8192, by omega⟩)) (hi : (i 2).val < 16) (e : Fin 128) :
    Ideal.div ((walked i (k0_pay78 (F := Ideal) x3) x4 x5).A (ix2 ⟨e.val, by omega⟩ c)) ((walked i (k0_pay78 (F := Ideal) x3) x4 x5).A (ix2 128 c))
      = ((mean s (fun k => vb k e) (512 * (i 2).val + c.val % 512) : ℝ) : EReal) := by
  obtain ⟨m, _, hA⟩ := block_holds i Q kb vb x3 x4 x5 hq hk hv c
  have hT : 512 * (i 2).val + c.val % 512 < 8192 := by omega
  have hN : total i (stackedQ Q) (keyAt kb) (valueAt vb) 128 c = ∑ k, weight s (512 * (i 2).val + c.val % 512) k := by
    rw [total_eq, Finset.sum_congr rfl fun n _ => by rw [hs n], Finset.sum_congr rfl fun n _ => by
      rw [show row (valueAt vb) 128 n = (fun _ : Fin 8192 => (1 : ℝ)) ⟨n % 8192, by omega⟩ from dif_neg (by decide)],
      sum_upto (fun _ => 1) s _ hT]
    exact Finset.sum_congr rfl fun k _ => one_mul _
  have hV : total i (stackedQ Q) (keyAt kb) (valueAt vb) ⟨e.val, by omega⟩ c = ∑ k, vb k e * weight s (512 * (i 2).val + c.val % 512) k := by
    rw [total_eq, Finset.sum_congr rfl fun n _ => by rw [hs n], Finset.sum_congr rfl fun n _ => by
      rw [show row (valueAt vb) ⟨e.val, by omega⟩ n = (fun k : Fin 8192 => vb k e) ⟨n % 8192, by omega⟩ from dif_pos e.isLt],
      sum_upto (fun k => vb k e) s _ hT]
  rw [hA, hA, hN, hV, scaled_div _ _ _ (weight_sum_pos s _ (by decide)).ne']
  rfl

include hq hk hv hL in
/-- What a grid point computes for query `p`, on real data. -/
theorem block_value (hi : (i 2).val < 16) (p : Fin 512) (e : Fin 128) :
    bodyOut (F := Ideal) i x3 x4 x5 x6 x7 x8 (ix3 0 p e)
      = normed (fun e => ((mean (firstRow Q kb p) (fun k => vb k e) (512 * (i 2).val + p.val)
          - L * mean (secondRow Q kb p) (fun k => vb k e) (512 * (i 2).val + p.val) : ℝ) : EReal)) e
        * x8 (ix2 e 0) * Ideal.ofBits .f32 0x3F24FD5C#32 := by
  unfold bodyOut
  rw [pay1_apply, pay115_apply]
  refine congrArg (fun o => normed o e * x8 (ix2 e 0) * Ideal.ofBits .f32 0x3F24FD5C#32) (funext fun e => ?_)
  unfold diff
  rw [accRows_apply, accRows_apply, accNorm_apply, accNorm_apply, hL,
    column_mean i Q kb vb x3 x4 x5 hq hk hv _ (firstRow Q kb p) (fun n => first_score Q kb n p) hi,
    column_mean i Q kb vb x3 x4 x5 hq hk hv _ (secondRow Q kb p) (fun n => second_score Q kb n p) hi,
    ← EReal.coe_mul, ← EReal.coe_sub]
  have e1 : p.val % 512 = p.val := Nat.mod_eq_of_lt p.isLt
  have e2 : (512 + p.val) % 512 = p.val := by omega
  rw [e1, e2]
end

end Cert.KernelIdeal.Hand
end
-- ==== Proof.AttnValue.Blocks.lean ====
/-
  The blocks a grid point of the attention call reads, as entries of the arguments.
-/
module

public import proofs.«01_k».proof.Proof.AttnIdeal.Frame
public import Idealize.ShloMosaic.Lib.StableHlo.ReadAt
public import Idealize.ShloMosaic.Lib.Pointwise
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.SL.Sem

/-- The batch of a grid point. -/
abbrev bt (t : Fin cfg0.N) : Fin 2 := ⟨t.val / 128, by have : t.val < 256 := t.isLt; omega⟩
/-- The head of a grid point. -/
abbrev ht (t : Fin cfg0.N) : Fin 8 := ⟨t.val / 16 % 8, by omega⟩
/-- Query `p` of a grid point. -/
abbrev qt (t : Fin cfg0.N) (p : Fin 512) : Fin 8192 := ⟨512 * (t.val % 16) + p.val, by omega⟩
/-- Column `e` of a grid point's head. -/
abbrev colt (t : Fin cfg0.N) (e : Fin 128) : Fin 1024 := ⟨(ht t).val * 128 + e.val, by have : (ht t).val < 8 := (ht t).isLt; omega⟩

theorem coords_two : ∀ t : Fin cfg0.N, (grid0.coords t 2).val = t.val % 16 :=
  (by decide +kernel : ∀ t : Fin grid0.N, _)

theorem idx0 : ∀ t : Fin cfg0.N, win0_0.index t (0 : Fin 3) = t.val / 128 ∧ win0_0.index t (1 : Fin 3) = t.val % 16 ∧ win0_0.index t (2 : Fin 3) = t.val / 16 % 8 :=
  (by decide +kernel : ∀ t : Fin grid0.N, _)
theorem idx1 : ∀ t : Fin cfg0.N, win0_1.index t (0 : Fin 3) = t.val / 128 ∧ win0_1.index t (1 : Fin 3) = 0 ∧ win0_1.index t (2 : Fin 3) = t.val / 16 % 8 :=
  (by decide +kernel : ∀ t : Fin grid0.N, _)
theorem idx2 : ∀ t : Fin cfg0.N, win0_2.index t (0 : Fin 4) = t.val / 128 ∧ win0_2.index t (1 : Fin 4) = 0 ∧ win0_2.index t (2 : Fin 4) = t.val / 16 % 8 ∧ win0_2.index t (3 : Fin 4) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = t.val / 128 ∧ win0_6.index t (1 : Fin 3) = t.val % 16 ∧ win0_6.index t (2 : Fin 3) = t.val / 16 % 8 :=
  (by decide +kernel : ∀ t : Fin grid0.N, _)

theorem emb0 (t : Fin cfg0.N) (p : Fin 512) (d : Fin 128) : ((cfg0.win 0).blk t).view.emb (ix3 0 p d) = ix3 (bt t) (qt t p) (colt t d) := by
  obtain ⟨e0, e1, e2⟩ := idx0 t
  funext a; apply Fin.ext
  match a with
  | ⟨0, _⟩ => show win0_0.index t (0 : Fin 3) * 1 + 1 * 0 = t.val / 128; omega
  | ⟨1, _⟩ => show win0_0.index t (1 : Fin 3) * 512 + 1 * p.val = 512 * (t.val % 16) + p.val; omega
  | ⟨2, _⟩ => show win0_0.index t (2 : Fin 3) * 128 + 1 * d.val = t.val / 16 % 8 * 128 + d.val; omega
theorem emb1 (t : Fin cfg0.N) (n : Fin 8192) (d : Fin 128) : ((cfg0.win 1).blk t).view.emb (ix3 0 n d) = ix3 (bt t) n (colt t d) := by
  obtain ⟨e0, e1, e2⟩ := idx1 t
  funext a; apply Fin.ext
  match a with
  | ⟨0, _⟩ => show win0_1.index t (0 : Fin 3) * 1 + 1 * 0 = t.val / 128; omega
  | ⟨1, _⟩ => show win0_1.index t (1 : Fin 3) * 8192 + 1 * n.val = n.val; omega
  | ⟨2, _⟩ => show win0_1.index t (2 : Fin 3) * 128 + 1 * d.val = t.val / 16 % 8 * 128 + d.val; omega
theorem emb2 (t : Fin cfg0.N) (s : Fin 16) (e : Fin 128) (k : Fin 512) : ((cfg0.win 2).blk t).view.emb (ix4 0 s e k) = ix4 (bt t) s (colt t e) k := by
  obtain ⟨e0, e1, e2, e3⟩ := idx2 t
  funext a; apply Fin.ext
  match a with
  | ⟨0, _⟩ => show win0_2.index t (0 : Fin 4) * 1 + 1 * 0 = t.val / 128; omega
  | ⟨1, _⟩ => show win0_2.index t (1 : Fin 4) * 16 + 1 * s.val = s.val; omega
  | ⟨2, _⟩ => show win0_2.index t (2 : Fin 4) * 128 + 1 * e.val = t.val / 16 % 8 * 128 + e.val; omega
  | ⟨3, _⟩ => show win0_2.index t (3 : Fin 4) * 512 + 1 * k.val = k.val; omega
theorem emb3 (t : Fin cfg0.N) (r : Fin 2) (d : Fin 64) : ((cfg0.win 3).blk t).view.emb (ix2 r d) = ix2 r d := by
  obtain ⟨e0, e1⟩ := idx3 t
  funext a; apply Fin.ext
  match a with
  | ⟨0, _⟩ => show win0_3.index t (0 : Fin 2) * 2 + 1 * r.val = r.val; omega
  | ⟨1, _⟩ => show win0_3.index t (1 : Fin 2) * 64 + 1 * d.val = d.val; omega
theorem emb4 (t : Fin cfg0.N) (r : Fin 2) (d : Fin 64) : ((cfg0.win 4).blk t).view.emb (ix2 r d) = ix2 r d := by
  obtain ⟨e0, e1⟩ := idx4 t
  funext a; apply Fin.ext
  match a with
  | ⟨0, _⟩ => show win0_4.index t (0 : Fin 2) * 2 + 1 * r.val = r.val; omega
  | ⟨1, _⟩ => show win0_4.index t (1 : Fin 2) * 64 + 1 * d.val = d.val; omega
theorem emb5 (t : Fin cfg0.N) (e : Fin 128) : ((cfg0.win 5).blk t).view.emb (ix2 e 0) = ix2 e 0 := by
  obtain ⟨e0, e1⟩ := idx5 t
  funext a; apply Fin.ext
  match a with
  | ⟨0, _⟩ => show win0_5.index t (0 : Fin 2) * 128 + 1 * e.val = e.val; omega
  | ⟨1, _⟩ => show win0_5.index t (1 : Fin 2) * 1 + 1 * 0 = 0; omega
theorem emb6 (t : Fin cfg0.N) (p : Fin 512) (e : Fin 128) : ((cfg0.win 6).blk t).view.emb (ix3 0 p e) = ix3 (bt t) (qt t p) (colt t e) := by
  obtain ⟨e0, e1, e2⟩ := idx6 t
  funext a; apply Fin.ext
  match a with
  | ⟨0, _⟩ => show win0_6.index t (0 : Fin 3) * 1 + 1 * 0 = t.val / 128; omega
  | ⟨1, _⟩ => show win0_6.index t (1 : Fin 3) * 512 + 1 * p.val = 512 * (t.val % 16) + p.val; omega
  | ⟨2, _⟩ => show win0_6.index t (2 : Fin 3) * 128 + 1 * e.val = t.val / 16 % 8 * 128 + e.val; omega

variable (m : (ℓ : Loc nD τ sig) → Buf (Elt Ideal) ℓ)

theorem V_v5 (c : Dev nD) (b : Fin 2) (t : Fin 8192) (j : Fin 1024) :
    V m c main_v5 (ix3 b t j) = m ((c : Thread nD τ).loc main_arg0) (ix5 b t ⟨j.val / 128, by omega⟩ ⟨j.val / 64 % 2, by omega⟩ ⟨j.val % 64, by omega⟩) := by
  unfold V hostOps0
  after_reads_at
theorem V_v1 (c : Dev nD) (b : Fin 2) (t : Fin 8192) (j : Fin 1024) :
    V m c main_v1 (ix3 b t j) = m ((c : Thread nD τ).loc main_arg1) (ix5 b t ⟨j.val / 128, by omega⟩ ⟨j.val / 64 % 2, by omega⟩ ⟨j.val % 64, by omega⟩) := by
  unfold V hostOps0
  after_reads_at
theorem V_v4 (c : Dev nD) (b : Fin 2) (s : Fin 16) (j : Fin 1024) (k : Fin 512) :
    V m c main_v4 (ix4 b s j k) = m ((c : Thread nD τ).loc main_arg2) (ix4 b ⟨s.val * 512 + k.val, by omega⟩ ⟨j.val / 128, by omega⟩ ⟨j.val % 128, by omega⟩) := by
  unfold V hostOps0
  after_reads_at
theorem V_v6 (c : Dev nD) (e : Fin 128) : V m c main_v6 (ix2 e 0) = m ((c : Thread nD τ).loc main_arg5) (ix1 e) := by
  unfold V hostOps0
  after_reads_at

end Cert.KernelIdeal.Hand
end
-- ==== Proof.AttnValue.Ref.lean ====
/-
  The reference of the attention call, stage by stage, at an index.
-/
module

public import proofs.«01_k».proof.Proof.Gen.ReferenceIdeal.Run
public import proofs.«01_k».proof.Proof.Gen.ReferenceIdeal.Read
public import proofs.«01_k».proof.Proof.AttnValue.Post

@[expose] public section

set_option maxRecDepth 16384

noncomputable section

namespace Cert.ReferenceIdeal.Hand

open Cert.ReferenceIdeal Cert.ReferenceIdeal.Gen Cert.ReferenceIdeal.Read Cert.Attention
open Cert.KernelIdeal.Hand (normed lam ofBits_neg_inf select_sle)
open Idealize.ShloMosaic

variable (x0 x1 : (⟨S2x8192x8x2x64, .f32⟩ : BufTy).Contents (Elt Ideal)) (x2 : (⟨S2x8192x8x128, .f32⟩ : BufTy).Contents (Elt Ideal))
  (x3 x4 : (⟨S2x64, .f32⟩ : BufTy).Contents (Elt Ideal)) (x5 : (⟨S128, .f32⟩ : BufTy).Contents (Elt Ideal))
  (b : Fin 2) (h : Fin 8) (m : Fin 2) (t : Fin 8192)

theorem v15_apply (i : S_.Idx) : val_main_v15 (F := Ideal) x3 x4 i = lam x3 x4 := by
  unfold val_main_v15 val_main_cst_1 val_main_v14 val_main_v13 val_main_v12 val_main_cst_0 val_main_v11 val_main_v10 val_main_v9 val_main_v8 val_main_v7 val_main_v6 val_main_v5 val_main_cst val_main_v4 val_main_v3 val_main_v2 val_main_v1 val_main_v0
  pointwise
  rfl

/-- The masked score of key `k` at query `t`. -/
def mscore (k : Fin 8192) : EReal :=
  if k.val ≤ t.val then (∑ d : Fin 64, x0 (ix5 b t h m d) * x1 (ix5 b k h m d)) * Ideal.ofBits .f32 0x3E000000#32 else ⊥

/-- The largest masked score at query `t`. -/
def mtop : EReal := max ⊥ (colMax (mscore x0 x1 b h m t))

theorem v25_apply (k : Fin 8192) : val_main_v25 (F := Ideal) x0 x1 (ix5 b h m t k) = mscore x0 x1 b h m t k := by
  unfold val_main_v25 val_main_call0_v2 val_main_call0_v1 val_main_call0_v0 val_main_cst_3 val_main_v24 val_main_v23 val_main_v22 val_main_v21 val_main_v20 val_main_v19 val_main_v18 val_main_v17 val_main_v16
  pointwise [dot_S2x8192x8x2x64_S2x8192x8x2x64_S2x8x2x8192x8192_4_4_1_1_023_023]
  rw [select_sle _ _ (by omega) (by omega)]
  unfold mscore val_main_cst_2
  show (if _ then _ * Ideal.ofBits .f32 0x3E000000#32 else Ideal.ofBits .f32 0xFF800000#32) = _
  rw [ofBits_neg_inf]

theorem reduces_last : S2x8x2x8192x8192.Reduces [4] S2x8x2x8192 := by decide

theorem lift_last (k : Fin 8192) : reduces_last.lift (ix4 b h m t) k = ix5 b h m t k := by
  funext a
  apply Fin.ext
  match a with
  | ⟨0, _⟩ => rfl
  | ⟨1, _⟩ => rfl
  | ⟨2, _⟩ => rfl
  | ⟨3, _⟩ => rfl
  | ⟨4, _⟩ => rfl

theorem v26_apply :
    val_main_v26 (F := Ideal) x0 x1 (ix4 b h m t) = colMax (mscore x0 x1 b h m t) := by
  have e := v25_apply x0 x1 b h m t
  unfold val_main_v26
  generalize val_main_v25 (F := Ideal) x0 x1 = s at *
  refine (Host.reduce_eq_fold_single (α := EReal) max s (val_main_cst_4 (F := Ideal)) reducesTo_S2x8x2x8192x8192_S2x8x2x8192_d4 reduces_last h_S_
    (ix4 b h m t)).trans ?_
  have hf : (s ∘ reduces_last.lift (ix4 b h m t)) = mscore x0 x1 b h m t :=
    funext fun k => (congrArg s (lift_last b h m t k)).trans (e k)
  have hi : val_main_cst_4 (F := Ideal) (Shape.Idx.first h_S_) = (⊥ : EReal) := ofBits_neg_inf
  rw [hi]
  exact congrArg (fun f => Finset.fold max (⊥ : EReal) f (Finset.univ : Finset (Fin 8192))) hf

theorem v28_apply : val_main_v28 (F := Ideal) x0 x1 (ix4 b h m t) = mtop x0 x1 b h m t := by
  rw [val_main_v28_apply, v26_apply, val_main_v27_apply, val_main_cst_5_apply]
  show max (Ideal.ofBits .f32 0xFF800000#32) _ = _
  rw [ofBits_neg_inf]
  unfold mtop
  exact Eq.refl _

/-- The softmax's numerator. -/
def mexp (k : Fin 8192) : EReal := Ideal.exp (mscore x0 x1 b h m t k - mtop x0 x1 b h m t)

theorem v32_apply (k : Fin 8192) : val_main_v32 (F := Ideal) x0 x1 (ix5 b h m t k) = mexp x0 x1 b h m t k := by
  have e := v25_apply x0 x1 b h m t k
  have e' := v28_apply x0 x1 b h m t
  unfold val_main_v32 val_main_v31 val_main_v30 val_main_v29
  generalize val_main_v25 (F := Ideal) x0 x1 = s at *
  generalize val_main_v28 (F := Ideal) x0 x1 = s' at *
  pointwise
  rw [e, e']
  rfl

/-- The attention map. -/
def prob (k : Fin 8192) : EReal := Ideal.div (mexp x0 x1 b h m t k) (∑ k : Fin 8192, mexp x0 x1 b h m t k)

theorem v36_apply (k : Fin 8192) : val_main_v36 (F := Ideal) x0 x1 (ix5 b h m t k) = prob x0 x1 b h m t k := by
  have e := v32_apply x0 x1 b h m t
  unfold val_main_v36 val_main_v35 val_main_v34 val_main_v33 val_main_cst_6
  generalize val_main_v32 (F := Ideal) x0 x1 = s at *
  pointwise
  unfold prob
  simp only [e]

/-- The values weighted by the difference of the two attention maps. -/
def mixed (e : Fin 128) : EReal :=
  ∑ k : Fin 8192, x2 (ix4 b k h e) * (prob x0 x1 b h 0 t k - lam x3 x4 * prob x0 x1 b h 1 t k)

theorem idx_first (k : Fin 8192) : idx_main_v37 (idx_main_v38 (ix4 b h t k)) = ix5 b h 0 t k := by
  funext a
  apply Fin.ext
  match a with
  | ⟨0, _⟩ => show (((b.val * 8 + h.val) * 8192 + t.val) * 8192 + k.val) / 536870912 = b.val; omega
  | ⟨1, _⟩ => show (((b.val * 8 + h.val) * 8192 + t.val) * 8192 + k.val) / 67108864 % 8 = h.val; omega
  | ⟨2, _⟩ => rfl
  | ⟨3, _⟩ => show (((b.val * 8 + h.val) * 8192 + t.val) * 8192 + k.val) / 8192 % 8192 = t.val; omega
  | ⟨4, _⟩ => show (((b.val * 8 + h.val) * 8192 + t.val) * 8192 + k.val) % 8192 = k.val; omega

theorem idx_second (k : Fin 8192) : idx_main_v39 (idx_main_v40 (ix4 b h t k)) = ix5 b h 1 t k := by
  funext a
  apply Fin.ext
  match a with
  | ⟨0, _⟩ => show (((b.val * 8 + h.val) * 8192 + t.val) * 8192 + k.val) / 536870912 = b.val; omega
  | ⟨1, _⟩ => show (((b.val * 8 + h.val) * 8192 + t.val) * 8192 + k.val) / 67108864 % 8 = h.val; omega
  | ⟨2, _⟩ => rfl
  | ⟨3, _⟩ => show (((b.val * 8 + h.val) * 8192 + t.val) * 8192 + k.val) / 8192 % 8192 = t.val; omega
  | ⟨4, _⟩ => show (((b.val * 8 + h.val) * 8192 + t.val) * 8192 + k.val) % 8192 = k.val; omega

theorem v43_apply (k : Fin 8192) : val_main_v43 (F := Ideal) x0 x1 x3 x4 (ix4 b h t k)
    = prob x0 x1 b h 0 t k - lam x3 x4 * prob x0 x1 b h 1 t k := by
  have e38 : val_main_v38 (F := Ideal) x0 x1 (ix4 b h t k) = prob x0 x1 b h 0 t k := by
    rw [val_main_v38_apply, val_main_v37_apply, idx_first, v36_apply]
  have e40 : val_main_v40 (F := Ideal) x0 x1 (ix4 b h t k) = prob x0 x1 b h 1 t k := by
    rw [val_main_v40_apply, val_main_v39_apply, idx_second, v36_apply]
  rw [val_main_v43_apply, val_main_v42_apply, val_main_v41_apply, v15_apply, e38, e40]
  exact Eq.refl _

theorem v44_apply (e : Fin 128) : val_main_v44 (F := Ideal) x0 x1 x2 x3 x4 (ix4 b h e t) = mixed x0 x1 x2 x3 x4 b h t e := by
  rw [val_main_v44_apply]
  unfold mixed
  refine Finset.sum_congr rfl fun k _ => ?_
  have el : lidx_main_v44 (ix4 b h e t) k = ix4 b k h e := funext fun a => match a with
    | ⟨0, _⟩ => rfl
    | ⟨1, _⟩ => rfl
    | ⟨2, _⟩ => rfl
    | ⟨3, _⟩ => rfl
  have er : ridx_main_v44 (ix4 b h e t) k = ix4 b h t k := funext fun a => match a with
    | ⟨0, _⟩ => rfl
    | ⟨1, _⟩ => rfl
    | ⟨2, _⟩ => rfl
    | ⟨3, _⟩ => rfl
  rw [el, er, v43_apply]

theorem v45_apply (e : Fin 128) : val_main_v45 (F := Ideal) x0 x1 x2 x3 x4 (ix4 b t h e) = mixed x0 x1 x2 x3 x4 b h t e := by
  rw [← v44_apply]
  unfold val_main_v45
  generalize val_main_v44 (F := Ideal) x0 x1 x2 x3 x4 = s
  pointwise

theorem result_apply (e : Fin 128) :
    val_main_v62 (F := Ideal) x0 x1 x2 x3 x4 x5 (ix3 b t ⟨h.val * 128 + e.val, by omega⟩)
      = normed (mixed x0 x1 x2 x3 x4 b h t) e * x5 (ix1 e) * Ideal.ofBits .f32 0x3F24FD5C#32 := by
  have e0 := v45_apply x0 x1 x2 x3 x4 b h t
  unfold val_main_v62 val_main_v61 val_main_v60 val_main_v59 val_main_cst_10 val_main_v58 val_main_v57 val_main_v56 val_main_v55 val_main_v54 val_main_v53 val_main_v52 val_main_v51 val_main_cst_9 val_main_v50 val_main_v49 val_main_cst_8 val_main_v48 val_main_v47 val_main_cst_7 val_main_v46
  generalize val_main_v45 (F := Ideal) x0 x1 x2 x3 x4 = s at *
  pointwise
  unfold normed
  simp only [e0]

end Cert.ReferenceIdeal.Hand
end
-- ==== Proof.AttnValue.Array.lean ====
/-
  From blocks to the array: with finite queries, keys, values and mixing rows, the attention call's result array
  is the reference's value of the call's arguments.
-/
module

public import proofs.«01_k».proof.Proof.AttnValue.Head
public import proofs.«01_k».proof.Proof.AttnValue.Blocks
public import proofs.«01_k».proof.Proof.AttnValue.Ref

@[expose] public section

set_option maxRecDepth 16384

noncomputable section

namespace Cert.ReferenceIdeal.Hand

open Cert.ReferenceIdeal Cert.ReferenceIdeal.Gen Cert.ReferenceIdeal.Read Cert.Attention
open Cert.KernelIdeal.Hand (normed lam ofBits_neg_inf select_sle)
open Idealize.ShloMosaic

/-- The float literal 1/8. -/
theorem ofBits_eighth : Ideal.ofBits .f32 0x3E000000#32 = ((1 / 8 : ℝ) : EReal) := by
  simp [Ideal.ofBits, Ideal.ieee]
  try rw [← EReal.coe_mul]
  try norm_num

/-- The mixing weight of real rows is real. -/
theorem lam_real (x3 x4 : (⟨S2x64, .f32⟩ : BufTy).Contents (Elt Ideal)) (a b : Fin 2 → Fin 64 → ℝ)
    (ha : ∀ r d, x3 (ix2 r d) = (a r d : EReal)) (hb : ∀ r d, x4 (ix2 r d) = (b r d : EReal)) :
    ∃ L : ℝ, lam x3 x4 = (L : EReal) := by
  obtain ⟨z, hz⟩ : ∃ z : ℝ, Ideal.ofBits .f32 0x3EB60549#32 = (z : EReal) := by
    simp [Ideal.ofBits, Ideal.ieee]
    exact ⟨_, (EReal.coe_mul _ _).symm⟩
  refine ⟨Real.exp (∑ d, a 0 d * b 0 d) - Real.exp (∑ d, a 1 d * b 1 d) + z, ?_⟩
  unfold lam
  simp only [ha, hb, ← EReal.coe_mul]
  rw [coe_sum, coe_sum, Ideal.exp_coe, Ideal.exp_coe, hz, ← EReal.coe_sub, ← EReal.coe_add]

section
variable (qa ka : Fin 2 → Fin 8192 → Fin 8 → Fin 2 → Fin 64 → ℝ) (va : Fin 2 → Fin 8192 → Fin 8 → Fin 128 → ℝ) (L : ℝ)

/-- The scores of a query under one map. -/
def scores (b : Fin 2) (h : Fin 8) (m : Fin 2) (t : Fin 8192) (k : Fin 8192) : ℝ :=
  (∑ d : Fin 64, qa b t h m d * ka b k h m d) * (1 / 8)

/-- The difference of the two maps' means. -/
def meanDiff (b : Fin 2) (h : Fin 8) (t : Fin 8192) (e : Fin 128) : ℝ :=
  mean (scores qa ka b h 0 t) (fun k => va b k h e) t.val - L * mean (scores qa ka b h 1 t) (fun k => va b k h e) t.val

variable (x0 x1 : (⟨S2x8192x8x2x64, .f32⟩ : BufTy).Contents (Elt Ideal)) (x2 : (⟨S2x8192x8x128, .f32⟩ : BufTy).Contents (Elt Ideal))
  (x3 x4 : (⟨S2x64, .f32⟩ : BufTy).Contents (Elt Ideal))
variable (hq : ∀ b t h m d, x0 (ix5 b t h m d) = (qa b t h m d : EReal)) (hk : ∀ b t h m d, x1 (ix5 b t h m d) = (ka b t h m d : EReal))
  (hv : ∀ b t h e, x2 (ix4 b t h e) = (va b t h e : EReal)) (hL : lam x3 x4 = (L : EReal))

include hq hk in
theorem mscore_real (b : Fin 2) (h : Fin 8) (m : Fin 2) (t : Fin 8192) : mscore x0 x1 b h m t = maskedRow (scores qa ka b h m t) t.val := by
  funext k
  unfold mscore maskedRow scores
  simp only [hq, hk, ← EReal.coe_mul]
  rw [coe_sum, ofBits_eighth, ← EReal.coe_mul]

include hq hk in
theorem prob_real (b : Fin 2) (h : Fin 8) (m : Fin 2) (t : Fin 8192) (k : Fin 8192) :
    prob x0 x1 b h m t k = ((weight (scores qa ka b h m t) t.val k / ∑ k, weight (scores qa ka b h m t) t.val k : ℝ) : EReal) := by
  unfold prob mexp mtop
  rw [mscore_real qa ka x0 x1 hq hk]
  exact softmax_real _ _ (by decide) k

include hq hk hv hL in
/-- The reference's mixed row on real data. -/
theorem mixed_real (b : Fin 2) (h : Fin 8) (t : Fin 8192) (e : Fin 128) :
    mixed x0 x1 x2 x3 x4 b h t e = (meanDiff qa ka va L b h t e : EReal) := by
  unfold mixed meanDiff
  rw [← mean_diff (scores qa ka b h 0 t) (scores qa ka b h 1 t) (fun k => va b k h e) L t.val]
  refine Finset.sum_congr rfl fun k _ => ?_
  rw [hv, hL, prob_real qa ka x0 x1 hq hk, prob_real qa ka x0 x1 hq hk]
end

end Cert.ReferenceIdeal.Hand

namespace Cert.KernelIdeal.Hand

open Cert.KernelIdeal Cert.KernelIdeal.Gen Cert.Attention
open Cert.ReferenceIdeal.Hand (scores meanDiff mixed_real result_apply)
open Idealize.ShloMosaic Idealize.ShloMosaic.TcCoe Idealize.SL.Sem

variable (m : (ℓ : Loc nD τ sig) → Buf (Elt Ideal) ℓ)

/-- The result array: the reference's value of the call's arguments. -/
def G (c : Dev nD) : FVec Ideal S2x8192x1024 .bf16 :=
  Cert.ReferenceIdeal.Read.val_main_v62 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

section
variable (c : Dev nD) (qa ka : Fin 2 → Fin 8192 → Fin 8 → Fin 2 → Fin 64 → ℝ) (va : Fin 2 → Fin 8192 → Fin 8 → Fin 128 → ℝ) (L : ℝ)
variable (hq : ∀ b t h mm d, m ((c : Thread nD τ).loc main_arg0) (ix5 b t h mm d) = (qa b t h mm d : EReal))
  (hk : ∀ b t h mm d, m ((c : Thread nD τ).loc main_arg1) (ix5 b t h mm d) = (ka b t h mm d : EReal))
  (hv : ∀ b t h e, m ((c : Thread nD τ).loc main_arg2) (ix4 b t h e) = (va b t h e : EReal))
  (hL : lam (m ((c : Thread nD τ).loc main_arg3)) (m ((c : Thread nD τ).loc main_arg4)) = (L : EReal))

/-- A row of a head's two maps, flattened. -/
def flat (qa : Fin 2 → Fin 8192 → Fin 8 → Fin 2 → Fin 64 → ℝ) (b : Fin 2) (n : Fin 8192) (j : Fin 1024) : ℝ :=
  qa b n ⟨j.val / 128, by omega⟩ ⟨j.val / 64 % 2, by omega⟩ ⟨j.val % 64, by omega⟩

theorem flat_first (t : Fin cfg0.N) (b : Fin 2) (n : Fin 8192) (d : Fin 64) : flat qa b n (colt t ⟨d.val, by omega⟩) = qa b n (ht t) 0 d := by
  have hd : d.val < 64 := d.isLt
  have hh : (ht t).val < 8 := (ht t).isLt
  have e1 : (⟨(colt t ⟨d.val, by omega⟩).val / 128, by omega⟩ : Fin 8) = ht t := Fin.ext (by show ((ht t).val * 128 + d.val) / 128 = (ht t).val; omega)
  have e2 : (⟨(colt t ⟨d.val, by omega⟩).val / 64 % 2, by omega⟩ : Fin 2) = 0 := Fin.ext (by show ((ht t).val * 128 + d.val) / 64 % 2 = 0; omega)
  have e3 : (⟨(colt t ⟨d.val, by omega⟩).val % 64, by omega⟩ : Fin 64) = d := Fin.ext (by show ((ht t).val * 128 + d.val) % 64 = d.val; omega)
  unfold flat
  rw [e1, e2, e3]
theorem flat_second (t : Fin cfg0.N) (b : Fin 2) (n : Fin 8192) (d : Fin 64) : flat qa b n (colt t ⟨64 + d.val, by omega⟩) = qa b n (ht t) 1 d := by
  have hd : d.val < 64 := d.isLt
  have hh : (ht t).val < 8 := (ht t).isLt
  have e1 : (⟨(colt t ⟨64 + d.val, by omega⟩).val / 128, by omega⟩ : Fin 8) = ht t := Fin.ext (by show ((ht t).val * 128 + (64 + d.val)) / 128 = (ht t).val; omega)
  have e2 : (⟨(colt t ⟨64 + d.val, by omega⟩).val / 64 % 2, by omega⟩ : Fin 2) = 1 := Fin.ext (by show ((ht t).val * 128 + (64 + d.val)) / 64 % 2 = 1; omega)
  have e3 : (⟨(colt t ⟨64 + d.val, by omega⟩).val % 64, by omega⟩ : Fin 64) = d := Fin.ext (by show ((ht t).val * 128 + (64 + d.val)) % 64 = d.val; omega)
  unfold flat
  rw [e1, e2, e3]

include hq in
theorem iblk0 (t : Fin cfg0.N) (p : Fin 512) (d : Fin 128) :
    iblk m c 0 t (ix3 0 p d) = (flat qa (bt t) (qt t p) (colt t d) : EReal) := by
  show V m c main_v5 (((cfg0.win 0).blk t).view.emb (ix3 0 p d)) = _
  rw [emb0, V_v5, hq]; rfl
include hk in
theorem iblk1 (t : Fin cfg0.N) (n : Fin 8192) (d : Fin 128) :
    iblk m c 1 t (ix3 0 n d) = (flat ka (bt t) n (colt t d) : EReal) := by
  show V m c main_v1 (((cfg0.win 1).blk t).view.emb (ix3 0 n d)) = _
  rw [emb1, V_v1, hk]; rfl
include hv in
theorem iblk2 (t : Fin cfg0.N) (s : Fin 16) (e : Fin 128) (k : Fin 512) :
    iblk m c 2 t (ix4 0 s e k) = (va (bt t) (keyOf s k) (ht t) e : EReal) := by
  show V m c main_v4 (((cfg0.win 2).blk t).view.emb (ix4 0 s e k)) = _
  rw [emb2, V_v4, hv]
  have he : e.val < 128 := e.isLt
  have hh : (ht t).val < 8 := (ht t).isLt
  have e1 : (⟨(colt t e).val / 128, by omega⟩ : Fin 8) = ht t := Fin.ext (by show ((ht t).val * 128 + e.val) / 128 = (ht t).val; omega)
  have e2 : (⟨(colt t e).val % 128, by omega⟩ : Fin 128) = e := Fin.ext (by show ((ht t).val * 128 + e.val) % 128 = e.val; omega)
  rw [e1, e2]
  rfl
theorem ix2_of {a b : Nat} (j : (⟨2, ![a, b]⟩ : Shape).Idx) : ∃ (r : Fin a) (d : Fin b), j = ix2 r d :=
  ⟨j (0 : Fin 2), j (1 : Fin 2), funext fun a => match a with
    | ⟨0, _⟩ => rfl
    | ⟨1, _⟩ => rfl⟩
theorem iblk3 (t : Fin cfg0.N) : (iblk m c 3 t : Vec Ideal S2x64 .f32) = m ((c : Thread nD τ).loc main_arg3) := by
  funext j
  obtain ⟨r, d, rfl⟩ := ix2_of j
  show V m c main_arg3 (((cfg0.win 3).blk t).view.emb (ix2 r d)) = _
  rw [emb3, V_main_arg3]
theorem iblk4 (t : Fin cfg0.N) : (iblk m c 4 t : Vec Ideal S2x64 .f32) = m ((c : Thread nD τ).loc main_arg4) := by
  funext j
  obtain ⟨r, d, rfl⟩ := ix2_of j
  show V m c main_arg4 (((cfg0.win 4).blk t).view.emb (ix2 r d)) = _
  rw [emb4, V_main_arg4]
theorem iblk5 (t : Fin cfg0.N) (e : Fin 128) : iblk m c 5 t (ix2 e 0) = m ((c : Thread nD τ).loc main_arg5) (ix1 e) := by
  show V m c main_v6 (((cfg0.win 5).blk t).view.emb (ix2 e 0)) = _
  rw [emb5, V_v6]

theorem first_eq (t : Fin cfg0.N) (p : Fin 512) :
    firstRow (fun p d => flat qa (bt t) (qt t p) (colt t d)) (fun n d => flat ka (bt t) n (colt t d)) p = scores qa ka (bt t) (ht t) 0 (qt t p) := by
  funext k
  unfold firstRow scores
  simp only [flat_first]
theorem second_eq (t : Fin cfg0.N) (p : Fin 512) :
    secondRow (fun p d => flat qa (bt t) (qt t p) (colt t d)) (fun n d => flat ka (bt t) n (colt t d)) p = scores qa ka (bt t) (ht t) 1 (qt t p) := by
  funext k
  unfold secondRow scores
  simp only [flat_second]

include hq hk hv hL in
/-- The block a grid point leaves is the reference's, on real data. -/
theorem oblk_apply (t : Fin cfg0.N) (p : Fin 512) (e : Fin 128) :
    oblk m c t (ix3 0 p e) = G m c (ix3 (bt t) (qt t p) (colt t e)) := by
  have hT : (grid0.coords t 2).val = t.val % 16 := coords_two t
  unfold oblk G
  rw [block_value (grid0.coords t) (fun p d => flat qa (bt t) (qt t p) (colt t d)) (fun n d => flat ka (bt t) n (colt t d))
      (fun n e => va (bt t) n (ht t) e) L _ _ _ _ _ _ (iblk0 m c qa hq t) (iblk1 m c ka hk t) (iblk2 m c va hv t)
      (by rw [iblk3, iblk4]; exact hL) (by rw [hT]; omega) p e,
    iblk5, first_eq, second_eq, result_apply]
  refine congrArg (fun o => normed o e * m ((c : Thread nD τ).loc main_arg5) (ix1 e) * Ideal.ofBits .f32 0x3F24FD5C#32) (funext fun e => ?_)
  rw [mixed_real qa ka va L _ _ _ _ _ hq hk hv hL, hT]
  rfl

theorem ix3_of (j : S1x512x128.Idx) : ∃ (p : Fin 512) (e : Fin 128), j = ix3 0 p e :=
  ⟨j (1 : Fin 3), j (2 : Fin 3), funext fun a => match a with
    | ⟨0, _⟩ => Fin.ext (by have h := (j (0 : Fin 3)).isLt; have h' : (j (0 : Fin 3)).val < 1 := h; show (j (0 : Fin 3)).val = 0; omega)
    | ⟨1, _⟩ => rfl
    | ⟨2, _⟩ => rfl⟩

include hq hk hv hL in
/-- What grid point `t` writes back is block `t` of the result array. -/
theorem flushed_eq (t : Fin cfg0.N) : (dats m 0 c).flushed 6 t = ((cfg0.win 6).blk t).view.read (Elt Ideal) (G m c) := by
  show (cfg0.win 6).cut (grid0.coords t) ((dats m 0 c).after 6 t) = _
  rw [after_6]
  funext j
  obtain ⟨p, e, rfl⟩ := ix3_of j
  show oblk m c t (ix3 0 p e) = G m c (((cfg0.win 6).blk t).view.emb (ix3 0 p e))
  rw [emb6]
  exact oblk_apply m c qa ka va L hq hk hv hL t p e

/-- Every index of the result lies in the block of its batch, its head and its query's tile. -/
theorem covered (i : S2x8192x1024.Idx) : ∃ t : Fin cfg0.N, (cfg0.win 6).flush t = true ∧ i ∈ ((cfg0.win 6).blk t).view.set := by
  have h0 : (i (0 : Fin 3)).val < 2 := (i (0 : Fin 3)).isLt
  have h1 : (i (1 : Fin 3)).val < 8192 := (i (1 : Fin 3)).isLt
  have h2 : (i (2 : Fin 3)).val < 1024 := (i (2 : Fin 3)).isLt
  let t : Fin cfg0.N := (⟨(i (0 : Fin 3)).val * 128 + (i (2 : Fin 3)).val / 128 * 16 + (i (1 : Fin 3)).val / 512, by omega⟩ : Fin 256)
  have ht' : t.val = (i (0 : Fin 3)).val * 128 + (i (2 : Fin 3)).val / 128 * 16 + (i (1 : Fin 3)).val / 512 := rfl
  refine ⟨t, flush0_6 _, ?_⟩
  have e : ((cfg0.win 6).blk t).view.emb (ix3 (0 : Fin 1) (⟨(i (1 : Fin 3)).val % 512, by omega⟩ : Fin 512) (⟨(i (2 : Fin 3)).val % 128, by omega⟩ : Fin 128)) = i := by
    refine (emb6 t ⟨(i (1 : Fin 3)).val % 512, by omega⟩ ⟨(i (2 : Fin 3)).val % 128, by omega⟩).trans ?_
    funext a; apply Fin.ext
    match a with
    | ⟨0, _⟩ => show t.val / 128 = (i (0 : Fin 3)).val; omega
    | ⟨1, _⟩ => show 512 * (t.val % 16) + (i (1 : Fin 3)).val % 512 = (i (1 : Fin 3)).val; omega
    | ⟨2, _⟩ => show t.val / 16 % 8 * 128 + (i (2 : Fin 3)).val % 128 = (i (2 : Fin 3)).val; omega
  have h := ((cfg0.win 6).blk t).view.emb_mem_set (ix3 (0 : Fin 1) (⟨(i (1 : Fin 3)).val % 512, by omega⟩ : Fin 512) (⟨(i (2 : Fin 3)).val % 128, by omega⟩ : Fin 128))
  rwa [e] at h

include hq hk hv hL in
theorem final : (dats m 0 c).arrAt 6 cfg0.N = G m c :=
  (dats m 0 c).arrAt_eq_of_cover 6 (G m c) (fun t _ => flushed_eq m c qa ka va L hq hk hv hL t) covered
end

end Cert.KernelIdeal.Hand
end
-- ==== Proof.AttnValue.Claims.lean ====
/-
  The attention call's value claim: for finite queries, keys, values and mixing rows, its result is the reference's.
-/
module

public import proofs.«01_k».proof.Defs
public import proofs.«01_k».proof.Proof.Attn.Claims
public import proofs.«01_k».proof.Proof.AttnValue.Array

@[expose] public section

set_option maxRecDepth 16384

noncomputable section

namespace Cert.Attention

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The precondition's broadcasts are from a scalar. -/
theorem pre_facts : Cert.Pre_finite.Facts where
  bcast_S_S2x8192x8x2x64 := by decide
  bcast_S_S2x8192x8x128 := by decide
  bcast_S_S2x64 := by decide

local instance : Cert.Pre_finite.Facts := pre_facts

theorem frame_ideal_pre : Cert.quiescent_KernelIdeal_pre_finite := fun m ρ _ => frame_ideal m ρ trivial

theorem frame_reference_pre : Cert.quiescent_ReferenceIdeal_pre_finite := fun m ρ _ => frame_reference m ρ trivial

theorem ofBits_inf : Ideal.ofBits .f32 0x7F800000#32 = ⊤ := by
  simp [Ideal.ofBits, Ideal.ieee]

/-- A number of absolute value below infinity is real. -/
theorem real_of_abs (x : EReal) (h : Ideal.cmp .olt (max x (-x)) (Ideal.ofBits .f32 0x7F800000#32) = 1#1) : ((x.toReal : ℝ) : EReal) = x := by
  rw [ofBits_inf] at h
  refine EReal.coe_toReal (fun e => ?_) (fun e => ?_)
  · subst e
    simp [Ideal.cmp] at h
  · subst e
    simp [Ideal.cmp] at h

section
variable (m : (ℓ : Loc Cert.KernelIdeal.nD Cert.KernelIdeal.τ Cert.KernelIdeal.sig) → Buf (Elt Ideal) ℓ)
  (hp : Cert.Pre_KernelIdeal_finite m) (c : Dev Cert.KernelIdeal.nD)

include hp in
/-- The array an admissible launch leaves is the reference's value of its arguments. -/
theorem array_value : (Cert.KernelIdeal.Hand.dats m 0 c).arrAt 6 Cert.KernelIdeal.cfg0.N = Cert.KernelIdeal.Hand.G m c := by
  obtain ⟨h0, h1, h2, h3, h4⟩ := hp c
  have q := fun b t h mm d => real_of_abs _ (congrFun h0 (ix5 b t h mm d))
  have k := fun b t h mm d => real_of_abs _ (congrFun h1 (ix5 b t h mm d))
  have v := fun b t h e => real_of_abs _ (congrFun h2 (ix4 b t h e))
  have lq := fun r d => real_of_abs _ (congrFun h3 (ix2 r d))
  have lk := fun r d => real_of_abs _ (congrFun h4 (ix2 r d))
  obtain ⟨L, hL⟩ := Cert.ReferenceIdeal.Hand.lam_real _ _ _ _ (fun r d => (lq r d).symm) (fun r d => (lk r d).symm)
  exact Cert.KernelIdeal.Hand.final m c _ _ _ L (fun b t h mm d => (q b t h mm d).symm) (fun b t h mm d => (k b t h mm d).symm)
    (fun b t h e => (v b t h e).symm) hL
end

theorem algebraic : Cert.algebraic_KernelIdeal_ReferenceIdeal_pre_finite := by
  intro m g m' g' hp hm
  refine ⟨fun c => Cert.KernelIdeal.Hand.G m c, (θ_run Cert.KernelIdeal.defs _ _).mono
      (fun r h c => ⟨((h.1 c).1 6).trans (array_value m hp c), h.2.1 c⟩)
      (θ_run_and (Cert.KernelIdeal.Hand.run_main (F := Ideal) m g) (Cert.KernelIdeal.Hand.frame_run (F := Ideal) m g)),
    (θ_run Cert.ReferenceIdeal.defs _ _).mono (fun r h c => ⟨(h c).1.trans ?_, (h c).2⟩) (Cert.ReferenceIdeal.Value.run (F := Ideal) m' g')⟩
  rw [Cert.ReferenceIdeal.Read.val_main_v62_eq]
  obtain ⟨h0, h1, h2, h3, h4, h5⟩ := hm c
  rw [h0, h1, h2, h3, h4, h5]
  rfl

end Cert.Attention

end
-- ==== Proof.Step.Claims.lean ====
/-
  The claims about the single-token recurrence call.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run

@[expose] public section

noncomputable section

namespace Cert.Step

open Idealize.ShloMosaic Idealize.SL.Sem

local instance : Cert.Kernel2.Facts := Cert.Kernel2.Gen.facts
local instance : Cert.Kernel2Ideal.Facts := Cert.Kernel2Ideal.Gen.facts
local instance : Cert.Reference2Ideal.Facts := Cert.Reference2Ideal.Gen.facts

theorem frame_kernel : Cert.quiescent_Kernel2 := fun m ρ _ => Cert.Kernel2.Gen.frame (F := Bits) m ρ

theorem frame_ideal : Cert.quiescent_Kernel2Ideal := fun m ρ _ => Cert.Kernel2Ideal.Gen.frame (F := Ideal) m ρ

theorem frame_reference : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

end Cert.Step

end
-- ==== Proof.StepValue.Head.lean ====
/-
  One head of the recurrence's step: the new state, its product with the receptance, and the gated output.
-/
module

public import Idealize.ShloMosaic.Lib.Pointwise
public import Idealize.ShloMosaic.Lib.ValueLayout

@[expose] public section

noncomputable section

namespace Cert.Step

open Idealize.ShloMosaic

/-- The position of lane `j` of head `h` in a row of all heads. -/
def lane (h : Fin 16) (j : Fin 64) : Fin 1024 := ⟨h.val * 64 + j.val, by omega⟩

/-- The scaled key divided by its length. -/
def direction (k kks : Fin 64 → EReal) (j : Fin 64) : EReal :=
  Ideal.div (k j * kks j) (max (Ideal.sqrt (∑ x, k x * kks x * (k x * kks x))) (Ideal.ofBits .f32 0x2B8CBCCC#32))

/-- The key as it enters the state. -/
def mixedKey (k a ka : Fin 64 → EReal) (j : Fin 64) : EReal := k j * (1 + (a j - 1) * ka j)

/-- The new state: the old one decayed, less its content along the key's direction, plus the value times the key. -/
def next (s : Fin 64 → Fin 64 → EReal) (lw k v a kks ka : Fin 64 → EReal) (i j : Fin 64) : EReal :=
  s i j * Ideal.exp (lw j) + (∑ x, s i x * -direction k kks x) * (direction k kks j * a j) + v i * mixedKey k a ka j

/-- The mean over a head's lanes. -/
def mean (y : Fin 64 → EReal) : EReal := Ideal.div (∑ x, y x) (Ideal.ofBits .f32 0x42800000#32)

/-- The head's normalised reading plus its bonus, gated. -/
def gated (y r km v g rk gg gb : Fin 64 → EReal) (j : Fin 64) : EReal :=
  ((y j - mean y) * Ideal.rsqrt (mean (fun x => (y x - mean y) * (y x - mean y)) + Ideal.ofBits .f32 0x3A27C5AC#32) * gg j + gb j
    + (∑ x, r x * km x * rk x) * v j) * g j

/-- A head's whole output. -/
def out (s : Fin 64 → Fin 64 → EReal) (r lw k v a g kks ka rk gg gb : Fin 64 → EReal) (j : Fin 64) : EReal :=
  gated (fun i => ∑ x, next s lw k v a kks ka i x * r x) r (mixedKey k a ka) v g rk gg gb j

end Cert.Step
end
-- ==== Proof.StepValue.Body.lean ====
/-
  The blocks the recurrence's step writes at a grid point, head by head.
-/
module

public import proofs.«01_k».proof.Proof.Gen.Kernel2Ideal.Frame
public import proofs.«01_k».proof.Proof.StepValue.Head

@[expose] public section

set_option maxRecDepth 16384

noncomputable section

namespace Cert.Kernel2Ideal.Hand

open Cert.Kernel2Ideal Cert.Kernel2Ideal.Gen Cert.Step
open Idealize.ShloMosaic

/-- The diagonal mask. -/
theorem diag_apply (i l : Fin 64) : k0_pay13 (F := Ideal) (ix3 0 i l) = if i = l then 1 else 0 := by
  unfold k0_pay13
  pointwise
  have hb : IntOp.cmpi CmpIPredicate.eq (BitVec.ofNat 32 i.val) (BitVec.ofNat 32 l.val) = if i = l then 1#1 else 0#1 := by
    by_cases e : i = l
    · subst e
      simp [IntOp.cmpi]
    · have hne : BitVec.ofNat 32 i.val ≠ BitVec.ofNat 32 l.val := fun h => e (Fin.ext (by
        have := congrArg BitVec.toNat h
        simp only [BitVec.toNat_ofNat] at this
        omega))
      rw [if_neg e]
      show BitVec.ofBool (BitVec.ofNat 32 i.val == BitVec.ofNat 32 l.val) = 0#1
      rw [beq_eq_false_iff_ne.mpr hne]
      rfl
  rw [hb]
  by_cases e : i = l
  · simp [e, FloatOps.sitofp]
  · simp [e, FloatOps.sitofp]

/-- A sum against a row of the diagonal mask is the entry on the diagonal. -/
theorem sum_diag (i : Fin 64) (f : Fin 64 → EReal) : ∑ x, (if i = x then (1 : EReal) else 0) * f x = f i := by
  rw [Finset.sum_eq_single i]
  · simp
  · intro x _ h
    simp [Ne.symm h]
  · simp

/-- A sum against a column of the diagonal mask is the entry on the diagonal. -/
theorem sum_diag' (j : Fin 64) (f : Fin 64 → EReal) : ∑ x, (if x = j then (1 : EReal) else 0) * f x = f j := by
  rw [Finset.sum_eq_single j]
  · simp
  · intro x _ h
    simp [h]
  · simp

theorem next_apply (v1 : FVec Ideal S16x64x64 .f32) (v6 v9 v12 v15 v22 v23 v24 : FVec Ideal S16x1x64 .f32) (h : Fin 16) (i j : Fin 64)
    (kks : Fin 64 → EReal) (e23 : ∀ j, v23 (ix3 h 0 j) = v9 (ix3 h 0 j) * kks j) (e24 : ∀ j, v24 (ix3 h 0 j) = v23 (ix3 h 0 j) * v23 (ix3 h 0 j)) :
    k0_pay14 (F := Ideal) v1 v6 v9 v12 v15 v22 v23 v24 (ix3 h i j)
      = next (fun i x => v1 (ix3 h i x)) (fun x => v6 (ix3 h 0 x)) (fun x => v9 (ix3 h 0 x)) (fun x => v12 (ix3 h 0 x)) (fun x => v15 (ix3 h 0 x)) kks
          (fun x => v22 (ix3 h 0 x)) i j := by
  have e := diag_apply i
  unfold k0_pay14 k0_pay12
  generalize k0_pay13 (F := Ideal) = eye at *
  pointwise
  simp only [e, sum_diag, e24, e23, zero_sub]
  rfl

theorem reading_apply (v1 : FVec Ideal S16x64x64 .f32) (v4 v6 v9 v12 v15 v22 v23 v24 : FVec Ideal S16x1x64 .f32) (h : Fin 16) (j : Fin 64) :
    k0_pay15 (F := Ideal) v1 v4 v6 v9 v12 v15 v22 v23 v24 (ix3 h 0 j)
      = ∑ x, k0_pay14 (F := Ideal) v1 v6 v9 v12 v15 v22 v23 v24 (ix3 h j x) * v4 (ix3 h 0 x) := by
  have e (i : Fin 64) := diag_apply i j
  unfold k0_pay15
  generalize k0_pay13 (F := Ideal) = eye at *
  generalize k0_pay14 (F := Ideal) v1 v6 v9 v12 v15 v22 v23 v24 = st at *
  pointwise
  simp only [e]
  exact sum_diag' j fun x => ∑ x_1, st (ix3 h x x_1) * v4 (ix3 h 0 x_1)

/-- Multiplying by the stored 1/64 is dividing by 64. -/
theorem mul_inv (x : EReal) : x * Ideal.ofBits .f32 0x3C800000#32 = Ideal.div x (Ideal.ofBits .f32 0x42800000#32) := by
  have e1 : Ideal.ofBits .f32 0x3C800000#32 = ((1 / 64 : ℝ) : EReal) := by
    simp [Ideal.ofBits, Ideal.ieee]
    rw [← EReal.coe_mul]
    norm_num
  have e2 : Ideal.ofBits .f32 0x42800000#32 = ((64 : ℝ) : EReal) := by
    simp [Ideal.ofBits, Ideal.ieee]
    rw [← EReal.coe_mul]
    norm_num
  rw [e1, e2, Ideal.div_coe (by norm_num)]

theorem gated_apply (v4 v12 v18 v37 v74 v78 v80 v82 : FVec Ideal S16x1x64 .f32) (h : Fin 16) (j : Fin 64) :
    k0_pay1 (F := Ideal) (k0_pay17 (F := Ideal) v4 v12 v18 v37 v74 v78 v80 v82) (ix4 0 h 0 j)
      = gated (fun x => v74 (ix3 h 0 x)) (fun x => v4 (ix3 h 0 x)) (fun x => v37 (ix3 h 0 x)) (fun x => v12 (ix3 h 0 x)) (fun x => v18 (ix3 h 0 x))
          (fun x => v78 (ix3 h 0 x)) (fun x => v80 (ix3 h 0 x)) (fun x => v82 (ix3 h 0 x)) j := by
  unfold k0_pay1 k0_pay17
  pointwise
  simp only [mul_inv]
  rfl

variable (x0 : Vec Ideal S1x16x64x64 .f32) (x1 x3 x4 x5 x6 : Vec Ideal S1x16x1x64 .bf16) (x2 : Vec Ideal S1x16x1x64 .f32)
  (x7 x8 x9 x10 x11 : Vec Ideal S16x1x64 .f32) (h : Fin 16) (i j : Fin 64)

theorem pay2_apply : k0_pay2 (F := Ideal) x0 (ix3 h i j) = x0 (ix4 0 h i j) := by
  unfold k0_pay2
  pointwise
theorem pay3_apply : k0_pay3 (F := Ideal) x1 (ix3 h 0 j) = x1 (ix4 0 h 0 j) := by
  unfold k0_pay3
  pointwise
theorem pay4_apply : k0_pay4 (F := Ideal) x2 (ix3 h 0 j) = x2 (ix4 0 h 0 j) := by
  unfold k0_pay4
  pointwise
theorem pay5_apply : k0_pay5 (F := Ideal) x3 (ix3 h 0 j) = x3 (ix4 0 h 0 j) := by
  unfold k0_pay5
  pointwise
theorem pay6_apply : k0_pay6 (F := Ideal) x4 (ix3 h 0 j) = x4 (ix4 0 h 0 j) := by
  unfold k0_pay6
  pointwise
theorem pay7_apply : k0_pay7 (F := Ideal) x5 (ix3 h 0 j) = x5 (ix4 0 h 0 j) := by
  unfold k0_pay7
  pointwise
theorem pay8_apply : k0_pay8 (F := Ideal) x6 (ix3 h 0 j) = x6 (ix4 0 h 0 j) := by
  unfold k0_pay8
  pointwise
theorem pay9_apply : k0_pay9 (F := Ideal) x8 (ix3 h 0 j) = x8 (ix3 h 0 j) := by
  unfold k0_pay9
  pointwise
theorem pay10_apply : k0_pay10 (F := Ideal) x3 x7 (ix3 h 0 j) = x3 (ix4 0 h 0 j) * x7 (ix3 h 0 j) := by
  unfold k0_pay10 k0_pay5
  pointwise
theorem pay11_apply : k0_pay11 (F := Ideal) x3 x7 (ix3 h 0 j) = k0_pay10 (F := Ideal) x3 x7 (ix3 h 0 j) * k0_pay10 (F := Ideal) x3 x7 (ix3 h 0 j) := by
  unfold k0_pay11
  generalize k0_pay10 (F := Ideal) x3 x7 = z
  pointwise
theorem pay12_apply (k a ka : FVec Ideal S16x1x64 .f32) :
    k0_pay12 (F := Ideal) k a ka (ix3 h 0 j) = mixedKey (fun x => k (ix3 h 0 x)) (fun x => a (ix3 h 0 x)) (fun x => ka (ix3 h 0 x)) j := by
  unfold k0_pay12
  pointwise
  rfl

theorem zero3 : (![0, 0, 0] : Fin 3 → Nat) = fun _ => 0 := by decide
theorem zero4 : (![0, 0, 0, 0] : Fin 4 → Nat) = fun _ => 0 := by decide

theorem ld0 : View.ld x0 r0_0 = x0 := View.ld_unit_zero zero4 _ _
theorem ld1 {e : EltTy} (x : Vec Ideal S1x16x1x64 e) : View.ld x r0_1 = x := View.ld_unit_zero zero4 _ _
theorem ld2 (x : Vec Ideal S16x1x64 .f32) : View.ld x r0_2 = x := View.ld_unit_zero zero3 _ _

theorem state_pay :
    k0_pay14 (F := Ideal) (k0_pay2 x0) (k0_pay4 x2) (k0_pay5 x3) (k0_pay6 x4) (k0_pay7 x5) (k0_pay9 x8) (k0_pay10 x3 x7) (k0_pay11 x3 x7) (ix3 h i j)
      = next (fun i x => x0 (ix4 0 h i x)) (fun x => x2 (ix4 0 h 0 x)) (fun x => x3 (ix4 0 h 0 x)) (fun x => x4 (ix4 0 h 0 x)) (fun x => x5 (ix4 0 h 0 x))
          (fun x => x7 (ix3 h 0 x)) (fun x => x8 (ix3 h 0 x)) i j := by
  rw [next_apply _ _ _ _ _ _ _ _ h i j (fun x => x7 (ix3 h 0 x)) (fun j => (pay10_apply x3 x7 h j).trans (congrArg (· * x7 (ix3 h 0 j)) (pay5_apply x3 h j).symm))
    (fun j => pay11_apply x3 x7 h j)]
  simp only [pay2_apply, pay4_apply, pay5_apply, pay6_apply, pay7_apply, pay9_apply]

/-- The block of the new state. -/
theorem state_apply :
    out0_13 (F := Ideal) x0 x1 x2 x3 x4 x5 x6 x7 x8 x9 x10 x11 (ix4 0 h i j)
      = next (fun i x => x0 (ix4 0 h i x)) (fun x => x2 (ix4 0 h 0 x)) (fun x => x3 (ix4 0 h 0 x)) (fun x => x4 (ix4 0 h 0 x)) (fun x => x5 (ix4 0 h 0 x))
          (fun x => x7 (ix3 h 0 x)) (fun x => x8 (ix3 h 0 x)) i j := by
  unfold out0_13 k0_pay18 k0_pay20 k0_pay21 k0_pay22 k0_pay23 k0_pay24 k0_pay25 k0_pay26
  rw [View.canon_unit_zero zero4]
  simp only [ld0, ld1, ld2]
  rw [← state_pay]
  generalize k0_pay14 (F := Ideal) _ _ _ _ _ _ _ _ = z
  unfold k0_pay16
  pointwise

/-- The block of the gated output. -/
theorem out_apply :
    out0_12 (F := Ideal) x0 x1 x2 x3 x4 x5 x6 x7 x8 x9 x10 x11 (ix4 0 h 0 j)
      = out (fun i x => x0 (ix4 0 h i x)) (fun x => x1 (ix4 0 h 0 x)) (fun x => x2 (ix4 0 h 0 x)) (fun x => x3 (ix4 0 h 0 x)) (fun x => x4 (ix4 0 h 0 x))
          (fun x => x5 (ix4 0 h 0 x)) (fun x => x6 (ix4 0 h 0 x)) (fun x => x7 (ix3 h 0 x)) (fun x => x8 (ix3 h 0 x))
          (fun x => x9 (ix3 h 0 x)) (fun x => x10 (ix3 h 0 x)) (fun x => x11 (ix3 h 0 x)) j := by
  unfold out0_12 k0_pay18 k0_pay19 k0_pay20 k0_pay21 k0_pay22 k0_pay23 k0_pay24 k0_pay25 k0_pay26
  rw [View.canon_unit_zero zero4]
  simp only [ld0, ld1, ld2]
  rw [gated_apply]
  simp only [reading_apply, state_pay, pay12_apply, pay3_apply, pay5_apply, pay6_apply, pay7_apply, pay8_apply, pay9_apply]
  rfl

end Cert.Kernel2Ideal.Hand
end
-- ==== Proof.StepValue.Array.lean ====
/-
  The two arrays the recurrence's step leaves, as functions of its arguments.
-/
module

public import proofs.«01_k».proof.Proof.StepValue.Body
public import Idealize.ShloMosaic.Lib.StableHlo.ReadAt

@[expose] public section

set_option maxRecDepth 16384

noncomputable section

namespace Cert.Kernel2Ideal.Hand

open Cert.Kernel2Ideal Cert.Kernel2Ideal.Gen Cert.Step
open Idealize.ShloMosaic Idealize.ShloMosaic.TcCoe Idealize.SL.Sem

/-- The batch of a grid point. -/
abbrev bt (t : Fin cfg0.N) : Fin 32 := ⟨t.val, t.isLt⟩

theorem idx0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)
theorem idx1 : ∀ t : Fin cfg0.N, win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)
theorem idx2 : ∀ t : Fin cfg0.N, win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)
theorem idx3 : ∀ t : Fin cfg0.N, win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)
theorem idx4 : ∀ t : Fin cfg0.N, win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)
theorem idx5 : ∀ t : Fin cfg0.N, win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)
theorem idx6 : ∀ t : Fin cfg0.N, win0_6.index t (0 : Fin 4) = t.val ∧ win0_6.index t (1 : Fin 4) = 0 ∧ win0_6.index t (2 : Fin 4) = 0 ∧ win0_6.index t (3 : Fin 4) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)
theorem idx11 : ∀ t : Fin cfg0.N, win0_11.index t (0 : Fin 3) = 0 ∧ win0_11.index t (1 : Fin 3) = 0 ∧ win0_11.index t (2 : Fin 3) = 0 :=
  (by decide +kernel : ∀ t : Fin grid0.N, _)
theorem idx12 : ∀ t : Fin cfg0.N, win0_12.index t (0 : Fin 4) = t.val ∧ win0_12.index t (1 : Fin 4) = 0 ∧ win0_12.index t (2 : Fin 4) = 0 ∧ win0_12.index t (3 : Fin 4) = 0 :=
  (by decide +kernel : ∀ t : Fin grid0.N, _)
theorem idx13 : ∀ t : Fin cfg0.N, win0_13.index t (0 : Fin 4) = t.val ∧ win0_13.index t (1 : Fin 4) = 0 ∧ win0_13.index t (2 : Fin 4) = 0 ∧ win0_13.index t (3 : Fin 4) = 0 :=
  (by decide +kernel : ∀ t : Fin grid0.N, _)

theorem emb0 (t : Fin cfg0.N) (h : Fin 16) (i j : Fin 64) : ((cfg0.win 0).blk t).view.emb (ix4 0 h i j) = ix4 (bt t) h i j := by
  obtain ⟨e0, e1, e2, e3⟩ := idx0 t
  funext a; apply Fin.ext
  match a with
  | ⟨0, _⟩ => show win0_0.index t (0 : Fin 4) * 1 + 1 * 0 = t.val; omega
  | ⟨1, _⟩ => show win0_0.index t (1 : Fin 4) * 16 + 1 * h.val = h.val; omega
  | ⟨2, _⟩ => show win0_0.index t (2 : Fin 4) * 64 + 1 * i.val = i.val; omega
  | ⟨3, _⟩ => show win0_0.index t (3 : Fin 4) * 64 + 1 * j.val = j.val; omega
theorem emb1 (t : Fin cfg0.N) (h : Fin 16) (j : Fin 64) : ((cfg0.win 1).blk t).view.emb (ix4 0 h 0 j) = ix4 (bt t) h 0 j := by
  obtain ⟨e0, e1, e2, e3⟩ := idx1 t
  funext a; apply Fin.ext
  match a with
  | ⟨0, _⟩ => show win0_1.index t (0 : Fin 4) * 1 + 1 * 0 = t.val; omega
  | ⟨1, _⟩ => show win0_1.index t (1 : Fin 4) * 16 + 1 * h.val = h.val; omega
  | ⟨2, _⟩ => show win0_1.index t (2 : Fin 4) * 1 + 1 * 0 = 0; omega
  | ⟨3, _⟩ => show win0_1.index t (3 : Fin 4) * 64 + 1 * j.val = j.val; omega
theorem emb2 (t : Fin cfg0.N) (h : Fin 16) (j : Fin 64) : ((cfg0.win 2).blk t).view.emb (ix4 0 h 0 j) = ix4 (bt t) h 0 j := by
  obtain ⟨e0, e1, e2, e3⟩ := idx2 t
  funext a; apply Fin.ext
  match a with
  | ⟨0, _⟩ => show win0_2.index t (0 : Fin 4) * 1 + 1 * 0 = t.val; omega
  | ⟨1, _⟩ => show win0_2.index t (1 : Fin 4) * 16 + 1 * h.val = h.val; omega
  | ⟨2, _⟩ => show win0_2.index t (2 : Fin 4) * 1 + 1 * 0 = 0; omega
  | ⟨3, _⟩ => show win0_2.index t (3 : Fin 4) * 64 + 1 * j.val = j.val; omega
theorem emb3 (t : Fin cfg0.N) (h : Fin 16) (j : Fin 64) : ((cfg0.win 3).blk t).view.emb (ix4 0 h 0 j) = ix4 (bt t) h 0 j := by
  obtain ⟨e0, e1, e2, e3⟩ := idx3 t
  funext a; apply Fin.ext
  match a with
  | ⟨0, _⟩ => show win0_3.index t (0 : Fin 4) * 1 + 1 * 0 = t.val; omega
  | ⟨1, _⟩ => show win0_3.index t (1 : Fin 4) * 16 + 1 * h.val = h.val; omega
  | ⟨2, _⟩ => show win0_3.index t (2 : Fin 4) * 1 + 1 * 0 = 0; omega
  | ⟨3, _⟩ => show win0_3.index t (3 : Fin 4) * 64 + 1 * j.val = j.val; omega
theorem emb4 (t : Fin cfg0.N) (h : Fin 16) (j : Fin 64) : ((cfg0.win 4).blk t).view.emb (ix4 0 h 0 j) = ix4 (bt t) h 0 j := by
  obtain ⟨e0, e1, e2, e3⟩ := idx4 t
  funext a; apply Fin.ext
  match a with
  | ⟨0, _⟩ => show win0_4.index t (0 : Fin 4) * 1 + 1 * 0 = t.val; omega
  | ⟨1, _⟩ => show win0_4.index t (1 : Fin 4) * 16 + 1 * h.val = h.val; omega
  | ⟨2, _⟩ => show win0_4.index t (2 : Fin 4) * 1 + 1 * 0 = 0; omega
  | ⟨3, _⟩ => show win0_4.index t (3 : Fin 4) * 64 + 1 * j.val = j.val; omega
theorem emb5 (t : Fin cfg0.N) (h : Fin 16) (j : Fin 64) : ((cfg0.win 5).blk t).view.emb (ix4 0 h 0 j) = ix4 (bt t) h 0 j := by
  obtain ⟨e0, e1, e2, e3⟩ := idx5 t
  funext a; apply Fin.ext
  match a with
  | ⟨0, _⟩ => show win0_5.index t (0 : Fin 4) * 1 + 1 * 0 = t.val; omega
  | ⟨1, _⟩ => show win0_5.index t (1 : Fin 4) * 16 + 1 * h.val = h.val; omega
  | ⟨2, _⟩ => show win0_5.index t (2 : Fin 4) * 1 + 1 * 0 = 0; omega
  | ⟨3, _⟩ => show win0_5.index t (3 : Fin 4) * 64 + 1 * j.val = j.val; omega
theorem emb6 (t : Fin cfg0.N) (h : Fin 16) (j : Fin 64) : ((cfg0.win 6).blk t).view.emb (ix4 0 h 0 j) = ix4 (bt t) h 0 j := by
  obtain ⟨e0, e1, e2, e3⟩ := idx6 t
  funext a; apply Fin.ext
  match a with
  | ⟨0, _⟩ => show win0_6.index t (0 : Fin 4) * 1 + 1 * 0 = t.val; omega
  | ⟨1, _⟩ => show win0_6.index t (1 : Fin 4) * 16 + 1 * h.val = h.val; omega
  | ⟨2, _⟩ => show win0_6.index t (2 : Fin 4) * 1 + 1 * 0 = 0; omega
  | ⟨3, _⟩ => show win0_6.index t (3 : Fin 4) * 64 + 1 * j.val = j.val; omega
theorem emb7 (t : Fin cfg0.N) (h : Fin 16) (j : Fin 64) : ((cfg0.win 7).blk t).view.emb (ix3 h 0 j) = ix3 h 0 j := by
  obtain ⟨e0, e1, e2⟩ := idx7 t
  funext a; apply Fin.ext
  match a with
  | ⟨0, _⟩ => show win0_7.index t (0 : Fin 3) * 16 + 1 * h.val = h.val; omega
  | ⟨1, _⟩ => show win0_7.index t (1 : Fin 3) * 1 + 1 * 0 = 0; omega
  | ⟨2, _⟩ => show win0_7.index t (2 : Fin 3) * 64 + 1 * j.val = j.val; omega
theorem emb8 (t : Fin cfg0.N) (h : Fin 16) (j : Fin 64) : ((cfg0.win 8).blk t).view.emb (ix3 h 0 j) = ix3 h 0 j := by
  obtain ⟨e0, e1, e2⟩ := idx8 t
  funext a; apply Fin.ext
  match a with
  | ⟨0, _⟩ => show win0_8.index t (0 : Fin 3) * 16 + 1 * h.val = h.val; omega
  | ⟨1, _⟩ => show win0_8.index t (1 : Fin 3) * 1 + 1 * 0 = 0; omega
  | ⟨2, _⟩ => show win0_8.index t (2 : Fin 3) * 64 + 1 * j.val = j.val; omega
theorem emb9 (t : Fin cfg0.N) (h : Fin 16) (j : Fin 64) : ((cfg0.win 9).blk t).view.emb (ix3 h 0 j) = ix3 h 0 j := by
  obtain ⟨e0, e1, e2⟩ := idx9 t
  funext a; apply Fin.ext
  match a with
  | ⟨0, _⟩ => show win0_9.index t (0 : Fin 3) * 16 + 1 * h.val = h.val; omega
  | ⟨1, _⟩ => show win0_9.index t (1 : Fin 3) * 1 + 1 * 0 = 0; omega
  | ⟨2, _⟩ => show win0_9.index t (2 : Fin 3) * 64 + 1 * j.val = j.val; omega
theorem emb10 (t : Fin cfg0.N) (h : Fin 16) (j : Fin 64) : ((cfg0.win 10).blk t).view.emb (ix3 h 0 j) = ix3 h 0 j := by
  obtain ⟨e0, e1, e2⟩ := idx10 t
  funext a; apply Fin.ext
  match a with
  | ⟨0, _⟩ => show win0_10.index t (0 : Fin 3) * 16 + 1 * h.val = h.val; omega
  | ⟨1, _⟩ => show win0_10.index t (1 : Fin 3) * 1 + 1 * 0 = 0; omega
  | ⟨2, _⟩ => show win0_10.index t (2 : Fin 3) * 64 + 1 * j.val = j.val; omega
theorem emb11 (t : Fin cfg0.N) (h : Fin 16) (j : Fin 64) : ((cfg0.win 11).blk t).view.emb (ix3 h 0 j) = ix3 h 0 j := by
  obtain ⟨e0, e1, e2⟩ := idx11 t
  funext a; apply Fin.ext
  match a with
  | ⟨0, _⟩ => show win0_11.index t (0 : Fin 3) * 16 + 1 * h.val = h.val; omega
  | ⟨1, _⟩ => show win0_11.index t (1 : Fin 3) * 1 + 1 * 0 = 0; omega
  | ⟨2, _⟩ => show win0_11.index t (2 : Fin 3) * 64 + 1 * j.val = j.val; omega
theorem emb12 (t : Fin cfg0.N) (h : Fin 16) (j : Fin 64) : ((cfg0.win 12).blk t).view.emb (ix4 0 h 0 j) = ix4 (bt t) h 0 j := by
  obtain ⟨e0, e1, e2, e3⟩ := idx12 t
  funext a; apply Fin.ext
  match a with
  | ⟨0, _⟩ => show win0_12.index t (0 : Fin 4) * 1 + 1 * 0 = t.val; omega
  | ⟨1, _⟩ => show win0_12.index t (1 : Fin 4) * 16 + 1 * h.val = h.val; omega
  | ⟨2, _⟩ => show win0_12.index t (2 : Fin 4) * 1 + 1 * 0 = 0; omega
  | ⟨3, _⟩ => show win0_12.index t (3 : Fin 4) * 64 + 1 * j.val = j.val; omega
theorem emb13 (t : Fin cfg0.N) (h : Fin 16) (i j : Fin 64) : ((cfg0.win 13).blk t).view.emb (ix4 0 h i j) = ix4 (bt t) h i j := by
  obtain ⟨e0, e1, e2, e3⟩ := idx13 t
  funext a; apply Fin.ext
  match a with
  | ⟨0, _⟩ => show win0_13.index t (0 : Fin 4) * 1 + 1 * 0 = t.val; omega
  | ⟨1, _⟩ => show win0_13.index t (1 : Fin 4) * 16 + 1 * h.val = h.val; omega
  | ⟨2, _⟩ => show win0_13.index t (2 : Fin 4) * 64 + 1 * i.val = i.val; omega
  | ⟨3, _⟩ => show win0_13.index t (3 : Fin 4) * 64 + 1 * j.val = j.val; omega

variable (m : (ℓ : Loc nD τ sig) → Buf (Elt Ideal) ℓ) (ρ : Dev nD → PrngReg)

theorem V_v0 (c : Dev nD) (b : Fin 32) (h : Fin 16) (j : Fin 64) : V m c main_v0 (ix4 b h 0 j) = m ((c : Thread nD τ).loc main_arg1) (ix3 b h j) := by
  unfold V hostOps0
  after_reads_at
theorem V_v1 (c : Dev nD) (b : Fin 32) (h : Fin 16) (j : Fin 64) : V m c main_v1 (ix4 b h 0 j) = m ((c : Thread nD τ).loc main_arg2) (ix3 b h j) := by
  unfold V hostOps0
  after_reads_at
theorem V_v2 (c : Dev nD) (b : Fin 32) (h : Fin 16) (j : Fin 64) : V m c main_v2 (ix4 b h 0 j) = m ((c : Thread nD τ).loc main_arg3) (ix3 b h j) := by
  unfold V hostOps0
  after_reads_at
theorem V_v3 (c : Dev nD) (b : Fin 32) (h : Fin 16) (j : Fin 64) : V m c main_v3 (ix4 b h 0 j) = m ((c : Thread nD τ).loc main_arg4) (ix3 b h j) := by
  unfold V hostOps0
  after_reads_at
theorem V_v4 (c : Dev nD) (b : Fin 32) (h : Fin 16) (j : Fin 64) : V m c main_v4 (ix4 b h 0 j) = m ((c : Thread nD τ).loc main_arg5) (ix3 b h j) := by
  unfold V hostOps0
  after_reads_at
theorem V_v5 (c : Dev nD) (b : Fin 32) (h : Fin 16) (j : Fin 64) : V m c main_v5 (ix4 b h 0 j) = m ((c : Thread nD τ).loc main_arg6) (ix3 b h j) := by
  unfold V hostOps0
  after_reads_at
theorem V_v6 (c : Dev nD) (h : Fin 16) (j : Fin 64) : V m c main_v6 (ix3 h 0 j) = m ((c : Thread nD τ).loc main_arg7) (ix1 (lane h j)) := by
  unfold V hostOps0
  after_reads_at
  rfl
theorem V_v7 (c : Dev nD) (h : Fin 16) (j : Fin 64) : V m c main_v7 (ix3 h 0 j) = m ((c : Thread nD τ).loc main_arg8) (ix1 (lane h j)) := by
  unfold V hostOps0
  after_reads_at
  rfl
theorem V_v8 (c : Dev nD) (h : Fin 16) (j : Fin 64) : V m c main_v8 (ix3 h 0 j) = m ((c : Thread nD τ).loc main_arg9) (ix1 (lane h j)) := by
  unfold V hostOps0
  after_reads_at
  rfl
theorem V_v9 (c : Dev nD) (h : Fin 16) (j : Fin 64) : V m c main_v9 (ix3 h 0 j) = m ((c : Thread nD τ).loc main_arg10) (ix1 (lane h j)) := by
  unfold V hostOps0
  after_reads_at
  rfl
theorem V_v10 (c : Dev nD) (h : Fin 16) (j : Fin 64) : V m c main_v10 (ix3 h 0 j) = m ((c : Thread nD τ).loc main_arg11) (ix1 (lane h j)) := by
  unfold V hostOps0
  after_reads_at
  rfl

theorem iblk0 (c : Dev nD) (t : Fin cfg0.N) (h : Fin 16) (i j : Fin 64) :
    iblk m c 0 t (ix4 0 h i j) = m ((c : Thread nD τ).loc main_arg0) (ix4 (bt t) h i j) := by
  show V m c main_arg0 (((cfg0.win 0).blk t).view.emb (ix4 0 h i j)) = _
  rw [emb0, V_main_arg0]
theorem iblk1 (c : Dev nD) (t : Fin cfg0.N) (h : Fin 16) (j : Fin 64) :
    iblk m c 1 t (ix4 0 h 0 j) = m ((c : Thread nD τ).loc main_arg1) (ix3 (bt t) h j) := by
  show V m c main_v0 (((cfg0.win 1).blk t).view.emb (ix4 0 h 0 j)) = _
  rw [emb1, V_v0]
theorem iblk2 (c : Dev nD) (t : Fin cfg0.N) (h : Fin 16) (j : Fin 64) :
    iblk m c 2 t (ix4 0 h 0 j) = m ((c : Thread nD τ).loc main_arg2) (ix3 (bt t) h j) := by
  show V m c main_v1 (((cfg0.win 2).blk t).view.emb (ix4 0 h 0 j)) = _
  rw [emb2, V_v1]
theorem iblk3 (c : Dev nD) (t : Fin cfg0.N) (h : Fin 16) (j : Fin 64) :
    iblk m c 3 t (ix4 0 h 0 j) = m ((c : Thread nD τ).loc main_arg3) (ix3 (bt t) h j) := by
  show V m c main_v2 (((cfg0.win 3).blk t).view.emb (ix4 0 h 0 j)) = _
  rw [emb3, V_v2]
theorem iblk4 (c : Dev nD) (t : Fin cfg0.N) (h : Fin 16) (j : Fin 64) :
    iblk m c 4 t (ix4 0 h 0 j) = m ((c : Thread nD τ).loc main_arg4) (ix3 (bt t) h j) := by
  show V m c main_v3 (((cfg0.win 4).blk t).view.emb (ix4 0 h 0 j)) = _
  rw [emb4, V_v3]
theorem iblk5 (c : Dev nD) (t : Fin cfg0.N) (h : Fin 16) (j : Fin 64) :
    iblk m c 5 t (ix4 0 h 0 j) = m ((c : Thread nD τ).loc main_arg5) (ix3 (bt t) h j) := by
  show V m c main_v4 (((cfg0.win 5).blk t).view.emb (ix4 0 h 0 j)) = _
  rw [emb5, V_v4]
theorem iblk6 (c : Dev nD) (t : Fin cfg0.N) (h : Fin 16) (j : Fin 64) :
    iblk m c 6 t (ix4 0 h 0 j) = m ((c : Thread nD τ).loc main_arg6) (ix3 (bt t) h j) := by
  show V m c main_v5 (((cfg0.win 6).blk t).view.emb (ix4 0 h 0 j)) = _
  rw [emb6, V_v5]
theorem iblk7 (c : Dev nD) (t : Fin cfg0.N) (h : Fin 16) (j : Fin 64) :
    iblk m c 7 t (ix3 h 0 j) = m ((c : Thread nD τ).loc main_arg7) (ix1 (lane h j)) := by
  show V m c main_v6 (((cfg0.win 7).blk t).view.emb (ix3 h 0 j)) = _
  rw [emb7, V_v6]
theorem iblk8 (c : Dev nD) (t : Fin cfg0.N) (h : Fin 16) (j : Fin 64) :
    iblk m c 8 t (ix3 h 0 j) = m ((c : Thread nD τ).loc main_arg8) (ix1 (lane h j)) := by
  show V m c main_v7 (((cfg0.win 8).blk t).view.emb (ix3 h 0 j)) = _
  rw [emb8, V_v7]
theorem iblk9 (c : Dev nD) (t : Fin cfg0.N) (h : Fin 16) (j : Fin 64) :
    iblk m c 9 t (ix3 h 0 j) = m ((c : Thread nD τ).loc main_arg9) (ix1 (lane h j)) := by
  show V m c main_v8 (((cfg0.win 9).blk t).view.emb (ix3 h 0 j)) = _
  rw [emb9, V_v8]
theorem iblk10 (c : Dev nD) (t : Fin cfg0.N) (h : Fin 16) (j : Fin 64) :
    iblk m c 10 t (ix3 h 0 j) = m ((c : Thread nD τ).loc main_arg10) (ix1 (lane h j)) := by
  show V m c main_v9 (((cfg0.win 10).blk t).view.emb (ix3 h 0 j)) = _
  rw [emb10, V_v9]
theorem iblk11 (c : Dev nD) (t : Fin cfg0.N) (h : Fin 16) (j : Fin 64) :
    iblk m c 11 t (ix3 h 0 j) = m ((c : Thread nD τ).loc main_arg11) (ix1 (lane h j)) := by
  show V m c main_v10 (((cfg0.win 11).blk t).view.emb (ix3 h 0 j)) = _
  rw [emb11, V_v10]

/-- The new state of head `h` of batch `b`, of the arguments' contents on core `c`. -/
def stateAt (c : Dev nD) (b : Fin 32) (h : Fin 16) (i j : Fin 64) : EReal :=
  next (fun i x => m ((c : Thread nD τ).loc main_arg0) (ix4 b h i x)) (fun x => m ((c : Thread nD τ).loc main_arg2) (ix3 b h x)) (fun x => m ((c : Thread nD τ).loc main_arg3) (ix3 b h x))
    (fun x => m ((c : Thread nD τ).loc main_arg4) (ix3 b h x)) (fun x => m ((c : Thread nD τ).loc main_arg5) (ix3 b h x))
    (fun x => m ((c : Thread nD τ).loc main_arg7) (ix1 (lane h x))) (fun x => m ((c : Thread nD τ).loc main_arg8) (ix1 (lane h x))) i j

/-- The output of head `h` of batch `b`, of the arguments' contents on core `c`. -/
def outAt (c : Dev nD) (b : Fin 32) (h : Fin 16) (j : Fin 64) : EReal :=
  out (fun i x => m ((c : Thread nD τ).loc main_arg0) (ix4 b h i x)) (fun x => m ((c : Thread nD τ).loc main_arg1) (ix3 b h x)) (fun x => m ((c : Thread nD τ).loc main_arg2) (ix3 b h x))
    (fun x => m ((c : Thread nD τ).loc main_arg3) (ix3 b h x)) (fun x => m ((c : Thread nD τ).loc main_arg4) (ix3 b h x)) (fun x => m ((c : Thread nD τ).loc main_arg5) (ix3 b h x))
    (fun x => m ((c : Thread nD τ).loc main_arg6) (ix3 b h x)) (fun x => m ((c : Thread nD τ).loc main_arg7) (ix1 (lane h x))) (fun x => m ((c : Thread nD τ).loc main_arg8) (ix1 (lane h x)))
    (fun x => m ((c : Thread nD τ).loc main_arg9) (ix1 (lane h x))) (fun x => m ((c : Thread nD τ).loc main_arg10) (ix1 (lane h x))) (fun x => m ((c : Thread nD τ).loc main_arg11) (ix1 (lane h x))) j

/-- The array of new states. -/
def GS (c : Dev nD) (i : S32x16x64x64.Idx) : EReal := stateAt m c (i (0 : Fin 4)) (i (1 : Fin 4)) (i (2 : Fin 4)) (i (3 : Fin 4))

/-- The array of outputs. -/
def GO (c : Dev nD) (i : S32x16x1x64.Idx) : EReal := outAt m c (i (0 : Fin 4)) (i (1 : Fin 4)) (i (3 : Fin 4))

theorem ix4_state (j : S1x16x64x64.Idx) : ∃ (h : Fin 16) (i k : Fin 64), j = ix4 0 h i k :=
  ⟨j (1 : Fin 4), j (2 : Fin 4), j (3 : Fin 4), funext fun a => match a with
    | ⟨0, _⟩ => Fin.ext (by have h := (j (0 : Fin 4)).isLt; have h' : (j (0 : Fin 4)).val < 1 := h; show (j (0 : Fin 4)).val = 0; omega)
    | ⟨1, _⟩ => rfl
    | ⟨2, _⟩ => rfl
    | ⟨3, _⟩ => rfl⟩

theorem ix4_out (j : S1x16x1x64.Idx) : ∃ (h : Fin 16) (k : Fin 64), j = ix4 0 h 0 k :=
  ⟨j (1 : Fin 4), j (3 : Fin 4), funext fun a => match a with
    | ⟨0, _⟩ => Fin.ext (by have h := (j (0 : Fin 4)).isLt; have h' : (j (0 : Fin 4)).val < 1 := h; show (j (0 : Fin 4)).val = 0; omega)
    | ⟨1, _⟩ => rfl
    | ⟨2, _⟩ => Fin.ext (by have h := (j (2 : Fin 4)).isLt; have h' : (j (2 : Fin 4)).val < 1 := h; show (j (2 : Fin 4)).val = 0; omega)
    | ⟨3, _⟩ => rfl⟩

/-- What grid point `t` writes back is block `t` of the array of new states. -/
theorem flushed_state (c : Dev nD) (t : Fin cfg0.N) :
    (dats m 0 c).flushed 13 t = ((cfg0.win 13).blk t).view.read (Elt Ideal) (GS m c) := by
  show (cfg0.win 13).cut (grid0.coords t) ((dats m 0 c).after 13 t) = _
  rw [after0_13]
  funext j
  obtain ⟨h, i, k, rfl⟩ := ix4_state j
  show out0_13 (F := Ideal) _ _ _ _ _ _ _ _ _ _ _ _ (ix4 0 h i k) = GS m c (((cfg0.win 13).blk t).view.emb (ix4 0 h i k))
  rw [emb13, state_apply]
  simp only [iblk0, iblk2, iblk3, iblk4, iblk5, iblk7, iblk8]
  rfl

/-- What grid point `t` writes back is block `t` of the array of outputs. -/
theorem flushed_out (c : Dev nD) (t : Fin cfg0.N) :
    (dats m 0 c).flushed 12 t = ((cfg0.win 12).blk t).view.read (Elt Ideal) (GO m c) := by
  show (cfg0.win 12).cut (grid0.coords t) ((dats m 0 c).after 12 t) = _
  rw [after0_12]
  funext j
  obtain ⟨h, k, rfl⟩ := ix4_out j
  show out0_12 (F := Ideal) _ _ _ _ _ _ _ _ _ _ _ _ (ix4 0 h 0 k) = GO m c (((cfg0.win 12).blk t).view.emb (ix4 0 h 0 k))
  rw [emb12, out_apply]
  simp only [iblk0, iblk1, iblk2, iblk3, iblk4, iblk5, iblk6, iblk7, iblk8, iblk9, iblk10, iblk11]
  rfl

theorem covered_state (i : S32x16x64x64.Idx) : ∃ t : Fin cfg0.N, (cfg0.win 13).flush t = true ∧ i ∈ ((cfg0.win 13).blk t).view.set := by
  have h0 : (i (0 : Fin 4)).val < 32 := (i (0 : Fin 4)).isLt
  let t : Fin cfg0.N := (⟨(i (0 : Fin 4)).val, h0⟩ : Fin 32)
  refine ⟨t, flush0_13 _, ?_⟩
  have e : ((cfg0.win 13).blk t).view.emb (ix4 (0 : Fin 1) (i (1 : Fin 4)) (i (2 : Fin 4)) (i (3 : Fin 4))) = i := by
    refine (emb13 t (i (1 : Fin 4)) (i (2 : Fin 4)) (i (3 : Fin 4))).trans ?_
    funext a; apply Fin.ext
    match a with
    | ⟨0, _⟩ => rfl
    | ⟨1, _⟩ => rfl
    | ⟨2, _⟩ => rfl
    | ⟨3, _⟩ => rfl
  have h := ((cfg0.win 13).blk t).view.emb_mem_set (ix4 (0 : Fin 1) (i (1 : Fin 4)) (i (2 : Fin 4)) (i (3 : Fin 4)))
  rwa [e] at h

theorem covered_out (i : S32x16x1x64.Idx) : ∃ t : Fin cfg0.N, (cfg0.win 12).flush t = true ∧ i ∈ ((cfg0.win 12).blk t).view.set := by
  have h0 : (i (0 : Fin 4)).val < 32 := (i (0 : Fin 4)).isLt
  have h2 : (i (2 : Fin 4)).val < 1 := (i (2 : Fin 4)).isLt
  let t : Fin cfg0.N := (⟨(i (0 : Fin 4)).val, h0⟩ : Fin 32)
  refine ⟨t, flush0_12 _, ?_⟩
  have e : ((cfg0.win 12).blk t).view.emb (ix4 (0 : Fin 1) (i (1 : Fin 4)) (0 : Fin 1) (i (3 : Fin 4))) = i := by
    refine (emb12 t (i (1 : Fin 4)) (i (3 : Fin 4))).trans ?_
    funext a; apply Fin.ext
    match a with
    | ⟨0, _⟩ => rfl
    | ⟨1, _⟩ => rfl
    | ⟨2, _⟩ => show 0 = (i (2 : Fin 4)).val; omega
    | ⟨3, _⟩ => rfl
  have h := ((cfg0.win 12).blk t).view.emb_mem_set (ix4 (0 : Fin 1) (i (1 : Fin 4)) (0 : Fin 1) (i (3 : Fin 4)))
  rwa [e] at h

theorem final_state (c : Dev nD) : (dats m 0 c).arrAt 13 cfg0.N = GS m c :=
  (dats m 0 c).arrAt_eq_of_cover 13 (GS m c) (fun t _ => flushed_state m c t) covered_state

theorem final_out (c : Dev nD) : (dats m 0 c).arrAt 12 cfg0.N = GO m c :=
  (dats m 0 c).arrAt_eq_of_cover 12 (GO m c) (fun t _ => flushed_out m c t) covered_out

end Cert.Kernel2Ideal.Hand
end
-- ==== Proof.StepValue.Ref.lean ====
/-
  The reference of the recurrence's step at an index.
-/
module

public import proofs.«01_k».proof.Proof.Gen.Reference2Ideal.Read
public import proofs.«01_k».proof.Proof.StepValue.Head

@[expose] public section

set_option maxRecDepth 16384

noncomputable section

namespace Cert.Reference2Ideal.Hand

open Cert.Reference2Ideal Cert.Reference2Ideal.Gen Cert.Reference2Ideal.Read Cert.Step
open Idealize.ShloMosaic

variable (x0 : (⟨S32x16x64x64, .f32⟩ : BufTy).Contents (Elt Ideal)) (x1 x3 x4 x5 x6 : (⟨S32x16x64, .bf16⟩ : BufTy).Contents (Elt Ideal))
  (x2 : (⟨S32x16x64, .f32⟩ : BufTy).Contents (Elt Ideal)) (x7 x8 x9 x10 x11 : (⟨S1024, .f32⟩ : BufTy).Contents (Elt Ideal))
  (b : Fin 32) (h : Fin 16) (i j : Fin 64)

/-- A row of all heads read at a head's lane. -/
theorem merge_idx : idx_main_v1 (ix2 b (lane h j)) = ix3 b h j := by
  funext a
  apply Fin.ext
  match a with
  | ⟨0, _⟩ => show (b.val * 1024 + (h.val * 64 + j.val)) / 1024 = b.val; omega
  | ⟨1, _⟩ => show (b.val * 1024 + (h.val * 64 + j.val)) / 64 % 16 = h.val; omega
  | ⟨2, _⟩ => show (b.val * 1024 + (h.val * 64 + j.val)) % 64 = j.val; omega

/-- A head's lane read in a row of all heads. -/
theorem split_idx : idx_main_v14 (ix3 b h j) = ix2 b (lane h j) := by
  funext a
  apply Fin.ext
  match a with
  | ⟨0, _⟩ => show ((b.val * 16 + h.val) * 64 + j.val) / 1024 = b.val; omega
  | ⟨1, _⟩ => show ((b.val * 16 + h.val) * 64 + j.val) % 1024 = h.val * 64 + j.val; omega

theorem v1_apply : val_main_v1 (F := Ideal) x1 (ix2 b (lane h j)) = x1 (ix3 b h j) :=
  (val_main_v1_apply x1 _).trans (congrArg x1 (merge_idx b h j))
theorem v3_apply : val_main_v3 (F := Ideal) x3 (ix2 b (lane h j)) = x3 (ix3 b h j) :=
  (val_main_v3_apply x3 _).trans (congrArg x3 (merge_idx b h j))
theorem v5_apply : val_main_v5 (F := Ideal) x4 (ix2 b (lane h j)) = x4 (ix3 b h j) :=
  (val_main_v5_apply x4 _).trans (congrArg x4 (merge_idx b h j))
theorem v7_apply : val_main_v7 (F := Ideal) x5 (ix2 b (lane h j)) = x5 (ix3 b h j) :=
  (val_main_v7_apply x5 _).trans (congrArg x5 (merge_idx b h j))
theorem v9_apply : val_main_v9 (F := Ideal) x6 (ix2 b (lane h j)) = x6 (ix3 b h j) :=
  (val_main_v9_apply x6 _).trans (congrArg x6 (merge_idx b h j))
theorem v28_apply : val_main_v28 (F := Ideal) x1 (ix3 b h j) = x1 (ix3 b h j) :=
  (val_main_v28_apply x1 _).trans ((congrArg (val_main_v1 (F := Ideal) x1) (split_idx b h j)).trans (v1_apply x1 b h j))
theorem v30_apply : val_main_v30 (F := Ideal) x4 (ix3 b h j) = x4 (ix3 b h j) :=
  (val_main_v30_apply x4 _).trans ((congrArg (val_main_v5 (F := Ideal) x4) (split_idx b h j)).trans (v5_apply x4 b h j))
theorem v31_apply : val_main_v31 (F := Ideal) x5 (ix3 b h j) = x5 (ix3 b h j) :=
  (val_main_v31_apply x5 _).trans ((congrArg (val_main_v7 (F := Ideal) x5) (split_idx b h j)).trans (v7_apply x5 b h j))

theorem v14_apply : val_main_v14 (F := Ideal) x3 x7 (ix3 b h j) = x3 (ix3 b h j) * x7 (ix1 (lane h j)) := by
  refine (val_main_v14_apply x3 x7 _).trans ((congrArg (val_main_v13 (F := Ideal) x3 x7) (split_idx b h j)).trans ?_)
  have e := v3_apply x3 b h j
  unfold val_main_v13 val_main_v12 val_main_v11
  generalize val_main_v3 (F := Ideal) x3 = k at *
  pointwise
  rw [e]

theorem v19_apply : val_main_v19 (F := Ideal) x3 x7 (ix3 b h j)
    = direction (fun x => x3 (ix3 b h x)) (fun x => x7 (ix1 (lane h x))) j := by
  have e := v14_apply x3 x7 b h
  unfold val_main_v19 val_main_v18 val_main_v17 val_main_v16 val_main_cst val_main_v15 val_main_call0_v2 val_main_call0_v1 val_main_call0_cst val_main_call0_v0
  generalize val_main_v14 (F := Ideal) x3 x7 = k at *
  pointwise
  unfold direction
  simp only [e]

theorem v29_apply : val_main_v29 (F := Ideal) x3 x5 x8 (ix3 b h j)
    = mixedKey (fun x => x3 (ix3 b h x)) (fun x => x5 (ix3 b h x)) (fun x => x8 (ix1 (lane h x))) j := by
  refine (val_main_v29_apply x3 x5 x8 _).trans ((congrArg (val_main_v27 (F := Ideal) x3 x5 x8) (split_idx b h j)).trans ?_)
  have e := v3_apply x3 b h j
  have e' := v7_apply x5 b h j
  unfold val_main_v27 val_main_v26 val_main_v25 val_main_cst_1 val_main_v24 val_main_v23 val_main_v22 val_main_v21 val_main_v20 val_main_cst_0
  generalize val_main_v3 (F := Ideal) x3 = k at *
  generalize val_main_v7 (F := Ideal) x5 = a at *
  pointwise
  rw [e, e']
  rfl

theorem v49_apply : val_main_v49 (F := Ideal) x0 x2 x3 x4 x5 x7 x8 (ix4 b h i j)
    = next (fun i x => x0 (ix4 b h i x)) (fun x => x2 (ix3 b h x)) (fun x => x3 (ix3 b h x)) (fun x => x4 (ix3 b h x))
        (fun x => x5 (ix3 b h x)) (fun x => x7 (ix1 (lane h x))) (fun x => x8 (ix1 (lane h x))) i j := by
  have e19 := v19_apply x3 x7 b h
  have e29 := v29_apply x3 x5 x8 b h j
  have e30 := v30_apply x4 b h i
  have e31 := v31_apply x5 b h j
  unfold val_main_v49 val_main_v48 val_main_v47 val_main_v46 val_main_v45 val_main_v44 val_main_v43 val_main_v42 val_main_v41 val_main_v40 val_main_v39
    val_main_v38 val_main_v37 val_main_v36 val_main_v35 val_main_v34 val_main_v33 val_main_v32 val_main_v10
  generalize val_main_v19 (F := Ideal) x3 x7 = d at *
  generalize val_main_v29 (F := Ideal) x3 x5 x8 = km at *
  generalize val_main_v30 (F := Ideal) x4 = v at *
  generalize val_main_v31 (F := Ideal) x5 = a at *
  pointwise [dot_S32x16x64x64_S32x16x64_S32x16x64_3_2_2_n_01_01]
  unfold next
  simp only [e19, e29, e30, e31]

/-- A head's lane of the block result read in a row of all heads. -/
theorem split4_idx : idx_main_v88 (ix4 b h 0 j) = ix2 b (lane h j) := by
  funext a
  apply Fin.ext
  match a with
  | ⟨0, _⟩ => show (((b.val * 16 + h.val) * 1 + 0) * 64 + j.val) / 1024 = b.val; omega
  | ⟨1, _⟩ => show (((b.val * 16 + h.val) * 1 + 0) * 64 + j.val) % 1024 = h.val * 64 + j.val; omega

theorem v50_apply : val_main_v50 (F := Ideal) x0 x1 x2 x3 x4 x5 x7 x8 (ix3 b h i)
    = ∑ x, next (fun i x => x0 (ix4 b h i x)) (fun x => x2 (ix3 b h x)) (fun x => x3 (ix3 b h x)) (fun x => x4 (ix3 b h x))
        (fun x => x5 (ix3 b h x)) (fun x => x7 (ix1 (lane h x))) (fun x => x8 (ix1 (lane h x))) i x * x1 (ix3 b h x) := by
  have e49 := v49_apply x0 x3 x4 x5 x2 x7 x8 b h i
  have e28 := v28_apply x1 b h
  unfold val_main_v50
  generalize val_main_v49 (F := Ideal) x0 x2 x3 x4 x5 x7 x8 = s at *
  generalize val_main_v28 (F := Ideal) x1 = r at *
  pointwise [dot_S32x16x64x64_S32x16x64_S32x16x64_3_2_2_n_01_01]
  simp only [e49, e28]

/-- The normalised reading. -/
theorem v68_apply (y : Fin 64 → EReal) (hy : ∀ i, val_main_v50 (F := Ideal) x0 x1 x2 x3 x4 x5 x7 x8 (ix3 b h i) = y i) :
    val_main_v68 (F := Ideal) x0 x1 x2 x3 x4 x5 x7 x8 (ix3 b h j)
      = (y j - mean y) * Ideal.rsqrt (mean (fun x => (y x - mean y) * (y x - mean y)) + Ideal.ofBits .f32 0x3A27C5AC#32) := by
  unfold val_main_v68 val_main_v67 val_main_v66 val_main_v65 val_main_v64 val_main_cst_6 val_main_v63 val_main_v62 val_main_v61 val_main_v60 val_main_cst_5
    val_main_v59 val_main_v58 val_main_cst_4 val_main_v57 val_main_v56 val_main_v55 val_main_v54 val_main_v53 val_main_cst_3 val_main_v52 val_main_v51 val_main_cst_2
  generalize val_main_v50 (F := Ideal) x0 x1 x2 x3 x4 x5 x7 x8 = z at *
  pointwise
  simp only [hy]
  rfl

/-- The bonus. -/
theorem v83_apply : val_main_v83 (F := Ideal) x1 x3 x4 x5 x8 x9 (ix3 b h j)
    = (∑ x, x1 (ix3 b h x) * mixedKey (fun x => x3 (ix3 b h x)) (fun x => x5 (ix3 b h x)) (fun x => x8 (ix1 (lane h x))) x * x9 (ix1 (lane h x)))
        * x4 (ix3 b h j) := by
  have e28 := v28_apply x1 b h
  have e29 := v29_apply x3 x5 x8 b h
  have e30 := v30_apply x4 b h j
  have e78 (x : Fin 64) : val_main_v78 (F := Ideal) x9 (ix3 b h x) = x9 (ix1 (lane h x)) := by
    refine (val_main_v78_apply x9 _).trans ((congrArg (val_main_v77 (F := Ideal) x9) (split_idx b h x)).trans ?_)
    unfold val_main_v77
    pointwise
  unfold val_main_v83 val_main_v82 val_main_v81 val_main_v80 val_main_cst_7 val_main_v79 val_main_v76
  generalize val_main_v28 (F := Ideal) x1 = r at *
  generalize val_main_v29 (F := Ideal) x3 x5 x8 = km at *
  generalize val_main_v30 (F := Ideal) x4 = v at *
  generalize val_main_v78 (F := Ideal) x9 = rk at *
  pointwise
  simp only [e28, e29, e30, e78]

theorem v88_apply : val_main_v88 (F := Ideal) x0 x1 x2 x3 x4 x5 x6 x7 x8 x9 x10 x11 (ix4 b h 0 j)
    = out (fun i x => x0 (ix4 b h i x)) (fun x => x1 (ix3 b h x)) (fun x => x2 (ix3 b h x)) (fun x => x3 (ix3 b h x)) (fun x => x4 (ix3 b h x))
        (fun x => x5 (ix3 b h x)) (fun x => x6 (ix3 b h x)) (fun x => x7 (ix1 (lane h x))) (fun x => x8 (ix1 (lane h x)))
        (fun x => x9 (ix1 (lane h x))) (fun x => x10 (ix1 (lane h x))) (fun x => x11 (ix1 (lane h x))) j := by
  rw [val_main_v88_apply, split4_idx]
  have e9 := v9_apply x6 b h j
  have e69 : val_main_v69 (F := Ideal) x0 x1 x2 x3 x4 x5 x7 x8 (ix2 b (lane h j)) = _ :=
    (val_main_v69_apply x0 x1 x2 x3 x4 x5 x7 x8 _).trans ((congrArg (val_main_v68 (F := Ideal) x0 x1 x2 x3 x4 x5 x7 x8) (merge_idx b h j)).trans
      (v68_apply x0 x1 x3 x4 x5 x2 x7 x8 b h j _ fun i => v50_apply x0 x1 x3 x4 x5 x2 x7 x8 b h i))
  have e84 : val_main_v84 (F := Ideal) x1 x3 x4 x5 x8 x9 (ix2 b (lane h j)) = _ :=
    (val_main_v84_apply x1 x3 x4 x5 x8 x9 _).trans ((congrArg (val_main_v83 (F := Ideal) x1 x3 x4 x5 x8 x9) (merge_idx b h j)).trans
      (v83_apply x1 x3 x4 x5 x8 x9 b h j))
  unfold val_main_v87 val_main_v86 val_main_v85 val_main_v75 val_main_v74 val_main_v73 val_main_v72 val_main_v71 val_main_v70
  generalize val_main_v69 (F := Ideal) x0 x1 x2 x3 x4 x5 x7 x8 = yn at *
  generalize val_main_v84 (F := Ideal) x1 x3 x4 x5 x8 x9 = bonus at *
  generalize val_main_v9 (F := Ideal) x6 = g at *
  pointwise
  rw [e9, e69, e84]
  rfl

end Cert.Reference2Ideal.Hand
end
-- ==== Proof.StepValue.Claims.lean ====
/-
  The value claim about the recurrence's step.
-/
module

public import proofs.«01_k».proof.Proof.Step.Claims
public import proofs.«01_k».proof.Proof.StepValue.Array
public import proofs.«01_k».proof.Proof.StepValue.Ref

@[expose] public section

set_option maxRecDepth 16384

noncomputable section

namespace Cert.Step

open Idealize.ShloMosaic Idealize.SL.Sem

local instance : Cert.Kernel2Ideal.Facts := Cert.Kernel2Ideal.Gen.facts
local instance : Cert.Reference2Ideal.Facts := Cert.Reference2Ideal.Gen.facts

theorem ix4_state_of (i : Cert.Kernel2Ideal.S32x16x64x64.Idx) : ∃ (b : Fin 32) (h : Fin 16) (j k : Fin 64), i = ix4 b h j k :=
  ⟨i (0 : Fin 4), i (1 : Fin 4), i (2 : Fin 4), i (3 : Fin 4), funext fun a => match a with
    | ⟨0, _⟩ => rfl
    | ⟨1, _⟩ => rfl
    | ⟨2, _⟩ => rfl
    | ⟨3, _⟩ => rfl⟩

theorem ix4_out_of (i : Cert.Kernel2Ideal.S32x16x1x64.Idx) : ∃ (b : Fin 32) (h : Fin 16) (k : Fin 64), i = ix4 b h 0 k :=
  ⟨i (0 : Fin 4), i (1 : Fin 4), i (3 : Fin 4), funext fun a => match a with
    | ⟨0, _⟩ => rfl
    | ⟨1, _⟩ => rfl
    | ⟨2, _⟩ => Fin.ext (by have h := (i (2 : Fin 4)).isLt; have h' : (i (2 : Fin 4)).val < 1 := h; show (i (2 : Fin 4)).val = 0; omega)
    | ⟨3, _⟩ => rfl⟩

theorem algebraic : Cert.algebraic_Kernel2Ideal_Reference2Ideal := by
  intro m g m' g' _ hm
  refine ⟨fun c => Cert.Kernel2Ideal.Hand.GO m c, fun c => Cert.Kernel2Ideal.Hand.GS m c, (θ_run Cert.Kernel2Ideal.defs _ _).mono
      (fun r h c => ⟨((h.1 c).1 12).trans (Cert.Kernel2Ideal.Hand.final_out m c), ((h.1 c).1 13).trans (Cert.Kernel2Ideal.Hand.final_state m c), h.2.1 c⟩)
      (θ_run_and (Cert.Kernel2Ideal.Gen.run_main (F := Ideal) m g) (Cert.Kernel2Ideal.Gen.frame (F := Ideal) m g)),
    (θ_run Cert.Reference2Ideal.defs _ _).mono (fun r h c => ⟨(h c).1.trans ?_, (h c).2.1.trans ?_, (h c).2.2⟩)
      (Cert.Reference2Ideal.Value.run (F := Ideal) m' g')⟩
  · rw [Cert.Reference2Ideal.Read.val_main_v88_eq]
    obtain ⟨h0, h1, h2, h3, h4, h5, h6, h7, h8, h9, h10, h11⟩ := hm c
    rw [h0, h1, h2, h3, h4, h5, h6, h7, h8, h9, h10, h11]
    funext i
    obtain ⟨b, h, k, rfl⟩ := ix4_out_of i
    exact Cert.Reference2Ideal.Hand.v88_apply ..
  · rw [Cert.Reference2Ideal.Read.val_main_v49_eq]
    obtain ⟨h0, h1, h2, h3, h4, h5, h6, h7, h8, h9, h10, h11⟩ := hm c
    rw [h0, h2, h3, h4, h5, h7, h8]
    funext i
    obtain ⟨b, h, j, k, rfl⟩ := ix4_state_of i
    exact Cert.Reference2Ideal.Hand.v49_apply ..

end Cert.Step

end
-- ==== Proof.Mlp.Row.lean ====
/-
  The mixing-and-MLP call on one row of the extended reals: the layer norm of a row, the residual row that enters
  the MLP, and the row the call returns.
-/
module

public import Idealize.ShloMosaic.PureOps.Ideal

@[expose] public section

noncomputable section

namespace Cert.Mlp

open Idealize.ShloMosaic

/-- A row less its mean. -/
def centred (z : Fin 1024 → EReal) (c : Fin 1024) : EReal :=
  z c - Ideal.div (∑ k : Fin 1024, z k) (Ideal.ofBits .f32 0x44800000#32)

/-- The layer norm of a row `z` with gain `g` and offset `b`. -/
def layerNorm (z g b : Fin 1024 → EReal) (c : Fin 1024) : EReal :=
  centred z c * Ideal.rsqrt (Ideal.div (∑ k : Fin 1024, centred z k * centred z k) (Ideal.ofBits .f32 0x44800000#32)
    + Ideal.ofBits .f32 0x3727C5AC#32) * g c + b c

/-- The residual row: `α · x + (1 + gate) · y`. -/
def residual (x gate y : Fin 1024 → EReal) (c : Fin 1024) : EReal :=
  Ideal.ofBits .f32 0x3FB504F3#32 * x c + (1 + gate c) * y c

/-- The row after the token mixer: the layer norm of the residual with the mixer's projected output. -/
def mixed (o x gate g b : Fin 1024 → EReal) (wo : Fin 1024 → Fin 1024 → EReal) : Fin 1024 → EReal :=
  layerNorm (residual x gate fun c => ∑ k : Fin 1024, o k * wo k c) g b

/-- The MLP of a modulated row: two products with the square of the positive part between. -/
def hidden (x scale shift : Fin 1024 → EReal) (w1 : Fin 1024 → Fin 4096 → EReal) (f : Fin 4096) : EReal :=
  max (∑ k : Fin 1024, (x k * (1 + scale k) + shift k) * w1 k f) 0

/-- The row the call returns. -/
def mlp (x scale shift gate g b : Fin 1024 → EReal) (w1 : Fin 1024 → Fin 4096 → EReal) (w2 : Fin 4096 → Fin 1024 → EReal) :
    Fin 1024 → EReal :=
  layerNorm (residual x gate fun c => ∑ f : Fin 4096, hidden x scale shift w1 f * hidden x scale shift w1 f * w2 f c) g b

end Cert.Mlp

end
-- ==== Proof.Mlp.Body.lean ====
/-
  The block the mixing-and-MLP call writes at a grid point, row by row.
-/
module

public import proofs.«01_k».proof.Proof.Gen.Kernel3Ideal.Value
public import proofs.«01_k».proof.Proof.Mlp.Row
public import Idealize.ShloMosaic.Lib.Pointwise
public import Idealize.ShloMosaic.Lib.ValueLayout

@[expose] public section

set_option maxRecDepth 16384

noncomputable section

namespace Cert.Kernel3Ideal.Hand

open Cert.Kernel3Ideal Cert.Kernel3Ideal.Gen Cert.Mlp
open Idealize.ShloMosaic

variable (o : Vec Ideal S1x512x1024 .bf16) (x : Vec Ideal S1x512x1024 .f32) (gm sh sc gf : Vec Ideal S1x1x1024 .f32)
  (wo : Vec Ideal S1024x1024 .bf16) (w1 : Vec Ideal S1024x4096 .bf16) (w2 : Vec Ideal S4096x1024 .bf16)
  (lg lb : Vec Ideal S2x1024 .f32)

theorem pay4_apply (r : Fin 512) (c : Fin 1024) :
    k0_pay4 (F := Ideal) o wo x gm (ix2 r c)
      = centred (residual (fun c => x (ix3 0 r c)) (fun c => gm (ix3 0 0 c)) fun c => ∑ k : Fin 1024, o (ix3 0 r k) * wo (ix2 k c)) c := by
  unfold k0_pay4
  pointwise [dot_S512x1024_S1024x1024_S512x1024_1_0_0_1_n_n]
  rfl

theorem pay5_apply (r : Fin 512) (c : Fin 1024) :
    k0_pay5 (F := Ideal) o wo x gm (ix2 r c)
      = Ideal.rsqrt (Ideal.div (∑ k : Fin 1024, k0_pay4 (F := Ideal) o wo x gm (ix2 r k) * k0_pay4 (F := Ideal) o wo x gm (ix2 r k)) (Ideal.ofBits .f32 0x44800000#32)
    + Ideal.ofBits .f32 0x3727C5AC#32) := by
  unfold k0_pay5
  generalize k0_pay4 (F := Ideal) o wo x gm = z
  pointwise

theorem pay2_apply (c : Fin 1024) : k0_pay2 (F := Ideal) lg (ix2 0 c) = lg (ix2 0 c) := by
  unfold k0_pay2
  pointwise

theorem pay3_apply (c : Fin 1024) : k0_pay3 (F := Ideal) lb (ix2 0 c) = lb (ix2 0 c) := by
  unfold k0_pay3
  pointwise

theorem pay7_apply (c : Fin 1024) : k0_pay7 (F := Ideal) lg (ix2 0 c) = lg (ix2 1 c) := by
  unfold k0_pay7
  pointwise

theorem pay8_apply (c : Fin 1024) : k0_pay8 (F := Ideal) lb (ix2 0 c) = lb (ix2 1 c) := by
  unfold k0_pay8
  pointwise

theorem pay6_apply (g b : FVec Ideal S1x1024 .f32) (z n : FVec Ideal S512x1024 .f32) (r : Fin 512) (c : Fin 1024) :
    k0_pay6 (F := Ideal) g b z n sc sh w1 w2 gf (ix2 r c)
      = residual (fun c => z (ix2 r c) * n (ix2 r c) * g (ix2 0 c) + b (ix2 0 c)) (fun c => gf (ix3 0 0 c)) (fun c =>
          ∑ f : Fin 4096, hidden (fun c => z (ix2 r c) * n (ix2 r c) * g (ix2 0 c) + b (ix2 0 c)) (fun c => sc (ix3 0 0 c))
            (fun c => sh (ix3 0 0 c)) (fun k f => w1 (ix2 k f)) f * hidden (fun c => z (ix2 r c) * n (ix2 r c) * g (ix2 0 c) + b (ix2 0 c)) (fun c => sc (ix3 0 0 c))
            (fun c => sh (ix3 0 0 c)) (fun k f => w1 (ix2 k f)) f * w2 (ix2 f c)) c := by
  unfold k0_pay6
  pointwise [dot_S512x1024_S1024x4096_S512x4096_1_0_0_1_n_n, dot_S512x4096_S4096x1024_S512x1024_1_0_0_1_n_n]
  rfl

theorem pay9_apply (g b : FVec Ideal S1x1024 .f32) (z n : FVec Ideal S512x1024 .f32) (r : Fin 512) :
    k0_pay9 (F := Ideal) g b z n sc sh w1 w2 gf (ix2 r 0)
      = ∑ c : Fin 1024, k0_pay6 (F := Ideal) g b z n sc sh w1 w2 gf (ix2 r c) := by
  unfold k0_pay9
  generalize k0_pay6 (F := Ideal) g b z n sc sh w1 w2 gf = y
  pointwise

theorem pay1_apply (y : FVec Ideal S512x1024 .f32) (g b : FVec Ideal S1x1024 .f32) (s : FVec Ideal S512x1 .f32) (r : Fin 512) (c : Fin 1024)
    (hs : s (ix2 r 0) = ∑ c : Fin 1024, y (ix2 r c)) :
    k0_pay1 (F := Ideal) y g b s (Scalar.ofBits .f32 0x44800000#32) (ix3 0 r c)
      = layerNorm (fun c => y (ix2 r c)) (fun c => g (ix2 0 c)) (fun c => b (ix2 0 c)) c := by
  unfold k0_pay1
  pointwise
  rw [hs]
  rfl

theorem zero2 : (![0, 0] : Fin 2 → Nat) = fun _ => 0 := by decide
theorem zero3 : (![0, 0, 0] : Fin 3 → Nat) = fun _ => 0 := by decide

/-- The block written at a grid point, at an index: the row's value. -/
theorem out_apply (r : Fin 512) (c : Fin 1024) :
    out0_11 (F := Ideal) o x gm sh sc gf wo w1 w2 lg lb (ix3 0 r c)
      = mlp (mixed (fun c => o (ix3 0 r c)) (fun c => x (ix3 0 r c)) (fun c => gm (ix3 0 0 c)) (fun c => lg (ix2 0 c))
          (fun c => lb (ix2 0 c)) fun k c => wo (ix2 k c))
        (fun c => sc (ix3 0 0 c)) (fun c => sh (ix3 0 0 c)) (fun c => gf (ix3 0 0 c)) (fun c => lg (ix2 1 c)) (fun c => lb (ix2 1 c))
        (fun k f => w1 (ix2 k f)) (fun f c => w2 (ix2 f c)) c := by
  unfold out0_11 k0_pay10 k0_pay11 k0_pay12 k0_pay13
  rw [View.canon_unit_zero zero3, View.ld_unit_zero zero2, View.ld_unit_zero zero2, View.ld_unit_zero zero3, View.ld_unit_zero zero2,
    View.ld_unit_zero zero3, View.ld_unit_zero zero3, View.ld_unit_zero zero3, View.ld_unit_zero zero3, View.ld_unit_zero zero2,
    View.ld_unit_zero zero2, View.ld_unit_zero zero3]
  rw [pay1_apply _ _ _ _ _ _ (pay9_apply ..)]
  simp only [pay6_apply, pay2_apply, pay3_apply, pay4_apply, pay5_apply, pay7_apply, pay8_apply]
  rfl

end Cert.Kernel3Ideal.Hand
end
-- ==== Proof.Mlp.Array.lean ====
/-
  The array the mixing-and-MLP call leaves, as one function of its arguments: every row is `mlp` of the row's data.
-/
module

public import proofs.«01_k».proof.Proof.Mlp.Body
public import Idealize.ShloMosaic.Lib.StableHlo.ReadAt

@[expose] public section

set_option maxRecDepth 16384

noncomputable section

namespace Cert.Mlp

open Idealize.ShloMosaic

/-- Column `c` of chunk `n` of the modulation's last axis. -/
abbrev chunk (n : Nat) (hn : n < 6) (c : Fin 1024) : Fin 6144 := ⟨n * 1024 + c.val, by omega⟩

/-- The result at an index, of the eight arguments. -/
def result (a0 : Fin 2 → Fin 8192 → Fin 1024 → EReal) (a1 : Fin 2 → Fin 8192 → Fin 1024 → EReal) (a2 : Fin 2 → Fin 6144 → EReal)
    (a3 : Fin 1024 → Fin 1024 → EReal) (a4 : Fin 1024 → Fin 4096 → EReal) (a5 : Fin 4096 → Fin 1024 → EReal)
    (a6 a7 : Fin 2 → Fin 1024 → EReal) (b : Fin 2) (t : Fin 8192) : Fin 1024 → EReal :=
  mlp (mixed (a0 b t) (a1 b t) (fun c => a2 b (chunk 2 (by decide) c)) (a6 0) (a7 0) a3)
    (fun c => a2 b (chunk 4 (by decide) c)) (fun c => a2 b (chunk 3 (by decide) c)) (fun c => a2 b (chunk 5 (by decide) c))
    (a6 1) (a7 1) a4 a5

end Cert.Mlp

namespace Cert.Kernel3Ideal.Hand

open Cert.Kernel3Ideal Cert.Kernel3Ideal.Gen Cert.Kernel3Ideal.Value Cert.Mlp
open Idealize.ShloMosaic Idealize.ShloMosaic.TcCoe Idealize.SL.Sem

/-- The batch of a grid point. -/
abbrev bt (t : Fin cfg0.N) : Fin 2 := ⟨t.val / 16, by have : t.val < 32 := t.isLt; omega⟩
/-- Row `r` of a grid point's block. -/
abbrev rt (t : Fin cfg0.N) (r : Fin 512) : Fin 8192 := ⟨t.val % 16 * 512 + r.val, by omega⟩

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)
theorem idx2 : ∀ t : Fin cfg0.N, win0_2.index t (0 : Fin 3) = t.val / 16 ∧ win0_2.index t (1 : Fin 3) = 0 ∧ win0_2.index t (2 : Fin 3) = 2 :=
  (by decide +kernel : ∀ t : Fin grid0.N, _)
theorem idx3 : ∀ t : Fin cfg0.N, win0_3.index t (0 : Fin 3) = t.val / 16 ∧ win0_3.index t (1 : Fin 3) = 0 ∧ win0_3.index t (2 : Fin 3) = 3 :=
  (by decide +kernel : ∀ t : Fin grid0.N, _)
theorem idx4 : ∀ t : Fin cfg0.N, win0_4.index t (0 : Fin 3) = t.val / 16 ∧ win0_4.index t (1 : Fin 3) = 0 ∧ win0_4.index t (2 : Fin 3) = 4 :=
  (by decide +kernel : ∀ t : Fin grid0.N, _)
theorem idx5 : ∀ t : Fin cfg0.N, win0_5.index t (0 : Fin 3) = t.val / 16 ∧ win0_5.index t (1 : Fin 3) = 0 ∧ win0_5.index t (2 : Fin 3) = 5 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 3) = t.val / 16 ∧ win0_11.index t (1 : Fin 3) = t.val % 16 ∧ win0_11.index t (2 : Fin 3) = 0 :=
  (by decide +kernel : ∀ t : Fin grid0.N, _)

theorem emb0 (t : Fin cfg0.N) (r : Fin 512) (k : Fin 1024) : ((cfg0.win 0).blk t).view.emb (ix3 0 r k) = ix3 (bt t) (rt t r) k := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 512 + 1 * r.val = t.val % 16 * 512 + r.val; omega
  | ⟨2, _⟩ => show win0_0.index t (2 : Fin 3) * 1024 + 1 * k.val = k.val; omega
theorem emb1 (t : Fin cfg0.N) (r : Fin 512) (k : Fin 1024) : ((cfg0.win 1).blk t).view.emb (ix3 0 r k) = ix3 (bt t) (rt t r) k := by
  obtain ⟨e0, e1, e2⟩ := idx1 t
  funext a; apply Fin.ext
  match a with
  | ⟨0, _⟩ => show win0_1.index t (0 : Fin 3) * 1 + 1 * 0 = t.val / 16; omega
  | ⟨1, _⟩ => show win0_1.index t (1 : Fin 3) * 512 + 1 * r.val = t.val % 16 * 512 + r.val; omega
  | ⟨2, _⟩ => show win0_1.index t (2 : Fin 3) * 1024 + 1 * k.val = k.val; omega
theorem emb11 (t : Fin cfg0.N) (r : Fin 512) (k : Fin 1024) : ((cfg0.win 11).blk t).view.emb (ix3 0 r k) = ix3 (bt t) (rt t r) k := by
  obtain ⟨e0, e1, e2⟩ := idx11 t
  funext a; apply Fin.ext
  match a with
  | ⟨0, _⟩ => show win0_11.index t (0 : Fin 3) * 1 + 1 * 0 = t.val / 16; omega
  | ⟨1, _⟩ => show win0_11.index t (1 : Fin 3) * 512 + 1 * r.val = t.val % 16 * 512 + r.val; omega
  | ⟨2, _⟩ => show win0_11.index t (2 : Fin 3) * 1024 + 1 * k.val = k.val; omega
theorem emb2 (t : Fin cfg0.N) (k : Fin 1024) : ((cfg0.win 2).blk t).view.emb (ix3 0 0 k) = ix3 (bt t) 0 (chunk 2 (by decide) k) := by
  obtain ⟨e0, e1, e2⟩ := idx2 t
  funext a; apply Fin.ext
  match a with
  | ⟨0, _⟩ => show win0_2.index t (0 : Fin 3) * 1 + 1 * 0 = t.val / 16; omega
  | ⟨1, _⟩ => show win0_2.index t (1 : Fin 3) * 1 + 1 * 0 = 0; omega
  | ⟨2, _⟩ => show win0_2.index t (2 : Fin 3) * 1024 + 1 * k.val = 2 * 1024 + k.val; omega
theorem emb3 (t : Fin cfg0.N) (k : Fin 1024) : ((cfg0.win 3).blk t).view.emb (ix3 0 0 k) = ix3 (bt t) 0 (chunk 3 (by decide) k) := by
  obtain ⟨e0, e1, e2⟩ := idx3 t
  funext a; apply Fin.ext
  match a with
  | ⟨0, _⟩ => show win0_3.index t (0 : Fin 3) * 1 + 1 * 0 = t.val / 16; omega
  | ⟨1, _⟩ => show win0_3.index t (1 : Fin 3) * 1 + 1 * 0 = 0; omega
  | ⟨2, _⟩ => show win0_3.index t (2 : Fin 3) * 1024 + 1 * k.val = 3 * 1024 + k.val; omega
theorem emb4 (t : Fin cfg0.N) (k : Fin 1024) : ((cfg0.win 4).blk t).view.emb (ix3 0 0 k) = ix3 (bt t) 0 (chunk 4 (by decide) k) := by
  obtain ⟨e0, e1, e2⟩ := idx4 t
  funext a; apply Fin.ext
  match a with
  | ⟨0, _⟩ => show win0_4.index t (0 : Fin 3) * 1 + 1 * 0 = t.val / 16; omega
  | ⟨1, _⟩ => show win0_4.index t (1 : Fin 3) * 1 + 1 * 0 = 0; omega
  | ⟨2, _⟩ => show win0_4.index t (2 : Fin 3) * 1024 + 1 * k.val = 4 * 1024 + k.val; omega
theorem emb5 (t : Fin cfg0.N) (k : Fin 1024) : ((cfg0.win 5).blk t).view.emb (ix3 0 0 k) = ix3 (bt t) 0 (chunk 5 (by decide) k) := by
  obtain ⟨e0, e1, e2⟩ := idx5 t
  funext a; apply Fin.ext
  match a with
  | ⟨0, _⟩ => show win0_5.index t (0 : Fin 3) * 1 + 1 * 0 = t.val / 16; omega
  | ⟨1, _⟩ => show win0_5.index t (1 : Fin 3) * 1 + 1 * 0 = 0; omega
  | ⟨2, _⟩ => show win0_5.index t (2 : Fin 3) * 1024 + 1 * k.val = 5 * 1024 + k.val; omega
theorem emb6 (t : Fin cfg0.N) (r : Fin 1024) (k : Fin 1024) : ((cfg0.win 6).blk t).view.emb (ix2 r k) = ix2 r k := by
  obtain ⟨e0, e1⟩ := idx6 t
  funext a; apply Fin.ext
  match a with
  | ⟨0, _⟩ => show win0_6.index t (0 : Fin 2) * 1024 + 1 * r.val = r.val; omega
  | ⟨1, _⟩ => show win0_6.index t (1 : Fin 2) * 1024 + 1 * k.val = k.val; omega
theorem emb7 (t : Fin cfg0.N) (r : Fin 1024) (k : Fin 4096) : ((cfg0.win 7).blk t).view.emb (ix2 r k) = ix2 r k := by
  obtain ⟨e0, e1⟩ := idx7 t
  funext a; apply Fin.ext
  match a with
  | ⟨0, _⟩ => show win0_7.index t (0 : Fin 2) * 1024 + 1 * r.val = r.val; omega
  | ⟨1, _⟩ => show win0_7.index t (1 : Fin 2) * 4096 + 1 * k.val = k.val; omega
theorem emb8 (t : Fin cfg0.N) (r : Fin 4096) (k : Fin 1024) : ((cfg0.win 8).blk t).view.emb (ix2 r k) = ix2 r k := by
  obtain ⟨e0, e1⟩ := idx8 t
  funext a; apply Fin.ext
  match a with
  | ⟨0, _⟩ => show win0_8.index t (0 : Fin 2) * 4096 + 1 * r.val = r.val; omega
  | ⟨1, _⟩ => show win0_8.index t (1 : Fin 2) * 1024 + 1 * k.val = k.val; omega
theorem emb9 (t : Fin cfg0.N) (r : Fin 2) (k : Fin 1024) : ((cfg0.win 9).blk t).view.emb (ix2 r k) = ix2 r k := by
  obtain ⟨e0, e1⟩ := idx9 t
  funext a; apply Fin.ext
  match a with
  | ⟨0, _⟩ => show win0_9.index t (0 : Fin 2) * 2 + 1 * r.val = r.val; omega
  | ⟨1, _⟩ => show win0_9.index t (1 : Fin 2) * 1024 + 1 * k.val = k.val; omega
theorem emb10 (t : Fin cfg0.N) (r : Fin 2) (k : Fin 1024) : ((cfg0.win 10).blk t).view.emb (ix2 r k) = ix2 r k := by
  obtain ⟨e0, e1⟩ := idx10 t
  funext a; apply Fin.ext
  match a with
  | ⟨0, _⟩ => show win0_10.index t (0 : Fin 2) * 2 + 1 * r.val = r.val; omega
  | ⟨1, _⟩ => show win0_10.index t (1 : Fin 2) * 1024 + 1 * k.val = k.val; omega

variable (m : (ℓ : Loc nD τ sig) → Buf (Elt Ideal) ℓ) (ρ : Dev nD → PrngReg)

theorem V_v0 (c : Dev nD) (r : Fin 1024) (k : Fin 1024) : V m c main_v0 (ix2 r k) = m ((c : Thread nD τ).loc main_arg3) (ix2 r k) := by
  unfold V hostOps0
  after_reads_at
theorem V_v1 (c : Dev nD) (r : Fin 1024) (k : Fin 4096) : V m c main_v1 (ix2 r k) = m ((c : Thread nD τ).loc main_arg4) (ix2 r k) := by
  unfold V hostOps0
  after_reads_at
theorem V_v2 (c : Dev nD) (r : Fin 4096) (k : Fin 1024) : V m c main_v2 (ix2 r k) = m ((c : Thread nD τ).loc main_arg5) (ix2 r k) := by
  unfold V hostOps0
  after_reads_at

/-- The result array of the arguments' contents on core `c`. -/
def G (c : Dev nD) (i : S2x8192x1024.Idx) : EReal :=
  result (fun b t k => m ((c : Thread nD τ).loc main_arg0) (ix3 b t k)) (fun b t k => m ((c : Thread nD τ).loc main_arg1) (ix3 b t k))
    (fun b k => m ((c : Thread nD τ).loc main_arg2) (ix3 b 0 k)) (fun j k => m ((c : Thread nD τ).loc main_arg3) (ix2 j k))
    (fun j k => m ((c : Thread nD τ).loc main_arg4) (ix2 j k)) (fun j k => m ((c : Thread nD τ).loc main_arg5) (ix2 j k))
    (fun j k => m ((c : Thread nD τ).loc main_arg6) (ix2 j k)) (fun j k => m ((c : Thread nD τ).loc main_arg7) (ix2 j k))
    (i (0 : Fin 3)) (i (1 : Fin 3)) (i (2 : Fin 3))

theorem iblk0 (c : Dev nD) (t : Fin cfg0.N) (r : Fin 512) (k : Fin 1024) :
    iblk m c 0 t (ix3 0 r k) = m ((c : Thread nD τ).loc main_arg0) (ix3 (bt t) (rt t r) k) := by
  show V m c main_arg0 (((cfg0.win 0).blk t).view.emb (ix3 0 r k)) = _
  rw [emb0, V_main_arg0]
theorem iblk1 (c : Dev nD) (t : Fin cfg0.N) (r : Fin 512) (k : Fin 1024) :
    iblk m c 1 t (ix3 0 r k) = m ((c : Thread nD τ).loc main_arg1) (ix3 (bt t) (rt t r) k) := by
  show V m c main_arg1 (((cfg0.win 1).blk t).view.emb (ix3 0 r k)) = _
  rw [emb1, V_main_arg1]
theorem iblk2 (c : Dev nD) (t : Fin cfg0.N) (k : Fin 1024) :
    iblk m c 2 t (ix3 0 0 k) = m ((c : Thread nD τ).loc main_arg2) (ix3 (bt t) 0 (chunk 2 (by decide) k)) := by
  show V m c main_arg2 (((cfg0.win 2).blk t).view.emb (ix3 0 0 k)) = _
  rw [emb2, V_main_arg2]
theorem iblk3 (c : Dev nD) (t : Fin cfg0.N) (k : Fin 1024) :
    iblk m c 3 t (ix3 0 0 k) = m ((c : Thread nD τ).loc main_arg2) (ix3 (bt t) 0 (chunk 3 (by decide) k)) := by
  show V m c main_arg2 (((cfg0.win 3).blk t).view.emb (ix3 0 0 k)) = _
  rw [emb3, V_main_arg2]
theorem iblk4 (c : Dev nD) (t : Fin cfg0.N) (k : Fin 1024) :
    iblk m c 4 t (ix3 0 0 k) = m ((c : Thread nD τ).loc main_arg2) (ix3 (bt t) 0 (chunk 4 (by decide) k)) := by
  show V m c main_arg2 (((cfg0.win 4).blk t).view.emb (ix3 0 0 k)) = _
  rw [emb4, V_main_arg2]
theorem iblk5 (c : Dev nD) (t : Fin cfg0.N) (k : Fin 1024) :
    iblk m c 5 t (ix3 0 0 k) = m ((c : Thread nD τ).loc main_arg2) (ix3 (bt t) 0 (chunk 5 (by decide) k)) := by
  show V m c main_arg2 (((cfg0.win 5).blk t).view.emb (ix3 0 0 k)) = _
  rw [emb5, V_main_arg2]
theorem iblk6 (c : Dev nD) (t : Fin cfg0.N) (r : Fin 1024) (k : Fin 1024) :
    iblk m c 6 t (ix2 r k) = m ((c : Thread nD τ).loc main_arg3) (ix2 r k) := by
  show V m c main_v0 (((cfg0.win 6).blk t).view.emb (ix2 r k)) = _
  rw [emb6, V_v0]
theorem iblk7 (c : Dev nD) (t : Fin cfg0.N) (r : Fin 1024) (k : Fin 4096) :
    iblk m c 7 t (ix2 r k) = m ((c : Thread nD τ).loc main_arg4) (ix2 r k) := by
  show V m c main_v1 (((cfg0.win 7).blk t).view.emb (ix2 r k)) = _
  rw [emb7, V_v1]
theorem iblk8 (c : Dev nD) (t : Fin cfg0.N) (r : Fin 4096) (k : Fin 1024) :
    iblk m c 8 t (ix2 r k) = m ((c : Thread nD τ).loc main_arg5) (ix2 r k) := by
  show V m c main_v2 (((cfg0.win 8).blk t).view.emb (ix2 r k)) = _
  rw [emb8, V_v2]
theorem iblk9 (c : Dev nD) (t : Fin cfg0.N) (r : Fin 2) (k : Fin 1024) :
    iblk m c 9 t (ix2 r k) = m ((c : Thread nD τ).loc main_arg6) (ix2 r k) := by
  show V m c main_arg6 (((cfg0.win 9).blk t).view.emb (ix2 r k)) = _
  rw [emb9, V_main_arg6]
theorem iblk10 (c : Dev nD) (t : Fin cfg0.N) (r : Fin 2) (k : Fin 1024) :
    iblk m c 10 t (ix2 r k) = m ((c : Thread nD τ).loc main_arg7) (ix2 r k) := by
  show V m c main_arg7 (((cfg0.win 10).blk t).view.emb (ix2 r k)) = _
  rw [emb10, V_main_arg7]

theorem ix3_of (j : S1x512x1024.Idx) : ∃ (r : Fin 512) (k : Fin 1024), j = ix3 0 r k :=
  ⟨j (1 : Fin 3), j (2 : Fin 3), funext fun a => match a with
    | ⟨0, _⟩ => Fin.ext (by have h := (j (0 : Fin 3)).isLt; have h' : (j (0 : Fin 3)).val < 1 := h; show (j (0 : Fin 3)).val = 0; omega)
    | ⟨1, _⟩ => rfl
    | ⟨2, _⟩ => rfl⟩

/-- What grid point `t` writes back is block `t` of the result array. -/
theorem flushed_eq (c : Dev nD) (t : Fin cfg0.N) :
    (dats m 0 c).flushed 11 t = ((cfg0.win 11).blk t).view.read (Elt Ideal) (G m c) := by
  rw [flushed11]
  funext j
  obtain ⟨r, k, rfl⟩ := ix3_of j
  show out0_11 (F := Ideal) _ _ _ _ _ _ _ _ _ _ _ (ix3 0 r k) = G m c (((cfg0.win 11).blk t).view.emb (ix3 0 r k))
  rw [emb11, out_apply]
  simp only [iblk0, iblk1, iblk2, iblk3, iblk4, iblk5, iblk6, iblk7, iblk8, iblk9, iblk10]
  rfl

/-- Every index of the result lies in the block of its batch and its row's tile. -/
theorem covered (i : S2x8192x1024.Idx) :
    ∃ t : Fin cfg0.N, (cfg0.win 11).flush t = true ∧ i ∈ ((cfg0.win 11).blk t).view.set := by
  have h0 : (i (0 : Fin 3)).val < 2 := (i (0 : Fin 3)).isLt
  have h1 : (i (1 : Fin 3)).val < 8192 := (i (1 : Fin 3)).isLt
  let t : Fin cfg0.N := (⟨(i (0 : Fin 3)).val * 16 + (i (1 : Fin 3)).val / 512, by show _ < 32; omega⟩ : Fin 32)
  refine ⟨t, flush0_11 _, ?_⟩
  have e : ((cfg0.win 11).blk t).view.emb (ix3 (0 : Fin 1) (⟨(i (1 : Fin 3)).val % 512, by omega⟩ : Fin 512) (i (2 : Fin 3))) = i := by
    refine (emb11 t ⟨(i (1 : Fin 3)).val % 512, by omega⟩ (i (2 : Fin 3))).trans ?_
    funext a; apply Fin.ext
    match a with
    | ⟨0, _⟩ => show ((i (0 : Fin 3)).val * 16 + (i (1 : Fin 3)).val / 512) / 16 = (i (0 : Fin 3)).val; omega
    | ⟨1, _⟩ => show ((i (0 : Fin 3)).val * 16 + (i (1 : Fin 3)).val / 512) % 16 * 512 + (i (1 : Fin 3)).val % 512 = (i (1 : Fin 3)).val; omega
    | ⟨2, _⟩ => rfl
  have h := ((cfg0.win 11).blk t).view.emb_mem_set (ix3 (0 : Fin 1) (⟨(i (1 : Fin 3)).val % 512, by omega⟩ : Fin 512) (i (2 : Fin 3)))
  rwa [e] at h

theorem final (c : Dev nD) : (dats m 0 c).arrAt 11 cfg0.N = G m c :=
  (dats m 0 c).arrAt_eq_of_cover 11 (G m c) (fun t _ => flushed_eq m c t) covered

end Cert.Kernel3Ideal.Hand
end
-- ==== Proof.Mlp.Ref.lean ====
/-
  The reference of the mixing-and-MLP call, stage by stage, on a row.
-/
module

public import proofs.«01_k».proof.Proof.Gen.Reference3Ideal.Run
public import proofs.«01_k».proof.Proof.Gen.Reference3Ideal.Read
public import proofs.«01_k».proof.Proof.Mlp.Array
public import Idealize.ShloMosaic.Lib.Pointwise

@[expose] public section

set_option maxRecDepth 16384

noncomputable section

namespace Cert.Reference3Ideal.Hand

open Cert.Reference3Ideal Cert.Reference3Ideal.Gen Cert.Reference3Ideal.Read Cert.Mlp
open Idealize.ShloMosaic

variable (x0 : (⟨S2x8192x1024, .bf16⟩ : BufTy).Contents (Elt Ideal)) (x1 : (⟨S2x8192x1024, .f32⟩ : BufTy).Contents (Elt Ideal)) (x2 : (⟨S2x1x6144, .f32⟩ : BufTy).Contents (Elt Ideal))
  (x3 : (⟨S1024x1024, .f32⟩ : BufTy).Contents (Elt Ideal)) (x4 : (⟨S1024x4096, .f32⟩ : BufTy).Contents (Elt Ideal)) (x5 : (⟨S4096x1024, .f32⟩ : BufTy).Contents (Elt Ideal))
  (x6 x7 : (⟨S2x1024, .f32⟩ : BufTy).Contents (Elt Ideal)) (b : Fin 2) (t : Fin 8192) (c : Fin 1024)

theorem v14_apply : val_main_v14 (F := Ideal) x0 x1 x2 x3 (ix3 b t c)
    = residual (fun c => x1 (ix3 b t c)) (fun c => x2 (ix3 b 0 (chunk 2 (by decide) c))) (fun c => ∑ k : Fin 1024, x0 (ix3 b t k) * x3 (ix2 k c)) c := by
  unfold val_main_v14 val_main_v13 val_main_v12 val_main_v11 val_main_v10 val_main_v9 val_main_v8 val_main_v7 val_main_v6 val_main_v2 val_main_cst val_main_cst_0
  pointwise
  rfl

theorem v24_apply : val_main_v24 (F := Ideal) x0 x1 x2 x3 (ix3 b t c)
    = centred (fun c => val_main_v14 (F := Ideal) x0 x1 x2 x3 (ix3 b t c)) c := by
  unfold val_main_v24 val_main_v23 val_main_v22 val_main_v21 val_main_v20 val_main_v19 val_main_cst_1 val_main_cst_2
  generalize val_main_v14 (F := Ideal) x0 x1 x2 x3 = z
  pointwise
  rfl

theorem v31_apply : val_main_v31 (F := Ideal) x0 x1 x2 x3 (ix3 b t c)
    = centred (fun c => val_main_v14 (F := Ideal) x0 x1 x2 x3 (ix3 b t c)) c := by
  unfold val_main_v31 val_main_v30 val_main_v22 val_main_v21 val_main_v20 val_main_v19 val_main_cst_1 val_main_cst_2
  generalize val_main_v14 (F := Ideal) x0 x1 x2 x3 = z
  pointwise
  rfl

theorem v42_apply : val_main_v42 (F := Ideal) x0 x1 x2 x3 x6 x7 (ix3 b t c)
    = layerNorm (fun c => val_main_v14 (F := Ideal) x0 x1 x2 x3 (ix3 b t c)) (fun c => x6 (ix2 0 c)) (fun c => x7 (ix2 0 c)) c := by
  have h24 := v24_apply x0 x1 x2 x3 b t
  have h31 := v31_apply x0 x1 x2 x3 b t c
  unfold val_main_v42 val_main_v41 val_main_v40 val_main_v39 val_main_v38 val_main_v37 val_main_v36 val_main_v35 val_main_v34 val_main_v33 val_main_v32 val_main_v29 val_main_v28 val_main_v27 val_main_v26 val_main_v25 val_main_v18 val_main_v17 val_main_v16 val_main_v15 val_main_cst_3 val_main_cst_4 val_main_cst_5
  generalize val_main_v24 (F := Ideal) x0 x1 x2 x3 = y at *
  generalize val_main_v31 (F := Ideal) x0 x1 x2 x3 = y' at *
  generalize val_main_v14 (F := Ideal) x0 x1 x2 x3 = z at *
  pointwise
  simp only [h24, h31]
  rfl

theorem v59_apply : val_main_v59 (F := Ideal) x0 x1 x2 x3 x4 x5 x6 x7 (ix3 b t c)
    = residual (fun c => val_main_v42 (F := Ideal) x0 x1 x2 x3 x6 x7 (ix3 b t c)) (fun c => x2 (ix3 b 0 (chunk 5 (by decide) c)))
        (fun c => ∑ f : Fin 4096,
          hidden (fun c => val_main_v42 (F := Ideal) x0 x1 x2 x3 x6 x7 (ix3 b t c)) (fun c => x2 (ix3 b 0 (chunk 4 (by decide) c)))
            (fun c => x2 (ix3 b 0 (chunk 3 (by decide) c))) (fun k f => x4 (ix2 k f)) f
          * hidden (fun c => val_main_v42 (F := Ideal) x0 x1 x2 x3 x6 x7 (ix3 b t c)) (fun c => x2 (ix3 b 0 (chunk 4 (by decide) c)))
            (fun c => x2 (ix3 b 0 (chunk 3 (by decide) c))) (fun k f => x4 (ix2 k f)) f * x5 (ix2 f c)) c := by
  unfold val_main_v59 val_main_v58 val_main_v57 val_main_v56 val_main_v55 val_main_v54 val_main_call0_v0 val_main_call0_cst val_main_v53 val_main_v52 val_main_v51 val_main_v50 val_main_v49 val_main_v48 val_main_v47 val_main_v46 val_main_v45 val_main_v44 val_main_v43 val_main_v3 val_main_v4 val_main_v5 val_main_cst_6 val_main_cst_7 val_main_cst_8
  generalize val_main_v42 (F := Ideal) x0 x1 x2 x3 x6 x7 = z at *
  pointwise
  rfl

theorem v69_apply : val_main_v69 (F := Ideal) x0 x1 x2 x3 x4 x5 x6 x7 (ix3 b t c)
    = centred (fun c => val_main_v59 (F := Ideal) x0 x1 x2 x3 x4 x5 x6 x7 (ix3 b t c)) c := by
  unfold val_main_v69 val_main_v68 val_main_v67 val_main_v66 val_main_v65 val_main_v64 val_main_cst_9 val_main_cst_10
  generalize val_main_v59 (F := Ideal) x0 x1 x2 x3 x4 x5 x6 x7 = z
  pointwise
  rfl

theorem v76_apply : val_main_v76 (F := Ideal) x0 x1 x2 x3 x4 x5 x6 x7 (ix3 b t c)
    = centred (fun c => val_main_v59 (F := Ideal) x0 x1 x2 x3 x4 x5 x6 x7 (ix3 b t c)) c := by
  unfold val_main_v76 val_main_v75 val_main_v67 val_main_v66 val_main_v65 val_main_v64 val_main_cst_9 val_main_cst_10
  generalize val_main_v59 (F := Ideal) x0 x1 x2 x3 x4 x5 x6 x7 = z
  pointwise
  rfl

theorem v87_apply : val_main_v87 (F := Ideal) x0 x1 x2 x3 x4 x5 x6 x7 (ix3 b t c)
    = layerNorm (fun c => val_main_v59 (F := Ideal) x0 x1 x2 x3 x4 x5 x6 x7 (ix3 b t c)) (fun c => x6 (ix2 1 c)) (fun c => x7 (ix2 1 c)) c := by
  have h69 := v69_apply x0 x1 x2 x3 x4 x5 x6 x7 b t
  have h76 := v76_apply x0 x1 x2 x3 x4 x5 x6 x7 b t c
  unfold val_main_v87 val_main_v86 val_main_v85 val_main_v84 val_main_v83 val_main_v82 val_main_v81 val_main_v80 val_main_v79 val_main_v78 val_main_v77 val_main_v74 val_main_v73 val_main_v72 val_main_v71 val_main_v70 val_main_v63 val_main_v62 val_main_v61 val_main_v60 val_main_cst_11 val_main_cst_12 val_main_cst_13
  generalize val_main_v69 (F := Ideal) x0 x1 x2 x3 x4 x5 x6 x7 = y at *
  generalize val_main_v76 (F := Ideal) x0 x1 x2 x3 x4 x5 x6 x7 = y' at *
  generalize val_main_v59 (F := Ideal) x0 x1 x2 x3 x4 x5 x6 x7 = z at *
  pointwise
  simp only [h69, h76]
  rfl

/-- The reference's result at an index. -/
theorem result_apply : val_main_v87 (F := Ideal) x0 x1 x2 x3 x4 x5 x6 x7 (ix3 b t c)
    = result (fun b t k => x0 (ix3 b t k)) (fun b t k => x1 (ix3 b t k)) (fun b k => x2 (ix3 b 0 k)) (fun j k => x3 (ix2 j k))
        (fun j k => x4 (ix2 j k)) (fun j k => x5 (ix2 j k)) (fun j k => x6 (ix2 j k)) (fun j k => x7 (ix2 j k)) b t c := by
  rw [v87_apply]
  simp only [v59_apply, v42_apply, v14_apply]
  rfl

end Cert.Reference3Ideal.Hand
end
-- ==== Proof.Mlp.Claims.lean ====
/-
  The claims about the mixing-and-MLP call: its frames, and that over the extended reals it and its reference return
  one array, row by row `mlp` of the row's data.
-/
module

public import proofs.«01_k».proof.Defs
public import proofs.«01_k».proof.Proof.Gen.Kernel3.Frame
public import proofs.«01_k».proof.Proof.Mlp.Ref

@[expose] public section

noncomputable section

namespace Cert.Mlp

open Idealize.ShloMosaic Idealize.SL.Sem
open Cert.Kernel3Ideal (S2x8192x1024)

local instance : Cert.Kernel3.Facts := Cert.Kernel3.Gen.facts
local instance : Cert.Kernel3Ideal.Facts := Cert.Kernel3Ideal.Gen.facts
local instance : Cert.Reference3Ideal.Facts := Cert.Reference3Ideal.Gen.facts

theorem frame_kernel : Cert.quiescent_Kernel3 := fun m ρ _ => Cert.Kernel3.Gen.frame (F := Bits) m ρ

theorem frame_ideal : Cert.quiescent_Kernel3Ideal := fun m ρ _ => Cert.Kernel3Ideal.Gen.frame (F := Ideal) m ρ

theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem ix3_of (i : S2x8192x1024.Idx) : ∃ (b : Fin 2) (t : Fin 8192) (k : Fin 1024), i = ix3 b t k :=
  ⟨i (0 : Fin 3), i (1 : Fin 3), i (2 : Fin 3), funext fun a => match a with
    | ⟨0, _⟩ => rfl
    | ⟨1, _⟩ => rfl
    | ⟨2, _⟩ => rfl⟩

theorem algebraic : Cert.algebraic_Kernel3Ideal_Reference3Ideal := by
  intro m g m' g' _ hm
  refine ⟨fun c => Cert.Kernel3Ideal.Hand.G m c, (θ_run Cert.Kernel3Ideal.defs _ _).mono
      (fun r h c => ⟨(h c).1.trans (Cert.Kernel3Ideal.Hand.final m c), (h c).2⟩) (Cert.Kernel3Ideal.Value.run_blocks (F := Ideal) m g),
    (θ_run Cert.Reference3Ideal.defs _ _).mono (fun r h c => ⟨(h c).1.trans ?_, (h c).2⟩) (Cert.Reference3Ideal.Value.run (F := Ideal) m' g')⟩
  rw [Cert.Reference3Ideal.Read.val_main_v87_eq]
  funext i
  obtain ⟨b, t, k, rfl⟩ := ix3_of i
  obtain ⟨h0, h1, h2, h3, h4, h5, h6, h7⟩ := hm c
  have e0 : StableHlo.launchContents m' c (Proc.devRef .tc Cert.Reference3Ideal.main_arg0) = m ((c.tc : Thread _ _).loc Cert.Kernel3Ideal.main_arg0) := h0
  have e1 : StableHlo.launchContents m' c (Proc.devRef .tc Cert.Reference3Ideal.main_arg1) = m ((c.tc : Thread _ _).loc Cert.Kernel3Ideal.main_arg1) := h1
  have e2 : StableHlo.launchContents m' c (Proc.devRef .tc Cert.Reference3Ideal.main_arg2) = m ((c.tc : Thread _ _).loc Cert.Kernel3Ideal.main_arg2) := h2
  have e3 : StableHlo.launchContents m' c (Proc.devRef .tc Cert.Reference3Ideal.main_arg3) = m ((c.tc : Thread _ _).loc Cert.Kernel3Ideal.main_arg3) := h3
  have e4 : StableHlo.launchContents m' c (Proc.devRef .tc Cert.Reference3Ideal.main_arg4) = m ((c.tc : Thread _ _).loc Cert.Kernel3Ideal.main_arg4) := h4
  have e5 : StableHlo.launchContents m' c (Proc.devRef .tc Cert.Reference3Ideal.main_arg5) = m ((c.tc : Thread _ _).loc Cert.Kernel3Ideal.main_arg5) := h5
  have e6 : StableHlo.launchContents m' c (Proc.devRef .tc Cert.Reference3Ideal.main_arg6) = m ((c.tc : Thread _ _).loc Cert.Kernel3Ideal.main_arg6) := h6
  have e7 : StableHlo.launchContents m' c (Proc.devRef .tc Cert.Reference3Ideal.main_arg7) = m ((c.tc : Thread _ _).loc Cert.Kernel3Ideal.main_arg7) := h7
  rw [e0, e1, e2, e3, e4, e5, e6, e7, Cert.Reference3Ideal.Hand.result_apply]
  rfl

end Cert.Mlp

end
-- ==== Proof.Kvq.Row.lean ====
/-
  One row of the projections to keys, values and queries: the modulated row times a weight matrix.
-/
module

public import Idealize.ShloMosaic.Lib.Pointwise
public import Idealize.ShloMosaic.Lib.ValueLayout

@[expose] public section

noncomputable section

namespace Cert.Kvq

open Idealize.ShloMosaic

/-- The row `x`, scaled by `1 + sc` and shifted by `sh`, times the columns of `w`. -/
def projected (x sc sh : Fin 1024 → EReal) (w : Fin 1024 → Fin 1024 → EReal) (c : Fin 1024) : EReal :=
  ∑ d, (x d * (1 + sc d) + sh d) * w d c

/-- The same, times the scale of the queries. -/
def scaled (x sc sh : Fin 1024 → EReal) (w : Fin 1024 → Fin 1024 → EReal) (c : Fin 1024) : EReal :=
  projected x sc sh w c * Ideal.ofBits .f32 0x3E38AA3B#32

/-- Column `c` of chunk `n` of the two chunks of a modulation row. -/
abbrev half (n : Nat) (hn : n < 2) (c : Fin 1024) : Fin 2048 := ⟨n * 1024 + c.val, by omega⟩

/-- Column `c` of chunk `n` of the six chunks of a modulation row. -/
abbrev sixth (n : Nat) (hn : n < 6) (c : Fin 1024) : Fin 6144 := ⟨n * 1024 + c.val, by omega⟩

end Cert.Kvq

end
-- ==== Proof.Kvq.PromptBody.lean ====
/-
  The blocks the projections write at a grid point, row by row (the prompt).
-/
module

public import proofs.«01_k».proof.Proof.Gen.Kernel4Ideal.Value
public import proofs.«01_k».proof.Proof.Kvq.Row

@[expose] public section

set_option maxRecDepth 16384

noncomputable section

namespace Cert.Kernel4Ideal.Hand

open Cert.Kernel4Ideal Cert.Kernel4Ideal.Gen Cert.Kvq
open Idealize.ShloMosaic

variable (x0 : Vec Ideal S1x512x1024 .f32) (x1 x2 x3 x4 : Vec Ideal S1x1x1024 .f32) (x5 x6 x7 : Vec Ideal S1024x1024 .bf16)
  (r : Fin 512) (c : Fin 1024)

theorem zero2 : (![0, 0] : Fin 2 → Nat) = fun _ => 0 := by decide
theorem zero3 : (![0, 0, 0] : Fin 3 → Nat) = fun _ => 0 := by decide
theorem zero4 : (![0, 0, 0, 0] : Fin 4 → Nat) = fun _ => 0 := by decide
theorem ldx (x : Vec Ideal S1x512x1024 .f32) : View.ld x r0_0 = x := View.ld_unit_zero zero3 _ _
theorem ldm (x : Vec Ideal S1x1x1024 .f32) : View.ld x r0_1 = x := View.ld_unit_zero zero3 _ _
theorem ldw (x : Vec Ideal S1024x1024 .bf16) : View.ld x r0_2 = x := View.ld_unit_zero zero2 _ _

theorem pay6_apply : k0_pay6 (F := Ideal) x0 x2 x1 x5 (ix2 r c) = projected (fun d => x0 (ix3 0 r d)) (fun d => x2 (ix3 0 0 d)) (fun d => x1 (ix3 0 0 d)) (fun d e => x5 (ix2 d e)) c := by
  unfold k0_pay6 k0_pay5 k0_pay4
  pointwise [dot_S512x1024_S1024x1024_S512x1024_1_0_0_1_n_n]
  rfl

theorem pay7_apply : k0_pay7 (F := Ideal) x0 x2 x1 x6 (ix2 r c) = projected (fun d => x0 (ix3 0 r d)) (fun d => x2 (ix3 0 0 d)) (fun d => x1 (ix3 0 0 d)) (fun d e => x6 (ix2 d e)) c := by
  unfold k0_pay7 k0_pay5 k0_pay4
  pointwise [dot_S512x1024_S1024x1024_S512x1024_1_0_0_1_n_n]
  rfl

/-- The block of the keys. -/
theorem out8_apply : out0_8 (F := Ideal) x0 x1 x2 x3 x4 x5 x6 x7 (ix3 0 r c)
    = projected (fun d => x0 (ix3 0 r d)) (fun d => x2 (ix3 0 0 d)) (fun d => x1 (ix3 0 0 d)) (fun d e => x5 (ix2 d e)) c := by
  unfold out0_8
  rw [View.canon_unit_zero zero3]
  simp only [ldx, ldm, ldw]
  have e := pay6_apply x0 x1 x2 x5 r c
  unfold k0_pay8
  generalize k0_pay6 (F := Ideal) x0 x2 x1 x5 = z at *
  pointwise
  exact e

/-- The block of the values. -/
theorem out9_apply : out0_9 (F := Ideal) x0 x1 x2 x3 x4 x5 x6 x7 (ix3 0 r c)
    = projected (fun d => x0 (ix3 0 r d)) (fun d => x2 (ix3 0 0 d)) (fun d => x1 (ix3 0 0 d)) (fun d e => x6 (ix2 d e)) c := by
  unfold out0_9
  rw [View.canon_unit_zero zero3]
  simp only [ldx, ldm, ldw]
  have e := pay7_apply x0 x1 x2 x6 r c
  unfold k0_pay9
  generalize k0_pay7 (F := Ideal) x0 x2 x1 x6 = z at *
  pointwise
  exact e

/-- The block of the scaled queries. -/
theorem out10_apply : out0_10 (F := Ideal) x0 x1 x2 x3 x4 x5 x6 x7 (ix3 0 r c)
    = scaled (fun d => x0 (ix3 0 r d)) (fun d => x4 (ix3 0 0 d)) (fun d => x3 (ix3 0 0 d)) (fun d e => x7 (ix2 d e)) c := by
  unfold out0_10
  rw [View.canon_unit_zero zero3]
  simp only [ldx, ldm, ldw]
  unfold k0_pay1 k0_pay4 k0_pay10
  pointwise [dot_S512x1024_S1024x1024_S512x1024_1_0_0_1_n_n]
  rfl

/-- The block of the copied keys. -/
theorem out11_apply : out0_11 (F := Ideal) x0 x1 x2 x3 x4 x5 x6 x7 (ix3 0 r c)
    = projected (fun d => x0 (ix3 0 r d)) (fun d => x2 (ix3 0 0 d)) (fun d => x1 (ix3 0 0 d)) (fun d e => x5 (ix2 d e)) c := by
  unfold out0_11
  rw [View.canon_unit_zero zero3]
  simp only [ldx, ldm, ldw]
  have e := pay6_apply x0 x1 x2 x5 r c
  unfold k0_pay2
  generalize k0_pay6 (F := Ideal) x0 x2 x1 x5 = z at *
  pointwise
  exact e

/-- The block of the transposed values. -/
theorem out12_apply : out0_12 (F := Ideal) x0 x1 x2 x3 x4 x5 x6 x7 (ix4 0 0 c r)
    = projected (fun d => x0 (ix3 0 r d)) (fun d => x2 (ix3 0 0 d)) (fun d => x1 (ix3 0 0 d)) (fun d e => x6 (ix2 d e)) c := by
  unfold out0_12
  rw [View.canon_unit_zero zero4]
  simp only [ldx, ldm, ldw]
  have e := pay7_apply x0 x1 x2 x6 r c
  unfold k0_pay3
  generalize k0_pay7 (F := Ideal) x0 x2 x1 x6 = z at *
  pointwise
  exact e

end Cert.Kernel4Ideal.Hand

end
-- ==== Proof.Kvq.PromptArray.lean ====
/-
  The arrays the projections leave, as functions of the arguments (the prompt).
-/
module

public import proofs.«01_k».proof.Proof.Kvq.PromptBody
public import Idealize.ShloMosaic.Lib.StableHlo.ReadAt

@[expose] public section

set_option maxRecDepth 16384

noncomputable section

namespace Cert.Kernel4Ideal.Hand

open Cert.Kernel4Ideal Cert.Kernel4Ideal.Gen Cert.Kernel4Ideal.Value Cert.Kvq
open Idealize.ShloMosaic Idealize.ShloMosaic.TcCoe Idealize.SL.Sem

/-- The batch of a grid point. -/
abbrev bt (t : Fin cfg0.N) : Fin 2 := ⟨t.val / 16, by have : t.val < 32 := t.isLt; omega⟩
/-- The tile of a grid point. -/
abbrev nt (t : Fin cfg0.N) : Fin 16 := ⟨t.val % 16, by omega⟩
/-- Row `r` of a grid point's block. -/
abbrev rt (t : Fin cfg0.N) (r : Fin 512) : Fin 8192 := ⟨t.val % 16 * 512 + r.val, by omega⟩

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx8 : ∀ t : Fin cfg0.N, win0_8.index t (0 : Fin 3) = t.val / 16 ∧ win0_8.index t (1 : Fin 3) = t.val % 16 ∧ win0_8.index t (2 : Fin 3) = 0 :=
  (by decide +kernel : ∀ t : Fin grid0.N, _)
theorem idx9 : ∀ t : Fin cfg0.N, win0_9.index t (0 : Fin 3) = t.val / 16 ∧ win0_9.index t (1 : Fin 3) = t.val % 16 ∧ win0_9.index t (2 : Fin 3) = 0 :=
  (by decide +kernel : ∀ t : Fin grid0.N, _)
theorem idx10 : ∀ t : Fin cfg0.N, win0_10.index t (0 : Fin 3) = t.val / 16 ∧ win0_10.index t (1 : Fin 3) = t.val % 16 ∧ win0_10.index t (2 : Fin 3) = 0 :=
  (by decide +kernel : ∀ t : Fin grid0.N, _)
theorem idx11 : ∀ t : Fin cfg0.N, win0_11.index t (0 : Fin 3) = t.val / 16 ∧ win0_11.index t (1 : Fin 3) = t.val % 16 ∧ win0_11.index t (2 : Fin 3) = 0 :=
  (by decide +kernel : ∀ t : Fin grid0.N, _)
theorem idx1 : ∀ t : Fin cfg0.N, win0_1.index t (0 : Fin 3) = t.val / 16 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 16 ∧ win0_2.index t (1 : Fin 3) = 0 ∧ win0_2.index t (2 : Fin 3) = 1 :=
  (by decide +kernel : ∀ t : Fin grid0.N, _)
theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val / 16 ∧ win0_4.index t (1 : Fin 3) = 0 ∧ win0_4.index t (2 : Fin 3) = 1 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx12 : ∀ t : Fin cfg0.N, win0_12.index t (0 : Fin 4) = t.val / 16 ∧ win0_12.index t (1 : Fin 4) = t.val % 16 ∧ win0_12.index t (2 : Fin 4) = 0 ∧ win0_12.index t (3 : Fin 4) = 0 :=
  (by decide +kernel : ∀ t : Fin grid0.N, _)

theorem emb0 (t : Fin cfg0.N) (r : Fin 512) (k : Fin 1024) : ((cfg0.win 0).blk t).view.emb (ix3 0 r k) = ix3 (bt t) (rt t r) k := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 512 + 1 * r.val = t.val % 16 * 512 + r.val; omega
  | ⟨2, _⟩ => show win0_0.index t (2 : Fin 3) * 1024 + 1 * k.val = k.val; omega
theorem emb8 (t : Fin cfg0.N) (r : Fin 512) (k : Fin 1024) : ((cfg0.win 8).blk t).view.emb (ix3 0 r k) = ix3 (bt t) (rt t r) k := by
  obtain ⟨e0, e1, e2⟩ := idx8 t
  funext a; apply Fin.ext
  match a with
  | ⟨0, _⟩ => show win0_8.index t (0 : Fin 3) * 1 + 1 * 0 = t.val / 16; omega
  | ⟨1, _⟩ => show win0_8.index t (1 : Fin 3) * 512 + 1 * r.val = t.val % 16 * 512 + r.val; omega
  | ⟨2, _⟩ => show win0_8.index t (2 : Fin 3) * 1024 + 1 * k.val = k.val; omega
theorem emb9 (t : Fin cfg0.N) (r : Fin 512) (k : Fin 1024) : ((cfg0.win 9).blk t).view.emb (ix3 0 r k) = ix3 (bt t) (rt t r) k := by
  obtain ⟨e0, e1, e2⟩ := idx9 t
  funext a; apply Fin.ext
  match a with
  | ⟨0, _⟩ => show win0_9.index t (0 : Fin 3) * 1 + 1 * 0 = t.val / 16; omega
  | ⟨1, _⟩ => show win0_9.index t (1 : Fin 3) * 512 + 1 * r.val = t.val % 16 * 512 + r.val; omega
  | ⟨2, _⟩ => show win0_9.index t (2 : Fin 3) * 1024 + 1 * k.val = k.val; omega
theorem emb10 (t : Fin cfg0.N) (r : Fin 512) (k : Fin 1024) : ((cfg0.win 10).blk t).view.emb (ix3 0 r k) = ix3 (bt t) (rt t r) k := by
  obtain ⟨e0, e1, e2⟩ := idx10 t
  funext a; apply Fin.ext
  match a with
  | ⟨0, _⟩ => show win0_10.index t (0 : Fin 3) * 1 + 1 * 0 = t.val / 16; omega
  | ⟨1, _⟩ => show win0_10.index t (1 : Fin 3) * 512 + 1 * r.val = t.val % 16 * 512 + r.val; omega
  | ⟨2, _⟩ => show win0_10.index t (2 : Fin 3) * 1024 + 1 * k.val = k.val; omega
theorem emb11 (t : Fin cfg0.N) (r : Fin 512) (k : Fin 1024) : ((cfg0.win 11).blk t).view.emb (ix3 0 r k) = ix3 (bt t) (rt t r) k := by
  obtain ⟨e0, e1, e2⟩ := idx11 t
  funext a; apply Fin.ext
  match a with
  | ⟨0, _⟩ => show win0_11.index t (0 : Fin 3) * 1 + 1 * 0 = t.val / 16; omega
  | ⟨1, _⟩ => show win0_11.index t (1 : Fin 3) * 512 + 1 * r.val = t.val % 16 * 512 + r.val; omega
  | ⟨2, _⟩ => show win0_11.index t (2 : Fin 3) * 1024 + 1 * k.val = k.val; omega
theorem emb1 (t : Fin cfg0.N) (k : Fin 1024) : ((cfg0.win 1).blk t).view.emb (ix3 0 0 k) = ix3 (bt t) 0 (half 0 (by decide) k) := by
  obtain ⟨e0, e1, e2⟩ := idx1 t
  funext a; apply Fin.ext
  match a with
  | ⟨0, _⟩ => show win0_1.index t (0 : Fin 3) * 1 + 1 * 0 = t.val / 16; omega
  | ⟨1, _⟩ => show win0_1.index t (1 : Fin 3) * 1 + 1 * 0 = 0; omega
  | ⟨2, _⟩ => show win0_1.index t (2 : Fin 3) * 1024 + 1 * k.val = 0 * 1024 + k.val; omega
theorem emb2 (t : Fin cfg0.N) (k : Fin 1024) : ((cfg0.win 2).blk t).view.emb (ix3 0 0 k) = ix3 (bt t) 0 (half 1 (by decide) k) := by
  obtain ⟨e0, e1, e2⟩ := idx2 t
  funext a; apply Fin.ext
  match a with
  | ⟨0, _⟩ => show win0_2.index t (0 : Fin 3) * 1 + 1 * 0 = t.val / 16; omega
  | ⟨1, _⟩ => show win0_2.index t (1 : Fin 3) * 1 + 1 * 0 = 0; omega
  | ⟨2, _⟩ => show win0_2.index t (2 : Fin 3) * 1024 + 1 * k.val = 1 * 1024 + k.val; omega
theorem emb3 (t : Fin cfg0.N) (k : Fin 1024) : ((cfg0.win 3).blk t).view.emb (ix3 0 0 k) = ix3 (bt t) 0 (sixth 0 (by decide) k) := by
  obtain ⟨e0, e1, e2⟩ := idx3 t
  funext a; apply Fin.ext
  match a with
  | ⟨0, _⟩ => show win0_3.index t (0 : Fin 3) * 1 + 1 * 0 = t.val / 16; omega
  | ⟨1, _⟩ => show win0_3.index t (1 : Fin 3) * 1 + 1 * 0 = 0; omega
  | ⟨2, _⟩ => show win0_3.index t (2 : Fin 3) * 1024 + 1 * k.val = 0 * 1024 + k.val; omega
theorem emb4 (t : Fin cfg0.N) (k : Fin 1024) : ((cfg0.win 4).blk t).view.emb (ix3 0 0 k) = ix3 (bt t) 0 (sixth 1 (by decide) k) := by
  obtain ⟨e0, e1, e2⟩ := idx4 t
  funext a; apply Fin.ext
  match a with
  | ⟨0, _⟩ => show win0_4.index t (0 : Fin 3) * 1 + 1 * 0 = t.val / 16; omega
  | ⟨1, _⟩ => show win0_4.index t (1 : Fin 3) * 1 + 1 * 0 = 0; omega
  | ⟨2, _⟩ => show win0_4.index t (2 : Fin 3) * 1024 + 1 * k.val = 1 * 1024 + k.val; omega
theorem emb5 (t : Fin cfg0.N) (d k : Fin 1024) : ((cfg0.win 5).blk t).view.emb (ix2 d k) = ix2 d k := by
  obtain ⟨e0, e1⟩ := idx5 t
  funext a; apply Fin.ext
  match a with
  | ⟨0, _⟩ => show win0_5.index t (0 : Fin 2) * 1024 + 1 * d.val = d.val; omega
  | ⟨1, _⟩ => show win0_5.index t (1 : Fin 2) * 1024 + 1 * k.val = k.val; omega
theorem emb6 (t : Fin cfg0.N) (d k : Fin 1024) : ((cfg0.win 6).blk t).view.emb (ix2 d k) = ix2 d k := by
  obtain ⟨e0, e1⟩ := idx6 t
  funext a; apply Fin.ext
  match a with
  | ⟨0, _⟩ => show win0_6.index t (0 : Fin 2) * 1024 + 1 * d.val = d.val; omega
  | ⟨1, _⟩ => show win0_6.index t (1 : Fin 2) * 1024 + 1 * k.val = k.val; omega
theorem emb7 (t : Fin cfg0.N) (d k : Fin 1024) : ((cfg0.win 7).blk t).view.emb (ix2 d k) = ix2 d k := by
  obtain ⟨e0, e1⟩ := idx7 t
  funext a; apply Fin.ext
  match a with
  | ⟨0, _⟩ => show win0_7.index t (0 : Fin 2) * 1024 + 1 * d.val = d.val; omega
  | ⟨1, _⟩ => show win0_7.index t (1 : Fin 2) * 1024 + 1 * k.val = k.val; omega
theorem emb12 (t : Fin cfg0.N) (d : Fin 1024) (r : Fin 512) : ((cfg0.win 12).blk t).view.emb (ix4 0 0 d r) = ix4 (bt t) (nt t) d r := by
  obtain ⟨e0, e1, e2, e3⟩ := idx12 t
  funext a; apply Fin.ext
  match a with
  | ⟨0, _⟩ => show win0_12.index t (0 : Fin 4) * 1 + 1 * 0 = t.val / 16; omega
  | ⟨1, _⟩ => show win0_12.index t (1 : Fin 4) * 1 + 1 * 0 = t.val % 16; omega
  | ⟨2, _⟩ => show win0_12.index t (2 : Fin 4) * 1024 + 1 * d.val = d.val; omega
  | ⟨3, _⟩ => show win0_12.index t (3 : Fin 4) * 512 + 1 * r.val = r.val; omega

variable (m : (ℓ : Loc nD τ sig) → Buf (Elt Ideal) ℓ) (ρ : Dev nD → PrngReg)

theorem V_v0 (c : Dev nD) (d k : Fin 1024) : V m c main_v0 (ix2 d k) = m ((c : Thread nD τ).loc main_arg3) (ix2 d k) := by
  unfold V hostOps0
  after_reads_at
theorem V_v1 (c : Dev nD) (d k : Fin 1024) : V m c main_v1 (ix2 d k) = m ((c : Thread nD τ).loc main_arg4) (ix2 d k) := by
  unfold V hostOps0
  after_reads_at
theorem V_v2 (c : Dev nD) (d k : Fin 1024) : V m c main_v2 (ix2 d k) = m ((c : Thread nD τ).loc main_arg5) (ix2 d k) := by
  unfold V hostOps0
  after_reads_at

theorem iblk0 (c : Dev nD) (t : Fin cfg0.N) (r : Fin 512) (k : Fin 1024) :
    iblk m c 0 t (ix3 0 r k) = m ((c : Thread nD τ).loc main_arg0) (ix3 (bt t) (rt t r) k) := by
  show V m c main_arg0 (((cfg0.win 0).blk t).view.emb (ix3 0 r k)) = _
  rw [emb0, V_main_arg0]
theorem iblk1 (c : Dev nD) (t : Fin cfg0.N) (k : Fin 1024) :
    iblk m c 1 t (ix3 0 0 k) = m ((c : Thread nD τ).loc main_arg1) (ix3 (bt t) 0 (half 0 (by decide) k)) := by
  show V m c main_arg1 (((cfg0.win 1).blk t).view.emb (ix3 0 0 k)) = _
  rw [emb1, V_main_arg1]
theorem iblk2 (c : Dev nD) (t : Fin cfg0.N) (k : Fin 1024) :
    iblk m c 2 t (ix3 0 0 k) = m ((c : Thread nD τ).loc main_arg1) (ix3 (bt t) 0 (half 1 (by decide) k)) := by
  show V m c main_arg1 (((cfg0.win 2).blk t).view.emb (ix3 0 0 k)) = _
  rw [emb2, V_main_arg1]
theorem iblk3 (c : Dev nD) (t : Fin cfg0.N) (k : Fin 1024) :
    iblk m c 3 t (ix3 0 0 k) = m ((c : Thread nD τ).loc main_arg2) (ix3 (bt t) 0 (sixth 0 (by decide) k)) := by
  show V m c main_arg2 (((cfg0.win 3).blk t).view.emb (ix3 0 0 k)) = _
  rw [emb3, V_main_arg2]
theorem iblk4 (c : Dev nD) (t : Fin cfg0.N) (k : Fin 1024) :
    iblk m c 4 t (ix3 0 0 k) = m ((c : Thread nD τ).loc main_arg2) (ix3 (bt t) 0 (sixth 1 (by decide) k)) := by
  show V m c main_arg2 (((cfg0.win 4).blk t).view.emb (ix3 0 0 k)) = _
  rw [emb4, V_main_arg2]
theorem iblk5 (c : Dev nD) (t : Fin cfg0.N) (d k : Fin 1024) :
    iblk m c 5 t (ix2 d k) = m ((c : Thread nD τ).loc main_arg3) (ix2 d k) := by
  show V m c main_v0 (((cfg0.win 5).blk t).view.emb (ix2 d k)) = _
  rw [emb5, V_v0]
theorem iblk6 (c : Dev nD) (t : Fin cfg0.N) (d k : Fin 1024) :
    iblk m c 6 t (ix2 d k) = m ((c : Thread nD τ).loc main_arg4) (ix2 d k) := by
  show V m c main_v1 (((cfg0.win 6).blk t).view.emb (ix2 d k)) = _
  rw [emb6, V_v1]
theorem iblk7 (c : Dev nD) (t : Fin cfg0.N) (d k : Fin 1024) :
    iblk m c 7 t (ix2 d k) = m ((c : Thread nD τ).loc main_arg5) (ix2 d k) := by
  show V m c main_v2 (((cfg0.win 7).blk t).view.emb (ix2 d k)) = _
  rw [emb7, V_v2]

/-- A row of keys, of the arguments' contents on core `c`. -/
def keyAt (c : Dev nD) (b : Fin 2) (r : Fin 8192) (k : Fin 1024) : EReal :=
  projected (fun d => m ((c : Thread nD τ).loc main_arg0) (ix3 b r d)) (fun d => m ((c : Thread nD τ).loc main_arg1) (ix3 b 0 (half 1 (by decide) d)))
    (fun d => m ((c : Thread nD τ).loc main_arg1) (ix3 b 0 (half 0 (by decide) d))) (fun d e => m ((c : Thread nD τ).loc main_arg3) (ix2 d e)) k

/-- A row of values. -/
def valueAt (c : Dev nD) (b : Fin 2) (r : Fin 8192) (k : Fin 1024) : EReal :=
  projected (fun d => m ((c : Thread nD τ).loc main_arg0) (ix3 b r d)) (fun d => m ((c : Thread nD τ).loc main_arg1) (ix3 b 0 (half 1 (by decide) d)))
    (fun d => m ((c : Thread nD τ).loc main_arg1) (ix3 b 0 (half 0 (by decide) d))) (fun d e => m ((c : Thread nD τ).loc main_arg4) (ix2 d e)) k

/-- A row of scaled queries. -/
def queryAt (c : Dev nD) (b : Fin 2) (r : Fin 8192) (k : Fin 1024) : EReal :=
  scaled (fun d => m ((c : Thread nD τ).loc main_arg0) (ix3 b r d)) (fun d => m ((c : Thread nD τ).loc main_arg2) (ix3 b 0 (sixth 1 (by decide) d)))
    (fun d => m ((c : Thread nD τ).loc main_arg2) (ix3 b 0 (sixth 0 (by decide) d))) (fun d e => m ((c : Thread nD τ).loc main_arg5) (ix2 d e)) k

/-- The array of keys. -/
def GK (c : Dev nD) (i : S2x8192x1024.Idx) : EReal := keyAt m c (i (0 : Fin 3)) (i (1 : Fin 3)) (i (2 : Fin 3))
/-- The array of values. -/
def GV (c : Dev nD) (i : S2x8192x1024.Idx) : EReal := valueAt m c (i (0 : Fin 3)) (i (1 : Fin 3)) (i (2 : Fin 3))
/-- The array of scaled queries. -/
def GQ (c : Dev nD) (i : S2x8192x1024.Idx) : EReal := queryAt m c (i (0 : Fin 3)) (i (1 : Fin 3)) (i (2 : Fin 3))
/-- Row `r` of tile `n`. -/
abbrev rowOf (n : Fin 16) (r : Fin 512) : Fin 8192 := ⟨n.val * 512 + r.val, by omega⟩
/-- The array of transposed tiles of values. -/
def GT (c : Dev nD) (i : S2x16x1024x512.Idx) : EReal := valueAt m c (i (0 : Fin 4)) (rowOf (i (1 : Fin 4)) (i (3 : Fin 4))) (i (2 : Fin 4))

theorem ix3_of (j : S1x512x1024.Idx) : ∃ (r : Fin 512) (k : Fin 1024), j = ix3 0 r k :=
  ⟨j (1 : Fin 3), j (2 : Fin 3), funext fun a => match a with
    | ⟨0, _⟩ => Fin.ext (by have h := (j (0 : Fin 3)).isLt; have h' : (j (0 : Fin 3)).val < 1 := h; show (j (0 : Fin 3)).val = 0; omega)
    | ⟨1, _⟩ => rfl
    | ⟨2, _⟩ => rfl⟩

theorem ix4_of (j : S1x1x1024x512.Idx) : ∃ (d : Fin 1024) (r : Fin 512), j = ix4 0 0 d r :=
  ⟨j (2 : Fin 4), j (3 : Fin 4), funext fun a => match a with
    | ⟨0, _⟩ => Fin.ext (by have h := (j (0 : Fin 4)).isLt; have h' : (j (0 : Fin 4)).val < 1 := h; show (j (0 : Fin 4)).val = 0; omega)
    | ⟨1, _⟩ => Fin.ext (by have h := (j (1 : Fin 4)).isLt; have h' : (j (1 : Fin 4)).val < 1 := h; show (j (1 : Fin 4)).val = 0; omega)
    | ⟨2, _⟩ => rfl
    | ⟨3, _⟩ => rfl⟩

/-- What grid point `t` writes back is block `t` of the array. -/
theorem flushed8_eq (c : Dev nD) (t : Fin cfg0.N) : (dats m 0 c).flushed 8 t = ((cfg0.win 8).blk t).view.read (Elt Ideal) (GK m c) := by
  rw [flushed8]
  funext j
  obtain ⟨r, k, rfl⟩ := ix3_of j
  show out0_8 (F := Ideal) _ _ _ _ _ _ _ _ (ix3 0 r k) = GK m c (((cfg0.win 8).blk t).view.emb (ix3 0 r k))
  rw [emb8, out8_apply]
  simp only [iblk0, iblk1, iblk2, iblk5]
  rfl

theorem covered8 (i : S2x8192x1024.Idx) : ∃ t : Fin cfg0.N, (cfg0.win 8).flush t = true ∧ i ∈ ((cfg0.win 8).blk t).view.set := by
  have h0 : (i (0 : Fin 3)).val < 2 := (i (0 : Fin 3)).isLt
  have h1 : (i (1 : Fin 3)).val < 8192 := (i (1 : Fin 3)).isLt
  let t : Fin cfg0.N := (⟨(i (0 : Fin 3)).val * 16 + (i (1 : Fin 3)).val / 512, by show _ < 32; omega⟩ : Fin 32)
  refine ⟨t, flush0_8 _, ?_⟩
  have e : ((cfg0.win 8).blk t).view.emb (ix3 (0 : Fin 1) (⟨(i (1 : Fin 3)).val % 512, by omega⟩ : Fin 512) (i (2 : Fin 3))) = i := by
    refine (emb8 t ⟨(i (1 : Fin 3)).val % 512, by omega⟩ (i (2 : Fin 3))).trans ?_
    funext a; apply Fin.ext
    match a with
    | ⟨0, _⟩ => show ((i (0 : Fin 3)).val * 16 + (i (1 : Fin 3)).val / 512) / 16 = (i (0 : Fin 3)).val; omega
    | ⟨1, _⟩ => show ((i (0 : Fin 3)).val * 16 + (i (1 : Fin 3)).val / 512) % 16 * 512 + (i (1 : Fin 3)).val % 512 = (i (1 : Fin 3)).val; omega
    | ⟨2, _⟩ => rfl
  have h := ((cfg0.win 8).blk t).view.emb_mem_set (ix3 (0 : Fin 1) (⟨(i (1 : Fin 3)).val % 512, by omega⟩ : Fin 512) (i (2 : Fin 3)))
  rwa [e] at h

theorem final8 (c : Dev nD) : (dats m 0 c).arrAt 8 cfg0.N = GK m c :=
  (dats m 0 c).arrAt_eq_of_cover 8 (GK m c) (fun t _ => flushed8_eq m c t) covered8

/-- What grid point `t` writes back is block `t` of the array. -/
theorem flushed9_eq (c : Dev nD) (t : Fin cfg0.N) : (dats m 0 c).flushed 9 t = ((cfg0.win 9).blk t).view.read (Elt Ideal) (GV m c) := by
  rw [flushed9]
  funext j
  obtain ⟨r, k, rfl⟩ := ix3_of j
  show out0_9 (F := Ideal) _ _ _ _ _ _ _ _ (ix3 0 r k) = GV m c (((cfg0.win 9).blk t).view.emb (ix3 0 r k))
  rw [emb9, out9_apply]
  simp only [iblk0, iblk1, iblk2, iblk6]
  rfl

theorem covered9 (i : S2x8192x1024.Idx) : ∃ t : Fin cfg0.N, (cfg0.win 9).flush t = true ∧ i ∈ ((cfg0.win 9).blk t).view.set := by
  have h0 : (i (0 : Fin 3)).val < 2 := (i (0 : Fin 3)).isLt
  have h1 : (i (1 : Fin 3)).val < 8192 := (i (1 : Fin 3)).isLt
  let t : Fin cfg0.N := (⟨(i (0 : Fin 3)).val * 16 + (i (1 : Fin 3)).val / 512, by show _ < 32; omega⟩ : Fin 32)
  refine ⟨t, flush0_9 _, ?_⟩
  have e : ((cfg0.win 9).blk t).view.emb (ix3 (0 : Fin 1) (⟨(i (1 : Fin 3)).val % 512, by omega⟩ : Fin 512) (i (2 : Fin 3))) = i := by
    refine (emb9 t ⟨(i (1 : Fin 3)).val % 512, by omega⟩ (i (2 : Fin 3))).trans ?_
    funext a; apply Fin.ext
    match a with
    | ⟨0, _⟩ => show ((i (0 : Fin 3)).val * 16 + (i (1 : Fin 3)).val / 512) / 16 = (i (0 : Fin 3)).val; omega
    | ⟨1, _⟩ => show ((i (0 : Fin 3)).val * 16 + (i (1 : Fin 3)).val / 512) % 16 * 512 + (i (1 : Fin 3)).val % 512 = (i (1 : Fin 3)).val; omega
    | ⟨2, _⟩ => rfl
  have h := ((cfg0.win 9).blk t).view.emb_mem_set (ix3 (0 : Fin 1) (⟨(i (1 : Fin 3)).val % 512, by omega⟩ : Fin 512) (i (2 : Fin 3)))
  rwa [e] at h

theorem final9 (c : Dev nD) : (dats m 0 c).arrAt 9 cfg0.N = GV m c :=
  (dats m 0 c).arrAt_eq_of_cover 9 (GV m c) (fun t _ => flushed9_eq m c t) covered9

/-- What grid point `t` writes back is block `t` of the array. -/
theorem flushed10_eq (c : Dev nD) (t : Fin cfg0.N) : (dats m 0 c).flushed 10 t = ((cfg0.win 10).blk t).view.read (Elt Ideal) (GQ m c) := by
  rw [flushed10]
  funext j
  obtain ⟨r, k, rfl⟩ := ix3_of j
  show out0_10 (F := Ideal) _ _ _ _ _ _ _ _ (ix3 0 r k) = GQ m c (((cfg0.win 10).blk t).view.emb (ix3 0 r k))
  rw [emb10, out10_apply]
  simp only [iblk0, iblk3, iblk4, iblk7]
  rfl

theorem covered10 (i : S2x8192x1024.Idx) : ∃ t : Fin cfg0.N, (cfg0.win 10).flush t = true ∧ i ∈ ((cfg0.win 10).blk t).view.set := by
  have h0 : (i (0 : Fin 3)).val < 2 := (i (0 : Fin 3)).isLt
  have h1 : (i (1 : Fin 3)).val < 8192 := (i (1 : Fin 3)).isLt
  let t : Fin cfg0.N := (⟨(i (0 : Fin 3)).val * 16 + (i (1 : Fin 3)).val / 512, by show _ < 32; omega⟩ : Fin 32)
  refine ⟨t, flush0_10 _, ?_⟩
  have e : ((cfg0.win 10).blk t).view.emb (ix3 (0 : Fin 1) (⟨(i (1 : Fin 3)).val % 512, by omega⟩ : Fin 512) (i (2 : Fin 3))) = i := by
    refine (emb10 t ⟨(i (1 : Fin 3)).val % 512, by omega⟩ (i (2 : Fin 3))).trans ?_
    funext a; apply Fin.ext
    match a with
    | ⟨0, _⟩ => show ((i (0 : Fin 3)).val * 16 + (i (1 : Fin 3)).val / 512) / 16 = (i (0 : Fin 3)).val; omega
    | ⟨1, _⟩ => show ((i (0 : Fin 3)).val * 16 + (i (1 : Fin 3)).val / 512) % 16 * 512 + (i (1 : Fin 3)).val % 512 = (i (1 : Fin 3)).val; omega
    | ⟨2, _⟩ => rfl
  have h := ((cfg0.win 10).blk t).view.emb_mem_set (ix3 (0 : Fin 1) (⟨(i (1 : Fin 3)).val % 512, by omega⟩ : Fin 512) (i (2 : Fin 3)))
  rwa [e] at h

theorem final10 (c : Dev nD) : (dats m 0 c).arrAt 10 cfg0.N = GQ m c :=
  (dats m 0 c).arrAt_eq_of_cover 10 (GQ m c) (fun t _ => flushed10_eq m c t) covered10

/-- What grid point `t` writes back is block `t` of the array. -/
theorem flushed11_eq (c : Dev nD) (t : Fin cfg0.N) : (dats m 0 c).flushed 11 t = ((cfg0.win 11).blk t).view.read (Elt Ideal) (GK m c) := by
  rw [flushed11]
  funext j
  obtain ⟨r, k, rfl⟩ := ix3_of j
  show out0_11 (F := Ideal) _ _ _ _ _ _ _ _ (ix3 0 r k) = GK m c (((cfg0.win 11).blk t).view.emb (ix3 0 r k))
  rw [emb11, out11_apply]
  simp only [iblk0, iblk1, iblk2, iblk5]
  rfl

theorem covered11 (i : S2x8192x1024.Idx) : ∃ t : Fin cfg0.N, (cfg0.win 11).flush t = true ∧ i ∈ ((cfg0.win 11).blk t).view.set := by
  have h0 : (i (0 : Fin 3)).val < 2 := (i (0 : Fin 3)).isLt
  have h1 : (i (1 : Fin 3)).val < 8192 := (i (1 : Fin 3)).isLt
  let t : Fin cfg0.N := (⟨(i (0 : Fin 3)).val * 16 + (i (1 : Fin 3)).val / 512, by show _ < 32; omega⟩ : Fin 32)
  refine ⟨t, flush0_11 _, ?_⟩
  have e : ((cfg0.win 11).blk t).view.emb (ix3 (0 : Fin 1) (⟨(i (1 : Fin 3)).val % 512, by omega⟩ : Fin 512) (i (2 : Fin 3))) = i := by
    refine (emb11 t ⟨(i (1 : Fin 3)).val % 512, by omega⟩ (i (2 : Fin 3))).trans ?_
    funext a; apply Fin.ext
    match a with
    | ⟨0, _⟩ => show ((i (0 : Fin 3)).val * 16 + (i (1 : Fin 3)).val / 512) / 16 = (i (0 : Fin 3)).val; omega
    | ⟨1, _⟩ => show ((i (0 : Fin 3)).val * 16 + (i (1 : Fin 3)).val / 512) % 16 * 512 + (i (1 : Fin 3)).val % 512 = (i (1 : Fin 3)).val; omega
    | ⟨2, _⟩ => rfl
  have h := ((cfg0.win 11).blk t).view.emb_mem_set (ix3 (0 : Fin 1) (⟨(i (1 : Fin 3)).val % 512, by omega⟩ : Fin 512) (i (2 : Fin 3)))
  rwa [e] at h

theorem final11 (c : Dev nD) : (dats m 0 c).arrAt 11 cfg0.N = GK m c :=
  (dats m 0 c).arrAt_eq_of_cover 11 (GK m c) (fun t _ => flushed11_eq m c t) covered11

/-- What grid point `t` writes back is block `t` of the array. -/
theorem flushed12_eq (c : Dev nD) (t : Fin cfg0.N) : (dats m 0 c).flushed 12 t = ((cfg0.win 12).blk t).view.read (Elt Ideal) (GT m c) := by
  rw [flushed12]
  funext j
  obtain ⟨d, r, rfl⟩ := ix4_of j
  show out0_12 (F := Ideal) _ _ _ _ _ _ _ _ (ix4 0 0 d r) = GT m c (((cfg0.win 12).blk t).view.emb (ix4 0 0 d r))
  rw [emb12, out12_apply]
  simp only [iblk0, iblk1, iblk2, iblk6]
  rfl

theorem covered12 (i : S2x16x1024x512.Idx) : ∃ t : Fin cfg0.N, (cfg0.win 12).flush t = true ∧ i ∈ ((cfg0.win 12).blk t).view.set := by
  have h0 : (i (0 : Fin 4)).val < 2 := (i (0 : Fin 4)).isLt
  have h1 : (i (1 : Fin 4)).val < 16 := (i (1 : Fin 4)).isLt
  let t : Fin cfg0.N := (⟨(i (0 : Fin 4)).val * 16 + (i (1 : Fin 4)).val, by show _ < 32; omega⟩ : Fin 32)
  refine ⟨t, flush0_12 _, ?_⟩
  have e : ((cfg0.win 12).blk t).view.emb (ix4 (0 : Fin 1) (0 : Fin 1) (i (2 : Fin 4)) (i (3 : Fin 4))) = i := by
    refine (emb12 t (i (2 : Fin 4)) (i (3 : Fin 4))).trans ?_
    funext a; apply Fin.ext
    match a with
    | ⟨0, _⟩ => show ((i (0 : Fin 4)).val * 16 + (i (1 : Fin 4)).val) / 16 = (i (0 : Fin 4)).val; omega
    | ⟨1, _⟩ => show ((i (0 : Fin 4)).val * 16 + (i (1 : Fin 4)).val) % 16 = (i (1 : Fin 4)).val; omega
    | ⟨2, _⟩ => rfl
    | ⟨3, _⟩ => rfl
  have h := ((cfg0.win 12).blk t).view.emb_mem_set (ix4 (0 : Fin 1) (0 : Fin 1) (i (2 : Fin 4)) (i (3 : Fin 4)))
  rwa [e] at h

theorem final12 (c : Dev nD) : (dats m 0 c).arrAt 12 cfg0.N = GT m c :=
  (dats m 0 c).arrAt_eq_of_cover 12 (GT m c) (fun t _ => flushed12_eq m c t) covered12

end Cert.Kernel4Ideal.Hand

end
-- ==== Proof.Kvq.PromptRef.lean ====
/-
  The reference of the projections at an index (the prompt).
-/
module

public import proofs.«01_k».proof.Proof.Gen.Reference4Ideal.Read
public import proofs.«01_k».proof.Proof.Kvq.Row

@[expose] public section

set_option maxRecDepth 16384

noncomputable section

namespace Cert.Reference4Ideal.Hand

open Cert.Reference4Ideal Cert.Reference4Ideal.Gen Cert.Reference4Ideal.Read Cert.Kvq
open Idealize.ShloMosaic

variable (x0 : (⟨S2x8192x1024, .f32⟩ : BufTy).Contents (Elt Ideal)) (x1 : (⟨S2x1x2048, .f32⟩ : BufTy).Contents (Elt Ideal))
  (x2 : (⟨S2x1x6144, .f32⟩ : BufTy).Contents (Elt Ideal)) (x3 x4 x5 : (⟨S1024x1024, .f32⟩ : BufTy).Contents (Elt Ideal))
  (b : Fin 2) (r : Fin 8192) (c : Fin 1024)

theorem v8_apply : val_main_v8 (F := Ideal) x0 x1 x3 (ix3 b r c) = projected (fun d => x0 (ix3 b r d)) (fun d => x1 (ix3 b 0 (half 1 (by decide) d))) (fun d => x1 (ix3 b 0 (half 0 (by decide) d))) (fun d e => x3 (ix2 d e)) c := by
  unfold val_main_v8 val_main_v7 val_main_v6 val_main_v5 val_main_v4 val_main_v3 val_main_v2 val_main_cst val_main_v1 val_main_v0
  pointwise [dot_S2x8192x1024_S1024x1024_S2x8192x1024_2_0_01_1_n_n]
  rfl

theorem v9_apply : val_main_v9 (F := Ideal) x0 x1 x4 (ix3 b r c) = projected (fun d => x0 (ix3 b r d)) (fun d => x1 (ix3 b 0 (half 1 (by decide) d))) (fun d => x1 (ix3 b 0 (half 0 (by decide) d))) (fun d e => x4 (ix2 d e)) c := by
  unfold val_main_v9 val_main_v7 val_main_v6 val_main_v5 val_main_v4 val_main_v3 val_main_v2 val_main_cst val_main_v1 val_main_v0
  pointwise [dot_S2x8192x1024_S1024x1024_S2x8192x1024_2_0_01_1_n_n]
  rfl

theorem v27_apply : val_main_v27 (F := Ideal) x0 x2 x5 (ix3 b r c) = scaled (fun d => x0 (ix3 b r d)) (fun d => x2 (ix3 b 0 (sixth 1 (by decide) d))) (fun d => x2 (ix3 b 0 (sixth 0 (by decide) d))) (fun d e => x5 (ix2 d e)) c := by
  unfold val_main_v27 val_main_v26 val_main_v25 val_main_cst_1 val_main_v22 val_main_v21 val_main_v20 val_main_v19 val_main_v18 val_main_v17 val_main_v16 val_main_cst_0
    val_main_v11 val_main_v10
  pointwise [dot_S2x8192x1024_S1024x1024_S2x8192x1024_2_0_01_1_n_n]
  rfl

theorem v28_apply : val_main_v28 (F := Ideal) x0 x1 x3 (ix3 b r c) = projected (fun d => x0 (ix3 b r d)) (fun d => x1 (ix3 b 0 (half 1 (by decide) d))) (fun d => x1 (ix3 b 0 (half 0 (by decide) d))) (fun d e => x3 (ix2 d e)) c :=
  (val_main_v28_apply x0 x1 x3 _).trans (v8_apply x0 x1 x3 b r c)

/-- A tile's row, read in the whole array. -/
theorem tile_idx (n : Fin 16) (q : Fin 512) : idx_main_v23 (idx_main_v24 (ix4 b n c q)) = ix3 b ⟨n.val * 512 + q.val, by omega⟩ c := by
  funext a
  apply Fin.ext
  match a with
  | ⟨0, _⟩ => show (((b.val * 16 + n.val) * 512 + q.val) * 1024 + c.val) / 8388608 = b.val; omega
  | ⟨1, _⟩ => show (((b.val * 16 + n.val) * 512 + q.val) * 1024 + c.val) / 1024 % 8192 = n.val * 512 + q.val; omega
  | ⟨2, _⟩ => show (((b.val * 16 + n.val) * 512 + q.val) * 1024 + c.val) % 1024 = c.val; omega

theorem v29_apply (n : Fin 16) (q : Fin 512) : val_main_v29 (F := Ideal) x0 x1 x4 (ix4 b n c q)
    = val_main_v9 (F := Ideal) x0 x1 x4 (ix3 b ⟨n.val * 512 + q.val, by omega⟩ c) := by
  refine (val_main_v29_apply x0 x1 x4 _).trans ?_
  refine (val_main_v24_apply x0 x1 x4 _).trans ?_
  refine (val_main_v23_apply x0 x1 x4 _).trans ?_
  rw [tile_idx]

end Cert.Reference4Ideal.Hand

end
-- ==== Proof.Kvq.PromptClaims.lean ====
/-
  The claims about the projections to keys, values and queries (the prompt): the frames, and that over the extended reals
  the call and its reference return the same arrays.
-/
module

public import proofs.«01_k».proof.Defs
public import proofs.«01_k».proof.Proof.Gen.Kernel4.Frame
public import proofs.«01_k».proof.Proof.Gen.Reference4Ideal.Run
public import proofs.«01_k».proof.Proof.Kvq.PromptArray
public import proofs.«01_k».proof.Proof.Kvq.PromptRef

@[expose] public section

set_option maxRecDepth 16384

noncomputable section

namespace Cert.Kvq.Prompt

open Idealize.ShloMosaic Idealize.SL.Sem

local instance : Cert.Kernel4.Facts := Cert.Kernel4.Gen.facts
local instance : Cert.Kernel4Ideal.Facts := Cert.Kernel4Ideal.Gen.facts
local instance : Cert.Reference4Ideal.Facts := Cert.Reference4Ideal.Gen.facts

theorem frame_kernel : Cert.quiescent_Kernel4 := fun m ρ _ => Cert.Kernel4.Gen.frame (F := Bits) m ρ

theorem frame_ideal : Cert.quiescent_Kernel4Ideal := fun m ρ _ => Cert.Kernel4Ideal.Gen.frame (F := Ideal) m ρ

theorem frame_reference : Cert.quiescent_Reference4Ideal := fun m ρ _ =>
  (θ_run Cert.Reference4Ideal.defs _ _).mono (fun r h => ⟨fun c => (h c).2.2.2.2.2,
      Idealize.ShloMosaic.sem_eq_zero_of_no_sems (by decide) r.2⟩)
    (Cert.Reference4Ideal.Value.run (F := Ideal) m ρ)

theorem ix3_of (i : Cert.Kernel4Ideal.S2x8192x1024.Idx) : ∃ (b : Fin 2) (t : Fin 8192) (k : Fin 1024), i = ix3 b t k :=
  ⟨i (0 : Fin 3), i (1 : Fin 3), i (2 : Fin 3), funext fun a => match a with
    | ⟨0, _⟩ => rfl
    | ⟨1, _⟩ => rfl
    | ⟨2, _⟩ => rfl⟩

theorem ix4_of (i : Cert.Kernel4Ideal.S2x16x1024x512.Idx) : ∃ (b : Fin 2) (n : Fin 16) (k : Fin 1024) (q : Fin 512), i = ix4 b n k q :=
  ⟨i (0 : Fin 4), i (1 : Fin 4), i (2 : Fin 4), i (3 : Fin 4), funext fun a => match a with
    | ⟨0, _⟩ => rfl
    | ⟨1, _⟩ => rfl
    | ⟨2, _⟩ => rfl
    | ⟨3, _⟩ => rfl⟩

theorem algebraic : Cert.algebraic_Kernel4Ideal_Reference4Ideal := by
  intro m g m' g' _ hm
  refine ⟨fun c => Cert.Kernel4Ideal.Hand.GK m c, fun c => Cert.Kernel4Ideal.Hand.GV m c, fun c => Cert.Kernel4Ideal.Hand.GQ m c, fun c => Cert.Kernel4Ideal.Hand.GK m c, fun c => Cert.Kernel4Ideal.Hand.GT m c,
    (θ_run Cert.Kernel4Ideal.defs _ _).mono
      (fun r h c => ⟨(h c).1.trans (Cert.Kernel4Ideal.Hand.final8 m c), (h c).2.1.trans (Cert.Kernel4Ideal.Hand.final9 m c), (h c).2.2.1.trans (Cert.Kernel4Ideal.Hand.final10 m c), (h c).2.2.2.1.trans (Cert.Kernel4Ideal.Hand.final11 m c), (h c).2.2.2.2.1.trans (Cert.Kernel4Ideal.Hand.final12 m c), (h c).2.2.2.2.2⟩)
      (Cert.Kernel4Ideal.Value.run_blocks (F := Ideal) m g),
    (θ_run Cert.Reference4Ideal.defs _ _).mono
      (fun r h c => ⟨(h c).1.trans ?_, (h c).2.1.trans ?_, (h c).2.2.1.trans ?_, (h c).2.2.2.1.trans ?_, (h c).2.2.2.2.1.trans ?_, (h c).2.2.2.2.2⟩)
      (Cert.Reference4Ideal.Value.run (F := Ideal) m' g')⟩
  · rw [Cert.Reference4Ideal.Read.val_main_v8_eq]
    obtain ⟨h0, h1, h2, h3, h4, h5⟩ := hm c
    rw [h0, h1, h3]
    funext i
    obtain ⟨b, t, k, rfl⟩ := ix3_of i
    exact Cert.Reference4Ideal.Hand.v8_apply ..
  · rw [Cert.Reference4Ideal.Read.val_main_v9_eq]
    obtain ⟨h0, h1, h2, h3, h4, h5⟩ := hm c
    rw [h0, h1, h4]
    funext i
    obtain ⟨b, t, k, rfl⟩ := ix3_of i
    exact Cert.Reference4Ideal.Hand.v9_apply ..
  · rw [Cert.Reference4Ideal.Read.val_main_v27_eq]
    obtain ⟨h0, h1, h2, h3, h4, h5⟩ := hm c
    rw [h0, h2, h5]
    funext i
    obtain ⟨b, t, k, rfl⟩ := ix3_of i
    exact Cert.Reference4Ideal.Hand.v27_apply ..
  · rw [Cert.Reference4Ideal.Read.val_main_v28_eq]
    obtain ⟨h0, h1, h2, h3, h4, h5⟩ := hm c
    rw [h0, h1, h3]
    funext i
    obtain ⟨b, t, k, rfl⟩ := ix3_of i
    exact Cert.Reference4Ideal.Hand.v28_apply ..
  · rw [Cert.Reference4Ideal.Read.val_main_v29_eq]
    obtain ⟨h0, h1, h2, h3, h4, h5⟩ := hm c
    rw [h0, h1, h4]
    funext i
    obtain ⟨b, n, k, q, rfl⟩ := ix4_of i
    exact (Cert.Reference4Ideal.Hand.v29_apply ..).trans (Cert.Reference4Ideal.Hand.v9_apply ..)

end Cert.Kvq.Prompt

end
-- ==== Proof.Kvq.SampleBody.lean ====
/-
  The blocks the projections write at a grid point, row by row (the sampled tokens).
-/
module

public import proofs.«01_k».proof.Proof.Gen.Kernel5Ideal.Value
public import proofs.«01_k».proof.Proof.Kvq.Row

@[expose] public section

set_option maxRecDepth 16384

noncomputable section

namespace Cert.Kernel5Ideal.Hand

open Cert.Kernel5Ideal Cert.Kernel5Ideal.Gen Cert.Kvq
open Idealize.ShloMosaic

variable (x0 : Vec Ideal S1x32x1024 .f32) (x1 x2 x3 x4 : Vec Ideal S1x32x1024 .f32) (x5 x6 x7 : Vec Ideal S1024x1024 .bf16)
  (r : Fin 32) (c : Fin 1024)

theorem zero2 : (![0, 0] : Fin 2 → Nat) = fun _ => 0 := by decide
theorem zero3 : (![0, 0, 0] : Fin 3 → Nat) = fun _ => 0 := by decide
theorem ldx (x : Vec Ideal S1x32x1024 .f32) : View.ld x r0_0 = x := View.ld_unit_zero zero3 _ _
theorem ldw (x : Vec Ideal S1024x1024 .bf16) : View.ld x r0_1 = x := View.ld_unit_zero zero2 _ _

/-- The block of the keys. -/
theorem out8_apply : out0_8 (F := Ideal) x0 x1 x2 x3 x4 x5 x6 x7 (ix3 0 r c)
    = projected (fun d => x0 (ix3 0 r d)) (fun d => x2 (ix3 0 r d)) (fun d => x1 (ix3 0 r d)) (fun d e => x5 (ix2 d e)) c := by
  unfold out0_8
  rw [View.canon_unit_zero zero3]
  simp only [ldx, ldw]
  unfold k0_pay4 k0_pay3 k0_pay2
  pointwise [dot_S32x1024_S1024x1024_S32x1024_1_0_0_1_n_n]
  rfl

/-- The block of the values. -/
theorem out9_apply : out0_9 (F := Ideal) x0 x1 x2 x3 x4 x5 x6 x7 (ix3 0 r c)
    = projected (fun d => x0 (ix3 0 r d)) (fun d => x2 (ix3 0 r d)) (fun d => x1 (ix3 0 r d)) (fun d e => x6 (ix2 d e)) c := by
  unfold out0_9
  rw [View.canon_unit_zero zero3]
  simp only [ldx, ldw]
  unfold k0_pay5 k0_pay3 k0_pay2
  pointwise [dot_S32x1024_S1024x1024_S32x1024_1_0_0_1_n_n]
  rfl

/-- The block of the scaled queries. -/
theorem out10_apply : out0_10 (F := Ideal) x0 x1 x2 x3 x4 x5 x6 x7 (ix3 0 r c)
    = scaled (fun d => x0 (ix3 0 r d)) (fun d => x4 (ix3 0 r d)) (fun d => x3 (ix3 0 r d)) (fun d e => x7 (ix2 d e)) c := by
  unfold out0_10
  rw [View.canon_unit_zero zero3]
  simp only [ldx, ldw]
  unfold k0_pay1 k0_pay6 k0_pay2
  pointwise [dot_S32x1024_S1024x1024_S32x1024_1_0_0_1_n_n]
  rfl

end Cert.Kernel5Ideal.Hand

end
-- ==== Proof.Kvq.SampleArray.lean ====
/-
  The arrays the projections leave, as functions of the arguments (the sampled tokens).
-/
module

public import proofs.«01_k».proof.Proof.Kvq.SampleBody
public import Idealize.ShloMosaic.Lib.StableHlo.ReadAt

@[expose] public section

set_option maxRecDepth 16384

noncomputable section

namespace Cert.Kernel5Ideal.Hand

open Cert.Kernel5Ideal Cert.Kernel5Ideal.Gen Cert.Kernel5Ideal.Value Cert.Kvq
open Idealize.ShloMosaic Idealize.ShloMosaic.TcCoe Idealize.SL.Sem

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 1 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 1 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

theorem emb0 (t : Fin cfg0.N) (r : Fin 32) (k : Fin 1024) : ((cfg0.win 0).blk t).view.emb (ix3 0 r k) = ix3 0 r k := by
  obtain ⟨e0, e1, e2⟩ := idx0 t
  funext a; apply Fin.ext
  match a with
  | ⟨0, _⟩ => show win0_0.index t (0 : Fin 3) * 1 + 1 * 0 = 0; omega
  | ⟨1, _⟩ => show win0_0.index t (1 : Fin 3) * 32 + 1 * r.val = r.val; omega
  | ⟨2, _⟩ => show win0_0.index t (2 : Fin 3) * 1024 + 1 * k.val = k.val; omega
theorem emb8 (t : Fin cfg0.N) (r : Fin 32) (k : Fin 1024) : ((cfg0.win 8).blk t).view.emb (ix3 0 r k) = ix3 0 r k := by
  obtain ⟨e0, e1, e2⟩ := idx8 t
  funext a; apply Fin.ext
  match a with
  | ⟨0, _⟩ => show win0_8.index t (0 : Fin 3) * 1 + 1 * 0 = 0; omega
  | ⟨1, _⟩ => show win0_8.index t (1 : Fin 3) * 32 + 1 * r.val = r.val; omega
  | ⟨2, _⟩ => show win0_8.index t (2 : Fin 3) * 1024 + 1 * k.val = k.val; omega
theorem emb9 (t : Fin cfg0.N) (r : Fin 32) (k : Fin 1024) : ((cfg0.win 9).blk t).view.emb (ix3 0 r k) = ix3 0 r k := by
  obtain ⟨e0, e1, e2⟩ := idx9 t
  funext a; apply Fin.ext
  match a with
  | ⟨0, _⟩ => show win0_9.index t (0 : Fin 3) * 1 + 1 * 0 = 0; omega
  | ⟨1, _⟩ => show win0_9.index t (1 : Fin 3) * 32 + 1 * r.val = r.val; omega
  | ⟨2, _⟩ => show win0_9.index t (2 : Fin 3) * 1024 + 1 * k.val = k.val; omega
theorem emb10 (t : Fin cfg0.N) (r : Fin 32) (k : Fin 1024) : ((cfg0.win 10).blk t).view.emb (ix3 0 r k) = ix3 0 r k := by
  obtain ⟨e0, e1, e2⟩ := idx10 t
  funext a; apply Fin.ext
  match a with
  | ⟨0, _⟩ => show win0_10.index t (0 : Fin 3) * 1 + 1 * 0 = 0; omega
  | ⟨1, _⟩ => show win0_10.index t (1 : Fin 3) * 32 + 1 * r.val = r.val; omega
  | ⟨2, _⟩ => show win0_10.index t (2 : Fin 3) * 1024 + 1 * k.val = k.val; omega
theorem emb1 (t : Fin cfg0.N) (r : Fin 32) (k : Fin 1024) : ((cfg0.win 1).blk t).view.emb (ix3 0 r k) = ix3 0 r (half 0 (by decide) k) := by
  obtain ⟨e0, e1, e2⟩ := idx1 t
  funext a; apply Fin.ext
  match a with
  | ⟨0, _⟩ => show win0_1.index t (0 : Fin 3) * 1 + 1 * 0 = 0; omega
  | ⟨1, _⟩ => show win0_1.index t (1 : Fin 3) * 32 + 1 * r.val = r.val; omega
  | ⟨2, _⟩ => show win0_1.index t (2 : Fin 3) * 1024 + 1 * k.val = 0 * 1024 + k.val; omega
theorem emb2 (t : Fin cfg0.N) (r : Fin 32) (k : Fin 1024) : ((cfg0.win 2).blk t).view.emb (ix3 0 r k) = ix3 0 r (half 1 (by decide) k) := by
  obtain ⟨e0, e1, e2⟩ := idx2 t
  funext a; apply Fin.ext
  match a with
  | ⟨0, _⟩ => show win0_2.index t (0 : Fin 3) * 1 + 1 * 0 = 0; omega
  | ⟨1, _⟩ => show win0_2.index t (1 : Fin 3) * 32 + 1 * r.val = r.val; omega
  | ⟨2, _⟩ => show win0_2.index t (2 : Fin 3) * 1024 + 1 * k.val = 1 * 1024 + k.val; omega
theorem emb3 (t : Fin cfg0.N) (r : Fin 32) (k : Fin 1024) : ((cfg0.win 3).blk t).view.emb (ix3 0 r k) = ix3 0 r (sixth 0 (by decide) k) := by
  obtain ⟨e0, e1, e2⟩ := idx3 t
  funext a; apply Fin.ext
  match a with
  | ⟨0, _⟩ => show win0_3.index t (0 : Fin 3) * 1 + 1 * 0 = 0; omega
  | ⟨1, _⟩ => show win0_3.index t (1 : Fin 3) * 32 + 1 * r.val = r.val; omega
  | ⟨2, _⟩ => show win0_3.index t (2 : Fin 3) * 1024 + 1 * k.val = 0 * 1024 + k.val; omega
theorem emb4 (t : Fin cfg0.N) (r : Fin 32) (k : Fin 1024) : ((cfg0.win 4).blk t).view.emb (ix3 0 r k) = ix3 0 r (sixth 1 (by decide) k) := by
  obtain ⟨e0, e1, e2⟩ := idx4 t
  funext a; apply Fin.ext
  match a with
  | ⟨0, _⟩ => show win0_4.index t (0 : Fin 3) * 1 + 1 * 0 = 0; omega
  | ⟨1, _⟩ => show win0_4.index t (1 : Fin 3) * 32 + 1 * r.val = r.val; omega
  | ⟨2, _⟩ => show win0_4.index t (2 : Fin 3) * 1024 + 1 * k.val = 1 * 1024 + k.val; omega
theorem emb5 (t : Fin cfg0.N) (d k : Fin 1024) : ((cfg0.win 5).blk t).view.emb (ix2 d k) = ix2 d k := by
  obtain ⟨e0, e1⟩ := idx5 t
  funext a; apply Fin.ext
  match a with
  | ⟨0, _⟩ => show win0_5.index t (0 : Fin 2) * 1024 + 1 * d.val = d.val; omega
  | ⟨1, _⟩ => show win0_5.index t (1 : Fin 2) * 1024 + 1 * k.val = k.val; omega
theorem emb6 (t : Fin cfg0.N) (d k : Fin 1024) : ((cfg0.win 6).blk t).view.emb (ix2 d k) = ix2 d k := by
  obtain ⟨e0, e1⟩ := idx6 t
  funext a; apply Fin.ext
  match a with
  | ⟨0, _⟩ => show win0_6.index t (0 : Fin 2) * 1024 + 1 * d.val = d.val; omega
  | ⟨1, _⟩ => show win0_6.index t (1 : Fin 2) * 1024 + 1 * k.val = k.val; omega
theorem emb7 (t : Fin cfg0.N) (d k : Fin 1024) : ((cfg0.win 7).blk t).view.emb (ix2 d k) = ix2 d k := by
  obtain ⟨e0, e1⟩ := idx7 t
  funext a; apply Fin.ext
  match a with
  | ⟨0, _⟩ => show win0_7.index t (0 : Fin 2) * 1024 + 1 * d.val = d.val; omega
  | ⟨1, _⟩ => show win0_7.index t (1 : Fin 2) * 1024 + 1 * k.val = k.val; omega

variable (m : (ℓ : Loc nD τ sig) → Buf (Elt Ideal) ℓ) (ρ : Dev nD → PrngReg)

theorem V_v0 (c : Dev nD) (d k : Fin 1024) : V m c main_v0 (ix2 d k) = m ((c : Thread nD τ).loc main_arg3) (ix2 d k) := by
  unfold V hostOps0
  after_reads_at
theorem V_v1 (c : Dev nD) (d k : Fin 1024) : V m c main_v1 (ix2 d k) = m ((c : Thread nD τ).loc main_arg4) (ix2 d k) := by
  unfold V hostOps0
  after_reads_at
theorem V_v2 (c : Dev nD) (d k : Fin 1024) : V m c main_v2 (ix2 d k) = m ((c : Thread nD τ).loc main_arg5) (ix2 d k) := by
  unfold V hostOps0
  after_reads_at

theorem iblk0 (c : Dev nD) (t : Fin cfg0.N) (r : Fin 32) (k : Fin 1024) :
    iblk m c 0 t (ix3 0 r k) = m ((c : Thread nD τ).loc main_arg0) (ix3 0 r k) := by
  show V m c main_arg0 (((cfg0.win 0).blk t).view.emb (ix3 0 r k)) = _
  rw [emb0, V_main_arg0]
theorem iblk1 (c : Dev nD) (t : Fin cfg0.N) (r : Fin 32) (k : Fin 1024) :
    iblk m c 1 t (ix3 0 r k) = m ((c : Thread nD τ).loc main_arg1) (ix3 0 r (half 0 (by decide) k)) := by
  show V m c main_arg1 (((cfg0.win 1).blk t).view.emb (ix3 0 r k)) = _
  rw [emb1, V_main_arg1]
theorem iblk2 (c : Dev nD) (t : Fin cfg0.N) (r : Fin 32) (k : Fin 1024) :
    iblk m c 2 t (ix3 0 r k) = m ((c : Thread nD τ).loc main_arg1) (ix3 0 r (half 1 (by decide) k)) := by
  show V m c main_arg1 (((cfg0.win 2).blk t).view.emb (ix3 0 r k)) = _
  rw [emb2, V_main_arg1]
theorem iblk3 (c : Dev nD) (t : Fin cfg0.N) (r : Fin 32) (k : Fin 1024) :
    iblk m c 3 t (ix3 0 r k) = m ((c : Thread nD τ).loc main_arg2) (ix3 0 r (sixth 0 (by decide) k)) := by
  show V m c main_arg2 (((cfg0.win 3).blk t).view.emb (ix3 0 r k)) = _
  rw [emb3, V_main_arg2]
theorem iblk4 (c : Dev nD) (t : Fin cfg0.N) (r : Fin 32) (k : Fin 1024) :
    iblk m c 4 t (ix3 0 r k) = m ((c : Thread nD τ).loc main_arg2) (ix3 0 r (sixth 1 (by decide) k)) := by
  show V m c main_arg2 (((cfg0.win 4).blk t).view.emb (ix3 0 r k)) = _
  rw [emb4, V_main_arg2]
theorem iblk5 (c : Dev nD) (t : Fin cfg0.N) (d k : Fin 1024) :
    iblk m c 5 t (ix2 d k) = m ((c : Thread nD τ).loc main_arg3) (ix2 d k) := by
  show V m c main_v0 (((cfg0.win 5).blk t).view.emb (ix2 d k)) = _
  rw [emb5, V_v0]
theorem iblk6 (c : Dev nD) (t : Fin cfg0.N) (d k : Fin 1024) :
    iblk m c 6 t (ix2 d k) = m ((c : Thread nD τ).loc main_arg4) (ix2 d k) := by
  show V m c main_v1 (((cfg0.win 6).blk t).view.emb (ix2 d k)) = _
  rw [emb6, V_v1]
theorem iblk7 (c : Dev nD) (t : Fin cfg0.N) (d k : Fin 1024) :
    iblk m c 7 t (ix2 d k) = m ((c : Thread nD τ).loc main_arg5) (ix2 d k) := by
  show V m c main_v2 (((cfg0.win 7).blk t).view.emb (ix2 d k)) = _
  rw [emb7, V_v2]

/-- A row of keys, of the arguments' contents on core `c`. -/
def keyAt (c : Dev nD) (b : Fin 1) (r : Fin 32) (k : Fin 1024) : EReal :=
  projected (fun d => m ((c : Thread nD τ).loc main_arg0) (ix3 b r d)) (fun d => m ((c : Thread nD τ).loc main_arg1) (ix3 b r (half 1 (by decide) d)))
    (fun d => m ((c : Thread nD τ).loc main_arg1) (ix3 b r (half 0 (by decide) d))) (fun d e => m ((c : Thread nD τ).loc main_arg3) (ix2 d e)) k

/-- A row of values. -/
def valueAt (c : Dev nD) (b : Fin 1) (r : Fin 32) (k : Fin 1024) : EReal :=
  projected (fun d => m ((c : Thread nD τ).loc main_arg0) (ix3 b r d)) (fun d => m ((c : Thread nD τ).loc main_arg1) (ix3 b r (half 1 (by decide) d)))
    (fun d => m ((c : Thread nD τ).loc main_arg1) (ix3 b r (half 0 (by decide) d))) (fun d e => m ((c : Thread nD τ).loc main_arg4) (ix2 d e)) k

/-- A row of scaled queries. -/
def queryAt (c : Dev nD) (b : Fin 1) (r : Fin 32) (k : Fin 1024) : EReal :=
  scaled (fun d => m ((c : Thread nD τ).loc main_arg0) (ix3 b r d)) (fun d => m ((c : Thread nD τ).loc main_arg2) (ix3 b r (sixth 1 (by decide) d)))
    (fun d => m ((c : Thread nD τ).loc main_arg2) (ix3 b r (sixth 0 (by decide) d))) (fun d e => m ((c : Thread nD τ).loc main_arg5) (ix2 d e)) k

/-- The array of keys. -/
def GK (c : Dev nD) (i : S1x32x1024.Idx) : EReal := keyAt m c (i (0 : Fin 3)) (i (1 : Fin 3)) (i (2 : Fin 3))
/-- The array of values. -/
def GV (c : Dev nD) (i : S1x32x1024.Idx) : EReal := valueAt m c (i (0 : Fin 3)) (i (1 : Fin 3)) (i (2 : Fin 3))
/-- The array of scaled queries. -/
def GQ (c : Dev nD) (i : S1x32x1024.Idx) : EReal := queryAt m c (i (0 : Fin 3)) (i (1 : Fin 3)) (i (2 : Fin 3))

theorem ix3_of (j : S1x32x1024.Idx) : ∃ (r : Fin 32) (k : Fin 1024), j = ix3 0 r k :=
  ⟨j (1 : Fin 3), j (2 : Fin 3), funext fun a => match a with
    | ⟨0, _⟩ => Fin.ext (by have h := (j (0 : Fin 3)).isLt; have h' : (j (0 : Fin 3)).val < 1 := h; show (j (0 : Fin 3)).val = 0; omega)
    | ⟨1, _⟩ => rfl
    | ⟨2, _⟩ => rfl⟩

/-- What grid point `t` writes back is block `t` of the array. -/
theorem flushed8_eq (c : Dev nD) (t : Fin cfg0.N) : (dats m 0 c).flushed 8 t = ((cfg0.win 8).blk t).view.read (Elt Ideal) (GK m c) := by
  rw [flushed8]
  funext j
  obtain ⟨r, k, rfl⟩ := ix3_of j
  show out0_8 (F := Ideal) _ _ _ _ _ _ _ _ (ix3 0 r k) = GK m c (((cfg0.win 8).blk t).view.emb (ix3 0 r k))
  rw [emb8, out8_apply]
  simp only [iblk0, iblk1, iblk2, iblk5]
  rfl

theorem covered8 (i : S1x32x1024.Idx) : ∃ t : Fin cfg0.N, (cfg0.win 8).flush t = true ∧ i ∈ ((cfg0.win 8).blk t).view.set := by
  let t : Fin cfg0.N := (⟨0, by decide⟩ : Fin 1)
  refine ⟨t, flush0_8 _, ?_⟩
  obtain ⟨r, k, rfl⟩ := ix3_of i
  have h := ((cfg0.win 8).blk t).view.emb_mem_set (ix3 (0 : Fin 1) r k)
  rwa [emb8] at h

theorem final8 (c : Dev nD) : (dats m 0 c).arrAt 8 cfg0.N = GK m c :=
  (dats m 0 c).arrAt_eq_of_cover 8 (GK m c) (fun t _ => flushed8_eq m c t) covered8

/-- What grid point `t` writes back is block `t` of the array. -/
theorem flushed9_eq (c : Dev nD) (t : Fin cfg0.N) : (dats m 0 c).flushed 9 t = ((cfg0.win 9).blk t).view.read (Elt Ideal) (GV m c) := by
  rw [flushed9]
  funext j
  obtain ⟨r, k, rfl⟩ := ix3_of j
  show out0_9 (F := Ideal) _ _ _ _ _ _ _ _ (ix3 0 r k) = GV m c (((cfg0.win 9).blk t).view.emb (ix3 0 r k))
  rw [emb9, out9_apply]
  simp only [iblk0, iblk1, iblk2, iblk6]
  rfl

theorem covered9 (i : S1x32x1024.Idx) : ∃ t : Fin cfg0.N, (cfg0.win 9).flush t = true ∧ i ∈ ((cfg0.win 9).blk t).view.set := by
  let t : Fin cfg0.N := (⟨0, by decide⟩ : Fin 1)
  refine ⟨t, flush0_9 _, ?_⟩
  obtain ⟨r, k, rfl⟩ := ix3_of i
  have h := ((cfg0.win 9).blk t).view.emb_mem_set (ix3 (0 : Fin 1) r k)
  rwa [emb9] at h

theorem final9 (c : Dev nD) : (dats m 0 c).arrAt 9 cfg0.N = GV m c :=
  (dats m 0 c).arrAt_eq_of_cover 9 (GV m c) (fun t _ => flushed9_eq m c t) covered9

/-- What grid point `t` writes back is block `t` of the array. -/
theorem flushed10_eq (c : Dev nD) (t : Fin cfg0.N) : (dats m 0 c).flushed 10 t = ((cfg0.win 10).blk t).view.read (Elt Ideal) (GQ m c) := by
  rw [flushed10]
  funext j
  obtain ⟨r, k, rfl⟩ := ix3_of j
  show out0_10 (F := Ideal) _ _ _ _ _ _ _ _ (ix3 0 r k) = GQ m c (((cfg0.win 10).blk t).view.emb (ix3 0 r k))
  rw [emb10, out10_apply]
  simp only [iblk0, iblk3, iblk4, iblk7]
  rfl

theorem covered10 (i : S1x32x1024.Idx) : ∃ t : Fin cfg0.N, (cfg0.win 10).flush t = true ∧ i ∈ ((cfg0.win 10).blk t).view.set := by
  let t : Fin cfg0.N := (⟨0, by decide⟩ : Fin 1)
  refine ⟨t, flush0_10 _, ?_⟩
  obtain ⟨r, k, rfl⟩ := ix3_of i
  have h := ((cfg0.win 10).blk t).view.emb_mem_set (ix3 (0 : Fin 1) r k)
  rwa [emb10] at h

theorem final10 (c : Dev nD) : (dats m 0 c).arrAt 10 cfg0.N = GQ m c :=
  (dats m 0 c).arrAt_eq_of_cover 10 (GQ m c) (fun t _ => flushed10_eq m c t) covered10

end Cert.Kernel5Ideal.Hand

end
-- ==== Proof.Kvq.SampleRef.lean ====
/-
  The reference of the projections at an index (the sampled tokens).
-/
module

public import proofs.«01_k».proof.Proof.Gen.Reference5Ideal.Read
public import proofs.«01_k».proof.Proof.Kvq.Row

@[expose] public section

set_option maxRecDepth 16384

noncomputable section

namespace Cert.Reference5Ideal.Hand

open Cert.Reference5Ideal Cert.Reference5Ideal.Gen Cert.Reference5Ideal.Read Cert.Kvq
open Idealize.ShloMosaic

variable (x0 : (⟨S1x32x1024, .f32⟩ : BufTy).Contents (Elt Ideal)) (x1 : (⟨S1x32x2048, .f32⟩ : BufTy).Contents (Elt Ideal))
  (x2 : (⟨S1x32x6144, .f32⟩ : BufTy).Contents (Elt Ideal)) (x3 x4 x5 : (⟨S1024x1024, .f32⟩ : BufTy).Contents (Elt Ideal))
  (b : Fin 1) (r : Fin 32) (c : Fin 1024)

theorem v6_apply : val_main_v6 (F := Ideal) x0 x1 x3 (ix3 b r c) = projected (fun d => x0 (ix3 b r d)) (fun d => x1 (ix3 b r (half 1 (by decide) d))) (fun d => x1 (ix3 b r (half 0 (by decide) d))) (fun d e => x3 (ix2 d e)) c := by
  obtain rfl : b = 0 := Subsingleton.elim _ _
  unfold val_main_v6 val_main_v5 val_main_v4 val_main_v3 val_main_v2 val_main_cst val_main_v1 val_main_v0
  pointwise [dot_S1x32x1024_S1024x1024_S1x32x1024_2_0_01_1_n_n]
  rfl

theorem v7_apply : val_main_v7 (F := Ideal) x0 x1 x4 (ix3 b r c) = projected (fun d => x0 (ix3 b r d)) (fun d => x1 (ix3 b r (half 1 (by decide) d))) (fun d => x1 (ix3 b r (half 0 (by decide) d))) (fun d e => x4 (ix2 d e)) c := by
  obtain rfl : b = 0 := Subsingleton.elim _ _
  unfold val_main_v7 val_main_v5 val_main_v4 val_main_v3 val_main_v2 val_main_cst val_main_v1 val_main_v0
  pointwise [dot_S1x32x1024_S1024x1024_S1x32x1024_2_0_01_1_n_n]
  rfl

theorem v21_apply : val_main_v21 (F := Ideal) x0 x2 x5 (ix3 b r c) = scaled (fun d => x0 (ix3 b r d)) (fun d => x2 (ix3 b r (sixth 1 (by decide) d))) (fun d => x2 (ix3 b r (sixth 0 (by decide) d))) (fun d e => x5 (ix2 d e)) c := by
  obtain rfl : b = 0 := Subsingleton.elim _ _
  unfold val_main_v21 val_main_v20 val_main_v19 val_main_cst_1 val_main_v18 val_main_v17 val_main_v16 val_main_v15 val_main_v14 val_main_cst_0
    val_main_v9 val_main_v8
  pointwise [dot_S1x32x1024_S1024x1024_S1x32x1024_2_0_01_1_n_n]
  rfl

end Cert.Reference5Ideal.Hand

end
-- ==== Proof.Kvq.SampleClaims.lean ====
/-
  The claims about the projections to keys, values and queries (the sampled tokens): the frames, and that over the extended reals
  the call and its reference return the same arrays.
-/
module

public import proofs.«01_k».proof.Defs
public import proofs.«01_k».proof.Proof.Gen.Kernel5.Frame
public import proofs.«01_k».proof.Proof.Gen.Reference5Ideal.Run
public import proofs.«01_k».proof.Proof.Kvq.SampleArray
public import proofs.«01_k».proof.Proof.Kvq.SampleRef

@[expose] public section

set_option maxRecDepth 16384

noncomputable section

namespace Cert.Kvq.Sample

open Idealize.ShloMosaic Idealize.SL.Sem

local instance : Cert.Kernel5.Facts := Cert.Kernel5.Gen.facts
local instance : Cert.Kernel5Ideal.Facts := Cert.Kernel5Ideal.Gen.facts
local instance : Cert.Reference5Ideal.Facts := Cert.Reference5Ideal.Gen.facts

theorem frame_kernel : Cert.quiescent_Kernel5 := fun m ρ _ => Cert.Kernel5.Gen.frame (F := Bits) m ρ

theorem frame_ideal : Cert.quiescent_Kernel5Ideal := fun m ρ _ => Cert.Kernel5Ideal.Gen.frame (F := Ideal) m ρ

theorem frame_reference : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

theorem ix3_of (i : Cert.Kernel5Ideal.S1x32x1024.Idx) : ∃ (b : Fin 1) (t : Fin 32) (k : Fin 1024), i = ix3 b t k :=
  ⟨i (0 : Fin 3), i (1 : Fin 3), i (2 : Fin 3), funext fun a => match a with
    | ⟨0, _⟩ => rfl
    | ⟨1, _⟩ => rfl
    | ⟨2, _⟩ => rfl⟩

theorem algebraic : Cert.algebraic_Kernel5Ideal_Reference5Ideal := by
  intro m g m' g' _ hm
  refine ⟨fun c => Cert.Kernel5Ideal.Hand.GK m c, fun c => Cert.Kernel5Ideal.Hand.GV m c, fun c => Cert.Kernel5Ideal.Hand.GQ m c,
    (θ_run Cert.Kernel5Ideal.defs _ _).mono
      (fun r h c => ⟨(h c).1.trans (Cert.Kernel5Ideal.Hand.final8 m c), (h c).2.1.trans (Cert.Kernel5Ideal.Hand.final9 m c), (h c).2.2.1.trans (Cert.Kernel5Ideal.Hand.final10 m c), (h c).2.2.2⟩)
      (Cert.Kernel5Ideal.Value.run_blocks (F := Ideal) m g),
    (θ_run Cert.Reference5Ideal.defs _ _).mono
      (fun r h c => ⟨(h c).1.trans ?_, (h c).2.1.trans ?_, (h c).2.2.1.trans ?_, (h c).2.2.2⟩)
      (Cert.Reference5Ideal.Value.run (F := Ideal) m' g')⟩
  · rw [Cert.Reference5Ideal.Read.val_main_v6_eq]
    obtain ⟨h0, h1, h2, h3, h4, h5⟩ := hm c
    rw [h0, h1, h3]
    funext i
    obtain ⟨b, t, k, rfl⟩ := ix3_of i
    exact Cert.Reference5Ideal.Hand.v6_apply ..
  · rw [Cert.Reference5Ideal.Read.val_main_v7_eq]
    obtain ⟨h0, h1, h2, h3, h4, h5⟩ := hm c
    rw [h0, h1, h4]
    funext i
    obtain ⟨b, t, k, rfl⟩ := ix3_of i
    exact Cert.Reference5Ideal.Hand.v7_apply ..
  · rw [Cert.Reference5Ideal.Read.val_main_v21_eq]
    obtain ⟨h0, h1, h2, h3, h4, h5⟩ := hm c
    rw [h0, h2, h5]
    funext i
    obtain ⟨b, t, k, rfl⟩ := ix3_of i
    exact Cert.Reference5Ideal.Hand.v21_apply ..

end Cert.Kvq.Sample

end
-- ==== Proof.MlpSample.Body.lean ====
/-
  The block the mixing-and-MLP call writes for the sampled tokens, row by row.
-/
module

public import proofs.«01_k».proof.Proof.Gen.Kernel6Ideal.Value
public import proofs.«01_k».proof.Proof.Mlp.Row
public import Idealize.ShloMosaic.Lib.Pointwise
public import Idealize.ShloMosaic.Lib.ValueLayout

@[expose] public section

set_option maxRecDepth 16384

noncomputable section

namespace Cert.Kernel6Ideal.Hand

open Cert.Kernel6Ideal Cert.Kernel6Ideal.Gen Cert.Mlp
open Idealize.ShloMosaic

variable (o : Vec Ideal S1x32x1024 .bf16) (x : Vec Ideal S1x32x1024 .f32) (gm sh sc gf : Vec Ideal S1x32x1024 .f32)
  (wo : Vec Ideal S1024x1024 .bf16) (w1 : Vec Ideal S1024x4096 .bf16) (w2 : Vec Ideal S4096x1024 .bf16)
  (lg lb : Vec Ideal S2x1024 .f32)

theorem pay2_apply (c : Fin 1024) : k0_pay2 (F := Ideal) lg (ix2 0 c) = lg (ix2 0 c) := by
  unfold k0_pay2
  pointwise

theorem pay3_apply (c : Fin 1024) : k0_pay3 (F := Ideal) lb (ix2 0 c) = lb (ix2 0 c) := by
  unfold k0_pay3
  pointwise

theorem pay5_apply (c : Fin 1024) : k0_pay5 (F := Ideal) lg (ix2 0 c) = lg (ix2 1 c) := by
  unfold k0_pay5
  pointwise

theorem pay6_apply (c : Fin 1024) : k0_pay6 (F := Ideal) lb (ix2 0 c) = lb (ix2 1 c) := by
  unfold k0_pay6
  pointwise

/-- A row less its mean, over its standard deviation. -/
def standard (z : Fin 1024 → EReal) (c : Fin 1024) : EReal :=
  centred z c * Ideal.rsqrt (Ideal.div (∑ k : Fin 1024, centred z k * centred z k) (Ideal.ofBits .f32 0x44800000#32)
    + Ideal.ofBits .f32 0x3727C5AC#32)

theorem pay4_apply (r : Fin 32) (c : Fin 1024) :
    k0_pay4 (F := Ideal) o wo x gm (ix2 r c)
      = standard (residual (fun c => x (ix3 0 r c)) (fun c => gm (ix3 0 r c)) fun c => ∑ k : Fin 1024, o (ix3 0 r k) * wo (ix2 k c)) c := by
  unfold k0_pay4
  pointwise [dot_S32x1024_S1024x1024_S32x1024_1_0_0_1_n_n]
  rfl

theorem pay7_apply (g b : FVec Ideal S1x1024 .f32) (z : FVec Ideal S32x1024 .f32) (r : Fin 32) (c : Fin 1024) :
    k0_pay7 (F := Ideal) g b z sc sh w1 w2 gf (ix2 r c) = centred (residual (fun c => z (ix2 r c) * g (ix2 0 c) + b (ix2 0 c)) (fun c => gf (ix3 0 r c)) (fun c =>
          ∑ f : Fin 4096, hidden (fun c => z (ix2 r c) * g (ix2 0 c) + b (ix2 0 c)) (fun c => sc (ix3 0 r c))
            (fun c => sh (ix3 0 r c)) (fun k f => w1 (ix2 k f)) f * hidden (fun c => z (ix2 r c) * g (ix2 0 c) + b (ix2 0 c)) (fun c => sc (ix3 0 r c))
            (fun c => sh (ix3 0 r c)) (fun k f => w1 (ix2 k f)) f * w2 (ix2 f c))) c := by
  unfold k0_pay7
  pointwise [dot_S32x1024_S1024x4096_S32x4096_1_0_0_1_n_n, dot_S32x4096_S4096x1024_S32x1024_1_0_0_1_n_n]
  rfl

theorem pay1_apply (g b : FVec Ideal S1x1024 .f32) (y : FVec Ideal S32x1024 .f32) (z : Fin 1024 → EReal) (r : Fin 32) (c : Fin 1024)
    (hy : ∀ c, y (ix2 r c) = centred z c) :
    k0_pay1 (F := Ideal) g b y (ix3 0 r c) = layerNorm z (fun c => g (ix2 0 c)) (fun c => b (ix2 0 c)) c := by
  unfold k0_pay1
  pointwise
  simp only [hy]
  rfl

theorem zero2 : (![0, 0] : Fin 2 → Nat) = fun _ => 0 := by decide
theorem zero3 : (![0, 0, 0] : Fin 3 → Nat) = fun _ => 0 := by decide

theorem ld0 (x : Vec Ideal S2x1024 .f32) : View.ld x r0_0 = x := View.ld_unit_zero zero2 _ _
theorem ld1 {e : EltTy} (x : Vec Ideal S1x32x1024 e) : View.ld x r0_1 = x := View.ld_unit_zero zero3 _ _
theorem ld2 (x : Vec Ideal S1024x1024 .bf16) : View.ld x r0_2 = x := View.ld_unit_zero zero2 _ _
theorem ld3 (x : Vec Ideal S1024x4096 .bf16) : View.ld x r0_3 = x := View.ld_unit_zero zero2 _ _
theorem ld4 (x : Vec Ideal S4096x1024 .bf16) : View.ld x r0_4 = x := View.ld_unit_zero zero2 _ _

/-- The block written at the grid point, at an index: the row's value. -/
theorem out_apply (r : Fin 32) (c : Fin 1024) :
    out0_11 (F := Ideal) o x gm sh sc gf wo w1 w2 lg lb (ix3 0 r c)
      = mlp (mixed (fun c => o (ix3 0 r c)) (fun c => x (ix3 0 r c)) (fun c => gm (ix3 0 r c)) (fun c => lg (ix2 0 c))
          (fun c => lb (ix2 0 c)) fun k c => wo (ix2 k c))
        (fun c => sc (ix3 0 r c)) (fun c => sh (ix3 0 r c)) (fun c => gf (ix3 0 r c)) (fun c => lg (ix2 1 c)) (fun c => lb (ix2 1 c))
        (fun k f => w1 (ix2 k f)) (fun f c => w2 (ix2 f c)) c := by
  unfold out0_11
  rw [View.canon_unit_zero zero3]
  simp only [ld0, ld1, ld2, ld3, ld4]
  rw [pay1_apply _ _ _ _ _ _ (fun c => pay7_apply ..)]
  simp only [pay2_apply, pay3_apply, pay4_apply, pay5_apply, pay6_apply]
  rfl

end Cert.Kernel6Ideal.Hand
end
-- ==== Proof.MlpSample.Array.lean ====
/-
  The array the mixing-and-MLP call leaves for the sampled tokens, as one function of its arguments: every row is `mlp` of the row's data.
-/
module

public import proofs.«01_k».proof.Proof.MlpSample.Body
public import Idealize.ShloMosaic.Lib.StableHlo.ReadAt

@[expose] public section

set_option maxRecDepth 16384

noncomputable section

namespace Cert.Mlp

open Idealize.ShloMosaic

/-- Column `c` of chunk `n` of the modulation's last axis. -/
abbrev column (n : Nat) (hn : n < 6) (c : Fin 1024) : Fin 6144 := ⟨n * 1024 + c.val, by omega⟩

/-- The row of sampled token `t` in the result, of the eight arguments. -/
def sampleResult (a0 : Fin 32 → Fin 1024 → EReal) (a1 : Fin 32 → Fin 1024 → EReal) (a2 : Fin 32 → Fin 6144 → EReal)
    (a3 : Fin 1024 → Fin 1024 → EReal) (a4 : Fin 1024 → Fin 4096 → EReal) (a5 : Fin 4096 → Fin 1024 → EReal)
    (a6 a7 : Fin 2 → Fin 1024 → EReal) (t : Fin 32) : Fin 1024 → EReal :=
  mlp (mixed (a0 t) (a1 t) (fun c => a2 t (column 2 (by decide) c)) (a6 0) (a7 0) a3)
    (fun c => a2 t (column 4 (by decide) c)) (fun c => a2 t (column 3 (by decide) c)) (fun c => a2 t (column 5 (by decide) c))
    (a6 1) (a7 1) a4 a5

end Cert.Mlp

namespace Cert.Kernel6Ideal.Hand

open Cert.Kernel6Ideal Cert.Kernel6Ideal.Gen Cert.Kernel6Ideal.Value Cert.Mlp
open Idealize.ShloMosaic Idealize.ShloMosaic.TcCoe Idealize.SL.Sem

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 2 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 3 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 4 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 5 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 3) = 0 ∧ win0_11.index t (1 : Fin 3) = 0 ∧ win0_11.index t (2 : Fin 3) = 0 :=
  (by decide +kernel : ∀ t : Fin grid0.N, _)

theorem emb0 (t : Fin cfg0.N) (r : Fin 32) (k : Fin 1024) : ((cfg0.win 0).blk t).view.emb (ix3 0 r k) = ix3 0 r k := by
  obtain ⟨e0, e1, e2⟩ := idx0 t
  funext a; apply Fin.ext
  match a with
  | ⟨0, _⟩ => show win0_0.index t (0 : Fin 3) * 1 + 1 * 0 = 0; omega
  | ⟨1, _⟩ => show win0_0.index t (1 : Fin 3) * 32 + 1 * r.val = r.val; omega
  | ⟨2, _⟩ => show win0_0.index t (2 : Fin 3) * 1024 + 1 * k.val = k.val; omega
theorem emb1 (t : Fin cfg0.N) (r : Fin 32) (k : Fin 1024) : ((cfg0.win 1).blk t).view.emb (ix3 0 r k) = ix3 0 r k := by
  obtain ⟨e0, e1, e2⟩ := idx1 t
  funext a; apply Fin.ext
  match a with
  | ⟨0, _⟩ => show win0_1.index t (0 : Fin 3) * 1 + 1 * 0 = 0; omega
  | ⟨1, _⟩ => show win0_1.index t (1 : Fin 3) * 32 + 1 * r.val = r.val; omega
  | ⟨2, _⟩ => show win0_1.index t (2 : Fin 3) * 1024 + 1 * k.val = k.val; omega
theorem emb11 (t : Fin cfg0.N) (r : Fin 32) (k : Fin 1024) : ((cfg0.win 11).blk t).view.emb (ix3 0 r k) = ix3 0 r k := by
  obtain ⟨e0, e1, e2⟩ := idx11 t
  funext a; apply Fin.ext
  match a with
  | ⟨0, _⟩ => show win0_11.index t (0 : Fin 3) * 1 + 1 * 0 = 0; omega
  | ⟨1, _⟩ => show win0_11.index t (1 : Fin 3) * 32 + 1 * r.val = r.val; omega
  | ⟨2, _⟩ => show win0_11.index t (2 : Fin 3) * 1024 + 1 * k.val = k.val; omega
theorem emb2 (t : Fin cfg0.N) (r : Fin 32) (k : Fin 1024) : ((cfg0.win 2).blk t).view.emb (ix3 0 r k) = ix3 0 r (column 2 (by decide) k) := by
  obtain ⟨e0, e1, e2⟩ := idx2 t
  funext a; apply Fin.ext
  match a with
  | ⟨0, _⟩ => show win0_2.index t (0 : Fin 3) * 1 + 1 * 0 = 0; omega
  | ⟨1, _⟩ => show win0_2.index t (1 : Fin 3) * 32 + 1 * r.val = r.val; omega
  | ⟨2, _⟩ => show win0_2.index t (2 : Fin 3) * 1024 + 1 * k.val = 2 * 1024 + k.val; omega
theorem emb3 (t : Fin cfg0.N) (r : Fin 32) (k : Fin 1024) : ((cfg0.win 3).blk t).view.emb (ix3 0 r k) = ix3 0 r (column 3 (by decide) k) := by
  obtain ⟨e0, e1, e2⟩ := idx3 t
  funext a; apply Fin.ext
  match a with
  | ⟨0, _⟩ => show win0_3.index t (0 : Fin 3) * 1 + 1 * 0 = 0; omega
  | ⟨1, _⟩ => show win0_3.index t (1 : Fin 3) * 32 + 1 * r.val = r.val; omega
  | ⟨2, _⟩ => show win0_3.index t (2 : Fin 3) * 1024 + 1 * k.val = 3 * 1024 + k.val; omega
theorem emb4 (t : Fin cfg0.N) (r : Fin 32) (k : Fin 1024) : ((cfg0.win 4).blk t).view.emb (ix3 0 r k) = ix3 0 r (column 4 (by decide) k) := by
  obtain ⟨e0, e1, e2⟩ := idx4 t
  funext a; apply Fin.ext
  match a with
  | ⟨0, _⟩ => show win0_4.index t (0 : Fin 3) * 1 + 1 * 0 = 0; omega
  | ⟨1, _⟩ => show win0_4.index t (1 : Fin 3) * 32 + 1 * r.val = r.val; omega
  | ⟨2, _⟩ => show win0_4.index t (2 : Fin 3) * 1024 + 1 * k.val = 4 * 1024 + k.val; omega
theorem emb5 (t : Fin cfg0.N) (r : Fin 32) (k : Fin 1024) : ((cfg0.win 5).blk t).view.emb (ix3 0 r k) = ix3 0 r (column 5 (by decide) k) := by
  obtain ⟨e0, e1, e2⟩ := idx5 t
  funext a; apply Fin.ext
  match a with
  | ⟨0, _⟩ => show win0_5.index t (0 : Fin 3) * 1 + 1 * 0 = 0; omega
  | ⟨1, _⟩ => show win0_5.index t (1 : Fin 3) * 32 + 1 * r.val = r.val; omega
  | ⟨2, _⟩ => show win0_5.index t (2 : Fin 3) * 1024 + 1 * k.val = 5 * 1024 + k.val; omega
theorem emb6 (t : Fin cfg0.N) (r : Fin 1024) (k : Fin 1024) : ((cfg0.win 6).blk t).view.emb (ix2 r k) = ix2 r k := by
  obtain ⟨e0, e1⟩ := idx6 t
  funext a; apply Fin.ext
  match a with
  | ⟨0, _⟩ => show win0_6.index t (0 : Fin 2) * 1024 + 1 * r.val = r.val; omega
  | ⟨1, _⟩ => show win0_6.index t (1 : Fin 2) * 1024 + 1 * k.val = k.val; omega
theorem emb7 (t : Fin cfg0.N) (r : Fin 1024) (k : Fin 4096) : ((cfg0.win 7).blk t).view.emb (ix2 r k) = ix2 r k := by
  obtain ⟨e0, e1⟩ := idx7 t
  funext a; apply Fin.ext
  match a with
  | ⟨0, _⟩ => show win0_7.index t (0 : Fin 2) * 1024 + 1 * r.val = r.val; omega
  | ⟨1, _⟩ => show win0_7.index t (1 : Fin 2) * 4096 + 1 * k.val = k.val; omega
theorem emb8 (t : Fin cfg0.N) (r : Fin 4096) (k : Fin 1024) : ((cfg0.win 8).blk t).view.emb (ix2 r k) = ix2 r k := by
  obtain ⟨e0, e1⟩ := idx8 t
  funext a; apply Fin.ext
  match a with
  | ⟨0, _⟩ => show win0_8.index t (0 : Fin 2) * 4096 + 1 * r.val = r.val; omega
  | ⟨1, _⟩ => show win0_8.index t (1 : Fin 2) * 1024 + 1 * k.val = k.val; omega
theorem emb9 (t : Fin cfg0.N) (r : Fin 2) (k : Fin 1024) : ((cfg0.win 9).blk t).view.emb (ix2 r k) = ix2 r k := by
  obtain ⟨e0, e1⟩ := idx9 t
  funext a; apply Fin.ext
  match a with
  | ⟨0, _⟩ => show win0_9.index t (0 : Fin 2) * 2 + 1 * r.val = r.val; omega
  | ⟨1, _⟩ => show win0_9.index t (1 : Fin 2) * 1024 + 1 * k.val = k.val; omega
theorem emb10 (t : Fin cfg0.N) (r : Fin 2) (k : Fin 1024) : ((cfg0.win 10).blk t).view.emb (ix2 r k) = ix2 r k := by
  obtain ⟨e0, e1⟩ := idx10 t
  funext a; apply Fin.ext
  match a with
  | ⟨0, _⟩ => show win0_10.index t (0 : Fin 2) * 2 + 1 * r.val = r.val; omega
  | ⟨1, _⟩ => show win0_10.index t (1 : Fin 2) * 1024 + 1 * k.val = k.val; omega

variable (m : (ℓ : Loc nD τ sig) → Buf (Elt Ideal) ℓ) (ρ : Dev nD → PrngReg)

theorem V_v0 (c : Dev nD) (r : Fin 1024) (k : Fin 1024) : V m c main_v0 (ix2 r k) = m ((c : Thread nD τ).loc main_arg3) (ix2 r k) := by
  unfold V hostOps0
  after_reads_at
theorem V_v1 (c : Dev nD) (r : Fin 1024) (k : Fin 4096) : V m c main_v1 (ix2 r k) = m ((c : Thread nD τ).loc main_arg4) (ix2 r k) := by
  unfold V hostOps0
  after_reads_at
theorem V_v2 (c : Dev nD) (r : Fin 4096) (k : Fin 1024) : V m c main_v2 (ix2 r k) = m ((c : Thread nD τ).loc main_arg5) (ix2 r k) := by
  unfold V hostOps0
  after_reads_at

/-- The result array of the arguments' contents on core `c`. -/
def G (c : Dev nD) (i : S1x32x1024.Idx) : EReal :=
  sampleResult (fun t k => m ((c : Thread nD τ).loc main_arg0) (ix3 0 t k)) (fun t k => m ((c : Thread nD τ).loc main_arg1) (ix3 0 t k))
    (fun t k => m ((c : Thread nD τ).loc main_arg2) (ix3 0 t k)) (fun j k => m ((c : Thread nD τ).loc main_arg3) (ix2 j k))
    (fun j k => m ((c : Thread nD τ).loc main_arg4) (ix2 j k)) (fun j k => m ((c : Thread nD τ).loc main_arg5) (ix2 j k))
    (fun j k => m ((c : Thread nD τ).loc main_arg6) (ix2 j k)) (fun j k => m ((c : Thread nD τ).loc main_arg7) (ix2 j k))
    (i (1 : Fin 3)) (i (2 : Fin 3))

theorem iblk0 (c : Dev nD) (t : Fin cfg0.N) (r : Fin 32) (k : Fin 1024) :
    iblk m c 0 t (ix3 0 r k) = m ((c : Thread nD τ).loc main_arg0) (ix3 0 r k) := by
  show V m c main_arg0 (((cfg0.win 0).blk t).view.emb (ix3 0 r k)) = _
  rw [emb0, V_main_arg0]
theorem iblk1 (c : Dev nD) (t : Fin cfg0.N) (r : Fin 32) (k : Fin 1024) :
    iblk m c 1 t (ix3 0 r k) = m ((c : Thread nD τ).loc main_arg1) (ix3 0 r k) := by
  show V m c main_arg1 (((cfg0.win 1).blk t).view.emb (ix3 0 r k)) = _
  rw [emb1, V_main_arg1]
theorem iblk2 (c : Dev nD) (t : Fin cfg0.N) (r : Fin 32) (k : Fin 1024) :
    iblk m c 2 t (ix3 0 r k) = m ((c : Thread nD τ).loc main_arg2) (ix3 0 r (column 2 (by decide) k)) := by
  show V m c main_arg2 (((cfg0.win 2).blk t).view.emb (ix3 0 r k)) = _
  rw [emb2, V_main_arg2]
theorem iblk3 (c : Dev nD) (t : Fin cfg0.N) (r : Fin 32) (k : Fin 1024) :
    iblk m c 3 t (ix3 0 r k) = m ((c : Thread nD τ).loc main_arg2) (ix3 0 r (column 3 (by decide) k)) := by
  show V m c main_arg2 (((cfg0.win 3).blk t).view.emb (ix3 0 r k)) = _
  rw [emb3, V_main_arg2]
theorem iblk4 (c : Dev nD) (t : Fin cfg0.N) (r : Fin 32) (k : Fin 1024) :
    iblk m c 4 t (ix3 0 r k) = m ((c : Thread nD τ).loc main_arg2) (ix3 0 r (column 4 (by decide) k)) := by
  show V m c main_arg2 (((cfg0.win 4).blk t).view.emb (ix3 0 r k)) = _
  rw [emb4, V_main_arg2]
theorem iblk5 (c : Dev nD) (t : Fin cfg0.N) (r : Fin 32) (k : Fin 1024) :
    iblk m c 5 t (ix3 0 r k) = m ((c : Thread nD τ).loc main_arg2) (ix3 0 r (column 5 (by decide) k)) := by
  show V m c main_arg2 (((cfg0.win 5).blk t).view.emb (ix3 0 r k)) = _
  rw [emb5, V_main_arg2]
theorem iblk6 (c : Dev nD) (t : Fin cfg0.N) (r : Fin 1024) (k : Fin 1024) :
    iblk m c 6 t (ix2 r k) = m ((c : Thread nD τ).loc main_arg3) (ix2 r k) := by
  show V m c main_v0 (((cfg0.win 6).blk t).view.emb (ix2 r k)) = _
  rw [emb6, V_v0]
theorem iblk7 (c : Dev nD) (t : Fin cfg0.N) (r : Fin 1024) (k : Fin 4096) :
    iblk m c 7 t (ix2 r k) = m ((c : Thread nD τ).loc main_arg4) (ix2 r k) := by
  show V m c main_v1 (((cfg0.win 7).blk t).view.emb (ix2 r k)) = _
  rw [emb7, V_v1]
theorem iblk8 (c : Dev nD) (t : Fin cfg0.N) (r : Fin 4096) (k : Fin 1024) :
    iblk m c 8 t (ix2 r k) = m ((c : Thread nD τ).loc main_arg5) (ix2 r k) := by
  show V m c main_v2 (((cfg0.win 8).blk t).view.emb (ix2 r k)) = _
  rw [emb8, V_v2]
theorem iblk9 (c : Dev nD) (t : Fin cfg0.N) (r : Fin 2) (k : Fin 1024) :
    iblk m c 9 t (ix2 r k) = m ((c : Thread nD τ).loc main_arg6) (ix2 r k) := by
  show V m c main_arg6 (((cfg0.win 9).blk t).view.emb (ix2 r k)) = _
  rw [emb9, V_main_arg6]
theorem iblk10 (c : Dev nD) (t : Fin cfg0.N) (r : Fin 2) (k : Fin 1024) :
    iblk m c 10 t (ix2 r k) = m ((c : Thread nD τ).loc main_arg7) (ix2 r k) := by
  show V m c main_arg7 (((cfg0.win 10).blk t).view.emb (ix2 r k)) = _
  rw [emb10, V_main_arg7]

theorem ix3_of (j : S1x32x1024.Idx) : ∃ (r : Fin 32) (k : Fin 1024), j = ix3 0 r k :=
  ⟨j (1 : Fin 3), j (2 : Fin 3), funext fun a => match a with
    | ⟨0, _⟩ => Fin.ext (by have h := (j (0 : Fin 3)).isLt; have h' : (j (0 : Fin 3)).val < 1 := h; show (j (0 : Fin 3)).val = 0; omega)
    | ⟨1, _⟩ => rfl
    | ⟨2, _⟩ => rfl⟩

/-- What grid point `t` writes back is block `t` of the result array. -/
theorem flushed_eq (c : Dev nD) (t : Fin cfg0.N) :
    (dats m 0 c).flushed 11 t = ((cfg0.win 11).blk t).view.read (Elt Ideal) (G m c) := by
  rw [flushed11]
  funext j
  obtain ⟨r, k, rfl⟩ := ix3_of j
  show out0_11 (F := Ideal) _ _ _ _ _ _ _ _ _ _ _ (ix3 0 r k) = G m c (((cfg0.win 11).blk t).view.emb (ix3 0 r k))
  rw [emb11, out_apply]
  simp only [iblk0, iblk1, iblk2, iblk3, iblk4, iblk5, iblk6, iblk7, iblk8, iblk9, iblk10]
  rfl

/-- Every index of the result lies in the one block. -/
theorem covered (i : S1x32x1024.Idx) :
    ∃ t : Fin cfg0.N, (cfg0.win 11).flush t = true ∧ i ∈ ((cfg0.win 11).blk t).view.set := by
  let t : Fin cfg0.N := (⟨0, by decide⟩ : Fin 1)
  refine ⟨t, flush0_11 _, ?_⟩
  obtain ⟨r, k, rfl⟩ := ix3_of i
  have h := ((cfg0.win 11).blk t).view.emb_mem_set (ix3 (0 : Fin 1) r k)
  rwa [emb11] at h

theorem final (c : Dev nD) : (dats m 0 c).arrAt 11 cfg0.N = G m c :=
  (dats m 0 c).arrAt_eq_of_cover 11 (G m c) (fun t _ => flushed_eq m c t) covered

end Cert.Kernel6Ideal.Hand
end
-- ==== Proof.MlpSample.Ref.lean ====
/-
  The reference of the mixing-and-MLP call for the sampled tokens, stage by stage, on a row.
-/
module

public import proofs.«01_k».proof.Proof.Gen.Reference6Ideal.Run
public import proofs.«01_k».proof.Proof.Gen.Reference6Ideal.Read
public import proofs.«01_k».proof.Proof.MlpSample.Array
public import Idealize.ShloMosaic.Lib.Pointwise

@[expose] public section

set_option maxRecDepth 16384

noncomputable section

namespace Cert.Reference6Ideal.Hand

open Cert.Reference6Ideal Cert.Reference6Ideal.Gen Cert.Reference6Ideal.Read Cert.Mlp
open Idealize.ShloMosaic

variable (x0 : (⟨S1x32x1024, .bf16⟩ : BufTy).Contents (Elt Ideal)) (x1 : (⟨S1x32x1024, .f32⟩ : BufTy).Contents (Elt Ideal)) (x2 : (⟨S1x32x6144, .f32⟩ : BufTy).Contents (Elt Ideal))
  (x3 : (⟨S1024x1024, .f32⟩ : BufTy).Contents (Elt Ideal)) (x4 : (⟨S1024x4096, .f32⟩ : BufTy).Contents (Elt Ideal)) (x5 : (⟨S4096x1024, .f32⟩ : BufTy).Contents (Elt Ideal))
  (x6 x7 : (⟨S2x1024, .f32⟩ : BufTy).Contents (Elt Ideal)) (t : Fin 32) (c : Fin 1024)

theorem v13_apply : val_main_v13 (F := Ideal) x0 x1 x2 x3 (ix3 0 t c)
    = residual (fun c => x1 (ix3 0 t c)) (fun c => x2 (ix3 0 t (column 2 (by decide) c))) (fun c => ∑ k : Fin 1024, x0 (ix3 0 t k) * x3 (ix2 k c)) c := by
  unfold val_main_v13 val_main_v12 val_main_v11 val_main_v10 val_main_v9 val_main_v8 val_main_v7 val_main_v6 val_main_v2 val_main_cst val_main_cst_0
  pointwise
  rfl

theorem v23_apply : val_main_v23 (F := Ideal) x0 x1 x2 x3 (ix3 0 t c)
    = centred (fun c => val_main_v13 (F := Ideal) x0 x1 x2 x3 (ix3 0 t c)) c := by
  unfold val_main_v23 val_main_v22 val_main_v21 val_main_v20 val_main_v19 val_main_v18 val_main_cst_1 val_main_cst_2
  generalize val_main_v13 (F := Ideal) x0 x1 x2 x3 = z
  pointwise
  rfl

theorem v30_apply : val_main_v30 (F := Ideal) x0 x1 x2 x3 (ix3 0 t c)
    = centred (fun c => val_main_v13 (F := Ideal) x0 x1 x2 x3 (ix3 0 t c)) c := by
  unfold val_main_v30 val_main_v29 val_main_v21 val_main_v20 val_main_v19 val_main_v18 val_main_cst_1 val_main_cst_2
  generalize val_main_v13 (F := Ideal) x0 x1 x2 x3 = z
  pointwise
  rfl

theorem v41_apply : val_main_v41 (F := Ideal) x0 x1 x2 x3 x6 x7 (ix3 0 t c)
    = layerNorm (fun c => val_main_v13 (F := Ideal) x0 x1 x2 x3 (ix3 0 t c)) (fun c => x6 (ix2 0 c)) (fun c => x7 (ix2 0 c)) c := by
  have h23 := v23_apply x0 x1 x2 x3 t
  have h30 := v30_apply x0 x1 x2 x3 t c
  unfold val_main_v41 val_main_v40 val_main_v39 val_main_v38 val_main_v37 val_main_v36 val_main_v35 val_main_v34 val_main_v33 val_main_v32 val_main_v31 val_main_v28 val_main_v27 val_main_v26 val_main_v25 val_main_v24 val_main_v17 val_main_v16 val_main_v15 val_main_v14 val_main_cst_3 val_main_cst_4 val_main_cst_5
  generalize val_main_v23 (F := Ideal) x0 x1 x2 x3 = y at *
  generalize val_main_v30 (F := Ideal) x0 x1 x2 x3 = y' at *
  generalize val_main_v13 (F := Ideal) x0 x1 x2 x3 = z at *
  pointwise
  simp only [h23, h30]
  rfl

theorem v55_apply : val_main_v55 (F := Ideal) x0 x1 x2 x3 x4 x5 x6 x7 (ix3 0 t c)
    = residual (fun c => val_main_v41 (F := Ideal) x0 x1 x2 x3 x6 x7 (ix3 0 t c)) (fun c => x2 (ix3 0 t (column 5 (by decide) c)))
        (fun c => ∑ f : Fin 4096,
          hidden (fun c => val_main_v41 (F := Ideal) x0 x1 x2 x3 x6 x7 (ix3 0 t c)) (fun c => x2 (ix3 0 t (column 4 (by decide) c)))
            (fun c => x2 (ix3 0 t (column 3 (by decide) c))) (fun k f => x4 (ix2 k f)) f
          * hidden (fun c => val_main_v41 (F := Ideal) x0 x1 x2 x3 x6 x7 (ix3 0 t c)) (fun c => x2 (ix3 0 t (column 4 (by decide) c)))
            (fun c => x2 (ix3 0 t (column 3 (by decide) c))) (fun k f => x4 (ix2 k f)) f * x5 (ix2 f c)) c := by
  unfold val_main_v55 val_main_v54 val_main_v53 val_main_v52 val_main_v51 val_main_call0_v0 val_main_call0_cst val_main_v50 val_main_v49 val_main_v48 val_main_v47 val_main_v46 val_main_v45 val_main_v44 val_main_v43 val_main_v42 val_main_v3 val_main_v4 val_main_v5 val_main_cst_6 val_main_cst_7 val_main_cst_8
  generalize val_main_v41 (F := Ideal) x0 x1 x2 x3 x6 x7 = z at *
  pointwise
  rfl

theorem v65_apply : val_main_v65 (F := Ideal) x0 x1 x2 x3 x4 x5 x6 x7 (ix3 0 t c)
    = centred (fun c => val_main_v55 (F := Ideal) x0 x1 x2 x3 x4 x5 x6 x7 (ix3 0 t c)) c := by
  unfold val_main_v65 val_main_v64 val_main_v63 val_main_v62 val_main_v61 val_main_v60 val_main_cst_9 val_main_cst_10
  generalize val_main_v55 (F := Ideal) x0 x1 x2 x3 x4 x5 x6 x7 = z
  pointwise
  rfl

theorem v72_apply : val_main_v72 (F := Ideal) x0 x1 x2 x3 x4 x5 x6 x7 (ix3 0 t c)
    = centred (fun c => val_main_v55 (F := Ideal) x0 x1 x2 x3 x4 x5 x6 x7 (ix3 0 t c)) c := by
  unfold val_main_v72 val_main_v71 val_main_v63 val_main_v62 val_main_v61 val_main_v60 val_main_cst_9 val_main_cst_10
  generalize val_main_v55 (F := Ideal) x0 x1 x2 x3 x4 x5 x6 x7 = z
  pointwise
  rfl

theorem v83_apply : val_main_v83 (F := Ideal) x0 x1 x2 x3 x4 x5 x6 x7 (ix3 0 t c)
    = layerNorm (fun c => val_main_v55 (F := Ideal) x0 x1 x2 x3 x4 x5 x6 x7 (ix3 0 t c)) (fun c => x6 (ix2 1 c)) (fun c => x7 (ix2 1 c)) c := by
  have h65 := v65_apply x0 x1 x2 x3 x4 x5 x6 x7 t
  have h72 := v72_apply x0 x1 x2 x3 x4 x5 x6 x7 t c
  unfold val_main_v83 val_main_v82 val_main_v81 val_main_v80 val_main_v79 val_main_v78 val_main_v77 val_main_v76 val_main_v75 val_main_v74 val_main_v73 val_main_v70 val_main_v69 val_main_v68 val_main_v67 val_main_v66 val_main_v59 val_main_v58 val_main_v57 val_main_v56 val_main_cst_11 val_main_cst_12 val_main_cst_13
  generalize val_main_v65 (F := Ideal) x0 x1 x2 x3 x4 x5 x6 x7 = y at *
  generalize val_main_v72 (F := Ideal) x0 x1 x2 x3 x4 x5 x6 x7 = y' at *
  generalize val_main_v55 (F := Ideal) x0 x1 x2 x3 x4 x5 x6 x7 = z at *
  pointwise
  simp only [h65, h72]
  rfl

/-- The reference's result at an index. -/
theorem result_apply : val_main_v83 (F := Ideal) x0 x1 x2 x3 x4 x5 x6 x7 (ix3 0 t c)
    = sampleResult (fun t k => x0 (ix3 0 t k)) (fun t k => x1 (ix3 0 t k)) (fun t k => x2 (ix3 0 t k)) (fun j k => x3 (ix2 j k))
        (fun j k => x4 (ix2 j k)) (fun j k => x5 (ix2 j k)) (fun j k => x6 (ix2 j k)) (fun j k => x7 (ix2 j k)) t c := by
  rw [v83_apply]
  simp only [v55_apply, v41_apply, v13_apply]
  rfl

end Cert.Reference6Ideal.Hand
end
-- ==== Proof.MlpSample.Claims.lean ====
/-
  The claims about the mixing-and-MLP call for the sampled tokens: its frames, and that over the extended reals it and its reference return
  one array, row by row `mlp` of the row's data.
-/
module

public import proofs.«01_k».proof.Defs
public import proofs.«01_k».proof.Proof.Gen.Kernel6.Frame
public import proofs.«01_k».proof.Proof.MlpSample.Ref

@[expose] public section

noncomputable section

namespace Cert.MlpSample

open Idealize.ShloMosaic Idealize.SL.Sem
open Cert.Kernel6Ideal (S1x32x1024)

local instance : Cert.Kernel6.Facts := Cert.Kernel6.Gen.facts
local instance : Cert.Kernel6Ideal.Facts := Cert.Kernel6Ideal.Gen.facts
local instance : Cert.Reference6Ideal.Facts := Cert.Reference6Ideal.Gen.facts

theorem frame_kernel : Cert.quiescent_Kernel6 := fun m ρ _ => Cert.Kernel6.Gen.frame (F := Bits) m ρ

theorem frame_ideal : Cert.quiescent_Kernel6Ideal := fun m ρ _ => Cert.Kernel6Ideal.Gen.frame (F := Ideal) m ρ

theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem ix3_of (i : S1x32x1024.Idx) : ∃ (t : Fin 32) (k : Fin 1024), i = ix3 0 t k :=
  ⟨i (1 : Fin 3), i (2 : Fin 3), funext fun a => match a with
    | ⟨0, _⟩ => Fin.ext (by have h := (i (0 : Fin 3)).isLt; have h' : (i (0 : Fin 3)).val < 1 := h; show (i (0 : Fin 3)).val = 0; omega)
    | ⟨1, _⟩ => rfl
    | ⟨2, _⟩ => rfl⟩

theorem algebraic : Cert.algebraic_Kernel6Ideal_Reference6Ideal := by
  intro m g m' g' _ hm
  refine ⟨fun c => Cert.Kernel6Ideal.Hand.G m c, (θ_run Cert.Kernel6Ideal.defs _ _).mono
      (fun r h c => ⟨(h c).1.trans (Cert.Kernel6Ideal.Hand.final m c), (h c).2⟩) (Cert.Kernel6Ideal.Value.run_blocks (F := Ideal) m g),
    (θ_run Cert.Reference6Ideal.defs _ _).mono (fun r h c => ⟨(h c).1.trans ?_, (h c).2⟩) (Cert.Reference6Ideal.Value.run (F := Ideal) m' g')⟩
  rw [Cert.Reference6Ideal.Read.val_main_v83_eq]
  funext i
  obtain ⟨t, k, rfl⟩ := ix3_of i
  obtain ⟨h0, h1, h2, h3, h4, h5, h6, h7⟩ := hm c
  have e0 : StableHlo.launchContents m' c (Proc.devRef .tc Cert.Reference6Ideal.main_arg0) = m ((c.tc : Thread _ _).loc Cert.Kernel6Ideal.main_arg0) := h0
  have e1 : StableHlo.launchContents m' c (Proc.devRef .tc Cert.Reference6Ideal.main_arg1) = m ((c.tc : Thread _ _).loc Cert.Kernel6Ideal.main_arg1) := h1
  have e2 : StableHlo.launchContents m' c (Proc.devRef .tc Cert.Reference6Ideal.main_arg2) = m ((c.tc : Thread _ _).loc Cert.Kernel6Ideal.main_arg2) := h2
  have e3 : StableHlo.launchContents m' c (Proc.devRef .tc Cert.Reference6Ideal.main_arg3) = m ((c.tc : Thread _ _).loc Cert.Kernel6Ideal.main_arg3) := h3
  have e4 : StableHlo.launchContents m' c (Proc.devRef .tc Cert.Reference6Ideal.main_arg4) = m ((c.tc : Thread _ _).loc Cert.Kernel6Ideal.main_arg4) := h4
  have e5 : StableHlo.launchContents m' c (Proc.devRef .tc Cert.Reference6Ideal.main_arg5) = m ((c.tc : Thread _ _).loc Cert.Kernel6Ideal.main_arg5) := h5
  have e6 : StableHlo.launchContents m' c (Proc.devRef .tc Cert.Reference6Ideal.main_arg6) = m ((c.tc : Thread _ _).loc Cert.Kernel6Ideal.main_arg6) := h6
  have e7 : StableHlo.launchContents m' c (Proc.devRef .tc Cert.Reference6Ideal.main_arg7) = m ((c.tc : Thread _ _).loc Cert.Kernel6Ideal.main_arg7) := h7
  rw [e0, e1, e2, e3, e4, e5, e6, e7, Cert.Reference6Ideal.Hand.result_apply]
  rfl

end Cert.MlpSample

end
-- ==== Proof.Proj.Row.lean ====
/-
  One row of the projections of the time mixing: a token's row mixed with the row before it, times weight matrices, and the gates
  made of low-rank products.
-/
module

public import Idealize.ShloMosaic.Lib.Pointwise
public import Idealize.ShloMosaic.Lib.ValueLayout

@[expose] public section

noncomputable section

namespace Cert.Proj

open Idealize.ShloMosaic

/-- The row `x`, scaled by `1 + sc` and shifted by `sh`. -/
def modulated (x sc sh : Fin 1024 → EReal) (d : Fin 1024) : EReal := x d * (1 + sc d) + sh d

/-- The row `h` moved towards the row before it, `p`, by the share `mu`. -/
def mixed (h p mu : Fin 1024 → EReal) (d : Fin 1024) : EReal := h d + (p d - h d) * mu d

/-- A row times a matrix. -/
def project {n k : Nat} (u : Fin n → EReal) (w : Fin n → Fin k → EReal) (c : Fin k) : EReal := ∑ d, u d * w d c

/-- `log (1 + exp z)`, written so that the exponential stays small. -/
def softplus (z : EReal) : EReal := max z 0 + Ideal.log (1 + Ideal.exp (-(max z (-z))))

/-- The logistic function. -/
def sigmoid (z : EReal) : EReal := Ideal.div 1 (1 + Ideal.exp (-z))

/-- The logarithm of the decay, of the mixed row `u`. -/
def logDecay (u w0 : Fin 1024 → EReal) (w1 : Fin 1024 → Fin 64 → EReal) (w2 : Fin 64 → Fin 1024 → EReal) (c : Fin 1024) : EReal :=
  -(Ideal.exp (-(softplus (-(w0 c + project (fun e => Ideal.tanh (project u w1 e)) w2 c))) - Ideal.ofBits .f32 0x3F000000#32))

/-- The rate of the update, of the mixed row `u`. -/
def rate (u a0 : Fin 1024 → EReal) (a1 : Fin 1024 → Fin 64 → EReal) (a2 : Fin 64 → Fin 1024 → EReal) (c : Fin 1024) : EReal :=
  sigmoid (a0 c + project (project u a1) a2 c)

/-- The output's gate, of the mixed row `u`. -/
def gate (u : Fin 1024 → EReal) (g1 : Fin 1024 → Fin 160 → EReal) (g2 : Fin 160 → Fin 1024 → EReal) (c : Fin 1024) : EReal :=
  project (fun e => sigmoid (project u g1 e)) g2 c

/-- Column `c` of chunk `n` of the six chunks of a modulation row. -/
abbrev sixth (n : Nat) (hn : n < 6) (c : Fin 1024) : Fin 6144 := ⟨n * 1024 + c.val, by omega⟩

theorem zero_sub' (x : EReal) : 0 - x = -x := by rw [sub_eq_add_neg, zero_add]

end Cert.Proj

end
-- ==== Proof.Proj.PromptBody.lean ====
/-
  The blocks the projections of the time mixing write, row by row (the prompt).
-/
module

public import proofs.«01_k».proof.Proof.Gen.Kernel7Ideal.Value
public import proofs.«01_k».proof.Proof.Proj.Row

@[expose] public section

set_option maxRecDepth 16384

noncomputable section

namespace Cert.Kernel7Ideal.Hand

open Cert.Kernel7Ideal Cert.Kernel7Ideal.Gen Cert.Proj
open Idealize.ShloMosaic

theorem zero2 : (![0, 0] : Fin 2 → Nat) = fun _ => 0 := by decide
theorem zero3 : (![0, 0, 0] : Fin 3 → Nat) = fun _ => 0 := by decide
theorem ldx (x : Vec Ideal S1x512x1024 .f32) : View.ld x r0_1 = x := View.ld_unit_zero zero3 _ _
theorem ld1 (x : Vec Ideal S1x1x1024 .f32) : View.ld x r0_0 = x := View.ld_unit_zero zero3 _ _
theorem ld8 (x : Vec Ideal S1x8x1024 .f32) : View.ld x r0_2 = x := View.ld_unit_zero zero3 _ _
theorem ldmu (x : Vec Ideal S6x1024 .f32) : View.ld x r0_3 = x := View.ld_unit_zero zero2 _ _
theorem ldrow (x : Vec Ideal S1x1024 .f32) : View.ld x r0_7 = x := View.ld_unit_zero zero2 _ _
theorem lddown (x : Vec Ideal S1024x64 .bf16) : View.ld x r0_8 = x := View.ld_unit_zero zero2 _ _
theorem ldup (x : Vec Ideal S64x1024 .bf16) : View.ld x r0_9 = x := View.ld_unit_zero zero2 _ _
theorem ldg1 (x : Vec Ideal S1024x160 .bf16) : View.ld x r0_10 = x := View.ld_unit_zero zero2 _ _
theorem ldg2 (x : Vec Ideal S160x1024 .bf16) : View.ld x r0_11 = x := View.ld_unit_zero zero2 _ _

theorem ldw0 (x : Vec Ideal S3x1024x1024 .bf16) (d e : Fin 1024) : View.ld x r0_4 (ix3 0 d e) = x (ix3 0 d e) := by
  show x _ = x _
  refine congrArg x (funext fun a => Fin.ext ?_)
  match a with
  | ⟨0, _⟩ => show 0 + 1 * 0 = 0; omega
  | ⟨1, _⟩ => show 0 + 1 * d.val = d.val; omega
  | ⟨2, _⟩ => show 0 + 1 * e.val = e.val; omega
theorem ldw1 (x : Vec Ideal S3x1024x1024 .bf16) (d e : Fin 1024) : View.ld x r0_5 (ix3 0 d e) = x (ix3 1 d e) := by
  show x _ = x _
  refine congrArg x (funext fun a => Fin.ext ?_)
  match a with
  | ⟨0, _⟩ => show 1 + 1 * 0 = 1; omega
  | ⟨1, _⟩ => show 0 + 1 * d.val = d.val; omega
  | ⟨2, _⟩ => show 0 + 1 * e.val = e.val; omega
theorem ldw2 (x : Vec Ideal S3x1024x1024 .bf16) (d e : Fin 1024) : View.ld x r0_6 (ix3 0 d e) = x (ix3 2 d e) := by
  show x _ = x _
  refine congrArg x (funext fun a => Fin.ext ?_)
  match a with
  | ⟨0, _⟩ => show 2 + 1 * 0 = 2; omega
  | ⟨1, _⟩ => show 0 + 1 * d.val = d.val; omega
  | ⟨2, _⟩ => show 0 + 1 * e.val = e.val; omega

variable (i : grid0.Coords) (x0 : Vec Ideal S1x512x1024 .f32) (x1 : Vec Ideal S1x8x1024 .f32) (x2 x3 x4 : Vec Ideal S1x1x1024 .f32) (x5 : Vec Ideal S6x1024 .f32)
  (x6 : Vec Ideal S3x1024x1024 .bf16) (x7 : Vec Ideal S1x1024 .f32) (x8 : Vec Ideal S1024x64 .bf16) (x9 : Vec Ideal S64x1024 .bf16)
  (x10 : Vec Ideal S1x1024 .f32) (x11 : Vec Ideal S1024x64 .bf16) (x12 : Vec Ideal S64x1024 .bf16) (x13 : Vec Ideal S1024x160 .bf16)
  (x14 : Vec Ideal S160x1024 .bf16) (H P Q : FVec Ideal S512x1024 .f32) (w : Vec Ideal S1x1024x1024 .bf16)
  (r : Fin 512) (c : Fin 1024)

/-- The modulated row of a block. -/
def hRow (r : Fin 512) (d : Fin 1024) : EReal := modulated (fun d => x0 (ix3 0 r d)) (fun d => x3 (ix3 0 0 d)) (fun d => x2 (ix3 0 0 d)) d

/-- The row before row `r` of a block: before the first, the state's in the first block, and in a later block the modulated last row
    of the eight rows before the block. -/
def pRow (r : Fin 512) (d : Fin 1024) : EReal :=
  if r.val = 0 then
    if (i 1).val = 0 then x4 (ix3 0 0 d) else modulated (fun d => x1 (ix3 0 7 d)) (fun d => x3 (ix3 0 0 d)) (fun d => x2 (ix3 0 0 d)) d
  else hRow x0 x2 x3 ⟨r.val - 1, by omega⟩ d

/-- Row `n` of the mixed rows. -/
def mRow (n : Fin 6) : Fin 1024 → EReal := mixed (hRow x0 x2 x3 r) (pRow i x0 x1 x2 x3 x4 r) (fun d => x5 (ix2 n d))

theorem select_zero {α : Type} (n : Nat) (hn : n < 2 ^ 32) (a b : α) :
    Scalar.select (IntOp.cmpi .eq (BitVec.ofNat 32 n) 0#32) a b = if n = 0 then a else b := by
  by_cases h : n = 0
  · subst h
    rfl
  · rw [if_neg h]
    have e : (BitVec.ofNat 32 n == 0#32) = false := beq_eq_false_iff_ne.mpr fun e => h (by
      have := congrArg BitVec.toNat e
      rw [BitVec.toNat_ofNat, Nat.mod_eq_of_lt hn] at this
      exact this)
    unfold IntOp.cmpi
    simp only [e]
    rfl

theorem h_apply : k0_pay4 (F := Ideal) x3 x2 x0 (ix2 r c) = hRow x0 x2 x3 r c := by
  unfold k0_pay4 k0_pay3 k0_pay2
  pointwise
  rfl

theorem p_apply : k0_pay5 (F := Ideal) i x3 x2 x0 x1 x4 (ix2 r c) = pRow i x0 x1 x2 x3 x4 r c := by
  unfold k0_pay5 k0_pay3 k0_pay2
  have e := fun r => h_apply x0 x2 x3 r c
  generalize k0_pay4 (F := Ideal) x3 x2 x0 = H at e ⊢
  pointwise
  have hi : (i 1).val < 16 := (i 1).isLt
  rw [select_zero r.val (by omega)]
  unfold pRow
  by_cases h : r.val = 0
  · rw [if_pos h, if_pos h]
    exact select_zero (i 1).val (by omega) _ _
  · rw [if_neg h, if_neg h]
    refine Eq.trans (congrArg (fun j => H (ix2 j c)) (Fin.ext ?_)) (e _)
    show (r.val + 512 - 1) % 512 = r.val - 1
    omega

theorem q_apply : k0_pay7 (F := Ideal) H P (ix2 r c) = P (ix2 r c) - H (ix2 r c) := by
  unfold k0_pay7
  pointwise

theorem r_apply : k0_pay8 (F := Ideal) H P x5 w (ix3 0 r c)
    = project (fun d => H (ix2 r d) + (P (ix2 r d) - H (ix2 r d)) * x5 (ix2 0 d)) (fun d e => w (ix3 0 d e)) c := by
  unfold k0_pay8 k0_pay7
  pointwise [dot_S512x1024_S1024x1024_S512x1024_1_0_0_1_n_n]
  rfl

theorem k_apply : k0_pay9 (F := Ideal) H P x5 w (ix3 0 r c)
    = project (fun d => H (ix2 r d) + (P (ix2 r d) - H (ix2 r d)) * x5 (ix2 1 d)) (fun d e => w (ix3 0 d e)) c := by
  unfold k0_pay9 k0_pay7
  pointwise [dot_S512x1024_S1024x1024_S512x1024_1_0_0_1_n_n]
  rfl

theorem v_apply : k0_pay11 (F := Ideal) (k0_pay10 H P x5 w) (ix3 0 r c)
    = project (fun d => H (ix2 r d) + (P (ix2 r d) - H (ix2 r d)) * x5 (ix2 2 d)) (fun d e => w (ix3 0 d e)) c := by
  unfold k0_pay11 k0_pay10 k0_pay7
  pointwise [dot_S512x1024_S1024x1024_S512x1024_1_0_0_1_n_n]
  rfl

theorem lw_apply : k0_pay13 (F := Ideal) (k0_pay12 H Q x5 x7 x8 x9) (ix3 0 r c)
    = logDecay (fun d => H (ix2 r d) + Q (ix2 r d) * x5 (ix2 3 d)) (fun d => x7 (ix2 0 d)) (fun d e => x8 (ix2 d e)) (fun d e => x9 (ix2 d e)) c := by
  unfold k0_pay13 k0_pay12
  pointwise [dot_S512x1024_S1024x64_S512x64_1_0_0_1_n_n, dot_S512x64_S64x1024_S512x1024_1_0_0_1_n_n]
  simp only [zero_sub']
  rfl

theorem a_apply : k0_pay14 (F := Ideal) H Q x5 x10 x11 x12 (ix3 0 r c)
    = rate (fun d => H (ix2 r d) + Q (ix2 r d) * x5 (ix2 4 d)) (fun d => x10 (ix2 0 d)) (fun d e => x11 (ix2 d e)) (fun d e => x12 (ix2 d e)) c := by
  unfold k0_pay14
  pointwise [dot_S512x1024_S1024x64_S512x64_1_0_0_1_n_n, dot_S512x64_S64x1024_S512x1024_1_0_0_1_n_n]
  simp only [zero_sub']
  rfl

theorem g_apply : k0_pay1 (F := Ideal) (k0_pay15 H Q x5 x13) (Scalar.ofBits .f32 0x3F800000#32) x14 (ix3 0 r c)
    = gate (fun d => H (ix2 r d) + Q (ix2 r d) * x5 (ix2 5 d)) (fun d e => x13 (ix2 d e)) (fun d e => x14 (ix2 d e)) c := by
  unfold k0_pay1 k0_pay15
  pointwise [dot_S512x1024_S1024x160_S512x160_1_0_0_1_n_n, dot_S512x160_S160x1024_S512x1024_1_0_0_1_n_n]
  simp only [zero_sub']
  rfl

/-- The block of `r`. -/
theorem out15_apply : out0_15 (F := Ideal) i x0 x1 x2 x3 x4 x5 x6 x7 x8 x9 x10 x11 x12 x13 x14 (ix3 0 r c)
    = project (mRow i x0 x1 x2 x3 x4 x5 r 0) (fun d e => x6 (ix3 0 d e)) c := by
  unfold out0_15 k0_pay16 k0_pay17
  rw [View.canon_unit_zero zero3]
  simp only [ldx, ld1, ld8, ldmu]
  rw [r_apply]
  simp only [q_apply, h_apply, p_apply]
  exact congrArg (fun w => project (mRow i x0 x1 x2 x3 x4 x5 r 0) w c) (funext fun d => funext fun e => ldw0 x6 d e)

/-- The block of the keys. -/
theorem out17_apply : out0_17 (F := Ideal) i x0 x1 x2 x3 x4 x5 x6 x7 x8 x9 x10 x11 x12 x13 x14 (ix3 0 r c)
    = project (mRow i x0 x1 x2 x3 x4 x5 r 1) (fun d e => x6 (ix3 1 d e)) c := by
  unfold out0_17 k0_pay16 k0_pay17
  rw [View.canon_unit_zero zero3]
  simp only [ldx, ld1, ld8, ldmu]
  rw [k_apply]
  simp only [q_apply, h_apply, p_apply]
  exact congrArg (fun w => project (mRow i x0 x1 x2 x3 x4 x5 r 1) w c) (funext fun d => funext fun e => ldw1 x6 d e)

/-- The block of the values. -/
theorem out18_apply : out0_18 (F := Ideal) i x0 x1 x2 x3 x4 x5 x6 x7 x8 x9 x10 x11 x12 x13 x14 (ix3 0 r c)
    = project (mRow i x0 x1 x2 x3 x4 x5 r 2) (fun d e => x6 (ix3 2 d e)) c := by
  unfold out0_18 k0_pay16 k0_pay17
  rw [View.canon_unit_zero zero3]
  simp only [ldx, ld1, ld8, ldmu]
  rw [v_apply]
  simp only [q_apply, h_apply, p_apply]
  exact congrArg (fun w => project (mRow i x0 x1 x2 x3 x4 x5 r 2) w c) (funext fun d => funext fun e => ldw2 x6 d e)

/-- The block of the decay's logarithm. -/
theorem out16_apply : out0_16 (F := Ideal) i x0 x1 x2 x3 x4 x5 x6 x7 x8 x9 x10 x11 x12 x13 x14 (ix3 0 r c)
    = logDecay (mRow i x0 x1 x2 x3 x4 x5 r 3) (fun d => x7 (ix2 0 d)) (fun d e => x8 (ix2 d e)) (fun d e => x9 (ix2 d e)) c := by
  unfold out0_16 k0_pay18 k0_pay16 k0_pay17
  rw [View.canon_unit_zero zero3]
  simp only [ldx, ld1, ld8, ldmu, ldrow, lddown, ldup]
  rw [lw_apply]
  simp only [q_apply, h_apply, p_apply]
  rfl

/-- The block of the rates. -/
theorem out19_apply : out0_19 (F := Ideal) i x0 x1 x2 x3 x4 x5 x6 x7 x8 x9 x10 x11 x12 x13 x14 (ix3 0 r c)
    = rate (mRow i x0 x1 x2 x3 x4 x5 r 4) (fun d => x10 (ix2 0 d)) (fun d e => x11 (ix2 d e)) (fun d e => x12 (ix2 d e)) c := by
  unfold out0_19 k0_pay18 k0_pay16 k0_pay17
  rw [View.canon_unit_zero zero3]
  simp only [ldx, ld1, ld8, ldmu, ldrow, lddown, ldup]
  rw [a_apply]
  simp only [q_apply, h_apply, p_apply]
  rfl

/-- The block of the gates. -/
theorem out20_apply : out0_20 (F := Ideal) i x0 x1 x2 x3 x4 x5 x6 x7 x8 x9 x10 x11 x12 x13 x14 (ix3 0 r c)
    = gate (mRow i x0 x1 x2 x3 x4 x5 r 5) (fun d e => x13 (ix2 d e)) (fun d e => x14 (ix2 d e)) c := by
  unfold out0_20 k0_pay18 k0_pay16 k0_pay17
  rw [View.canon_unit_zero zero3]
  simp only [ldx, ld1, ld8, ldmu, ldg1, ldg2]
  rw [g_apply]
  simp only [q_apply, h_apply, p_apply]
  rfl

/-- The block of the last row. -/
theorem out21_apply : out0_21 (F := Ideal) i x0 x1 x2 x3 x4 x5 x6 x7 x8 x9 x10 x11 x12 x13 x14 (ix3 0 0 c) = hRow x0 x2 x3 511 c := by
  unfold out0_21
  rw [View.canon_unit_zero zero3]
  simp only [ldx, ld1]
  unfold k0_pay6
  have e := h_apply x0 x2 x3 511 c
  generalize k0_pay4 (F := Ideal) x3 x2 x0 = H at e ⊢
  pointwise
  exact e

end Cert.Kernel7Ideal.Hand

end
-- ==== Proof.Proj.PromptArray.lean ====
/-
  The arrays the projections of the time mixing leave, as functions of the arguments (the prompt).
-/
module

public import proofs.«01_k».proof.Proof.Proj.PromptBody
public import Idealize.ShloMosaic.Lib.StableHlo.ReadAt

@[expose] public section

set_option maxRecDepth 16384

noncomputable section

namespace Cert.Kernel7Ideal.Hand

open Cert.Kernel7Ideal Cert.Kernel7Ideal.Gen Cert.Kernel7Ideal.Value Cert.Proj
open Idealize.ShloMosaic Idealize.ShloMosaic.TcCoe Idealize.SL.Sem

/-- The batch of a grid point. -/
abbrev bt (t : Fin cfg0.N) : Fin 2 := ⟨t.val / 16, by have : t.val < 32 := t.isLt; omega⟩
/-- Row `r` of a grid point's block. -/
abbrev rt (t : Fin cfg0.N) (r : Fin 512) : Fin 8192 := ⟨t.val % 16 * 512 + r.val, by omega⟩
/-- The row before a grid point's block, and for the first block row 7. -/
abbrev lt (t : Fin cfg0.N) : Fin 8192 := ⟨(t.val % 16 * 64 - 1) * 8 + 7, by omega⟩

theorem coord1 : ∀ t : Fin cfg0.N, (grid0.coords t 1).val = t.val % 16 := (by decide +kernel : ∀ t : Fin grid0.N, _)

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = t.val % 16 * 64 - 1 ∧ win0_1.index t (2 : Fin 3) = 0 :=
  (by decide +kernel : ∀ t : Fin grid0.N, _)
theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 16 ∧ win0_3.index t (1 : Fin 3) = 0 ∧ win0_3.index t (2 : Fin 3) = 1 :=
  (by decide +kernel : ∀ t : Fin grid0.N, _)
theorem idx4 : ∀ t : Fin cfg0.N, win0_4.index t (0 : Fin 3) = t.val / 16 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 3) = t.val / 16 ∧ win0_15.index t (1 : Fin 3) = t.val % 16 ∧ win0_15.index t (2 : Fin 3) = 0 :=
  (by decide +kernel : ∀ t : Fin grid0.N, _)
theorem idx16 : ∀ t : Fin cfg0.N, win0_16.index t (0 : Fin 3) = t.val / 16 ∧ win0_16.index t (1 : Fin 3) = t.val % 16 ∧ win0_16.index t (2 : Fin 3) = 0 :=
  (by decide +kernel : ∀ t : Fin grid0.N, _)
theorem idx17 : ∀ t : Fin cfg0.N, win0_17.index t (0 : Fin 3) = t.val / 16 ∧ win0_17.index t (1 : Fin 3) = t.val % 16 ∧ win0_17.index t (2 : Fin 3) = 0 :=
  (by decide +kernel : ∀ t : Fin grid0.N, _)
theorem idx18 : ∀ t : Fin cfg0.N, win0_18.index t (0 : Fin 3) = t.val / 16 ∧ win0_18.index t (1 : Fin 3) = t.val % 16 ∧ win0_18.index t (2 : Fin 3) = 0 :=
  (by decide +kernel : ∀ t : Fin grid0.N, _)
theorem idx19 : ∀ t : Fin cfg0.N, win0_19.index t (0 : Fin 3) = t.val / 16 ∧ win0_19.index t (1 : Fin 3) = t.val % 16 ∧ win0_19.index t (2 : Fin 3) = 0 :=
  (by decide +kernel : ∀ t : Fin grid0.N, _)
theorem idx20 : ∀ t : Fin cfg0.N, win0_20.index t (0 : Fin 3) = t.val / 16 ∧ win0_20.index t (1 : Fin 3) = t.val % 16 ∧ win0_20.index t (2 : Fin 3) = 0 :=
  (by decide +kernel : ∀ t : Fin grid0.N, _)
theorem idx21 : ∀ t : Fin cfg0.N, win0_21.index t (0 : Fin 3) = t.val / 16 ∧ win0_21.index t (1 : Fin 3) = 0 ∧ win0_21.index t (2 : Fin 3) = 0 :=
  (by decide +kernel : ∀ t : Fin grid0.N, _)

theorem emb0 (t : Fin cfg0.N) (r : Fin 512) (k : Fin 1024) : ((cfg0.win 0).blk t).view.emb (ix3 0 r k) = ix3 (bt t) (rt t r) k := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 512 + 1 * r.val = t.val % 16 * 512 + r.val; omega
  | ⟨2, _⟩ => show win0_0.index t (2 : Fin 3) * 1024 + 1 * k.val = k.val; omega
theorem emb1 (t : Fin cfg0.N) (k : Fin 1024) : ((cfg0.win 1).blk t).view.emb (ix3 0 7 k) = ix3 (bt t) (lt t) k := by
  obtain ⟨e0, e1, e2⟩ := idx1 t
  funext a; apply Fin.ext
  match a with
  | ⟨0, _⟩ => show win0_1.index t (0 : Fin 3) * 1 + 1 * 0 = t.val / 16; omega
  | ⟨1, _⟩ => show win0_1.index t (1 : Fin 3) * 8 + 1 * 7 = (t.val % 16 * 64 - 1) * 8 + 7; omega
  | ⟨2, _⟩ => show win0_1.index t (2 : Fin 3) * 1024 + 1 * k.val = k.val; omega
theorem emb2 (t : Fin cfg0.N) (k : Fin 1024) : ((cfg0.win 2).blk t).view.emb (ix3 0 0 k) = ix3 (bt t) 0 (sixth 0 (by decide) k) := by
  obtain ⟨e0, e1, e2⟩ := idx2 t
  funext a; apply Fin.ext
  match a with
  | ⟨0, _⟩ => show win0_2.index t (0 : Fin 3) * 1 + 1 * 0 = t.val / 16; omega
  | ⟨1, _⟩ => show win0_2.index t (1 : Fin 3) * 1 + 1 * 0 = 0; omega
  | ⟨2, _⟩ => show win0_2.index t (2 : Fin 3) * 1024 + 1 * k.val = 0 * 1024 + k.val; omega
theorem emb3 (t : Fin cfg0.N) (k : Fin 1024) : ((cfg0.win 3).blk t).view.emb (ix3 0 0 k) = ix3 (bt t) 0 (sixth 1 (by decide) k) := by
  obtain ⟨e0, e1, e2⟩ := idx3 t
  funext a; apply Fin.ext
  match a with
  | ⟨0, _⟩ => show win0_3.index t (0 : Fin 3) * 1 + 1 * 0 = t.val / 16; omega
  | ⟨1, _⟩ => show win0_3.index t (1 : Fin 3) * 1 + 1 * 0 = 0; omega
  | ⟨2, _⟩ => show win0_3.index t (2 : Fin 3) * 1024 + 1 * k.val = 1 * 1024 + k.val; omega
theorem emb4 (t : Fin cfg0.N) (k : Fin 1024) : ((cfg0.win 4).blk t).view.emb (ix3 0 0 k) = ix3 (bt t) 0 k := by
  obtain ⟨e0, e1, e2⟩ := idx4 t
  funext a; apply Fin.ext
  match a with
  | ⟨0, _⟩ => show win0_4.index t (0 : Fin 3) * 1 + 1 * 0 = t.val / 16; omega
  | ⟨1, _⟩ => show win0_4.index t (1 : Fin 3) * 1 + 1 * 0 = 0; omega
  | ⟨2, _⟩ => show win0_4.index t (2 : Fin 3) * 1024 + 1 * k.val = k.val; omega
theorem emb5 (t : Fin cfg0.N) (n : Fin 6) (k : Fin 1024) : ((cfg0.win 5).blk t).view.emb (ix2 n k) = ix2 n k := by
  obtain ⟨e0, e1⟩ := idx5 t
  funext a; apply Fin.ext
  match a with
  | ⟨0, _⟩ => show win0_5.index t (0 : Fin 2) * 6 + 1 * n.val = n.val; omega
  | ⟨1, _⟩ => show win0_5.index t (1 : Fin 2) * 1024 + 1 * k.val = k.val; omega
theorem emb6 (t : Fin cfg0.N) (n : Fin 3) (d e : Fin 1024) : ((cfg0.win 6).blk t).view.emb (ix3 n d e) = ix3 n d e := by
  obtain ⟨e0, e1, e2⟩ := idx6 t
  funext a; apply Fin.ext
  match a with
  | ⟨0, _⟩ => show win0_6.index t (0 : Fin 3) * 3 + 1 * n.val = n.val; omega
  | ⟨1, _⟩ => show win0_6.index t (1 : Fin 3) * 1024 + 1 * d.val = d.val; omega
  | ⟨2, _⟩ => show win0_6.index t (2 : Fin 3) * 1024 + 1 * e.val = e.val; omega
theorem emb7 (t : Fin cfg0.N) (k : Fin 1024) : ((cfg0.win 7).blk t).view.emb (ix2 0 k) = ix2 0 k := by
  obtain ⟨e0, e1⟩ := idx7 t
  funext a; apply Fin.ext
  match a with
  | ⟨0, _⟩ => show win0_7.index t (0 : Fin 2) * 1 + 1 * 0 = 0; omega
  | ⟨1, _⟩ => show win0_7.index t (1 : Fin 2) * 1024 + 1 * k.val = k.val; omega
theorem emb8 (t : Fin cfg0.N) (d : Fin 1024) (e : Fin 64) : ((cfg0.win 8).blk t).view.emb (ix2 d e) = ix2 d e := by
  obtain ⟨e0, e1⟩ := idx8 t
  funext a; apply Fin.ext
  match a with
  | ⟨0, _⟩ => show win0_8.index t (0 : Fin 2) * 1024 + 1 * d.val = d.val; omega
  | ⟨1, _⟩ => show win0_8.index t (1 : Fin 2) * 64 + 1 * e.val = e.val; omega
theorem emb9 (t : Fin cfg0.N) (d : Fin 64) (e : Fin 1024) : ((cfg0.win 9).blk t).view.emb (ix2 d e) = ix2 d e := by
  obtain ⟨e0, e1⟩ := idx9 t
  funext a; apply Fin.ext
  match a with
  | ⟨0, _⟩ => show win0_9.index t (0 : Fin 2) * 64 + 1 * d.val = d.val; omega
  | ⟨1, _⟩ => show win0_9.index t (1 : Fin 2) * 1024 + 1 * e.val = e.val; omega
theorem emb10 (t : Fin cfg0.N) (k : Fin 1024) : ((cfg0.win 10).blk t).view.emb (ix2 0 k) = ix2 0 k := by
  obtain ⟨e0, e1⟩ := idx10 t
  funext a; apply Fin.ext
  match a with
  | ⟨0, _⟩ => show win0_10.index t (0 : Fin 2) * 1 + 1 * 0 = 0; omega
  | ⟨1, _⟩ => show win0_10.index t (1 : Fin 2) * 1024 + 1 * k.val = k.val; omega
theorem emb11 (t : Fin cfg0.N) (d : Fin 1024) (e : Fin 64) : ((cfg0.win 11).blk t).view.emb (ix2 d e) = ix2 d e := by
  obtain ⟨e0, e1⟩ := idx11 t
  funext a; apply Fin.ext
  match a with
  | ⟨0, _⟩ => show win0_11.index t (0 : Fin 2) * 1024 + 1 * d.val = d.val; omega
  | ⟨1, _⟩ => show win0_11.index t (1 : Fin 2) * 64 + 1 * e.val = e.val; omega
theorem emb12 (t : Fin cfg0.N) (d : Fin 64) (e : Fin 1024) : ((cfg0.win 12).blk t).view.emb (ix2 d e) = ix2 d e := by
  obtain ⟨e0, e1⟩ := idx12 t
  funext a; apply Fin.ext
  match a with
  | ⟨0, _⟩ => show win0_12.index t (0 : Fin 2) * 64 + 1 * d.val = d.val; omega
  | ⟨1, _⟩ => show win0_12.index t (1 : Fin 2) * 1024 + 1 * e.val = e.val; omega
theorem emb13 (t : Fin cfg0.N) (d : Fin 1024) (e : Fin 160) : ((cfg0.win 13).blk t).view.emb (ix2 d e) = ix2 d e := by
  obtain ⟨e0, e1⟩ := idx13 t
  funext a; apply Fin.ext
  match a with
  | ⟨0, _⟩ => show win0_13.index t (0 : Fin 2) * 1024 + 1 * d.val = d.val; omega
  | ⟨1, _⟩ => show win0_13.index t (1 : Fin 2) * 160 + 1 * e.val = e.val; omega
theorem emb14 (t : Fin cfg0.N) (d : Fin 160) (e : Fin 1024) : ((cfg0.win 14).blk t).view.emb (ix2 d e) = ix2 d e := by
  obtain ⟨e0, e1⟩ := idx14 t
  funext a; apply Fin.ext
  match a with
  | ⟨0, _⟩ => show win0_14.index t (0 : Fin 2) * 160 + 1 * d.val = d.val; omega
  | ⟨1, _⟩ => show win0_14.index t (1 : Fin 2) * 1024 + 1 * e.val = e.val; omega
theorem emb15 (t : Fin cfg0.N) (r : Fin 512) (k : Fin 1024) : ((cfg0.win 15).blk t).view.emb (ix3 0 r k) = ix3 (bt t) (rt t r) k := by
  obtain ⟨e0, e1, e2⟩ := idx15 t
  funext a; apply Fin.ext
  match a with
  | ⟨0, _⟩ => show win0_15.index t (0 : Fin 3) * 1 + 1 * 0 = t.val / 16; omega
  | ⟨1, _⟩ => show win0_15.index t (1 : Fin 3) * 512 + 1 * r.val = t.val % 16 * 512 + r.val; omega
  | ⟨2, _⟩ => show win0_15.index t (2 : Fin 3) * 1024 + 1 * k.val = k.val; omega
theorem emb16 (t : Fin cfg0.N) (r : Fin 512) (k : Fin 1024) : ((cfg0.win 16).blk t).view.emb (ix3 0 r k) = ix3 (bt t) (rt t r) k := by
  obtain ⟨e0, e1, e2⟩ := idx16 t
  funext a; apply Fin.ext
  match a with
  | ⟨0, _⟩ => show win0_16.index t (0 : Fin 3) * 1 + 1 * 0 = t.val / 16; omega
  | ⟨1, _⟩ => show win0_16.index t (1 : Fin 3) * 512 + 1 * r.val = t.val % 16 * 512 + r.val; omega
  | ⟨2, _⟩ => show win0_16.index t (2 : Fin 3) * 1024 + 1 * k.val = k.val; omega
theorem emb17 (t : Fin cfg0.N) (r : Fin 512) (k : Fin 1024) : ((cfg0.win 17).blk t).view.emb (ix3 0 r k) = ix3 (bt t) (rt t r) k := by
  obtain ⟨e0, e1, e2⟩ := idx17 t
  funext a; apply Fin.ext
  match a with
  | ⟨0, _⟩ => show win0_17.index t (0 : Fin 3) * 1 + 1 * 0 = t.val / 16; omega
  | ⟨1, _⟩ => show win0_17.index t (1 : Fin 3) * 512 + 1 * r.val = t.val % 16 * 512 + r.val; omega
  | ⟨2, _⟩ => show win0_17.index t (2 : Fin 3) * 1024 + 1 * k.val = k.val; omega
theorem emb18 (t : Fin cfg0.N) (r : Fin 512) (k : Fin 1024) : ((cfg0.win 18).blk t).view.emb (ix3 0 r k) = ix3 (bt t) (rt t r) k := by
  obtain ⟨e0, e1, e2⟩ := idx18 t
  funext a; apply Fin.ext
  match a with
  | ⟨0, _⟩ => show win0_18.index t (0 : Fin 3) * 1 + 1 * 0 = t.val / 16; omega
  | ⟨1, _⟩ => show win0_18.index t (1 : Fin 3) * 512 + 1 * r.val = t.val % 16 * 512 + r.val; omega
  | ⟨2, _⟩ => show win0_18.index t (2 : Fin 3) * 1024 + 1 * k.val = k.val; omega
theorem emb19 (t : Fin cfg0.N) (r : Fin 512) (k : Fin 1024) : ((cfg0.win 19).blk t).view.emb (ix3 0 r k) = ix3 (bt t) (rt t r) k := by
  obtain ⟨e0, e1, e2⟩ := idx19 t
  funext a; apply Fin.ext
  match a with
  | ⟨0, _⟩ => show win0_19.index t (0 : Fin 3) * 1 + 1 * 0 = t.val / 16; omega
  | ⟨1, _⟩ => show win0_19.index t (1 : Fin 3) * 512 + 1 * r.val = t.val % 16 * 512 + r.val; omega
  | ⟨2, _⟩ => show win0_19.index t (2 : Fin 3) * 1024 + 1 * k.val = k.val; omega
theorem emb20 (t : Fin cfg0.N) (r : Fin 512) (k : Fin 1024) : ((cfg0.win 20).blk t).view.emb (ix3 0 r k) = ix3 (bt t) (rt t r) k := by
  obtain ⟨e0, e1, e2⟩ := idx20 t
  funext a; apply Fin.ext
  match a with
  | ⟨0, _⟩ => show win0_20.index t (0 : Fin 3) * 1 + 1 * 0 = t.val / 16; omega
  | ⟨1, _⟩ => show win0_20.index t (1 : Fin 3) * 512 + 1 * r.val = t.val % 16 * 512 + r.val; omega
  | ⟨2, _⟩ => show win0_20.index t (2 : Fin 3) * 1024 + 1 * k.val = k.val; omega
theorem emb21 (t : Fin cfg0.N) (k : Fin 1024) : ((cfg0.win 21).blk t).view.emb (ix3 0 0 k) = ix3 (bt t) 0 k := by
  obtain ⟨e0, e1, e2⟩ := idx21 t
  funext a; apply Fin.ext
  match a with
  | ⟨0, _⟩ => show win0_21.index t (0 : Fin 3) * 1 + 1 * 0 = t.val / 16; omega
  | ⟨1, _⟩ => show win0_21.index t (1 : Fin 3) * 1 + 1 * 0 = 0; omega
  | ⟨2, _⟩ => show win0_21.index t (2 : Fin 3) * 1024 + 1 * k.val = k.val; omega

variable (m : (ℓ : Loc nD τ sig) → Buf (Elt Ideal) ℓ) (ρ : Dev nD → PrngReg)

theorem V_v0 (c : Dev nD) (n : Fin 3) (d e : Fin 1024) : V m c main_v0 (ix3 n d e) = m ((c : Thread nD τ).loc main_arg4) (ix3 n d e) := by
  unfold V hostOps0
  after_reads_at
theorem V_v1 (c : Dev nD) (k : Fin 1024) : V m c main_v1 (ix2 0 k) = m ((c : Thread nD τ).loc main_arg5) (ix1 k) := by
  unfold V hostOps0
  after_reads_at
theorem V_v2 (c : Dev nD) (d : Fin 1024) (e : Fin 64) : V m c main_v2 (ix2 d e) = m ((c : Thread nD τ).loc main_arg6) (ix2 d e) := by
  unfold V hostOps0
  after_reads_at
theorem V_v3 (c : Dev nD) (d : Fin 64) (e : Fin 1024) : V m c main_v3 (ix2 d e) = m ((c : Thread nD τ).loc main_arg7) (ix2 d e) := by
  unfold V hostOps0
  after_reads_at
theorem V_v4 (c : Dev nD) (k : Fin 1024) : V m c main_v4 (ix2 0 k) = m ((c : Thread nD τ).loc main_arg8) (ix1 k) := by
  unfold V hostOps0
  after_reads_at
theorem V_v5 (c : Dev nD) (d : Fin 1024) (e : Fin 64) : V m c main_v5 (ix2 d e) = m ((c : Thread nD τ).loc main_arg9) (ix2 d e) := by
  unfold V hostOps0
  after_reads_at
theorem V_v6 (c : Dev nD) (d : Fin 64) (e : Fin 1024) : V m c main_v6 (ix2 d e) = m ((c : Thread nD τ).loc main_arg10) (ix2 d e) := by
  unfold V hostOps0
  after_reads_at
theorem V_v7 (c : Dev nD) (d : Fin 1024) (e : Fin 160) : V m c main_v7 (ix2 d e) = m ((c : Thread nD τ).loc main_arg11) (ix2 d e) := by
  unfold V hostOps0
  after_reads_at
theorem V_v8 (c : Dev nD) (d : Fin 160) (e : Fin 1024) : V m c main_v8 (ix2 d e) = m ((c : Thread nD τ).loc main_arg12) (ix2 d e) := by
  unfold V hostOps0
  after_reads_at

theorem iblk0 (c : Dev nD) (t : Fin cfg0.N) (r : Fin 512) (k : Fin 1024) :
    iblk m c 0 t (ix3 0 r k) = m ((c : Thread nD τ).loc main_arg0) (ix3 (bt t) (rt t r) k) := by
  show V m c main_arg0 (((cfg0.win 0).blk t).view.emb (ix3 0 r k)) = _
  rw [emb0, V_main_arg0]
theorem iblk1 (c : Dev nD) (t : Fin cfg0.N) (k : Fin 1024) :
    iblk m c 1 t (ix3 0 7 k) = m ((c : Thread nD τ).loc main_arg0) (ix3 (bt t) (lt t) k) := by
  show V m c main_arg0 (((cfg0.win 1).blk t).view.emb (ix3 0 7 k)) = _
  rw [emb1, V_main_arg0]
theorem iblk2 (c : Dev nD) (t : Fin cfg0.N) (k : Fin 1024) :
    iblk m c 2 t (ix3 0 0 k) = m ((c : Thread nD τ).loc main_arg1) (ix3 (bt t) 0 (sixth 0 (by decide) k)) := by
  show V m c main_arg1 (((cfg0.win 2).blk t).view.emb (ix3 0 0 k)) = _
  rw [emb2, V_main_arg1]
theorem iblk3 (c : Dev nD) (t : Fin cfg0.N) (k : Fin 1024) :
    iblk m c 3 t (ix3 0 0 k) = m ((c : Thread nD τ).loc main_arg1) (ix3 (bt t) 0 (sixth 1 (by decide) k)) := by
  show V m c main_arg1 (((cfg0.win 3).blk t).view.emb (ix3 0 0 k)) = _
  rw [emb3, V_main_arg1]
theorem iblk4 (c : Dev nD) (t : Fin cfg0.N) (k : Fin 1024) :
    iblk m c 4 t (ix3 0 0 k) = m ((c : Thread nD τ).loc main_arg2) (ix3 (bt t) 0 k) := by
  show V m c main_arg2 (((cfg0.win 4).blk t).view.emb (ix3 0 0 k)) = _
  rw [emb4, V_main_arg2]
theorem iblk5 (c : Dev nD) (t : Fin cfg0.N) (n : Fin 6) (k : Fin 1024) :
    iblk m c 5 t (ix2 n k) = m ((c : Thread nD τ).loc main_arg3) (ix2 n k) := by
  show V m c main_arg3 (((cfg0.win 5).blk t).view.emb (ix2 n k)) = _
  rw [emb5, V_main_arg3]
theorem iblk6 (c : Dev nD) (t : Fin cfg0.N) (n : Fin 3) (d e : Fin 1024) :
    iblk m c 6 t (ix3 n d e) = m ((c : Thread nD τ).loc main_arg4) (ix3 n d e) := by
  show V m c main_v0 (((cfg0.win 6).blk t).view.emb (ix3 n d e)) = _
  rw [emb6, V_v0]
theorem iblk7 (c : Dev nD) (t : Fin cfg0.N) (k : Fin 1024) :
    iblk m c 7 t (ix2 0 k) = m ((c : Thread nD τ).loc main_arg5) (ix1 k) := by
  show V m c main_v1 (((cfg0.win 7).blk t).view.emb (ix2 0 k)) = _
  rw [emb7, V_v1]
theorem iblk8 (c : Dev nD) (t : Fin cfg0.N) (d : Fin 1024) (e : Fin 64) :
    iblk m c 8 t (ix2 d e) = m ((c : Thread nD τ).loc main_arg6) (ix2 d e) := by
  show V m c main_v2 (((cfg0.win 8).blk t).view.emb (ix2 d e)) = _
  rw [emb8, V_v2]
theorem iblk9 (c : Dev nD) (t : Fin cfg0.N) (d : Fin 64) (e : Fin 1024) :
    iblk m c 9 t (ix2 d e) = m ((c : Thread nD τ).loc main_arg7) (ix2 d e) := by
  show V m c main_v3 (((cfg0.win 9).blk t).view.emb (ix2 d e)) = _
  rw [emb9, V_v3]
theorem iblk10 (c : Dev nD) (t : Fin cfg0.N) (k : Fin 1024) :
    iblk m c 10 t (ix2 0 k) = m ((c : Thread nD τ).loc main_arg8) (ix1 k) := by
  show V m c main_v4 (((cfg0.win 10).blk t).view.emb (ix2 0 k)) = _
  rw [emb10, V_v4]
theorem iblk11 (c : Dev nD) (t : Fin cfg0.N) (d : Fin 1024) (e : Fin 64) :
    iblk m c 11 t (ix2 d e) = m ((c : Thread nD τ).loc main_arg9) (ix2 d e) := by
  show V m c main_v5 (((cfg0.win 11).blk t).view.emb (ix2 d e)) = _
  rw [emb11, V_v5]
theorem iblk12 (c : Dev nD) (t : Fin cfg0.N) (d : Fin 64) (e : Fin 1024) :
    iblk m c 12 t (ix2 d e) = m ((c : Thread nD τ).loc main_arg10) (ix2 d e) := by
  show V m c main_v6 (((cfg0.win 12).blk t).view.emb (ix2 d e)) = _
  rw [emb12, V_v6]
theorem iblk13 (c : Dev nD) (t : Fin cfg0.N) (d : Fin 1024) (e : Fin 160) :
    iblk m c 13 t (ix2 d e) = m ((c : Thread nD τ).loc main_arg11) (ix2 d e) := by
  show V m c main_v7 (((cfg0.win 13).blk t).view.emb (ix2 d e)) = _
  rw [emb13, V_v7]
theorem iblk14 (c : Dev nD) (t : Fin cfg0.N) (d : Fin 160) (e : Fin 1024) :
    iblk m c 14 t (ix2 d e) = m ((c : Thread nD τ).loc main_arg12) (ix2 d e) := by
  show V m c main_v8 (((cfg0.win 14).blk t).view.emb (ix2 d e)) = _
  rw [emb14, V_v8]

/-- The modulated row of a token, of the arguments' contents on core `c`. -/
def hAt (c : Dev nD) (b : Fin 2) (r : Fin 8192) : Fin 1024 → EReal :=
  modulated (fun d => m ((c : Thread nD τ).loc main_arg0) (ix3 b r d)) (fun d => m ((c : Thread nD τ).loc main_arg1) (ix3 b 0 (sixth 1 (by decide) d)))
    (fun d => m ((c : Thread nD τ).loc main_arg1) (ix3 b 0 (sixth 0 (by decide) d)))

/-- The row before a token's: the state's before the first. -/
def pAt (c : Dev nD) (b : Fin 2) (r : Fin 8192) (d : Fin 1024) : EReal :=
  if r.val = 0 then m ((c : Thread nD τ).loc main_arg2) (ix3 b 0 d) else hAt m c b ⟨r.val - 1, by omega⟩ d

/-- Row `n` of a token's mixed rows. -/
def mAt (c : Dev nD) (n : Fin 6) (b : Fin 2) (r : Fin 8192) : Fin 1024 → EReal :=
  mixed (hAt m c b r) (pAt m c b r) (fun d => m ((c : Thread nD τ).loc main_arg3) (ix2 n d))

/-- The array of `r`. -/
def GR (c : Dev nD) (i : S2x8192x1024.Idx) : EReal :=
  project (mAt m c 0 (i (0 : Fin 3)) (i (1 : Fin 3))) (fun d e => m ((c : Thread nD τ).loc main_arg4) (ix3 0 d e)) (i (2 : Fin 3))
/-- The array of the decay's logarithm. -/
def GW (c : Dev nD) (i : S2x8192x1024.Idx) : EReal :=
  logDecay (mAt m c 3 (i (0 : Fin 3)) (i (1 : Fin 3))) (fun d => m ((c : Thread nD τ).loc main_arg5) (ix1 d)) (fun d e => m ((c : Thread nD τ).loc main_arg6) (ix2 d e)) (fun d e => m ((c : Thread nD τ).loc main_arg7) (ix2 d e)) (i (2 : Fin 3))
/-- The array of the keys. -/
def GK (c : Dev nD) (i : S2x8192x1024.Idx) : EReal :=
  project (mAt m c 1 (i (0 : Fin 3)) (i (1 : Fin 3))) (fun d e => m ((c : Thread nD τ).loc main_arg4) (ix3 1 d e)) (i (2 : Fin 3))
/-- The array of the values. -/
def GV (c : Dev nD) (i : S2x8192x1024.Idx) : EReal :=
  project (mAt m c 2 (i (0 : Fin 3)) (i (1 : Fin 3))) (fun d e => m ((c : Thread nD τ).loc main_arg4) (ix3 2 d e)) (i (2 : Fin 3))
/-- The array of the rates. -/
def GA (c : Dev nD) (i : S2x8192x1024.Idx) : EReal :=
  rate (mAt m c 4 (i (0 : Fin 3)) (i (1 : Fin 3))) (fun d => m ((c : Thread nD τ).loc main_arg8) (ix1 d)) (fun d e => m ((c : Thread nD τ).loc main_arg9) (ix2 d e)) (fun d e => m ((c : Thread nD τ).loc main_arg10) (ix2 d e)) (i (2 : Fin 3))
/-- The array of the gates. -/
def GG (c : Dev nD) (i : S2x8192x1024.Idx) : EReal :=
  gate (mAt m c 5 (i (0 : Fin 3)) (i (1 : Fin 3))) (fun d e => m ((c : Thread nD τ).loc main_arg11) (ix2 d e)) (fun d e => m ((c : Thread nD τ).loc main_arg12) (ix2 d e)) (i (2 : Fin 3))
/-- The array of the last modulated row of each batch. -/
def GH (c : Dev nD) (i : S2x1x1024.Idx) : EReal := hAt m c (i (0 : Fin 3)) 8191 (i (2 : Fin 3))

theorem ix3_of (j : S1x512x1024.Idx) : ∃ (r : Fin 512) (k : Fin 1024), j = ix3 0 r k :=
  ⟨j (1 : Fin 3), j (2 : Fin 3), funext fun a => match a with
    | ⟨0, _⟩ => Fin.ext (by have h := (j (0 : Fin 3)).isLt; have h' : (j (0 : Fin 3)).val < 1 := h; show (j (0 : Fin 3)).val = 0; omega)
    | ⟨1, _⟩ => rfl
    | ⟨2, _⟩ => rfl⟩

theorem ix3_of' (j : S1x1x1024.Idx) : ∃ k : Fin 1024, j = ix3 0 0 k :=
  ⟨j (2 : Fin 3), funext fun a => match a with
    | ⟨0, _⟩ => Fin.ext (by have h := (j (0 : Fin 3)).isLt; have h' : (j (0 : Fin 3)).val < 1 := h; show (j (0 : Fin 3)).val = 0; omega)
    | ⟨1, _⟩ => Fin.ext (by have h := (j (1 : Fin 3)).isLt; have h' : (j (1 : Fin 3)).val < 1 := h; show (j (1 : Fin 3)).val = 0; omega)
    | ⟨2, _⟩ => rfl⟩

theorem hRow_eq (c : Dev nD) (t : Fin cfg0.N) (r : Fin 512) :
    hRow (iblk m c 0 t) (iblk m c 2 t) (iblk m c 3 t) r = hAt m c (bt t) (rt t r) := by
  funext k
  unfold hRow hAt
  simp only [iblk0, iblk2, iblk3]

theorem pRow_eq (c : Dev nD) (t : Fin cfg0.N) (r : Fin 512) :
    pRow (grid0.coords t) (iblk m c 0 t) (iblk m c 1 t) (iblk m c 2 t) (iblk m c 3 t) (iblk m c 4 t) r = pAt m c (bt t) (rt t r) := by
  funext k
  unfold pRow pAt
  rw [coord1 t, hRow_eq]
  by_cases hr : r.val = 0
  · rw [if_pos hr]
    by_cases ht : t.val % 16 = 0
    · rw [if_pos ht, if_pos (by show t.val % 16 * 512 + r.val = 0; omega), iblk4]
    · rw [if_neg ht, if_neg (by show ¬ t.val % 16 * 512 + r.val = 0; omega)]
      simp only [iblk1, iblk2, iblk3]
      exact congrArg (fun j => hAt m c (bt t) j k) (Fin.ext (by show (t.val % 16 * 64 - 1) * 8 + 7 = t.val % 16 * 512 + r.val - 1; omega))
  · rw [if_neg hr, if_neg (by show ¬ t.val % 16 * 512 + r.val = 0; omega)]
    exact congrArg (fun j => hAt m c (bt t) j k) (Fin.ext (by show t.val % 16 * 512 + (r.val - 1) = t.val % 16 * 512 + r.val - 1; omega))

theorem mRow_eq (c : Dev nD) (t : Fin cfg0.N) (r : Fin 512) (n : Fin 6) :
    mRow (grid0.coords t) (iblk m c 0 t) (iblk m c 1 t) (iblk m c 2 t) (iblk m c 3 t) (iblk m c 4 t) (iblk m c 5 t) r n = mAt m c n (bt t) (rt t r) := by
  unfold mRow mAt
  rw [hRow_eq, pRow_eq]
  simp only [iblk5]

/-- What grid point `t` writes back of `r` is block `t` of the array. -/
theorem flushed15_eq (c : Dev nD) (t : Fin cfg0.N) : (dats m 0 c).flushed 15 t = ((cfg0.win 15).blk t).view.read (Elt Ideal) (GR m c) := by
  rw [flushed15]
  funext j
  obtain ⟨r, k, rfl⟩ := ix3_of j
  show out0_15 (F := Ideal) _ _ _ _ _ _ _ _ _ _ _ _ _ _ _ _ (ix3 0 r k) = GR m c (((cfg0.win 15).blk t).view.emb (ix3 0 r k))
  rw [emb15, out15_apply, mRow_eq]
  simp only [iblk6]
  rfl

theorem covered15 (i : S2x8192x1024.Idx) : ∃ t : Fin cfg0.N, (cfg0.win 15).flush t = true ∧ i ∈ ((cfg0.win 15).blk t).view.set := by
  have h0 : (i (0 : Fin 3)).val < 2 := (i (0 : Fin 3)).isLt
  have h1 : (i (1 : Fin 3)).val < 8192 := (i (1 : Fin 3)).isLt
  let t : Fin cfg0.N := (⟨(i (0 : Fin 3)).val * 16 + (i (1 : Fin 3)).val / 512, by show _ < 32; omega⟩ : Fin 32)
  refine ⟨t, flush0_15 _, ?_⟩
  have e : ((cfg0.win 15).blk t).view.emb (ix3 (0 : Fin 1) (⟨(i (1 : Fin 3)).val % 512, by omega⟩ : Fin 512) (i (2 : Fin 3))) = i := by
    refine (emb15 t ⟨(i (1 : Fin 3)).val % 512, by omega⟩ (i (2 : Fin 3))).trans ?_
    funext a; apply Fin.ext
    match a with
    | ⟨0, _⟩ => show ((i (0 : Fin 3)).val * 16 + (i (1 : Fin 3)).val / 512) / 16 = (i (0 : Fin 3)).val; omega
    | ⟨1, _⟩ => show ((i (0 : Fin 3)).val * 16 + (i (1 : Fin 3)).val / 512) % 16 * 512 + (i (1 : Fin 3)).val % 512 = (i (1 : Fin 3)).val; omega
    | ⟨2, _⟩ => rfl
  have h := ((cfg0.win 15).blk t).view.emb_mem_set (ix3 (0 : Fin 1) (⟨(i (1 : Fin 3)).val % 512, by omega⟩ : Fin 512) (i (2 : Fin 3)))
  rwa [e] at h

theorem final15 (c : Dev nD) : (dats m 0 c).arrAt 15 cfg0.N = GR m c :=
  (dats m 0 c).arrAt_eq_of_cover 15 (GR m c) (fun t _ => flushed15_eq m c t) covered15

/-- What grid point `t` writes back of the decay's logarithm is block `t` of the array. -/
theorem flushed16_eq (c : Dev nD) (t : Fin cfg0.N) : (dats m 0 c).flushed 16 t = ((cfg0.win 16).blk t).view.read (Elt Ideal) (GW m c) := by
  rw [flushed16]
  funext j
  obtain ⟨r, k, rfl⟩ := ix3_of j
  show out0_16 (F := Ideal) _ _ _ _ _ _ _ _ _ _ _ _ _ _ _ _ (ix3 0 r k) = GW m c (((cfg0.win 16).blk t).view.emb (ix3 0 r k))
  rw [emb16, out16_apply, mRow_eq]
  simp only [iblk7, iblk8, iblk9]
  rfl

theorem covered16 (i : S2x8192x1024.Idx) : ∃ t : Fin cfg0.N, (cfg0.win 16).flush t = true ∧ i ∈ ((cfg0.win 16).blk t).view.set := by
  have h0 : (i (0 : Fin 3)).val < 2 := (i (0 : Fin 3)).isLt
  have h1 : (i (1 : Fin 3)).val < 8192 := (i (1 : Fin 3)).isLt
  let t : Fin cfg0.N := (⟨(i (0 : Fin 3)).val * 16 + (i (1 : Fin 3)).val / 512, by show _ < 32; omega⟩ : Fin 32)
  refine ⟨t, flush0_16 _, ?_⟩
  have e : ((cfg0.win 16).blk t).view.emb (ix3 (0 : Fin 1) (⟨(i (1 : Fin 3)).val % 512, by omega⟩ : Fin 512) (i (2 : Fin 3))) = i := by
    refine (emb16 t ⟨(i (1 : Fin 3)).val % 512, by omega⟩ (i (2 : Fin 3))).trans ?_
    funext a; apply Fin.ext
    match a with
    | ⟨0, _⟩ => show ((i (0 : Fin 3)).val * 16 + (i (1 : Fin 3)).val / 512) / 16 = (i (0 : Fin 3)).val; omega
    | ⟨1, _⟩ => show ((i (0 : Fin 3)).val * 16 + (i (1 : Fin 3)).val / 512) % 16 * 512 + (i (1 : Fin 3)).val % 512 = (i (1 : Fin 3)).val; omega
    | ⟨2, _⟩ => rfl
  have h := ((cfg0.win 16).blk t).view.emb_mem_set (ix3 (0 : Fin 1) (⟨(i (1 : Fin 3)).val % 512, by omega⟩ : Fin 512) (i (2 : Fin 3)))
  rwa [e] at h

theorem final16 (c : Dev nD) : (dats m 0 c).arrAt 16 cfg0.N = GW m c :=
  (dats m 0 c).arrAt_eq_of_cover 16 (GW m c) (fun t _ => flushed16_eq m c t) covered16

/-- What grid point `t` writes back of the keys is block `t` of the array. -/
theorem flushed17_eq (c : Dev nD) (t : Fin cfg0.N) : (dats m 0 c).flushed 17 t = ((cfg0.win 17).blk t).view.read (Elt Ideal) (GK m c) := by
  rw [flushed17]
  funext j
  obtain ⟨r, k, rfl⟩ := ix3_of j
  show out0_17 (F := Ideal) _ _ _ _ _ _ _ _ _ _ _ _ _ _ _ _ (ix3 0 r k) = GK m c (((cfg0.win 17).blk t).view.emb (ix3 0 r k))
  rw [emb17, out17_apply, mRow_eq]
  simp only [iblk6]
  rfl

theorem covered17 (i : S2x8192x1024.Idx) : ∃ t : Fin cfg0.N, (cfg0.win 17).flush t = true ∧ i ∈ ((cfg0.win 17).blk t).view.set := by
  have h0 : (i (0 : Fin 3)).val < 2 := (i (0 : Fin 3)).isLt
  have h1 : (i (1 : Fin 3)).val < 8192 := (i (1 : Fin 3)).isLt
  let t : Fin cfg0.N := (⟨(i (0 : Fin 3)).val * 16 + (i (1 : Fin 3)).val / 512, by show _ < 32; omega⟩ : Fin 32)
  refine ⟨t, flush0_17 _, ?_⟩
  have e : ((cfg0.win 17).blk t).view.emb (ix3 (0 : Fin 1) (⟨(i (1 : Fin 3)).val % 512, by omega⟩ : Fin 512) (i (2 : Fin 3))) = i := by
    refine (emb17 t ⟨(i (1 : Fin 3)).val % 512, by omega⟩ (i (2 : Fin 3))).trans ?_
    funext a; apply Fin.ext
    match a with
    | ⟨0, _⟩ => show ((i (0 : Fin 3)).val * 16 + (i (1 : Fin 3)).val / 512) / 16 = (i (0 : Fin 3)).val; omega
    | ⟨1, _⟩ => show ((i (0 : Fin 3)).val * 16 + (i (1 : Fin 3)).val / 512) % 16 * 512 + (i (1 : Fin 3)).val % 512 = (i (1 : Fin 3)).val; omega
    | ⟨2, _⟩ => rfl
  have h := ((cfg0.win 17).blk t).view.emb_mem_set (ix3 (0 : Fin 1) (⟨(i (1 : Fin 3)).val % 512, by omega⟩ : Fin 512) (i (2 : Fin 3)))
  rwa [e] at h

theorem final17 (c : Dev nD) : (dats m 0 c).arrAt 17 cfg0.N = GK m c :=
  (dats m 0 c).arrAt_eq_of_cover 17 (GK m c) (fun t _ => flushed17_eq m c t) covered17

/-- What grid point `t` writes back of the values is block `t` of the array. -/
theorem flushed18_eq (c : Dev nD) (t : Fin cfg0.N) : (dats m 0 c).flushed 18 t = ((cfg0.win 18).blk t).view.read (Elt Ideal) (GV m c) := by
  rw [flushed18]
  funext j
  obtain ⟨r, k, rfl⟩ := ix3_of j
  show out0_18 (F := Ideal) _ _ _ _ _ _ _ _ _ _ _ _ _ _ _ _ (ix3 0 r k) = GV m c (((cfg0.win 18).blk t).view.emb (ix3 0 r k))
  rw [emb18, out18_apply, mRow_eq]
  simp only [iblk6]
  rfl

theorem covered18 (i : S2x8192x1024.Idx) : ∃ t : Fin cfg0.N, (cfg0.win 18).flush t = true ∧ i ∈ ((cfg0.win 18).blk t).view.set := by
  have h0 : (i (0 : Fin 3)).val < 2 := (i (0 : Fin 3)).isLt
  have h1 : (i (1 : Fin 3)).val < 8192 := (i (1 : Fin 3)).isLt
  let t : Fin cfg0.N := (⟨(i (0 : Fin 3)).val * 16 + (i (1 : Fin 3)).val / 512, by show _ < 32; omega⟩ : Fin 32)
  refine ⟨t, flush0_18 _, ?_⟩
  have e : ((cfg0.win 18).blk t).view.emb (ix3 (0 : Fin 1) (⟨(i (1 : Fin 3)).val % 512, by omega⟩ : Fin 512) (i (2 : Fin 3))) = i := by
    refine (emb18 t ⟨(i (1 : Fin 3)).val % 512, by omega⟩ (i (2 : Fin 3))).trans ?_
    funext a; apply Fin.ext
    match a with
    | ⟨0, _⟩ => show ((i (0 : Fin 3)).val * 16 + (i (1 : Fin 3)).val / 512) / 16 = (i (0 : Fin 3)).val; omega
    | ⟨1, _⟩ => show ((i (0 : Fin 3)).val * 16 + (i (1 : Fin 3)).val / 512) % 16 * 512 + (i (1 : Fin 3)).val % 512 = (i (1 : Fin 3)).val; omega
    | ⟨2, _⟩ => rfl
  have h := ((cfg0.win 18).blk t).view.emb_mem_set (ix3 (0 : Fin 1) (⟨(i (1 : Fin 3)).val % 512, by omega⟩ : Fin 512) (i (2 : Fin 3)))
  rwa [e] at h

theorem final18 (c : Dev nD) : (dats m 0 c).arrAt 18 cfg0.N = GV m c :=
  (dats m 0 c).arrAt_eq_of_cover 18 (GV m c) (fun t _ => flushed18_eq m c t) covered18

/-- What grid point `t` writes back of the rates is block `t` of the array. -/
theorem flushed19_eq (c : Dev nD) (t : Fin cfg0.N) : (dats m 0 c).flushed 19 t = ((cfg0.win 19).blk t).view.read (Elt Ideal) (GA m c) := by
  rw [flushed19]
  funext j
  obtain ⟨r, k, rfl⟩ := ix3_of j
  show out0_19 (F := Ideal) _ _ _ _ _ _ _ _ _ _ _ _ _ _ _ _ (ix3 0 r k) = GA m c (((cfg0.win 19).blk t).view.emb (ix3 0 r k))
  rw [emb19, out19_apply, mRow_eq]
  simp only [iblk10, iblk11, iblk12]
  rfl

theorem covered19 (i : S2x8192x1024.Idx) : ∃ t : Fin cfg0.N, (cfg0.win 19).flush t = true ∧ i ∈ ((cfg0.win 19).blk t).view.set := by
  have h0 : (i (0 : Fin 3)).val < 2 := (i (0 : Fin 3)).isLt
  have h1 : (i (1 : Fin 3)).val < 8192 := (i (1 : Fin 3)).isLt
  let t : Fin cfg0.N := (⟨(i (0 : Fin 3)).val * 16 + (i (1 : Fin 3)).val / 512, by show _ < 32; omega⟩ : Fin 32)
  refine ⟨t, flush0_19 _, ?_⟩
  have e : ((cfg0.win 19).blk t).view.emb (ix3 (0 : Fin 1) (⟨(i (1 : Fin 3)).val % 512, by omega⟩ : Fin 512) (i (2 : Fin 3))) = i := by
    refine (emb19 t ⟨(i (1 : Fin 3)).val % 512, by omega⟩ (i (2 : Fin 3))).trans ?_
    funext a; apply Fin.ext
    match a with
    | ⟨0, _⟩ => show ((i (0 : Fin 3)).val * 16 + (i (1 : Fin 3)).val / 512) / 16 = (i (0 : Fin 3)).val; omega
    | ⟨1, _⟩ => show ((i (0 : Fin 3)).val * 16 + (i (1 : Fin 3)).val / 512) % 16 * 512 + (i (1 : Fin 3)).val % 512 = (i (1 : Fin 3)).val; omega
    | ⟨2, _⟩ => rfl
  have h := ((cfg0.win 19).blk t).view.emb_mem_set (ix3 (0 : Fin 1) (⟨(i (1 : Fin 3)).val % 512, by omega⟩ : Fin 512) (i (2 : Fin 3)))
  rwa [e] at h

theorem final19 (c : Dev nD) : (dats m 0 c).arrAt 19 cfg0.N = GA m c :=
  (dats m 0 c).arrAt_eq_of_cover 19 (GA m c) (fun t _ => flushed19_eq m c t) covered19

/-- What grid point `t` writes back of the gates is block `t` of the array. -/
theorem flushed20_eq (c : Dev nD) (t : Fin cfg0.N) : (dats m 0 c).flushed 20 t = ((cfg0.win 20).blk t).view.read (Elt Ideal) (GG m c) := by
  rw [flushed20]
  funext j
  obtain ⟨r, k, rfl⟩ := ix3_of j
  show out0_20 (F := Ideal) _ _ _ _ _ _ _ _ _ _ _ _ _ _ _ _ (ix3 0 r k) = GG m c (((cfg0.win 20).blk t).view.emb (ix3 0 r k))
  rw [emb20, out20_apply, mRow_eq]
  simp only [iblk13, iblk14]
  rfl

theorem covered20 (i : S2x8192x1024.Idx) : ∃ t : Fin cfg0.N, (cfg0.win 20).flush t = true ∧ i ∈ ((cfg0.win 20).blk t).view.set := by
  have h0 : (i (0 : Fin 3)).val < 2 := (i (0 : Fin 3)).isLt
  have h1 : (i (1 : Fin 3)).val < 8192 := (i (1 : Fin 3)).isLt
  let t : Fin cfg0.N := (⟨(i (0 : Fin 3)).val * 16 + (i (1 : Fin 3)).val / 512, by show _ < 32; omega⟩ : Fin 32)
  refine ⟨t, flush0_20 _, ?_⟩
  have e : ((cfg0.win 20).blk t).view.emb (ix3 (0 : Fin 1) (⟨(i (1 : Fin 3)).val % 512, by omega⟩ : Fin 512) (i (2 : Fin 3))) = i := by
    refine (emb20 t ⟨(i (1 : Fin 3)).val % 512, by omega⟩ (i (2 : Fin 3))).trans ?_
    funext a; apply Fin.ext
    match a with
    | ⟨0, _⟩ => show ((i (0 : Fin 3)).val * 16 + (i (1 : Fin 3)).val / 512) / 16 = (i (0 : Fin 3)).val; omega
    | ⟨1, _⟩ => show ((i (0 : Fin 3)).val * 16 + (i (1 : Fin 3)).val / 512) % 16 * 512 + (i (1 : Fin 3)).val % 512 = (i (1 : Fin 3)).val; omega
    | ⟨2, _⟩ => rfl
  have h := ((cfg0.win 20).blk t).view.emb_mem_set (ix3 (0 : Fin 1) (⟨(i (1 : Fin 3)).val % 512, by omega⟩ : Fin 512) (i (2 : Fin 3)))
  rwa [e] at h

theorem final20 (c : Dev nD) : (dats m 0 c).arrAt 20 cfg0.N = GG m c :=
  (dats m 0 c).arrAt_eq_of_cover 20 (GG m c) (fun t _ => flushed20_eq m c t) covered20

/-- What grid point `t` writes back of the modulated rows is block `t` of the array. -/
theorem flushed21_eq (c : Dev nD) (t : Fin cfg0.N) (ht : (cfg0.win 21).flush t = true) : (dats m 0 c).flushed 21 t = ((cfg0.win 21).blk t).view.read (Elt Ideal) (GH m c) := by
  rw [flushed21]
  funext j
  have ht' : t.val % 16 = 15 := (flush0_21 t).mp ht
  obtain ⟨k, rfl⟩ := ix3_of' j
  show out0_21 (F := Ideal) _ _ _ _ _ _ _ _ _ _ _ _ _ _ _ _ (ix3 0 0 k) = GH m c (((cfg0.win 21).blk t).view.emb (ix3 0 0 k))
  rw [emb21, out21_apply, hRow_eq]
  exact congrArg (fun j => hAt m c (bt t) j k) (Fin.ext (by show t.val % 16 * 512 + 511 = 8191; omega))

theorem covered21 (i : S2x1x1024.Idx) : ∃ t : Fin cfg0.N, (cfg0.win 21).flush t = true ∧ i ∈ ((cfg0.win 21).blk t).view.set := by
  have h0 : (i (0 : Fin 3)).val < 2 := (i (0 : Fin 3)).isLt
  have h1 : (i (1 : Fin 3)).val < 1 := (i (1 : Fin 3)).isLt
  let t : Fin cfg0.N := (⟨(i (0 : Fin 3)).val * 16 + 15, by show _ < 32; omega⟩ : Fin 32)
  refine ⟨t, (flush0_21 t).mpr (by show ((i (0 : Fin 3)).val * 16 + 15) % 16 = 15; omega), ?_⟩
  have e : ((cfg0.win 21).blk t).view.emb (ix3 (0 : Fin 1) (0 : Fin 1) (i (2 : Fin 3))) = i := by
    refine (emb21 t (i (2 : Fin 3))).trans ?_
    funext a; apply Fin.ext
    match a with
    | ⟨0, _⟩ => show ((i (0 : Fin 3)).val * 16 + 15) / 16 = (i (0 : Fin 3)).val; omega
    | ⟨1, _⟩ => show 0 = (i (1 : Fin 3)).val; omega
    | ⟨2, _⟩ => rfl
  have h := ((cfg0.win 21).blk t).view.emb_mem_set (ix3 (0 : Fin 1) (0 : Fin 1) (i (2 : Fin 3)))
  rwa [e] at h

theorem final21 (c : Dev nD) : (dats m 0 c).arrAt 21 cfg0.N = GH m c :=
  (dats m 0 c).arrAt_eq_of_cover 21 (GH m c) (fun t ht => flushed21_eq m c t ht) covered21

end Cert.Kernel7Ideal.Hand

end
-- ==== Proof.Proj.PromptRef.lean ====
/-
  The reference of the projections of the time mixing at an index (the prompt).
-/
module

public import proofs.«01_k».proof.Proof.Gen.Reference7Ideal.Read
public import proofs.«01_k».proof.Proof.Proj.Row

@[expose] public section

set_option maxRecDepth 16384

noncomputable section

namespace Cert.Reference7Ideal.Hand

open Cert.Reference7Ideal Cert.Reference7Ideal.Gen Cert.Reference7Ideal.Read Cert.Proj
open Idealize.ShloMosaic

variable (x0 : (⟨S2x8192x1024, .f32⟩ : BufTy).Contents (Elt Ideal)) (x1 : (⟨S2x1x6144, .f32⟩ : BufTy).Contents (Elt Ideal))
  (x2 : (⟨S2x1x1024, .f32⟩ : BufTy).Contents (Elt Ideal)) (x3 : (⟨S6x1024, .f32⟩ : BufTy).Contents (Elt Ideal)) (x4 : (⟨S3x1024x1024, .f32⟩ : BufTy).Contents (Elt Ideal))
  (x5 : (⟨S1024, .f32⟩ : BufTy).Contents (Elt Ideal)) (x6 : (⟨S1024x64, .f32⟩ : BufTy).Contents (Elt Ideal))
  (x7 : (⟨S64x1024, .f32⟩ : BufTy).Contents (Elt Ideal)) (x8 : (⟨S1024, .f32⟩ : BufTy).Contents (Elt Ideal))
  (x9 : (⟨S1024x64, .f32⟩ : BufTy).Contents (Elt Ideal)) (x10 : (⟨S64x1024, .f32⟩ : BufTy).Contents (Elt Ideal))
  (x11 : (⟨S1024x160, .f32⟩ : BufTy).Contents (Elt Ideal)) (x12 : (⟨S160x1024, .f32⟩ : BufTy).Contents (Elt Ideal))
  (b : Fin 2) (r : Fin 8192) (c : Fin 1024)

/-- The modulated row of a token. -/
def hAt (b : Fin 2) (r : Fin 8192) : Fin 1024 → EReal :=
  modulated (fun d => x0 (ix3 b r d)) (fun d => x1 (ix3 b 0 (sixth 1 (by decide) d))) (fun d => x1 (ix3 b 0 (sixth 0 (by decide) d)))

/-- The row before a token's: the state's before the first. -/
def pAt (b : Fin 2) (r : Fin 8192) (d : Fin 1024) : EReal :=
  if r.val = 0 then x2 (ix3 b 0 d) else hAt x0 x1 b ⟨r.val - 1, by omega⟩ d

theorem h_apply : val_main_v11 (F := Ideal) x0 x1 (ix3 b r c) = hAt x0 x1 b r c := by
  unfold val_main_v11 val_main_v10 val_main_v9 val_main_v8 val_main_v7 val_main_v6 val_main_cst val_main_v1 val_main_v0
  pointwise
  exact congrArg (fun j => x0 (ix3 b r c) * (1 + x1 (ix3 b 0 (sixth 1 (by decide) c))) + x1 (ix3 b 0 j))
    (Fin.ext (by show c.val = 0 * 1024 + c.val; omega))

theorem p_apply : val_main_v13 (F := Ideal) x0 x1 x2 (ix3 b r c) = pAt x0 x1 x2 b r c := by
  unfold val_main_v13 val_main_v12 pAt
  have e := fun r => h_apply x0 x1 b r c
  generalize val_main_v11 (F := Ideal) x0 x1 = h at e ⊢
  pointwise
  by_cases hr : r.val = 0
  · rw [dif_pos (by omega), if_pos hr]
    exact congrArg (fun j => x2 (ix3 b j c)) (Fin.ext hr)
  · rw [dif_neg (by omega), if_neg hr]
    exact e _

theorem d_apply : val_main_v14 (F := Ideal) x0 x1 x2 (ix3 b r c) = pAt x0 x1 x2 b r c - hAt x0 x1 b r c := by
  rw [val_main_v14_apply, p_apply, h_apply]
  rfl

theorem xs_apply (i : Fin 6) : val_main_v22 (F := Ideal) x0 x1 x2 x3 (ix4 i b r c) = (mixed (hAt x0 x1 b r) (pAt x0 x1 x2 b r) fun d => x3 (ix2 i d)) c := by
  have e : val_main_v22 (F := Ideal) x0 x1 x2 x3 (ix4 i b r c)
      = val_main_v11 (F := Ideal) x0 x1 (ix3 b r c) + val_main_v14 (F := Ideal) x0 x1 x2 (ix3 b r c) * x3 (ix2 i c) := by
    unfold val_main_v22 val_main_v21 val_main_v20 val_main_v19 val_main_v18 val_main_v17 val_main_v16 val_main_v15
    generalize val_main_v11 (F := Ideal) x0 x1 = h
    generalize val_main_v14 (F := Ideal) x0 x1 x2 = q
    pointwise
  rw [e, h_apply, d_apply]
  rfl

theorem idx26_eq : idx_main_v26 (ix3 b r c) = ix4 0 b r c := by
  funext a; apply Fin.ext
  match a with
  | ⟨0, _⟩ => rfl
  | ⟨1, _⟩ => show ((b.val * 8192 + r.val) * 1024 + c.val) / 8388608 % 2 = b.val; omega
  | ⟨2, _⟩ => show ((b.val * 8192 + r.val) * 1024 + c.val) / 1024 % 8192 = r.val; omega
  | ⟨3, _⟩ => show ((b.val * 8192 + r.val) * 1024 + c.val) % 1024 = c.val; omega

theorem v26_apply : val_main_v26 (F := Ideal) x0 x1 x2 x3 x4 (ix3 b r c) = project (mixed (hAt x0 x1 b r) (pAt x0 x1 x2 b r) fun d => x3 (ix2 0 d)) (fun d e => x4 (ix3 0 d e)) c := by
  rw [val_main_v26_apply, idx26_eq]
  unfold val_main_v25 val_main_v24 val_main_v23
  have e := fun d => xs_apply x0 x1 x2 x3 b r d 0
  generalize val_main_v22 (F := Ideal) x0 x1 x2 x3 = y at e ⊢
  pointwise [dot_S3x2x8192x1024_S3x1024x1024_S3x2x8192x1024_3_1_12_2_0_0]
  exact Finset.sum_congr rfl fun d _ => congrArg (· * x4 (ix3 0 d c)) (e d)

theorem idx28_eq : idx_main_v28 (ix3 b r c) = ix4 0 b r c := by
  funext a; apply Fin.ext
  match a with
  | ⟨0, _⟩ => rfl
  | ⟨1, _⟩ => show ((b.val * 8192 + r.val) * 1024 + c.val) / 8388608 % 2 = b.val; omega
  | ⟨2, _⟩ => show ((b.val * 8192 + r.val) * 1024 + c.val) / 1024 % 8192 = r.val; omega
  | ⟨3, _⟩ => show ((b.val * 8192 + r.val) * 1024 + c.val) % 1024 = c.val; omega

theorem v28_apply : val_main_v28 (F := Ideal) x0 x1 x2 x3 x4 (ix3 b r c) = project (mixed (hAt x0 x1 b r) (pAt x0 x1 x2 b r) fun d => x3 (ix2 1 d)) (fun d e => x4 (ix3 1 d e)) c := by
  rw [val_main_v28_apply, idx28_eq]
  unfold val_main_v27 val_main_v24 val_main_v23
  have e := fun d => xs_apply x0 x1 x2 x3 b r d 1
  generalize val_main_v22 (F := Ideal) x0 x1 x2 x3 = y at e ⊢
  pointwise [dot_S3x2x8192x1024_S3x1024x1024_S3x2x8192x1024_3_1_12_2_0_0]
  exact Finset.sum_congr rfl fun d _ => congrArg (· * x4 (ix3 1 d c)) (e d)

theorem idx30_eq : idx_main_v30 (ix3 b r c) = ix4 0 b r c := by
  funext a; apply Fin.ext
  match a with
  | ⟨0, _⟩ => rfl
  | ⟨1, _⟩ => show ((b.val * 8192 + r.val) * 1024 + c.val) / 8388608 % 2 = b.val; omega
  | ⟨2, _⟩ => show ((b.val * 8192 + r.val) * 1024 + c.val) / 1024 % 8192 = r.val; omega
  | ⟨3, _⟩ => show ((b.val * 8192 + r.val) * 1024 + c.val) % 1024 = c.val; omega

theorem v30_apply : val_main_v30 (F := Ideal) x0 x1 x2 x3 x4 (ix3 b r c) = project (mixed (hAt x0 x1 b r) (pAt x0 x1 x2 b r) fun d => x3 (ix2 2 d)) (fun d e => x4 (ix3 2 d e)) c := by
  rw [val_main_v30_apply, idx30_eq]
  unfold val_main_v29 val_main_v24 val_main_v23
  have e := fun d => xs_apply x0 x1 x2 x3 b r d 2
  generalize val_main_v22 (F := Ideal) x0 x1 x2 x3 = y at e ⊢
  pointwise [dot_S3x2x8192x1024_S3x1024x1024_S3x2x8192x1024_3_1_12_2_0_0]
  exact Finset.sum_congr rfl fun d _ => congrArg (· * x4 (ix3 2 d c)) (e d)

theorem idx32_eq : idx_main_v32 (ix3 b r c) = ix4 0 b r c := by
  funext a; apply Fin.ext
  match a with
  | ⟨0, _⟩ => rfl
  | ⟨1, _⟩ => show ((b.val * 8192 + r.val) * 1024 + c.val) / 8388608 % 2 = b.val; omega
  | ⟨2, _⟩ => show ((b.val * 8192 + r.val) * 1024 + c.val) / 1024 % 8192 = r.val; omega
  | ⟨3, _⟩ => show ((b.val * 8192 + r.val) * 1024 + c.val) % 1024 = c.val; omega

theorem v32_apply : val_main_v32 (F := Ideal) x0 x1 x2 x3 (ix3 b r c) = (mixed (hAt x0 x1 b r) (pAt x0 x1 x2 b r) fun d => x3 (ix2 3 d)) c := by
  rw [val_main_v32_apply, idx32_eq]
  unfold val_main_v31
  have e := xs_apply x0 x1 x2 x3 b r c 3
  generalize val_main_v22 (F := Ideal) x0 x1 x2 x3 = y at e ⊢
  pointwise
  exact e

theorem idx34_eq : idx_main_v34 (ix3 b r c) = ix4 0 b r c := by
  funext a; apply Fin.ext
  match a with
  | ⟨0, _⟩ => rfl
  | ⟨1, _⟩ => show ((b.val * 8192 + r.val) * 1024 + c.val) / 8388608 % 2 = b.val; omega
  | ⟨2, _⟩ => show ((b.val * 8192 + r.val) * 1024 + c.val) / 1024 % 8192 = r.val; omega
  | ⟨3, _⟩ => show ((b.val * 8192 + r.val) * 1024 + c.val) % 1024 = c.val; omega

theorem v34_apply : val_main_v34 (F := Ideal) x0 x1 x2 x3 (ix3 b r c) = (mixed (hAt x0 x1 b r) (pAt x0 x1 x2 b r) fun d => x3 (ix2 4 d)) c := by
  rw [val_main_v34_apply, idx34_eq]
  unfold val_main_v33
  have e := xs_apply x0 x1 x2 x3 b r c 4
  generalize val_main_v22 (F := Ideal) x0 x1 x2 x3 = y at e ⊢
  pointwise
  exact e

theorem idx36_eq : idx_main_v36 (ix3 b r c) = ix4 0 b r c := by
  funext a; apply Fin.ext
  match a with
  | ⟨0, _⟩ => rfl
  | ⟨1, _⟩ => show ((b.val * 8192 + r.val) * 1024 + c.val) / 8388608 % 2 = b.val; omega
  | ⟨2, _⟩ => show ((b.val * 8192 + r.val) * 1024 + c.val) / 1024 % 8192 = r.val; omega
  | ⟨3, _⟩ => show ((b.val * 8192 + r.val) * 1024 + c.val) % 1024 = c.val; omega

theorem v36_apply : val_main_v36 (F := Ideal) x0 x1 x2 x3 (ix3 b r c) = (mixed (hAt x0 x1 b r) (pAt x0 x1 x2 b r) fun d => x3 (ix2 5 d)) c := by
  rw [val_main_v36_apply, idx36_eq]
  unfold val_main_v35
  have e := xs_apply x0 x1 x2 x3 b r c 5
  generalize val_main_v22 (F := Ideal) x0 x1 x2 x3 = y at e ⊢
  pointwise
  exact e

theorem v42_apply : val_main_v42 (F := Ideal) x0 x1 x2 x3 x5 x6 x7 (ix3 b r c)
    = x5 (ix1 c) + project (fun e => Ideal.tanh (project (mixed (hAt x0 x1 b r) (pAt x0 x1 x2 b r) fun d => x3 (ix2 3 d)) (fun d e => x6 (ix2 d e)) e)) (fun d e => x7 (ix2 d e)) c := by
  unfold val_main_v42 val_main_v41 val_main_v40 val_main_v39 val_main_v38 val_main_v37
  have e := fun d => v32_apply x0 x1 x2 x3 b r d
  generalize val_main_v32 (F := Ideal) x0 x1 x2 x3 = y at e ⊢
  pointwise [dot_S2x8192x1024_S1024x64_S2x8192x64_2_0_01_1_n_n, dot_S2x8192x64_S64x1024_S2x8192x1024_2_0_01_1_n_n]
  simp only [e]
  rfl

theorem v44_apply : val_main_v44 (F := Ideal) x0 x1 x2 x3 x5 x6 x7 (ix3 b r c)
    = softplus (-(val_main_v42 (F := Ideal) x0 x1 x2 x3 x5 x6 x7 (ix3 b r c))) := by
  unfold val_main_v44 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_cst val_main_v43
  generalize val_main_v42 (F := Ideal) x0 x1 x2 x3 x5 x6 x7 = y
  pointwise
  exact if_neg (not_not.mpr rfl)

/-- The logarithm of the decay. -/
theorem v69_apply : val_main_v69 (F := Ideal) x0 x1 x2 x3 x5 x6 x7 (ix3 b r c)
    = logDecay (mixed (hAt x0 x1 b r) (pAt x0 x1 x2 b r) fun d => x3 (ix2 3 d)) (fun c => x5 (ix1 c)) (fun d e => x6 (ix2 d e)) (fun d e => x7 (ix2 d e)) c := by
  unfold val_main_v69 val_main_v68 val_main_v47 val_main_v46 val_main_v45 val_main_cst_0
  have e := v44_apply x0 x1 x2 x3 x5 x6 x7 b r c
  rw [v42_apply] at e
  generalize val_main_v44 (F := Ideal) x0 x1 x2 x3 x5 x6 x7 = y at e ⊢
  pointwise
  rw [e]
  rfl

/-- The rates. -/
theorem v72_apply : val_main_v72 (F := Ideal) x0 x1 x2 x3 x8 x9 x10 (ix3 b r c)
    = rate (mixed (hAt x0 x1 b r) (pAt x0 x1 x2 b r) fun d => x3 (ix2 4 d)) (fun c => x8 (ix1 c)) (fun d e => x9 (ix2 d e)) (fun d e => x10 (ix2 d e)) c := by
  unfold val_main_v72 val_main_v58 val_main_v57 val_main_v56 val_main_v55 val_main_v54 val_main_v53 val_main_v52 val_main_v51 val_main_v50 val_main_v49 val_main_v48 val_main_cst_1 val_main_cst_2
  have e := fun d => v34_apply x0 x1 x2 x3 b r d
  generalize val_main_v34 (F := Ideal) x0 x1 x2 x3 = y at e ⊢
  pointwise [dot_S2x8192x1024_S1024x64_S2x8192x64_2_0_01_1_n_n, dot_S2x8192x64_S64x1024_S2x8192x1024_2_0_01_1_n_n]
  simp only [e]
  rfl

/-- The gates. -/
theorem v73_apply : val_main_v73 (F := Ideal) x0 x1 x2 x3 x11 x12 (ix3 b r c)
    = gate (mixed (hAt x0 x1 b r) (pAt x0 x1 x2 b r) fun d => x3 (ix2 5 d)) (fun d e => x11 (ix2 d e)) (fun d e => x12 (ix2 d e)) c := by
  unfold val_main_v73 val_main_v66 val_main_v65 val_main_v64 val_main_v63 val_main_v62 val_main_v61 val_main_v60 val_main_v59 val_main_cst_3 val_main_cst_4
  have e := fun d => v36_apply x0 x1 x2 x3 b r d
  generalize val_main_v36 (F := Ideal) x0 x1 x2 x3 = y at e ⊢
  pointwise [dot_S2x8192x1024_S1024x160_S2x8192x160_2_0_01_1_n_n, dot_S2x8192x160_S160x1024_S2x8192x1024_2_0_01_1_n_n]
  simp only [e]
  rfl

/-- `r`. -/
theorem v67_apply : val_main_v67 (F := Ideal) x0 x1 x2 x3 x4 (ix3 b r c) = project (mixed (hAt x0 x1 b r) (pAt x0 x1 x2 b r) fun d => x3 (ix2 0 d)) (fun d e => x4 (ix3 0 d e)) c :=
  v26_apply x0 x1 x2 x3 x4 b r c

/-- The keys. -/
theorem v70_apply : val_main_v70 (F := Ideal) x0 x1 x2 x3 x4 (ix3 b r c) = project (mixed (hAt x0 x1 b r) (pAt x0 x1 x2 b r) fun d => x3 (ix2 1 d)) (fun d e => x4 (ix3 1 d e)) c :=
  v28_apply x0 x1 x2 x3 x4 b r c

/-- The values. -/
theorem v71_apply : val_main_v71 (F := Ideal) x0 x1 x2 x3 x4 (ix3 b r c) = project (mixed (hAt x0 x1 b r) (pAt x0 x1 x2 b r) fun d => x3 (ix2 2 d)) (fun d e => x4 (ix3 2 d e)) c :=
  v30_apply x0 x1 x2 x3 x4 b r c

/-- The last row. -/
theorem v74_apply : val_main_v74 (F := Ideal) x0 x1 (ix3 b 0 c) = hAt x0 x1 b 8191 c := by
  unfold val_main_v74
  have e := h_apply x0 x1 b 8191 c
  generalize val_main_v11 (F := Ideal) x0 x1 = y at e ⊢
  pointwise
  exact e

end Cert.Reference7Ideal.Hand

end
-- ==== Proof.Proj.PromptClaims.lean ====
/-
  The claims about the projections of the time mixing (the prompt): the frames, and that over the extended reals the call and its reference
  return the same arrays.
-/
module

public import proofs.«01_k».proof.Defs
public import proofs.«01_k».proof.Proof.Gen.Kernel7.Frame
public import proofs.«01_k».proof.Proof.Gen.Reference7Ideal.Run
public import proofs.«01_k».proof.Proof.Proj.PromptArray
public import proofs.«01_k».proof.Proof.Proj.PromptRef

@[expose] public section

set_option maxRecDepth 16384

noncomputable section

namespace Cert.Proj.Prompt

open Idealize.ShloMosaic Idealize.SL.Sem

local instance : Cert.Kernel7.Facts := Cert.Kernel7.Gen.facts
local instance : Cert.Kernel7Ideal.Facts := Cert.Kernel7Ideal.Gen.facts
local instance : Cert.Reference7Ideal.Facts := Cert.Reference7Ideal.Gen.facts

theorem frame_kernel : Cert.quiescent_Kernel7 := fun m ρ _ => Cert.Kernel7.Gen.frame (F := Bits) m ρ

theorem frame_ideal : Cert.quiescent_Kernel7Ideal := fun m ρ _ => Cert.Kernel7Ideal.Gen.frame (F := Ideal) m ρ

theorem frame_reference : Cert.quiescent_Reference7Ideal := fun m ρ _ =>
  (θ_run Cert.Reference7Ideal.defs _ _).mono (fun r h => ⟨fun c => (h c).2.2.2.2.2.2.2,
      Idealize.ShloMosaic.sem_eq_zero_of_no_sems (by decide) r.2⟩)
    (Cert.Reference7Ideal.Value.run (F := Ideal) m ρ)

theorem ix3_of (i : Cert.Kernel7Ideal.S2x8192x1024.Idx) : ∃ (b : Fin 2) (t : Fin 8192) (k : Fin 1024), i = ix3 b t k :=
  ⟨i (0 : Fin 3), i (1 : Fin 3), i (2 : Fin 3), funext fun a => match a with
    | ⟨0, _⟩ => rfl
    | ⟨1, _⟩ => rfl
    | ⟨2, _⟩ => rfl⟩

theorem ix3_of' (i : Cert.Kernel7Ideal.S2x1x1024.Idx) : ∃ (b : Fin 2) (k : Fin 1024), i = ix3 b 0 k :=
  ⟨i (0 : Fin 3), i (2 : Fin 3), funext fun a => match a with
    | ⟨0, _⟩ => rfl
    | ⟨1, _⟩ => Fin.ext (by have h := (i (1 : Fin 3)).isLt; have h' : (i (1 : Fin 3)).val < 1 := h; show (i (1 : Fin 3)).val = 0; omega)
    | ⟨2, _⟩ => rfl⟩

set_option maxHeartbeats 4000000 in
theorem algebraic : Cert.algebraic_Kernel7Ideal_Reference7Ideal := by
  intro m g m' g' _ hm
  refine ⟨fun c => Cert.Kernel7Ideal.Hand.GR m c, fun c => Cert.Kernel7Ideal.Hand.GW m c, fun c => Cert.Kernel7Ideal.Hand.GK m c, fun c => Cert.Kernel7Ideal.Hand.GV m c, fun c => Cert.Kernel7Ideal.Hand.GA m c, fun c => Cert.Kernel7Ideal.Hand.GG m c, fun c => Cert.Kernel7Ideal.Hand.GH m c,
    (θ_run Cert.Kernel7Ideal.defs _ _).mono
      (fun r h c => ⟨(h c).1.trans (Cert.Kernel7Ideal.Hand.final15 m c), (h c).2.1.trans (Cert.Kernel7Ideal.Hand.final16 m c), (h c).2.2.1.trans (Cert.Kernel7Ideal.Hand.final17 m c), (h c).2.2.2.1.trans (Cert.Kernel7Ideal.Hand.final18 m c), (h c).2.2.2.2.1.trans (Cert.Kernel7Ideal.Hand.final19 m c), (h c).2.2.2.2.2.1.trans (Cert.Kernel7Ideal.Hand.final20 m c), (h c).2.2.2.2.2.2.1.trans (Cert.Kernel7Ideal.Hand.final21 m c), (h c).2.2.2.2.2.2.2⟩)
      (Cert.Kernel7Ideal.Value.run_blocks (F := Ideal) m g),
    (θ_run Cert.Reference7Ideal.defs _ _).mono
      (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
      (Cert.Reference7Ideal.Value.run (F := Ideal) m' g')⟩
  · rw [Cert.Reference7Ideal.Read.val_main_v67_eq]
    obtain ⟨h0, h1, h2, h3, h4, h5, h6, h7, h8, h9, h10, h11, h12⟩ := hm c
    rw [h0, h1, h2, h3, h4]
    funext i
    obtain ⟨b, t, k, rfl⟩ := ix3_of i
    exact Cert.Reference7Ideal.Hand.v67_apply ..
  · rw [Cert.Reference7Ideal.Read.val_main_v69_eq]
    obtain ⟨h0, h1, h2, h3, h4, h5, h6, h7, h8, h9, h10, h11, h12⟩ := hm c
    rw [h0, h1, h2, h3, h5, h6, h7]
    funext i
    obtain ⟨b, t, k, rfl⟩ := ix3_of i
    exact Cert.Reference7Ideal.Hand.v69_apply ..
  · rw [Cert.Reference7Ideal.Read.val_main_v70_eq]
    obtain ⟨h0, h1, h2, h3, h4, h5, h6, h7, h8, h9, h10, h11, h12⟩ := hm c
    rw [h0, h1, h2, h3, h4]
    funext i
    obtain ⟨b, t, k, rfl⟩ := ix3_of i
    exact Cert.Reference7Ideal.Hand.v70_apply ..
  · rw [Cert.Reference7Ideal.Read.val_main_v71_eq]
    obtain ⟨h0, h1, h2, h3, h4, h5, h6, h7, h8, h9, h10, h11, h12⟩ := hm c
    rw [h0, h1, h2, h3, h4]
    funext i
    obtain ⟨b, t, k, rfl⟩ := ix3_of i
    exact Cert.Reference7Ideal.Hand.v71_apply ..
  · rw [Cert.Reference7Ideal.Read.val_main_v72_eq]
    obtain ⟨h0, h1, h2, h3, h4, h5, h6, h7, h8, h9, h10, h11, h12⟩ := hm c
    rw [h0, h1, h2, h3, h8, h9, h10]
    funext i
    obtain ⟨b, t, k, rfl⟩ := ix3_of i
    exact Cert.Reference7Ideal.Hand.v72_apply ..
  · rw [Cert.Reference7Ideal.Read.val_main_v73_eq]
    obtain ⟨h0, h1, h2, h3, h4, h5, h6, h7, h8, h9, h10, h11, h12⟩ := hm c
    rw [h0, h1, h2, h3, h11, h12]
    funext i
    obtain ⟨b, t, k, rfl⟩ := ix3_of i
    exact Cert.Reference7Ideal.Hand.v73_apply ..
  · rw [Cert.Reference7Ideal.Read.val_main_v74_eq]
    obtain ⟨h0, h1, h2, h3, h4, h5, h6, h7, h8, h9, h10, h11, h12⟩ := hm c
    rw [h0, h1]
    funext i
    obtain ⟨b, k, rfl⟩ := ix3_of' i
    exact Cert.Reference7Ideal.Hand.v74_apply ..

end Cert.Proj.Prompt

end
-- ==== Proof.Proj.SampleBody.lean ====
/-
  The blocks the projections of the time mixing write, row by row (the sampled tokens).
-/
module

public import proofs.«01_k».proof.Proof.Gen.Kernel8Ideal.Value
public import proofs.«01_k».proof.Proof.Proj.Row

@[expose] public section

set_option maxRecDepth 16384

noncomputable section

namespace Cert.Kernel8Ideal.Hand

open Cert.Kernel8Ideal Cert.Kernel8Ideal.Gen Cert.Proj
open Idealize.ShloMosaic

theorem zero2 : (![0, 0] : Fin 2 → Nat) = fun _ => 0 := by decide
theorem zero3 : (![0, 0, 0] : Fin 3 → Nat) = fun _ => 0 := by decide
theorem ldx (x : Vec Ideal S1x32x1024 .f32) : View.ld x r0_0 = x := View.ld_unit_zero zero3 _ _
theorem ldmu (x : Vec Ideal S6x1024 .f32) : View.ld x r0_1 = x := View.ld_unit_zero zero2 _ _
theorem ldrow (x : Vec Ideal S1x1024 .f32) : View.ld x r0_5 = x := View.ld_unit_zero zero2 _ _
theorem lddown (x : Vec Ideal S1024x64 .bf16) : View.ld x r0_6 = x := View.ld_unit_zero zero2 _ _
theorem ldup (x : Vec Ideal S64x1024 .bf16) : View.ld x r0_7 = x := View.ld_unit_zero zero2 _ _
theorem ldg1 (x : Vec Ideal S1024x160 .bf16) : View.ld x r0_8 = x := View.ld_unit_zero zero2 _ _
theorem ldg2 (x : Vec Ideal S160x1024 .bf16) : View.ld x r0_9 = x := View.ld_unit_zero zero2 _ _

theorem ldw0 (x : Vec Ideal S3x1024x1024 .bf16) (d e : Fin 1024) : View.ld x r0_2 (ix3 0 d e) = x (ix3 0 d e) := by
  show x _ = x _
  refine congrArg x (funext fun a => Fin.ext ?_)
  match a with
  | ⟨0, _⟩ => show 0 + 1 * 0 = 0; omega
  | ⟨1, _⟩ => show 0 + 1 * d.val = d.val; omega
  | ⟨2, _⟩ => show 0 + 1 * e.val = e.val; omega
theorem ldw1 (x : Vec Ideal S3x1024x1024 .bf16) (d e : Fin 1024) : View.ld x r0_3 (ix3 0 d e) = x (ix3 1 d e) := by
  show x _ = x _
  refine congrArg x (funext fun a => Fin.ext ?_)
  match a with
  | ⟨0, _⟩ => show 1 + 1 * 0 = 1; omega
  | ⟨1, _⟩ => show 0 + 1 * d.val = d.val; omega
  | ⟨2, _⟩ => show 0 + 1 * e.val = e.val; omega
theorem ldw2 (x : Vec Ideal S3x1024x1024 .bf16) (d e : Fin 1024) : View.ld x r0_4 (ix3 0 d e) = x (ix3 2 d e) := by
  show x _ = x _
  refine congrArg x (funext fun a => Fin.ext ?_)
  match a with
  | ⟨0, _⟩ => show 2 + 1 * 0 = 2; omega
  | ⟨1, _⟩ => show 0 + 1 * d.val = d.val; omega
  | ⟨2, _⟩ => show 0 + 1 * e.val = e.val; omega

variable (x0 : Vec Ideal S1x32x1024 .f32) (x1 : Vec Ideal S1x8x1024 .f32) (x2 x3 x4 : Vec Ideal S1x32x1024 .f32) (x5 : Vec Ideal S6x1024 .f32)
  (x6 : Vec Ideal S3x1024x1024 .bf16) (x7 : Vec Ideal S1x1024 .f32) (x8 : Vec Ideal S1024x64 .bf16) (x9 : Vec Ideal S64x1024 .bf16)
  (x10 : Vec Ideal S1x1024 .f32) (x11 : Vec Ideal S1024x64 .bf16) (x12 : Vec Ideal S64x1024 .bf16) (x13 : Vec Ideal S1024x160 .bf16)
  (x14 : Vec Ideal S160x1024 .bf16) (H Q : FVec Ideal S32x1024 .f32) (w : Vec Ideal S1x1024x1024 .bf16)
  (r : Fin 32) (c : Fin 1024)

/-- The modulated row of a block. -/
def hRow (d : Fin 1024) : EReal := modulated (fun d => x0 (ix3 0 r d)) (fun d => x3 (ix3 0 r d)) (fun d => x2 (ix3 0 r d)) d

/-- Row `i` of the mixed rows. -/
def mRow (i : Fin 6) : Fin 1024 → EReal := mixed (hRow x0 x2 x3 r) (fun d => x4 (ix3 0 r d)) (fun d => x5 (ix2 i d))

theorem h_apply : k0_pay3 (F := Ideal) x3 x2 x0 (ix2 r c) = hRow x0 x2 x3 r c := by
  unfold k0_pay3
  pointwise
  rfl

theorem q_apply : k0_pay5 (F := Ideal) x3 x2 x0 x4 (ix2 r c) = x4 (ix3 0 r c) - hRow x0 x2 x3 r c := by
  unfold k0_pay5 k0_pay3
  pointwise
  rfl

theorem r_apply : k0_pay6 (F := Ideal) x3 x2 x0 x4 x5 w (ix3 0 r c)
    = project (fun d => k0_pay3 (F := Ideal) x3 x2 x0 (ix2 r d) + k0_pay5 (F := Ideal) x3 x2 x0 x4 (ix2 r d) * x5 (ix2 0 d)) (fun d e => w (ix3 0 d e)) c := by
  unfold k0_pay6
  generalize k0_pay3 (F := Ideal) x3 x2 x0 = H
  generalize k0_pay5 (F := Ideal) x3 x2 x0 x4 = Q
  pointwise [dot_S32x1024_S1024x1024_S32x1024_1_0_0_1_n_n]
  rfl

theorem k_apply : k0_pay8 (F := Ideal) H Q (k0_pay7 x5) w (ix3 0 r c)
    = project (fun d => H (ix2 r d) + Q (ix2 r d) * x5 (ix2 1 d)) (fun d e => w (ix3 0 d e)) c := by
  unfold k0_pay8 k0_pay7
  pointwise [dot_S32x1024_S1024x1024_S32x1024_1_0_0_1_n_n]
  rfl

theorem v_apply : k0_pay9 (F := Ideal) H Q x5 w (ix3 0 r c)
    = project (fun d => H (ix2 r d) + Q (ix2 r d) * x5 (ix2 2 d)) (fun d e => w (ix3 0 d e)) c := by
  unfold k0_pay9
  pointwise [dot_S32x1024_S1024x1024_S32x1024_1_0_0_1_n_n]
  rfl

theorem lw_apply : k0_pay13 (F := Ideal) (k0_pay10 x7) (k0_pay11 H Q x5 x8) (k0_pay12 x9) (constant S32x1024 .f32 0x00000000#32) (ix3 0 r c)
    = logDecay (fun d => H (ix2 r d) + Q (ix2 r d) * x5 (ix2 3 d)) (fun d => x7 (ix2 0 d)) (fun d e => x8 (ix2 d e)) (fun d e => x9 (ix2 d e)) c := by
  unfold k0_pay13 k0_pay12 k0_pay11 k0_pay10
  pointwise [dot_S32x1024_S1024x64_S32x64_1_0_0_1_n_n, dot_S32x64_S64x1024_S32x1024_1_0_0_1_n_n]
  simp only [zero_sub']
  rfl

theorem a_apply : k0_pay1 (F := Ideal) (k0_pay14 H Q x5 x10 x11 x12) (ix3 0 r c)
    = rate (fun d => H (ix2 r d) + Q (ix2 r d) * x5 (ix2 4 d)) (fun d => x10 (ix2 0 d)) (fun d e => x11 (ix2 d e)) (fun d e => x12 (ix2 d e)) c := by
  unfold k0_pay1 k0_pay14
  pointwise [dot_S32x1024_S1024x64_S32x64_1_0_0_1_n_n, dot_S32x64_S64x1024_S32x1024_1_0_0_1_n_n]
  simp only [zero_sub']
  rfl

theorem g_apply : k0_pay2 (F := Ideal) H Q x5 x13 x14 (ix3 0 r c)
    = gate (fun d => H (ix2 r d) + Q (ix2 r d) * x5 (ix2 5 d)) (fun d e => x13 (ix2 d e)) (fun d e => x14 (ix2 d e)) c := by
  unfold k0_pay2
  pointwise [dot_S32x1024_S1024x160_S32x160_1_0_0_1_n_n, dot_S32x160_S160x1024_S32x1024_1_0_0_1_n_n]
  simp only [zero_sub']
  rfl

/-- The block of `r`. -/
theorem out15_apply : out0_15 (F := Ideal) x0 x1 x2 x3 x4 x5 x6 x7 x8 x9 x10 x11 x12 x13 x14 (ix3 0 r c)
    = project (mRow x0 x2 x3 x4 x5 r 0) (fun d e => x6 (ix3 0 d e)) c := by
  unfold out0_15
  rw [View.canon_unit_zero zero3]
  simp only [ldx, ldmu]
  rw [r_apply]
  simp only [h_apply, q_apply]
  exact congrArg (fun w => project (mRow x0 x2 x3 x4 x5 r 0) w c) (funext fun d => funext fun e => ldw0 x6 d e)

/-- The block of the keys. -/
theorem out17_apply : out0_17 (F := Ideal) x0 x1 x2 x3 x4 x5 x6 x7 x8 x9 x10 x11 x12 x13 x14 (ix3 0 r c)
    = project (mRow x0 x2 x3 x4 x5 r 1) (fun d e => x6 (ix3 1 d e)) c := by
  unfold out0_17 k0_pay15 k0_pay16
  rw [View.canon_unit_zero zero3]
  simp only [ldx, ldmu]
  rw [k_apply]
  simp only [h_apply, q_apply]
  exact congrArg (fun w => project (mRow x0 x2 x3 x4 x5 r 1) w c) (funext fun d => funext fun e => ldw1 x6 d e)

/-- The block of the values. -/
theorem out18_apply : out0_18 (F := Ideal) x0 x1 x2 x3 x4 x5 x6 x7 x8 x9 x10 x11 x12 x13 x14 (ix3 0 r c)
    = project (mRow x0 x2 x3 x4 x5 r 2) (fun d e => x6 (ix3 2 d e)) c := by
  unfold out0_18 k0_pay15 k0_pay16
  rw [View.canon_unit_zero zero3]
  simp only [ldx, ldmu]
  rw [v_apply]
  simp only [h_apply, q_apply]
  exact congrArg (fun w => project (mRow x0 x2 x3 x4 x5 r 2) w c) (funext fun d => funext fun e => ldw2 x6 d e)

/-- The block of the decay's logarithm. -/
theorem out16_apply : out0_16 (F := Ideal) x0 x1 x2 x3 x4 x5 x6 x7 x8 x9 x10 x11 x12 x13 x14 (ix3 0 r c)
    = logDecay (mRow x0 x2 x3 x4 x5 r 3) (fun d => x7 (ix2 0 d)) (fun d e => x8 (ix2 d e)) (fun d e => x9 (ix2 d e)) c := by
  unfold out0_16 k0_pay15 k0_pay16
  rw [View.canon_unit_zero zero3]
  simp only [ldx, ldmu, ldrow, lddown, ldup]
  rw [lw_apply]
  simp only [h_apply, q_apply]
  rfl

/-- The block of the rates. -/
theorem out19_apply : out0_19 (F := Ideal) x0 x1 x2 x3 x4 x5 x6 x7 x8 x9 x10 x11 x12 x13 x14 (ix3 0 r c)
    = rate (mRow x0 x2 x3 x4 x5 r 4) (fun d => x10 (ix2 0 d)) (fun d e => x11 (ix2 d e)) (fun d e => x12 (ix2 d e)) c := by
  unfold out0_19 k0_pay15 k0_pay16
  rw [View.canon_unit_zero zero3]
  simp only [ldx, ldmu, ldrow, lddown, ldup]
  rw [a_apply]
  simp only [h_apply, q_apply]
  rfl

/-- The block of the gates. -/
theorem out20_apply : out0_20 (F := Ideal) x0 x1 x2 x3 x4 x5 x6 x7 x8 x9 x10 x11 x12 x13 x14 (ix3 0 r c)
    = gate (mRow x0 x2 x3 x4 x5 r 5) (fun d e => x13 (ix2 d e)) (fun d e => x14 (ix2 d e)) c := by
  unfold out0_20 k0_pay15 k0_pay16
  rw [View.canon_unit_zero zero3]
  simp only [ldx, ldmu, ldg1, ldg2]
  rw [g_apply]
  simp only [h_apply, q_apply]
  rfl

/-- The block of the modulated rows. -/
theorem out21_apply : out0_21 (F := Ideal) x0 x1 x2 x3 x4 x5 x6 x7 x8 x9 x10 x11 x12 x13 x14 (ix3 0 r c) = hRow x0 x2 x3 r c := by
  unfold out0_21
  rw [View.canon_unit_zero zero3]
  simp only [ldx]
  unfold k0_pay4 k0_pay3
  pointwise
  rfl

end Cert.Kernel8Ideal.Hand

end
-- ==== Proof.Proj.SampleArray.lean ====
/-
  The arrays the projections of the time mixing leave, as functions of the arguments (the sampled tokens).
-/
module

public import proofs.«01_k».proof.Proof.Proj.SampleBody
public import Idealize.ShloMosaic.Lib.StableHlo.ReadAt

@[expose] public section

set_option maxRecDepth 16384

noncomputable section

namespace Cert.Kernel8Ideal.Hand

open Cert.Kernel8Ideal Cert.Kernel8Ideal.Gen Cert.Kernel8Ideal.Value Cert.Proj
open Idealize.ShloMosaic Idealize.ShloMosaic.TcCoe Idealize.SL.Sem

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 1 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 3) = 0 ∧ win0_15.index t (1 : Fin 3) = 0 ∧ win0_15.index t (2 : Fin 3) = 0 :=
  (by decide +kernel : ∀ t : Fin grid0.N, _)
theorem idx16 : ∀ t : Fin cfg0.N, win0_16.index t (0 : Fin 3) = 0 ∧ win0_16.index t (1 : Fin 3) = 0 ∧ win0_16.index t (2 : Fin 3) = 0 :=
  (by decide +kernel : ∀ t : Fin grid0.N, _)
theorem idx17 : ∀ t : Fin cfg0.N, win0_17.index t (0 : Fin 3) = 0 ∧ win0_17.index t (1 : Fin 3) = 0 ∧ win0_17.index t (2 : Fin 3) = 0 :=
  (by decide +kernel : ∀ t : Fin grid0.N, _)
theorem idx18 : ∀ t : Fin cfg0.N, win0_18.index t (0 : Fin 3) = 0 ∧ win0_18.index t (1 : Fin 3) = 0 ∧ win0_18.index t (2 : Fin 3) = 0 :=
  (by decide +kernel : ∀ t : Fin grid0.N, _)
theorem idx19 : ∀ t : Fin cfg0.N, win0_19.index t (0 : Fin 3) = 0 ∧ win0_19.index t (1 : Fin 3) = 0 ∧ win0_19.index t (2 : Fin 3) = 0 :=
  (by decide +kernel : ∀ t : Fin grid0.N, _)
theorem idx20 : ∀ t : Fin cfg0.N, win0_20.index t (0 : Fin 3) = 0 ∧ win0_20.index t (1 : Fin 3) = 0 ∧ win0_20.index t (2 : Fin 3) = 0 :=
  (by decide +kernel : ∀ t : Fin grid0.N, _)
theorem idx21 : ∀ t : Fin cfg0.N, win0_21.index t (0 : Fin 3) = 0 ∧ win0_21.index t (1 : Fin 3) = 0 ∧ win0_21.index t (2 : Fin 3) = 0 :=
  (by decide +kernel : ∀ t : Fin grid0.N, _)

theorem emb0 (t : Fin cfg0.N) (r : Fin 32) (k : Fin 1024) : ((cfg0.win 0).blk t).view.emb (ix3 0 r k) = ix3 0 r k := by
  obtain ⟨e0, e1, e2⟩ := idx0 t
  funext a; apply Fin.ext
  match a with
  | ⟨0, _⟩ => show win0_0.index t (0 : Fin 3) * 1 + 1 * 0 = 0; omega
  | ⟨1, _⟩ => show win0_0.index t (1 : Fin 3) * 32 + 1 * r.val = r.val; omega
  | ⟨2, _⟩ => show win0_0.index t (2 : Fin 3) * 1024 + 1 * k.val = k.val; omega
theorem emb2 (t : Fin cfg0.N) (r : Fin 32) (k : Fin 1024) : ((cfg0.win 2).blk t).view.emb (ix3 0 r k) = ix3 0 r (sixth 0 (by decide) k) := by
  obtain ⟨e0, e1, e2⟩ := idx2 t
  funext a; apply Fin.ext
  match a with
  | ⟨0, _⟩ => show win0_2.index t (0 : Fin 3) * 1 + 1 * 0 = 0; omega
  | ⟨1, _⟩ => show win0_2.index t (1 : Fin 3) * 32 + 1 * r.val = r.val; omega
  | ⟨2, _⟩ => show win0_2.index t (2 : Fin 3) * 1024 + 1 * k.val = 0 * 1024 + k.val; omega
theorem emb3 (t : Fin cfg0.N) (r : Fin 32) (k : Fin 1024) : ((cfg0.win 3).blk t).view.emb (ix3 0 r k) = ix3 0 r (sixth 1 (by decide) k) := by
  obtain ⟨e0, e1, e2⟩ := idx3 t
  funext a; apply Fin.ext
  match a with
  | ⟨0, _⟩ => show win0_3.index t (0 : Fin 3) * 1 + 1 * 0 = 0; omega
  | ⟨1, _⟩ => show win0_3.index t (1 : Fin 3) * 32 + 1 * r.val = r.val; omega
  | ⟨2, _⟩ => show win0_3.index t (2 : Fin 3) * 1024 + 1 * k.val = 1 * 1024 + k.val; omega
theorem emb4 (t : Fin cfg0.N) (r : Fin 32) (k : Fin 1024) : ((cfg0.win 4).blk t).view.emb (ix3 0 r k) = ix3 0 r k := by
  obtain ⟨e0, e1, e2⟩ := idx4 t
  funext a; apply Fin.ext
  match a with
  | ⟨0, _⟩ => show win0_4.index t (0 : Fin 3) * 1 + 1 * 0 = 0; omega
  | ⟨1, _⟩ => show win0_4.index t (1 : Fin 3) * 32 + 1 * r.val = r.val; omega
  | ⟨2, _⟩ => show win0_4.index t (2 : Fin 3) * 1024 + 1 * k.val = k.val; omega
theorem emb5 (t : Fin cfg0.N) (n : Fin 6) (k : Fin 1024) : ((cfg0.win 5).blk t).view.emb (ix2 n k) = ix2 n k := by
  obtain ⟨e0, e1⟩ := idx5 t
  funext a; apply Fin.ext
  match a with
  | ⟨0, _⟩ => show win0_5.index t (0 : Fin 2) * 6 + 1 * n.val = n.val; omega
  | ⟨1, _⟩ => show win0_5.index t (1 : Fin 2) * 1024 + 1 * k.val = k.val; omega
theorem emb6 (t : Fin cfg0.N) (n : Fin 3) (d e : Fin 1024) : ((cfg0.win 6).blk t).view.emb (ix3 n d e) = ix3 n d e := by
  obtain ⟨e0, e1, e2⟩ := idx6 t
  funext a; apply Fin.ext
  match a with
  | ⟨0, _⟩ => show win0_6.index t (0 : Fin 3) * 3 + 1 * n.val = n.val; omega
  | ⟨1, _⟩ => show win0_6.index t (1 : Fin 3) * 1024 + 1 * d.val = d.val; omega
  | ⟨2, _⟩ => show win0_6.index t (2 : Fin 3) * 1024 + 1 * e.val = e.val; omega
theorem emb7 (t : Fin cfg0.N) (k : Fin 1024) : ((cfg0.win 7).blk t).view.emb (ix2 0 k) = ix2 0 k := by
  obtain ⟨e0, e1⟩ := idx7 t
  funext a; apply Fin.ext
  match a with
  | ⟨0, _⟩ => show win0_7.index t (0 : Fin 2) * 1 + 1 * 0 = 0; omega
  | ⟨1, _⟩ => show win0_7.index t (1 : Fin 2) * 1024 + 1 * k.val = k.val; omega
theorem emb8 (t : Fin cfg0.N) (d : Fin 1024) (e : Fin 64) : ((cfg0.win 8).blk t).view.emb (ix2 d e) = ix2 d e := by
  obtain ⟨e0, e1⟩ := idx8 t
  funext a; apply Fin.ext
  match a with
  | ⟨0, _⟩ => show win0_8.index t (0 : Fin 2) * 1024 + 1 * d.val = d.val; omega
  | ⟨1, _⟩ => show win0_8.index t (1 : Fin 2) * 64 + 1 * e.val = e.val; omega
theorem emb9 (t : Fin cfg0.N) (d : Fin 64) (e : Fin 1024) : ((cfg0.win 9).blk t).view.emb (ix2 d e) = ix2 d e := by
  obtain ⟨e0, e1⟩ := idx9 t
  funext a; apply Fin.ext
  match a with
  | ⟨0, _⟩ => show win0_9.index t (0 : Fin 2) * 64 + 1 * d.val = d.val; omega
  | ⟨1, _⟩ => show win0_9.index t (1 : Fin 2) * 1024 + 1 * e.val = e.val; omega
theorem emb10 (t : Fin cfg0.N) (k : Fin 1024) : ((cfg0.win 10).blk t).view.emb (ix2 0 k) = ix2 0 k := by
  obtain ⟨e0, e1⟩ := idx10 t
  funext a; apply Fin.ext
  match a with
  | ⟨0, _⟩ => show win0_10.index t (0 : Fin 2) * 1 + 1 * 0 = 0; omega
  | ⟨1, _⟩ => show win0_10.index t (1 : Fin 2) * 1024 + 1 * k.val = k.val; omega
theorem emb11 (t : Fin cfg0.N) (d : Fin 1024) (e : Fin 64) : ((cfg0.win 11).blk t).view.emb (ix2 d e) = ix2 d e := by
  obtain ⟨e0, e1⟩ := idx11 t
  funext a; apply Fin.ext
  match a with
  | ⟨0, _⟩ => show win0_11.index t (0 : Fin 2) * 1024 + 1 * d.val = d.val; omega
  | ⟨1, _⟩ => show win0_11.index t (1 : Fin 2) * 64 + 1 * e.val = e.val; omega
theorem emb12 (t : Fin cfg0.N) (d : Fin 64) (e : Fin 1024) : ((cfg0.win 12).blk t).view.emb (ix2 d e) = ix2 d e := by
  obtain ⟨e0, e1⟩ := idx12 t
  funext a; apply Fin.ext
  match a with
  | ⟨0, _⟩ => show win0_12.index t (0 : Fin 2) * 64 + 1 * d.val = d.val; omega
  | ⟨1, _⟩ => show win0_12.index t (1 : Fin 2) * 1024 + 1 * e.val = e.val; omega
theorem emb13 (t : Fin cfg0.N) (d : Fin 1024) (e : Fin 160) : ((cfg0.win 13).blk t).view.emb (ix2 d e) = ix2 d e := by
  obtain ⟨e0, e1⟩ := idx13 t
  funext a; apply Fin.ext
  match a with
  | ⟨0, _⟩ => show win0_13.index t (0 : Fin 2) * 1024 + 1 * d.val = d.val; omega
  | ⟨1, _⟩ => show win0_13.index t (1 : Fin 2) * 160 + 1 * e.val = e.val; omega
theorem emb14 (t : Fin cfg0.N) (d : Fin 160) (e : Fin 1024) : ((cfg0.win 14).blk t).view.emb (ix2 d e) = ix2 d e := by
  obtain ⟨e0, e1⟩ := idx14 t
  funext a; apply Fin.ext
  match a with
  | ⟨0, _⟩ => show win0_14.index t (0 : Fin 2) * 160 + 1 * d.val = d.val; omega
  | ⟨1, _⟩ => show win0_14.index t (1 : Fin 2) * 1024 + 1 * e.val = e.val; omega
theorem emb15 (t : Fin cfg0.N) (r : Fin 32) (k : Fin 1024) : ((cfg0.win 15).blk t).view.emb (ix3 0 r k) = ix3 0 r k := by
  obtain ⟨e0, e1, e2⟩ := idx15 t
  funext a; apply Fin.ext
  match a with
  | ⟨0, _⟩ => show win0_15.index t (0 : Fin 3) * 1 + 1 * 0 = 0; omega
  | ⟨1, _⟩ => show win0_15.index t (1 : Fin 3) * 32 + 1 * r.val = r.val; omega
  | ⟨2, _⟩ => show win0_15.index t (2 : Fin 3) * 1024 + 1 * k.val = k.val; omega
theorem emb16 (t : Fin cfg0.N) (r : Fin 32) (k : Fin 1024) : ((cfg0.win 16).blk t).view.emb (ix3 0 r k) = ix3 0 r k := by
  obtain ⟨e0, e1, e2⟩ := idx16 t
  funext a; apply Fin.ext
  match a with
  | ⟨0, _⟩ => show win0_16.index t (0 : Fin 3) * 1 + 1 * 0 = 0; omega
  | ⟨1, _⟩ => show win0_16.index t (1 : Fin 3) * 32 + 1 * r.val = r.val; omega
  | ⟨2, _⟩ => show win0_16.index t (2 : Fin 3) * 1024 + 1 * k.val = k.val; omega
theorem emb17 (t : Fin cfg0.N) (r : Fin 32) (k : Fin 1024) : ((cfg0.win 17).blk t).view.emb (ix3 0 r k) = ix3 0 r k := by
  obtain ⟨e0, e1, e2⟩ := idx17 t
  funext a; apply Fin.ext
  match a with
  | ⟨0, _⟩ => show win0_17.index t (0 : Fin 3) * 1 + 1 * 0 = 0; omega
  | ⟨1, _⟩ => show win0_17.index t (1 : Fin 3) * 32 + 1 * r.val = r.val; omega
  | ⟨2, _⟩ => show win0_17.index t (2 : Fin 3) * 1024 + 1 * k.val = k.val; omega
theorem emb18 (t : Fin cfg0.N) (r : Fin 32) (k : Fin 1024) : ((cfg0.win 18).blk t).view.emb (ix3 0 r k) = ix3 0 r k := by
  obtain ⟨e0, e1, e2⟩ := idx18 t
  funext a; apply Fin.ext
  match a with
  | ⟨0, _⟩ => show win0_18.index t (0 : Fin 3) * 1 + 1 * 0 = 0; omega
  | ⟨1, _⟩ => show win0_18.index t (1 : Fin 3) * 32 + 1 * r.val = r.val; omega
  | ⟨2, _⟩ => show win0_18.index t (2 : Fin 3) * 1024 + 1 * k.val = k.val; omega
theorem emb19 (t : Fin cfg0.N) (r : Fin 32) (k : Fin 1024) : ((cfg0.win 19).blk t).view.emb (ix3 0 r k) = ix3 0 r k := by
  obtain ⟨e0, e1, e2⟩ := idx19 t
  funext a; apply Fin.ext
  match a with
  | ⟨0, _⟩ => show win0_19.index t (0 : Fin 3) * 1 + 1 * 0 = 0; omega
  | ⟨1, _⟩ => show win0_19.index t (1 : Fin 3) * 32 + 1 * r.val = r.val; omega
  | ⟨2, _⟩ => show win0_19.index t (2 : Fin 3) * 1024 + 1 * k.val = k.val; omega
theorem emb20 (t : Fin cfg0.N) (r : Fin 32) (k : Fin 1024) : ((cfg0.win 20).blk t).view.emb (ix3 0 r k) = ix3 0 r k := by
  obtain ⟨e0, e1, e2⟩ := idx20 t
  funext a; apply Fin.ext
  match a with
  | ⟨0, _⟩ => show win0_20.index t (0 : Fin 3) * 1 + 1 * 0 = 0; omega
  | ⟨1, _⟩ => show win0_20.index t (1 : Fin 3) * 32 + 1 * r.val = r.val; omega
  | ⟨2, _⟩ => show win0_20.index t (2 : Fin 3) * 1024 + 1 * k.val = k.val; omega
theorem emb21 (t : Fin cfg0.N) (r : Fin 32) (k : Fin 1024) : ((cfg0.win 21).blk t).view.emb (ix3 0 r k) = ix3 0 r k := by
  obtain ⟨e0, e1, e2⟩ := idx21 t
  funext a; apply Fin.ext
  match a with
  | ⟨0, _⟩ => show win0_21.index t (0 : Fin 3) * 1 + 1 * 0 = 0; omega
  | ⟨1, _⟩ => show win0_21.index t (1 : Fin 3) * 32 + 1 * r.val = r.val; omega
  | ⟨2, _⟩ => show win0_21.index t (2 : Fin 3) * 1024 + 1 * k.val = k.val; omega

variable (m : (ℓ : Loc nD τ sig) → Buf (Elt Ideal) ℓ) (ρ : Dev nD → PrngReg)

theorem V_v0 (c : Dev nD) (n : Fin 3) (d e : Fin 1024) : V m c main_v0 (ix3 n d e) = m ((c : Thread nD τ).loc main_arg4) (ix3 n d e) := by
  unfold V hostOps0
  after_reads_at
theorem V_v1 (c : Dev nD) (k : Fin 1024) : V m c main_v1 (ix2 0 k) = m ((c : Thread nD τ).loc main_arg5) (ix1 k) := by
  unfold V hostOps0
  after_reads_at
theorem V_v2 (c : Dev nD) (d : Fin 1024) (e : Fin 64) : V m c main_v2 (ix2 d e) = m ((c : Thread nD τ).loc main_arg6) (ix2 d e) := by
  unfold V hostOps0
  after_reads_at
theorem V_v3 (c : Dev nD) (d : Fin 64) (e : Fin 1024) : V m c main_v3 (ix2 d e) = m ((c : Thread nD τ).loc main_arg7) (ix2 d e) := by
  unfold V hostOps0
  after_reads_at
theorem V_v4 (c : Dev nD) (k : Fin 1024) : V m c main_v4 (ix2 0 k) = m ((c : Thread nD τ).loc main_arg8) (ix1 k) := by
  unfold V hostOps0
  after_reads_at
theorem V_v5 (c : Dev nD) (d : Fin 1024) (e : Fin 64) : V m c main_v5 (ix2 d e) = m ((c : Thread nD τ).loc main_arg9) (ix2 d e) := by
  unfold V hostOps0
  after_reads_at
theorem V_v6 (c : Dev nD) (d : Fin 64) (e : Fin 1024) : V m c main_v6 (ix2 d e) = m ((c : Thread nD τ).loc main_arg10) (ix2 d e) := by
  unfold V hostOps0
  after_reads_at
theorem V_v7 (c : Dev nD) (d : Fin 1024) (e : Fin 160) : V m c main_v7 (ix2 d e) = m ((c : Thread nD τ).loc main_arg11) (ix2 d e) := by
  unfold V hostOps0
  after_reads_at
theorem V_v8 (c : Dev nD) (d : Fin 160) (e : Fin 1024) : V m c main_v8 (ix2 d e) = m ((c : Thread nD τ).loc main_arg12) (ix2 d e) := by
  unfold V hostOps0
  after_reads_at

theorem iblk0 (c : Dev nD) (t : Fin cfg0.N) (r : Fin 32) (k : Fin 1024) :
    iblk m c 0 t (ix3 0 r k) = m ((c : Thread nD τ).loc main_arg0) (ix3 0 r k) := by
  show V m c main_arg0 (((cfg0.win 0).blk t).view.emb (ix3 0 r k)) = _
  rw [emb0, V_main_arg0]
theorem iblk2 (c : Dev nD) (t : Fin cfg0.N) (r : Fin 32) (k : Fin 1024) :
    iblk m c 2 t (ix3 0 r k) = m ((c : Thread nD τ).loc main_arg1) (ix3 0 r (sixth 0 (by decide) k)) := by
  show V m c main_arg1 (((cfg0.win 2).blk t).view.emb (ix3 0 r k)) = _
  rw [emb2, V_main_arg1]
theorem iblk3 (c : Dev nD) (t : Fin cfg0.N) (r : Fin 32) (k : Fin 1024) :
    iblk m c 3 t (ix3 0 r k) = m ((c : Thread nD τ).loc main_arg1) (ix3 0 r (sixth 1 (by decide) k)) := by
  show V m c main_arg1 (((cfg0.win 3).blk t).view.emb (ix3 0 r k)) = _
  rw [emb3, V_main_arg1]
theorem iblk4 (c : Dev nD) (t : Fin cfg0.N) (r : Fin 32) (k : Fin 1024) :
    iblk m c 4 t (ix3 0 r k) = m ((c : Thread nD τ).loc main_arg2) (ix3 0 r k) := by
  show V m c main_arg2 (((cfg0.win 4).blk t).view.emb (ix3 0 r k)) = _
  rw [emb4, V_main_arg2]
theorem iblk5 (c : Dev nD) (t : Fin cfg0.N) (n : Fin 6) (k : Fin 1024) :
    iblk m c 5 t (ix2 n k) = m ((c : Thread nD τ).loc main_arg3) (ix2 n k) := by
  show V m c main_arg3 (((cfg0.win 5).blk t).view.emb (ix2 n k)) = _
  rw [emb5, V_main_arg3]
theorem iblk6 (c : Dev nD) (t : Fin cfg0.N) (n : Fin 3) (d e : Fin 1024) :
    iblk m c 6 t (ix3 n d e) = m ((c : Thread nD τ).loc main_arg4) (ix3 n d e) := by
  show V m c main_v0 (((cfg0.win 6).blk t).view.emb (ix3 n d e)) = _
  rw [emb6, V_v0]
theorem iblk7 (c : Dev nD) (t : Fin cfg0.N) (k : Fin 1024) :
    iblk m c 7 t (ix2 0 k) = m ((c : Thread nD τ).loc main_arg5) (ix1 k) := by
  show V m c main_v1 (((cfg0.win 7).blk t).view.emb (ix2 0 k)) = _
  rw [emb7, V_v1]
theorem iblk8 (c : Dev nD) (t : Fin cfg0.N) (d : Fin 1024) (e : Fin 64) :
    iblk m c 8 t (ix2 d e) = m ((c : Thread nD τ).loc main_arg6) (ix2 d e) := by
  show V m c main_v2 (((cfg0.win 8).blk t).view.emb (ix2 d e)) = _
  rw [emb8, V_v2]
theorem iblk9 (c : Dev nD) (t : Fin cfg0.N) (d : Fin 64) (e : Fin 1024) :
    iblk m c 9 t (ix2 d e) = m ((c : Thread nD τ).loc main_arg7) (ix2 d e) := by
  show V m c main_v3 (((cfg0.win 9).blk t).view.emb (ix2 d e)) = _
  rw [emb9, V_v3]
theorem iblk10 (c : Dev nD) (t : Fin cfg0.N) (k : Fin 1024) :
    iblk m c 10 t (ix2 0 k) = m ((c : Thread nD τ).loc main_arg8) (ix1 k) := by
  show V m c main_v4 (((cfg0.win 10).blk t).view.emb (ix2 0 k)) = _
  rw [emb10, V_v4]
theorem iblk11 (c : Dev nD) (t : Fin cfg0.N) (d : Fin 1024) (e : Fin 64) :
    iblk m c 11 t (ix2 d e) = m ((c : Thread nD τ).loc main_arg9) (ix2 d e) := by
  show V m c main_v5 (((cfg0.win 11).blk t).view.emb (ix2 d e)) = _
  rw [emb11, V_v5]
theorem iblk12 (c : Dev nD) (t : Fin cfg0.N) (d : Fin 64) (e : Fin 1024) :
    iblk m c 12 t (ix2 d e) = m ((c : Thread nD τ).loc main_arg10) (ix2 d e) := by
  show V m c main_v6 (((cfg0.win 12).blk t).view.emb (ix2 d e)) = _
  rw [emb12, V_v6]
theorem iblk13 (c : Dev nD) (t : Fin cfg0.N) (d : Fin 1024) (e : Fin 160) :
    iblk m c 13 t (ix2 d e) = m ((c : Thread nD τ).loc main_arg11) (ix2 d e) := by
  show V m c main_v7 (((cfg0.win 13).blk t).view.emb (ix2 d e)) = _
  rw [emb13, V_v7]
theorem iblk14 (c : Dev nD) (t : Fin cfg0.N) (d : Fin 160) (e : Fin 1024) :
    iblk m c 14 t (ix2 d e) = m ((c : Thread nD τ).loc main_arg12) (ix2 d e) := by
  show V m c main_v8 (((cfg0.win 14).blk t).view.emb (ix2 d e)) = _
  rw [emb14, V_v8]

/-- The modulated row of a token, of the arguments' contents on core `c`. -/
def hAt (c : Dev nD) (b : Fin 1) (r : Fin 32) : Fin 1024 → EReal :=
  modulated (fun d => m ((c : Thread nD τ).loc main_arg0) (ix3 b r d)) (fun d => m ((c : Thread nD τ).loc main_arg1) (ix3 b r (sixth 1 (by decide) d)))
    (fun d => m ((c : Thread nD τ).loc main_arg1) (ix3 b r (sixth 0 (by decide) d)))

/-- The row before a token's: the state's. -/
def pAt (c : Dev nD) (b : Fin 1) (r : Fin 32) (d : Fin 1024) : EReal := m ((c : Thread nD τ).loc main_arg2) (ix3 b r d)

/-- Row `n` of a token's mixed rows. -/
def mAt (c : Dev nD) (n : Fin 6) (b : Fin 1) (r : Fin 32) : Fin 1024 → EReal :=
  mixed (hAt m c b r) (pAt m c b r) (fun d => m ((c : Thread nD τ).loc main_arg3) (ix2 n d))

/-- The array of `r`. -/
def GR (c : Dev nD) (i : S1x32x1024.Idx) : EReal :=
  project (mAt m c 0 (i (0 : Fin 3)) (i (1 : Fin 3))) (fun d e => m ((c : Thread nD τ).loc main_arg4) (ix3 0 d e)) (i (2 : Fin 3))
/-- The array of the decay's logarithm. -/
def GW (c : Dev nD) (i : S1x32x1024.Idx) : EReal :=
  logDecay (mAt m c 3 (i (0 : Fin 3)) (i (1 : Fin 3))) (fun d => m ((c : Thread nD τ).loc main_arg5) (ix1 d)) (fun d e => m ((c : Thread nD τ).loc main_arg6) (ix2 d e)) (fun d e => m ((c : Thread nD τ).loc main_arg7) (ix2 d e)) (i (2 : Fin 3))
/-- The array of the keys. -/
def GK (c : Dev nD) (i : S1x32x1024.Idx) : EReal :=
  project (mAt m c 1 (i (0 : Fin 3)) (i (1 : Fin 3))) (fun d e => m ((c : Thread nD τ).loc main_arg4) (ix3 1 d e)) (i (2 : Fin 3))
/-- The array of the values. -/
def GV (c : Dev nD) (i : S1x32x1024.Idx) : EReal :=
  project (mAt m c 2 (i (0 : Fin 3)) (i (1 : Fin 3))) (fun d e => m ((c : Thread nD τ).loc main_arg4) (ix3 2 d e)) (i (2 : Fin 3))
/-- The array of the rates. -/
def GA (c : Dev nD) (i : S1x32x1024.Idx) : EReal :=
  rate (mAt m c 4 (i (0 : Fin 3)) (i (1 : Fin 3))) (fun d => m ((c : Thread nD τ).loc main_arg8) (ix1 d)) (fun d e => m ((c : Thread nD τ).loc main_arg9) (ix2 d e)) (fun d e => m ((c : Thread nD τ).loc main_arg10) (ix2 d e)) (i (2 : Fin 3))
/-- The array of the gates. -/
def GG (c : Dev nD) (i : S1x32x1024.Idx) : EReal :=
  gate (mAt m c 5 (i (0 : Fin 3)) (i (1 : Fin 3))) (fun d e => m ((c : Thread nD τ).loc main_arg11) (ix2 d e)) (fun d e => m ((c : Thread nD τ).loc main_arg12) (ix2 d e)) (i (2 : Fin 3))
/-- The array of the modulated rows. -/
def GH (c : Dev nD) (i : S1x32x1024.Idx) : EReal := hAt m c (i (0 : Fin 3)) (i (1 : Fin 3)) (i (2 : Fin 3))

theorem ix3_of (j : S1x32x1024.Idx) : ∃ (r : Fin 32) (k : Fin 1024), j = ix3 0 r k :=
  ⟨j (1 : Fin 3), j (2 : Fin 3), funext fun a => match a with
    | ⟨0, _⟩ => Fin.ext (by have h := (j (0 : Fin 3)).isLt; have h' : (j (0 : Fin 3)).val < 1 := h; show (j (0 : Fin 3)).val = 0; omega)
    | ⟨1, _⟩ => rfl
    | ⟨2, _⟩ => rfl⟩

theorem hRow_eq (c : Dev nD) (t : Fin cfg0.N) (r : Fin 32) :
    hRow (iblk m c 0 t) (iblk m c 2 t) (iblk m c 3 t) r = hAt m c 0 r := by
  funext k
  unfold hRow hAt
  simp only [iblk0, iblk2, iblk3]

theorem mRow_eq (c : Dev nD) (t : Fin cfg0.N) (r : Fin 32) (n : Fin 6) :
    mRow (iblk m c 0 t) (iblk m c 2 t) (iblk m c 3 t) (iblk m c 4 t) (iblk m c 5 t) r n = mAt m c n 0 r := by
  unfold mRow mAt
  rw [hRow_eq]
  simp only [iblk4, iblk5]
  rfl

/-- What grid point `t` writes back of `r` is block `t` of the array. -/
theorem flushed15_eq (c : Dev nD) (t : Fin cfg0.N) : (dats m 0 c).flushed 15 t = ((cfg0.win 15).blk t).view.read (Elt Ideal) (GR m c) := by
  rw [flushed15]
  funext j
  obtain ⟨r, k, rfl⟩ := ix3_of j
  show out0_15 (F := Ideal) _ _ _ _ _ _ _ _ _ _ _ _ _ _ _ (ix3 0 r k) = GR m c (((cfg0.win 15).blk t).view.emb (ix3 0 r k))
  rw [emb15, out15_apply, mRow_eq]
  simp only [iblk6]
  rfl

theorem covered15 (i : S1x32x1024.Idx) : ∃ t : Fin cfg0.N, (cfg0.win 15).flush t = true ∧ i ∈ ((cfg0.win 15).blk t).view.set := by
  let t : Fin cfg0.N := (⟨0, by decide⟩ : Fin 1)
  refine ⟨t, flush0_15 _, ?_⟩
  obtain ⟨r, k, rfl⟩ := ix3_of i
  have h := ((cfg0.win 15).blk t).view.emb_mem_set (ix3 (0 : Fin 1) r k)
  rwa [emb15] at h

theorem final15 (c : Dev nD) : (dats m 0 c).arrAt 15 cfg0.N = GR m c :=
  (dats m 0 c).arrAt_eq_of_cover 15 (GR m c) (fun t _ => flushed15_eq m c t) covered15

/-- What grid point `t` writes back of the decay's logarithm is block `t` of the array. -/
theorem flushed16_eq (c : Dev nD) (t : Fin cfg0.N) : (dats m 0 c).flushed 16 t = ((cfg0.win 16).blk t).view.read (Elt Ideal) (GW m c) := by
  rw [flushed16]
  funext j
  obtain ⟨r, k, rfl⟩ := ix3_of j
  show out0_16 (F := Ideal) _ _ _ _ _ _ _ _ _ _ _ _ _ _ _ (ix3 0 r k) = GW m c (((cfg0.win 16).blk t).view.emb (ix3 0 r k))
  rw [emb16, out16_apply, mRow_eq]
  simp only [iblk7, iblk8, iblk9]
  rfl

theorem covered16 (i : S1x32x1024.Idx) : ∃ t : Fin cfg0.N, (cfg0.win 16).flush t = true ∧ i ∈ ((cfg0.win 16).blk t).view.set := by
  let t : Fin cfg0.N := (⟨0, by decide⟩ : Fin 1)
  refine ⟨t, flush0_16 _, ?_⟩
  obtain ⟨r, k, rfl⟩ := ix3_of i
  have h := ((cfg0.win 16).blk t).view.emb_mem_set (ix3 (0 : Fin 1) r k)
  rwa [emb16] at h

theorem final16 (c : Dev nD) : (dats m 0 c).arrAt 16 cfg0.N = GW m c :=
  (dats m 0 c).arrAt_eq_of_cover 16 (GW m c) (fun t _ => flushed16_eq m c t) covered16

/-- What grid point `t` writes back of the keys is block `t` of the array. -/
theorem flushed17_eq (c : Dev nD) (t : Fin cfg0.N) : (dats m 0 c).flushed 17 t = ((cfg0.win 17).blk t).view.read (Elt Ideal) (GK m c) := by
  rw [flushed17]
  funext j
  obtain ⟨r, k, rfl⟩ := ix3_of j
  show out0_17 (F := Ideal) _ _ _ _ _ _ _ _ _ _ _ _ _ _ _ (ix3 0 r k) = GK m c (((cfg0.win 17).blk t).view.emb (ix3 0 r k))
  rw [emb17, out17_apply, mRow_eq]
  simp only [iblk6]
  rfl

theorem covered17 (i : S1x32x1024.Idx) : ∃ t : Fin cfg0.N, (cfg0.win 17).flush t = true ∧ i ∈ ((cfg0.win 17).blk t).view.set := by
  let t : Fin cfg0.N := (⟨0, by decide⟩ : Fin 1)
  refine ⟨t, flush0_17 _, ?_⟩
  obtain ⟨r, k, rfl⟩ := ix3_of i
  have h := ((cfg0.win 17).blk t).view.emb_mem_set (ix3 (0 : Fin 1) r k)
  rwa [emb17] at h

theorem final17 (c : Dev nD) : (dats m 0 c).arrAt 17 cfg0.N = GK m c :=
  (dats m 0 c).arrAt_eq_of_cover 17 (GK m c) (fun t _ => flushed17_eq m c t) covered17

/-- What grid point `t` writes back of the values is block `t` of the array. -/
theorem flushed18_eq (c : Dev nD) (t : Fin cfg0.N) : (dats m 0 c).flushed 18 t = ((cfg0.win 18).blk t).view.read (Elt Ideal) (GV m c) := by
  rw [flushed18]
  funext j
  obtain ⟨r, k, rfl⟩ := ix3_of j
  show out0_18 (F := Ideal) _ _ _ _ _ _ _ _ _ _ _ _ _ _ _ (ix3 0 r k) = GV m c (((cfg0.win 18).blk t).view.emb (ix3 0 r k))
  rw [emb18, out18_apply, mRow_eq]
  simp only [iblk6]
  rfl

theorem covered18 (i : S1x32x1024.Idx) : ∃ t : Fin cfg0.N, (cfg0.win 18).flush t = true ∧ i ∈ ((cfg0.win 18).blk t).view.set := by
  let t : Fin cfg0.N := (⟨0, by decide⟩ : Fin 1)
  refine ⟨t, flush0_18 _, ?_⟩
  obtain ⟨r, k, rfl⟩ := ix3_of i
  have h := ((cfg0.win 18).blk t).view.emb_mem_set (ix3 (0 : Fin 1) r k)
  rwa [emb18] at h

theorem final18 (c : Dev nD) : (dats m 0 c).arrAt 18 cfg0.N = GV m c :=
  (dats m 0 c).arrAt_eq_of_cover 18 (GV m c) (fun t _ => flushed18_eq m c t) covered18

/-- What grid point `t` writes back of the rates is block `t` of the array. -/
theorem flushed19_eq (c : Dev nD) (t : Fin cfg0.N) : (dats m 0 c).flushed 19 t = ((cfg0.win 19).blk t).view.read (Elt Ideal) (GA m c) := by
  rw [flushed19]
  funext j
  obtain ⟨r, k, rfl⟩ := ix3_of j
  show out0_19 (F := Ideal) _ _ _ _ _ _ _ _ _ _ _ _ _ _ _ (ix3 0 r k) = GA m c (((cfg0.win 19).blk t).view.emb (ix3 0 r k))
  rw [emb19, out19_apply, mRow_eq]
  simp only [iblk10, iblk11, iblk12]
  rfl

theorem covered19 (i : S1x32x1024.Idx) : ∃ t : Fin cfg0.N, (cfg0.win 19).flush t = true ∧ i ∈ ((cfg0.win 19).blk t).view.set := by
  let t : Fin cfg0.N := (⟨0, by decide⟩ : Fin 1)
  refine ⟨t, flush0_19 _, ?_⟩
  obtain ⟨r, k, rfl⟩ := ix3_of i
  have h := ((cfg0.win 19).blk t).view.emb_mem_set (ix3 (0 : Fin 1) r k)
  rwa [emb19] at h

theorem final19 (c : Dev nD) : (dats m 0 c).arrAt 19 cfg0.N = GA m c :=
  (dats m 0 c).arrAt_eq_of_cover 19 (GA m c) (fun t _ => flushed19_eq m c t) covered19

/-- What grid point `t` writes back of the gates is block `t` of the array. -/
theorem flushed20_eq (c : Dev nD) (t : Fin cfg0.N) : (dats m 0 c).flushed 20 t = ((cfg0.win 20).blk t).view.read (Elt Ideal) (GG m c) := by
  rw [flushed20]
  funext j
  obtain ⟨r, k, rfl⟩ := ix3_of j
  show out0_20 (F := Ideal) _ _ _ _ _ _ _ _ _ _ _ _ _ _ _ (ix3 0 r k) = GG m c (((cfg0.win 20).blk t).view.emb (ix3 0 r k))
  rw [emb20, out20_apply, mRow_eq]
  simp only [iblk13, iblk14]
  rfl

theorem covered20 (i : S1x32x1024.Idx) : ∃ t : Fin cfg0.N, (cfg0.win 20).flush t = true ∧ i ∈ ((cfg0.win 20).blk t).view.set := by
  let t : Fin cfg0.N := (⟨0, by decide⟩ : Fin 1)
  refine ⟨t, flush0_20 _, ?_⟩
  obtain ⟨r, k, rfl⟩ := ix3_of i
  have h := ((cfg0.win 20).blk t).view.emb_mem_set (ix3 (0 : Fin 1) r k)
  rwa [emb20] at h

theorem final20 (c : Dev nD) : (dats m 0 c).arrAt 20 cfg0.N = GG m c :=
  (dats m 0 c).arrAt_eq_of_cover 20 (GG m c) (fun t _ => flushed20_eq m c t) covered20

/-- What grid point `t` writes back of the modulated rows is block `t` of the array. -/
theorem flushed21_eq (c : Dev nD) (t : Fin cfg0.N) : (dats m 0 c).flushed 21 t = ((cfg0.win 21).blk t).view.read (Elt Ideal) (GH m c) := by
  rw [flushed21]
  funext j
  obtain ⟨r, k, rfl⟩ := ix3_of j
  show out0_21 (F := Ideal) _ _ _ _ _ _ _ _ _ _ _ _ _ _ _ (ix3 0 r k) = GH m c (((cfg0.win 21).blk t).view.emb (ix3 0 r k))
  rw [emb21, out21_apply, hRow_eq]
  rfl

theorem covered21 (i : S1x32x1024.Idx) : ∃ t : Fin cfg0.N, (cfg0.win 21).flush t = true ∧ i ∈ ((cfg0.win 21).blk t).view.set := by
  let t : Fin cfg0.N := (⟨0, by decide⟩ : Fin 1)
  refine ⟨t, flush0_21 _, ?_⟩
  obtain ⟨r, k, rfl⟩ := ix3_of i
  have h := ((cfg0.win 21).blk t).view.emb_mem_set (ix3 (0 : Fin 1) r k)
  rwa [emb21] at h

theorem final21 (c : Dev nD) : (dats m 0 c).arrAt 21 cfg0.N = GH m c :=
  (dats m 0 c).arrAt_eq_of_cover 21 (GH m c) (fun t _ => flushed21_eq m c t) covered21

end Cert.Kernel8Ideal.Hand

end
-- ==== Proof.Proj.SampleRef.lean ====
/-
  The reference of the projections of the time mixing at an index (the sampled tokens).
-/
module

public import proofs.«01_k».proof.Proof.Gen.Reference8Ideal.Read
public import proofs.«01_k».proof.Proof.Proj.Row

@[expose] public section

set_option maxRecDepth 16384

noncomputable section

namespace Cert.Reference8Ideal.Hand

open Cert.Reference8Ideal Cert.Reference8Ideal.Gen Cert.Reference8Ideal.Read Cert.Proj
open Idealize.ShloMosaic

variable (x0 : (⟨S1x32x1024, .f32⟩ : BufTy).Contents (Elt Ideal)) (x1 : (⟨S1x32x6144, .f32⟩ : BufTy).Contents (Elt Ideal))
  (x2 : (⟨S1x32x1024, .f32⟩ : BufTy).Contents (Elt Ideal)) (x3 : (⟨S6x1024, .f32⟩ : BufTy).Contents (Elt Ideal)) (x4 : (⟨S3x1024x1024, .f32⟩ : BufTy).Contents (Elt Ideal))
  (x5 : (⟨S1024, .f32⟩ : BufTy).Contents (Elt Ideal)) (x6 : (⟨S1024x64, .f32⟩ : BufTy).Contents (Elt Ideal))
  (x7 : (⟨S64x1024, .f32⟩ : BufTy).Contents (Elt Ideal)) (x8 : (⟨S1024, .f32⟩ : BufTy).Contents (Elt Ideal))
  (x9 : (⟨S1024x64, .f32⟩ : BufTy).Contents (Elt Ideal)) (x10 : (⟨S64x1024, .f32⟩ : BufTy).Contents (Elt Ideal))
  (x11 : (⟨S1024x160, .f32⟩ : BufTy).Contents (Elt Ideal)) (x12 : (⟨S160x1024, .f32⟩ : BufTy).Contents (Elt Ideal))
  (b : Fin 1) (r : Fin 32) (c : Fin 1024)

/-- The modulated row of a token. -/
def hAt (b : Fin 1) (r : Fin 32) : Fin 1024 → EReal :=
  modulated (fun d => x0 (ix3 b r d)) (fun d => x1 (ix3 b r (sixth 1 (by decide) d))) (fun d => x1 (ix3 b r (sixth 0 (by decide) d)))

/-- The row before a token's: the state's. -/
def pAt (b : Fin 1) (r : Fin 32) (d : Fin 1024) : EReal := x2 (ix3 b r d)

theorem h_apply : val_main_v9 (F := Ideal) x0 x1 (ix3 b r c) = hAt x0 x1 b r c := by
  obtain rfl : b = 0 := Subsingleton.elim _ _
  unfold val_main_v9 val_main_v8 val_main_v7 val_main_v6 val_main_cst val_main_v1 val_main_v0
  pointwise
  exact congrArg (fun j => x0 (ix3 0 r c) * (1 + x1 (ix3 0 r (sixth 1 (by decide) c))) + x1 (ix3 0 r j))
    (Fin.ext (by show c.val = 0 * 1024 + c.val; omega))

theorem d_apply : val_main_v10 (F := Ideal) x0 x1 x2 (ix3 b r c) = pAt x2 b r c - hAt x0 x1 b r c := by
  rw [val_main_v10_apply, h_apply]
  rfl

theorem xs_apply (i : Fin 6) : val_main_v18 (F := Ideal) x0 x1 x2 x3 (ix4 i b r c) = (mixed (hAt x0 x1 b r) (pAt x2 b r) fun d => x3 (ix2 i d)) c := by
  obtain rfl : b = 0 := Subsingleton.elim _ _
  have e : val_main_v18 (F := Ideal) x0 x1 x2 x3 (ix4 i 0 r c)
      = val_main_v9 (F := Ideal) x0 x1 (ix3 0 r c) + val_main_v10 (F := Ideal) x0 x1 x2 (ix3 0 r c) * x3 (ix2 i c) := by
    unfold val_main_v18 val_main_v17 val_main_v16 val_main_v15 val_main_v14 val_main_v13 val_main_v12 val_main_v11
    generalize val_main_v9 (F := Ideal) x0 x1 = h
    generalize val_main_v10 (F := Ideal) x0 x1 x2 = q
    pointwise
  rw [e, h_apply, d_apply]
  rfl

theorem idx22_eq : idx_main_v22 (ix3 b r c) = ix4 0 b r c := by
  funext a; apply Fin.ext
  match a with
  | ⟨0, _⟩ => rfl
  | ⟨1, _⟩ => show 0 = b.val; omega
  | ⟨2, _⟩ => show ((b.val * 32 + r.val) * 1024 + c.val) / 1024 % 32 = r.val; omega
  | ⟨3, _⟩ => show ((b.val * 32 + r.val) * 1024 + c.val) % 1024 = c.val; omega

theorem v22_apply : val_main_v22 (F := Ideal) x0 x1 x2 x3 x4 (ix3 b r c) = project (mixed (hAt x0 x1 b r) (pAt x2 b r) fun d => x3 (ix2 0 d)) (fun d e => x4 (ix3 0 d e)) c := by
  rw [val_main_v22_apply, idx22_eq]
  obtain rfl : b = 0 := Subsingleton.elim _ _
  unfold val_main_v21 val_main_v20 val_main_v19
  have e := fun d => xs_apply x0 x1 x2 x3 0 r d 0
  generalize val_main_v18 (F := Ideal) x0 x1 x2 x3 = y at e ⊢
  pointwise [dot_S3x1x32x1024_S3x1024x1024_S3x1x32x1024_3_1_12_2_0_0]
  exact Finset.sum_congr rfl fun d _ => congrArg (· * x4 (ix3 0 d c)) (e d)

theorem idx24_eq : idx_main_v24 (ix3 b r c) = ix4 0 b r c := by
  funext a; apply Fin.ext
  match a with
  | ⟨0, _⟩ => rfl
  | ⟨1, _⟩ => show 0 = b.val; omega
  | ⟨2, _⟩ => show ((b.val * 32 + r.val) * 1024 + c.val) / 1024 % 32 = r.val; omega
  | ⟨3, _⟩ => show ((b.val * 32 + r.val) * 1024 + c.val) % 1024 = c.val; omega

theorem v24_apply : val_main_v24 (F := Ideal) x0 x1 x2 x3 x4 (ix3 b r c) = project (mixed (hAt x0 x1 b r) (pAt x2 b r) fun d => x3 (ix2 1 d)) (fun d e => x4 (ix3 1 d e)) c := by
  rw [val_main_v24_apply, idx24_eq]
  obtain rfl : b = 0 := Subsingleton.elim _ _
  unfold val_main_v23 val_main_v20 val_main_v19
  have e := fun d => xs_apply x0 x1 x2 x3 0 r d 1
  generalize val_main_v18 (F := Ideal) x0 x1 x2 x3 = y at e ⊢
  pointwise [dot_S3x1x32x1024_S3x1024x1024_S3x1x32x1024_3_1_12_2_0_0]
  exact Finset.sum_congr rfl fun d _ => congrArg (· * x4 (ix3 1 d c)) (e d)

theorem idx26_eq : idx_main_v26 (ix3 b r c) = ix4 0 b r c := by
  funext a; apply Fin.ext
  match a with
  | ⟨0, _⟩ => rfl
  | ⟨1, _⟩ => show 0 = b.val; omega
  | ⟨2, _⟩ => show ((b.val * 32 + r.val) * 1024 + c.val) / 1024 % 32 = r.val; omega
  | ⟨3, _⟩ => show ((b.val * 32 + r.val) * 1024 + c.val) % 1024 = c.val; omega

theorem v26_apply : val_main_v26 (F := Ideal) x0 x1 x2 x3 x4 (ix3 b r c) = project (mixed (hAt x0 x1 b r) (pAt x2 b r) fun d => x3 (ix2 2 d)) (fun d e => x4 (ix3 2 d e)) c := by
  rw [val_main_v26_apply, idx26_eq]
  obtain rfl : b = 0 := Subsingleton.elim _ _
  unfold val_main_v25 val_main_v20 val_main_v19
  have e := fun d => xs_apply x0 x1 x2 x3 0 r d 2
  generalize val_main_v18 (F := Ideal) x0 x1 x2 x3 = y at e ⊢
  pointwise [dot_S3x1x32x1024_S3x1024x1024_S3x1x32x1024_3_1_12_2_0_0]
  exact Finset.sum_congr rfl fun d _ => congrArg (· * x4 (ix3 2 d c)) (e d)

theorem idx28_eq : idx_main_v28 (ix3 b r c) = ix4 0 b r c := by
  funext a; apply Fin.ext
  match a with
  | ⟨0, _⟩ => rfl
  | ⟨1, _⟩ => show 0 = b.val; omega
  | ⟨2, _⟩ => show ((b.val * 32 + r.val) * 1024 + c.val) / 1024 % 32 = r.val; omega
  | ⟨3, _⟩ => show ((b.val * 32 + r.val) * 1024 + c.val) % 1024 = c.val; omega

theorem v28_apply : val_main_v28 (F := Ideal) x0 x1 x2 x3 (ix3 b r c) = (mixed (hAt x0 x1 b r) (pAt x2 b r) fun d => x3 (ix2 3 d)) c := by
  rw [val_main_v28_apply, idx28_eq]
  obtain rfl : b = 0 := Subsingleton.elim _ _
  unfold val_main_v27
  have e := xs_apply x0 x1 x2 x3 0 r c 3
  generalize val_main_v18 (F := Ideal) x0 x1 x2 x3 = y at e ⊢
  pointwise
  exact e

theorem idx30_eq : idx_main_v30 (ix3 b r c) = ix4 0 b r c := by
  funext a; apply Fin.ext
  match a with
  | ⟨0, _⟩ => rfl
  | ⟨1, _⟩ => show 0 = b.val; omega
  | ⟨2, _⟩ => show ((b.val * 32 + r.val) * 1024 + c.val) / 1024 % 32 = r.val; omega
  | ⟨3, _⟩ => show ((b.val * 32 + r.val) * 1024 + c.val) % 1024 = c.val; omega

theorem v30_apply : val_main_v30 (F := Ideal) x0 x1 x2 x3 (ix3 b r c) = (mixed (hAt x0 x1 b r) (pAt x2 b r) fun d => x3 (ix2 4 d)) c := by
  rw [val_main_v30_apply, idx30_eq]
  obtain rfl : b = 0 := Subsingleton.elim _ _
  unfold val_main_v29
  have e := xs_apply x0 x1 x2 x3 0 r c 4
  generalize val_main_v18 (F := Ideal) x0 x1 x2 x3 = y at e ⊢
  pointwise
  exact e

theorem idx32_eq : idx_main_v32 (ix3 b r c) = ix4 0 b r c := by
  funext a; apply Fin.ext
  match a with
  | ⟨0, _⟩ => rfl
  | ⟨1, _⟩ => show 0 = b.val; omega
  | ⟨2, _⟩ => show ((b.val * 32 + r.val) * 1024 + c.val) / 1024 % 32 = r.val; omega
  | ⟨3, _⟩ => show ((b.val * 32 + r.val) * 1024 + c.val) % 1024 = c.val; omega

theorem v32_apply : val_main_v32 (F := Ideal) x0 x1 x2 x3 (ix3 b r c) = (mixed (hAt x0 x1 b r) (pAt x2 b r) fun d => x3 (ix2 5 d)) c := by
  rw [val_main_v32_apply, idx32_eq]
  obtain rfl : b = 0 := Subsingleton.elim _ _
  unfold val_main_v31
  have e := xs_apply x0 x1 x2 x3 0 r c 5
  generalize val_main_v18 (F := Ideal) x0 x1 x2 x3 = y at e ⊢
  pointwise
  exact e

theorem v38_apply : val_main_v38 (F := Ideal) x0 x1 x2 x3 x5 x6 x7 (ix3 b r c)
    = x5 (ix1 c) + project (fun e => Ideal.tanh (project (mixed (hAt x0 x1 b r) (pAt x2 b r) fun d => x3 (ix2 3 d)) (fun d e => x6 (ix2 d e)) e)) (fun d e => x7 (ix2 d e)) c := by
  obtain rfl : b = 0 := Subsingleton.elim _ _
  unfold val_main_v38 val_main_v37 val_main_v36 val_main_v35 val_main_v34 val_main_v33
  have e := fun d => v28_apply x0 x1 x2 x3 0 r d
  generalize val_main_v28 (F := Ideal) x0 x1 x2 x3 = y at e ⊢
  pointwise [dot_S1x32x1024_S1024x64_S1x32x64_2_0_01_1_n_n, dot_S1x32x64_S64x1024_S1x32x1024_2_0_01_1_n_n]
  simp only [e]
  rfl

theorem v40_apply : val_main_v40 (F := Ideal) x0 x1 x2 x3 x5 x6 x7 (ix3 b r c)
    = softplus (-(val_main_v38 (F := Ideal) x0 x1 x2 x3 x5 x6 x7 (ix3 b r c))) := by
  unfold val_main_v40 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_cst val_main_v39
  generalize val_main_v38 (F := Ideal) x0 x1 x2 x3 x5 x6 x7 = y
  obtain rfl : b = 0 := Subsingleton.elim _ _
  pointwise
  exact if_neg (not_not.mpr rfl)

/-- The logarithm of the decay. -/
theorem v65_apply : val_main_v65 (F := Ideal) x0 x1 x2 x3 x5 x6 x7 (ix3 b r c)
    = logDecay (mixed (hAt x0 x1 b r) (pAt x2 b r) fun d => x3 (ix2 3 d)) (fun c => x5 (ix1 c)) (fun d e => x6 (ix2 d e)) (fun d e => x7 (ix2 d e)) c := by
  unfold val_main_v65 val_main_v64 val_main_v43 val_main_v42 val_main_v41 val_main_cst_0
  have e := v40_apply x0 x1 x2 x3 x5 x6 x7 b r c
  rw [v38_apply] at e
  generalize val_main_v40 (F := Ideal) x0 x1 x2 x3 x5 x6 x7 = y at e ⊢
  obtain rfl : b = 0 := Subsingleton.elim _ _
  pointwise
  rw [e]
  rfl

/-- The rates. -/
theorem v68_apply : val_main_v68 (F := Ideal) x0 x1 x2 x3 x8 x9 x10 (ix3 b r c)
    = rate (mixed (hAt x0 x1 b r) (pAt x2 b r) fun d => x3 (ix2 4 d)) (fun c => x8 (ix1 c)) (fun d e => x9 (ix2 d e)) (fun d e => x10 (ix2 d e)) c := by
  obtain rfl : b = 0 := Subsingleton.elim _ _
  unfold val_main_v68 val_main_v54 val_main_v53 val_main_v52 val_main_v51 val_main_v50 val_main_v49 val_main_v48 val_main_v47 val_main_v46 val_main_v45 val_main_v44 val_main_cst_1 val_main_cst_2
  have e := fun d => v30_apply x0 x1 x2 x3 0 r d
  generalize val_main_v30 (F := Ideal) x0 x1 x2 x3 = y at e ⊢
  pointwise [dot_S1x32x1024_S1024x64_S1x32x64_2_0_01_1_n_n, dot_S1x32x64_S64x1024_S1x32x1024_2_0_01_1_n_n]
  simp only [e]
  rfl

/-- The gates. -/
theorem v69_apply : val_main_v69 (F := Ideal) x0 x1 x2 x3 x11 x12 (ix3 b r c)
    = gate (mixed (hAt x0 x1 b r) (pAt x2 b r) fun d => x3 (ix2 5 d)) (fun d e => x11 (ix2 d e)) (fun d e => x12 (ix2 d e)) c := by
  obtain rfl : b = 0 := Subsingleton.elim _ _
  unfold val_main_v69 val_main_v62 val_main_v61 val_main_v60 val_main_v59 val_main_v58 val_main_v57 val_main_v56 val_main_v55 val_main_cst_3 val_main_cst_4
  have e := fun d => v32_apply x0 x1 x2 x3 0 r d
  generalize val_main_v32 (F := Ideal) x0 x1 x2 x3 = y at e ⊢
  pointwise [dot_S1x32x1024_S1024x160_S1x32x160_2_0_01_1_n_n, dot_S1x32x160_S160x1024_S1x32x1024_2_0_01_1_n_n]
  simp only [e]
  rfl

/-- `r`. -/
theorem v63_apply : val_main_v63 (F := Ideal) x0 x1 x2 x3 x4 (ix3 b r c) = project (mixed (hAt x0 x1 b r) (pAt x2 b r) fun d => x3 (ix2 0 d)) (fun d e => x4 (ix3 0 d e)) c :=
  v22_apply x0 x1 x2 x3 x4 b r c

/-- The keys. -/
theorem v66_apply : val_main_v66 (F := Ideal) x0 x1 x2 x3 x4 (ix3 b r c) = project (mixed (hAt x0 x1 b r) (pAt x2 b r) fun d => x3 (ix2 1 d)) (fun d e => x4 (ix3 1 d e)) c :=
  v24_apply x0 x1 x2 x3 x4 b r c

/-- The values. -/
theorem v67_apply : val_main_v67 (F := Ideal) x0 x1 x2 x3 x4 (ix3 b r c) = project (mixed (hAt x0 x1 b r) (pAt x2 b r) fun d => x3 (ix2 2 d)) (fun d e => x4 (ix3 2 d e)) c :=
  v26_apply x0 x1 x2 x3 x4 b r c

end Cert.Reference8Ideal.Hand

end
-- ==== Proof.Proj.SampleClaims.lean ====
/-
  The claims about the projections of the time mixing (the sampled tokens): the frames, and that over the extended reals the call and its reference
  return the same arrays.
-/
module

public import proofs.«01_k».proof.Defs
public import proofs.«01_k».proof.Proof.Gen.Kernel8.Frame
public import proofs.«01_k».proof.Proof.Gen.Reference8Ideal.Run
public import proofs.«01_k».proof.Proof.Proj.SampleArray
public import proofs.«01_k».proof.Proof.Proj.SampleRef

@[expose] public section

set_option maxRecDepth 16384

noncomputable section

namespace Cert.Proj.Sample

open Idealize.ShloMosaic Idealize.SL.Sem

local instance : Cert.Kernel8.Facts := Cert.Kernel8.Gen.facts
local instance : Cert.Kernel8Ideal.Facts := Cert.Kernel8Ideal.Gen.facts
local instance : Cert.Reference8Ideal.Facts := Cert.Reference8Ideal.Gen.facts

theorem frame_kernel : Cert.quiescent_Kernel8 := fun m ρ _ => Cert.Kernel8.Gen.frame (F := Bits) m ρ

theorem frame_ideal : Cert.quiescent_Kernel8Ideal := fun m ρ _ => Cert.Kernel8Ideal.Gen.frame (F := Ideal) m ρ

theorem frame_reference : Cert.quiescent_Reference8Ideal := fun m ρ _ =>
  (θ_run Cert.Reference8Ideal.defs _ _).mono (fun r h => ⟨fun c => (h c).2.2.2.2.2.2.2,
      Idealize.ShloMosaic.sem_eq_zero_of_no_sems (by decide) r.2⟩)
    (Cert.Reference8Ideal.Value.run (F := Ideal) m ρ)

theorem ix3_of (i : Cert.Kernel8Ideal.S1x32x1024.Idx) : ∃ (b : Fin 1) (t : Fin 32) (k : Fin 1024), i = ix3 b t k :=
  ⟨i (0 : Fin 3), i (1 : Fin 3), i (2 : Fin 3), funext fun a => match a with
    | ⟨0, _⟩ => rfl
    | ⟨1, _⟩ => rfl
    | ⟨2, _⟩ => rfl⟩

set_option maxHeartbeats 4000000 in
theorem algebraic : Cert.algebraic_Kernel8Ideal_Reference8Ideal := by
  intro m g m' g' _ hm
  refine ⟨fun c => Cert.Kernel8Ideal.Hand.GR m c, fun c => Cert.Kernel8Ideal.Hand.GW m c, fun c => Cert.Kernel8Ideal.Hand.GK m c, fun c => Cert.Kernel8Ideal.Hand.GV m c, fun c => Cert.Kernel8Ideal.Hand.GA m c, fun c => Cert.Kernel8Ideal.Hand.GG m c, fun c => Cert.Kernel8Ideal.Hand.GH m c,
    (θ_run Cert.Kernel8Ideal.defs _ _).mono
      (fun r h c => ⟨(h c).1.trans (Cert.Kernel8Ideal.Hand.final15 m c), (h c).2.1.trans (Cert.Kernel8Ideal.Hand.final16 m c), (h c).2.2.1.trans (Cert.Kernel8Ideal.Hand.final17 m c), (h c).2.2.2.1.trans (Cert.Kernel8Ideal.Hand.final18 m c), (h c).2.2.2.2.1.trans (Cert.Kernel8Ideal.Hand.final19 m c), (h c).2.2.2.2.2.1.trans (Cert.Kernel8Ideal.Hand.final20 m c), (h c).2.2.2.2.2.2.1.trans (Cert.Kernel8Ideal.Hand.final21 m c), (h c).2.2.2.2.2.2.2⟩)
      (Cert.Kernel8Ideal.Value.run_blocks (F := Ideal) m g),
    (θ_run Cert.Reference8Ideal.defs _ _).mono
      (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
      (Cert.Reference8Ideal.Value.run (F := Ideal) m' g')⟩
  · rw [Cert.Reference8Ideal.Read.val_main_v63_eq]
    obtain ⟨h0, h1, h2, h3, h4, h5, h6, h7, h8, h9, h10, h11, h12⟩ := hm c
    rw [h0, h1, h2, h3, h4]
    funext i
    obtain ⟨b, t, k, rfl⟩ := ix3_of i
    exact Cert.Reference8Ideal.Hand.v63_apply ..
  · rw [Cert.Reference8Ideal.Read.val_main_v65_eq]
    obtain ⟨h0, h1, h2, h3, h4, h5, h6, h7, h8, h9, h10, h11, h12⟩ := hm c
    rw [h0, h1, h2, h3, h5, h6, h7]
    funext i
    obtain ⟨b, t, k, rfl⟩ := ix3_of i
    exact Cert.Reference8Ideal.Hand.v65_apply ..
  · rw [Cert.Reference8Ideal.Read.val_main_v66_eq]
    obtain ⟨h0, h1, h2, h3, h4, h5, h6, h7, h8, h9, h10, h11, h12⟩ := hm c
    rw [h0, h1, h2, h3, h4]
    funext i
    obtain ⟨b, t, k, rfl⟩ := ix3_of i
    exact Cert.Reference8Ideal.Hand.v66_apply ..
  · rw [Cert.Reference8Ideal.Read.val_main_v67_eq]
    obtain ⟨h0, h1, h2, h3, h4, h5, h6, h7, h8, h9, h10, h11, h12⟩ := hm c
    rw [h0, h1, h2, h3, h4]
    funext i
    obtain ⟨b, t, k, rfl⟩ := ix3_of i
    exact Cert.Reference8Ideal.Hand.v67_apply ..
  · rw [Cert.Reference8Ideal.Read.val_main_v68_eq]
    obtain ⟨h0, h1, h2, h3, h4, h5, h6, h7, h8, h9, h10, h11, h12⟩ := hm c
    rw [h0, h1, h2, h3, h8, h9, h10]
    funext i
    obtain ⟨b, t, k, rfl⟩ := ix3_of i
    exact Cert.Reference8Ideal.Hand.v68_apply ..
  · rw [Cert.Reference8Ideal.Read.val_main_v69_eq]
    obtain ⟨h0, h1, h2, h3, h4, h5, h6, h7, h8, h9, h10, h11, h12⟩ := hm c
    rw [h0, h1, h2, h3, h11, h12]
    funext i
    obtain ⟨b, t, k, rfl⟩ := ix3_of i
    exact Cert.Reference8Ideal.Hand.v69_apply ..
  · rw [Cert.Reference8Ideal.Read.val_main_v9_eq]
    obtain ⟨h0, h1, h2, h3, h4, h5, h6, h7, h8, h9, h10, h11, h12⟩ := hm c
    rw [h0, h1]
    funext i
    obtain ⟨b, t, k, rfl⟩ := ix3_of i
    exact Cert.Reference8Ideal.Hand.h_apply ..

end Cert.Proj.Sample

end
-- ==== Proof.lean ====
/-
  The certificate: each claim is proved in the module of its call (`Proof/Attn`, `Proof/Step`, `Proof/Mlp`, `Proof/Kvq`, `Proof/MlpSample`,
  `Proof/Proj`).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Adequacy
public import Idealize.ShloMosaic.Init
public import proofs.«01_k».proof.Proof.Attn.Claims
public import proofs.«01_k».proof.Proof.AttnValue.Claims
public import proofs.«01_k».proof.Proof.Step.Claims
public import proofs.«01_k».proof.Proof.StepValue.Claims
public import proofs.«01_k».proof.Proof.Mlp.Claims
public import proofs.«01_k».proof.Proof.Kvq.PromptClaims
public import proofs.«01_k».proof.Proof.Kvq.SampleClaims
public import proofs.«01_k».proof.Proof.MlpSample.Claims
public import proofs.«01_k».proof.Proof.Proj.PromptClaims
public import proofs.«01_k».proof.Proof.Proj.SampleClaims

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Attention.pre_facts,
  Cert.Attention.frame_kernel, Cert.Attention.frame_ideal, Cert.Attention.frame_ideal_pre, Cert.Attention.frame_reference, Cert.Attention.frame_reference_pre,
  Cert.Step.frame_kernel, Cert.Step.frame_ideal, Cert.Step.frame_reference,
  Cert.Mlp.frame_kernel, Cert.Mlp.frame_ideal, Cert.Mlp.frame_reference,
  Cert.Kvq.Prompt.frame_kernel, Cert.Kvq.Prompt.frame_ideal, Cert.Kvq.Prompt.frame_reference,
  Cert.Kvq.Sample.frame_kernel, Cert.Kvq.Sample.frame_ideal, Cert.Kvq.Sample.frame_reference,
  Cert.MlpSample.frame_kernel, Cert.MlpSample.frame_ideal, Cert.MlpSample.frame_reference,
  Cert.Proj.Prompt.frame_kernel, Cert.Proj.Prompt.frame_ideal, Cert.Proj.Prompt.frame_reference,
  Cert.Proj.Sample.frame_kernel, Cert.Proj.Sample.frame_ideal, Cert.Proj.Sample.frame_reference,
  Cert.Attention.preserves, Cert.Attention.algebraic, trivial, Cert.Step.algebraic, trivial, Cert.Mlp.algebraic,
  trivial, Cert.Kvq.Prompt.algebraic, trivial, Cert.Kvq.Sample.algebraic, trivial, Cert.MlpSample.algebraic,
  trivial, Cert.Proj.Prompt.algebraic, trivial, Cert.Proj.Sample.algebraic⟩

end Cert.Proof

end
